-- ==== Defs.lean ====
def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddIdeal_odd_decays [hPre_odd_decays : Cert.Pre_odd_decays.Facts] (m : (ℓ : Loc Cert.OddIdeal.nD Cert.OddIdeal.τ Cert.OddIdeal.sig) → Buf (Elt Ideal) ℓ) : Prop :=
  ∀ c : Dev Cert.OddIdeal.nD,
    (Cert.Pre_odd_decays.fn (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3)) (m ((c.tc : Thread Cert.OddIdeal.nD Cert.OddIdeal.τ).loc Cert.OddIdeal.main_arg4)) (m ((c.tc : Thread Cert.OddIdeal.nD Cert.OddIdeal.τ).loc Cert.OddIdeal.main_arg5)) (m ((c.tc : Thread Cert.OddIdeal.nD Cert.OddIdeal.τ).loc Cert.OddIdeal.main_arg6)) (m ((c.tc : Thread Cert.OddIdeal.nD Cert.OddIdeal.τ).loc Cert.OddIdeal.main_arg7)) (m ((c.tc : Thread Cert.OddIdeal.nD Cert.OddIdeal.τ).loc Cert.OddIdeal.main_arg8)) (m ((c.tc : Thread Cert.OddIdeal.nD Cert.OddIdeal.τ).loc Cert.OddIdeal.main_arg9)) (m ((c.tc : Thread Cert.OddIdeal.nD Cert.OddIdeal.τ).loc Cert.OddIdeal.main_arg10)) (m ((c.tc : Thread Cert.OddIdeal.nD Cert.OddIdeal.τ).loc Cert.OddIdeal.main_arg11))) = (fun _ => 1#1)

def Pre_OddRefIdeal (m : (ℓ : Loc Cert.OddRefIdeal.nD Cert.OddRefIdeal.τ Cert.OddRefIdeal.sig) → Buf (Elt Ideal) ℓ) : Prop :=
  True

def Pre_OddRefIdeal_odd_decays [hPre_odd_decays : Cert.Pre_odd_decays.Facts] (m : (ℓ : Loc Cert.OddRefIdeal.nD Cert.OddRefIdeal.τ Cert.OddRefIdeal.sig) → Buf (Elt Ideal) ℓ) : Prop :=
  ∀ c : Dev Cert.OddRefIdeal.nD,
    (Cert.Pre_odd_decays.fn (F := Ideal) (m ((c.tc : Thread Cert.OddRefIdeal.nD Cert.OddRefIdeal.τ).loc Cert.OddRefIdeal.main_arg0)) (m ((c.tc : Thread Cert.OddRefIdeal.nD Cert.OddRefIdeal.τ).loc Cert.OddRefIdeal.main_arg1)) (m ((c.tc : Thread Cert.OddRefIdeal.nD Cert.OddRefIdeal.τ).loc Cert.OddRefIdeal.main_arg2)) (m ((c.tc : Thread Cert.OddRefIdeal.nD Cert.OddRefIdeal.τ).loc Cert.OddRefIdeal.main_arg3)) (m ((c.tc : Thread Cert.OddRefIdeal.nD Cert.OddRefIdeal.τ).loc Cert.OddRefIdeal.main_arg4)) (m ((c.tc : Thread Cert.OddRefIdeal.nD Cert.OddRefIdeal.τ).loc Cert.OddRefIdeal.main_arg5)) (m ((c.tc : Thread Cert.OddRefIdeal.nD Cert.OddRefIdeal.τ).loc Cert.OddRefIdeal.main_arg6)) (m ((c.tc : Thread Cert.OddRefIdeal.nD Cert.OddRefIdeal.τ).loc Cert.OddRefIdeal.main_arg7)) (m ((c.tc : Thread Cert.OddRefIdeal.nD Cert.OddRefIdeal.τ).loc Cert.OddRefIdeal.main_arg8)) (m ((c.tc : Thread Cert.OddRefIdeal.nD Cert.OddRefIdeal.τ).loc Cert.OddRefIdeal.main_arg9)) (m ((c.tc : Thread Cert.OddRefIdeal.nD Cert.OddRefIdeal.τ).loc Cert.OddRefIdeal.main_arg10)) (m ((c.tc : Thread Cert.OddRefIdeal.nD Cert.OddRefIdeal.τ).loc Cert.OddRefIdeal.main_arg11))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8))).1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8))).2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8))).2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8))).2.2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))).1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))).2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))).2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))).2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.2.2.2 = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7)
      ∧ r.2.mem ((c.tc : Thread Cert.Odd.nD Cert.Odd.τ).loc Cert.Odd.main_arg8) = m ((c.tc : Thread Cert.Odd.nD Cert.Odd.τ).loc Cert.Odd.main_arg8)
      ∧ r.2.mem ((c.tc : Thread Cert.Odd.nD Cert.Odd.τ).loc Cert.Odd.main_arg9) = m ((c.tc : Thread Cert.Odd.nD Cert.Odd.τ).loc Cert.Odd.main_arg9)
      ∧ r.2.mem ((c.tc : Thread Cert.Odd.nD Cert.Odd.τ).loc Cert.Odd.main_arg10) = m ((c.tc : Thread Cert.Odd.nD Cert.Odd.τ).loc Cert.Odd.main_arg10)
      ∧ r.2.mem ((c.tc : Thread Cert.Odd.nD Cert.Odd.τ).loc Cert.Odd.main_arg11) = m ((c.tc : Thread Cert.Odd.nD Cert.Odd.τ).loc Cert.Odd.main_arg11))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
      ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
      ∧ r.2.mem ((c.tc : Thread Cert.OddIdeal.nD Cert.OddIdeal.τ).loc Cert.OddIdeal.main_arg10) = m ((c.tc : Thread Cert.OddIdeal.nD Cert.OddIdeal.τ).loc Cert.OddIdeal.main_arg10)
      ∧ r.2.mem ((c.tc : Thread Cert.OddIdeal.nD Cert.OddIdeal.τ).loc Cert.OddIdeal.main_arg11) = m ((c.tc : Thread Cert.OddIdeal.nD Cert.OddIdeal.τ).loc Cert.OddIdeal.main_arg11))
      ∧ r.2.sem = fun _ => 0)

def quiescent_OddIdeal_pre_odd_decays [hOddIdeal : Cert.OddIdeal.Facts] [hPre_odd_decays : Cert.Pre_odd_decays.Facts] : Prop :=
  ∀ (m : (ℓ : Loc Cert.OddIdeal.nD Cert.OddIdeal.τ Cert.OddIdeal.sig) → Buf (Elt Ideal) ℓ) (g : Dev Cert.OddIdeal.nD → PrngReg), Pre_OddIdeal_odd_decays m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
      ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
      ∧ r.2.mem ((c.tc : Thread Cert.OddIdeal.nD Cert.OddIdeal.τ).loc Cert.OddIdeal.main_arg10) = m ((c.tc : Thread Cert.OddIdeal.nD Cert.OddIdeal.τ).loc Cert.OddIdeal.main_arg10)
      ∧ r.2.mem ((c.tc : Thread Cert.OddIdeal.nD Cert.OddIdeal.τ).loc Cert.OddIdeal.main_arg11) = m ((c.tc : Thread Cert.OddIdeal.nD Cert.OddIdeal.τ).loc Cert.OddIdeal.main_arg11))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8)
      ∧ r.2.mem ((c.tc : Thread Cert.OddRefIdeal.nD Cert.OddRefIdeal.τ).loc Cert.OddRefIdeal.main_arg9) = m ((c.tc : Thread Cert.OddRefIdeal.nD Cert.OddRefIdeal.τ).loc Cert.OddRefIdeal.main_arg9)
      ∧ r.2.mem ((c.tc : Thread Cert.OddRefIdeal.nD Cert.OddRefIdeal.τ).loc Cert.OddRefIdeal.main_arg10) = m ((c.tc : Thread Cert.OddRefIdeal.nD Cert.OddRefIdeal.τ).loc Cert.OddRefIdeal.main_arg10)
      ∧ r.2.mem ((c.tc : Thread Cert.OddRefIdeal.nD Cert.OddRefIdeal.τ).loc Cert.OddRefIdeal.main_arg11) = m ((c.tc : Thread Cert.OddRefIdeal.nD Cert.OddRefIdeal.τ).loc Cert.OddRefIdeal.main_arg11))
      ∧ r.2.sem = fun _ => 0)

def quiescent_OddRefIdeal_pre_odd_decays [hOddRefIdeal : Cert.OddRefIdeal.Facts] [hPre_odd_decays : Cert.Pre_odd_decays.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal_odd_decays m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8)
      ∧ r.2.mem ((c.tc : Thread Cert.OddRefIdeal.nD Cert.OddRefIdeal.τ).loc Cert.OddRefIdeal.main_arg9) = m ((c.tc : Thread Cert.OddRefIdeal.nD Cert.OddRefIdeal.τ).loc Cert.OddRefIdeal.main_arg9)
      ∧ r.2.mem ((c.tc : Thread Cert.OddRefIdeal.nD Cert.OddRefIdeal.τ).loc Cert.OddRefIdeal.main_arg10) = m ((c.tc : Thread Cert.OddRefIdeal.nD Cert.OddRefIdeal.τ).loc Cert.OddRefIdeal.main_arg10)
      ∧ r.2.mem ((c.tc : Thread Cert.OddRefIdeal.nD Cert.OddRefIdeal.τ).loc Cert.OddRefIdeal.main_arg11) = m ((c.tc : Thread Cert.OddRefIdeal.nD Cert.OddRefIdeal.τ).loc Cert.OddRefIdeal.main_arg11))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8)
      ∧ r.2.mem ((c.tc : Thread Cert.Pool.nD Cert.Pool.τ).loc Cert.Pool.main_arg9) = m ((c.tc : Thread Cert.Pool.nD Cert.Pool.τ).loc Cert.Pool.main_arg9))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8)
      ∧ r.2.mem ((c.tc : Thread Cert.PoolRefIdeal.nD Cert.PoolRefIdeal.τ).loc Cert.PoolRefIdeal.main_arg9) = m ((c.tc : Thread Cert.PoolRefIdeal.nD Cert.PoolRefIdeal.τ).loc Cert.PoolRefIdeal.main_arg9))
      ∧ r.2.sem = fun _ => 0)

def preserves_Odd_OddIdeal : Prop :=
  IdealRules.named_const.Statement Cert.OddIdeal.κ "gelu_cubic" .f32 0x3E922279#32 ((80338380498831 / 281474976710656 : ℝ) : EReal)

def algebraic_OddIdeal_OddRefIdeal_pre_odd_decays [hOddIdeal : Cert.OddIdeal.Facts] [hOddRefIdeal : Cert.OddRefIdeal.Facts] [hPre_odd_decays : Cert.Pre_odd_decays.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal_odd_decays m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)
      ∧ m' ((c.tc : Thread Cert.OddRefIdeal.nD Cert.OddRefIdeal.τ).loc Cert.OddRefIdeal.main_arg6) = m ((c.tc : Thread Cert.OddIdeal.nD Cert.OddIdeal.τ).loc Cert.OddIdeal.main_arg6)
      ∧ m' ((c.tc : Thread Cert.OddRefIdeal.nD Cert.OddRefIdeal.τ).loc Cert.OddRefIdeal.main_arg7) = m ((c.tc : Thread Cert.OddIdeal.nD Cert.OddIdeal.τ).loc Cert.OddIdeal.main_arg7)
      ∧ m' ((c.tc : Thread Cert.OddRefIdeal.nD Cert.OddRefIdeal.τ).loc Cert.OddRefIdeal.main_arg8) = m ((c.tc : Thread Cert.OddIdeal.nD Cert.OddIdeal.τ).loc Cert.OddIdeal.main_arg8)
      ∧ m' ((c.tc : Thread Cert.OddRefIdeal.nD Cert.OddRefIdeal.τ).loc Cert.OddRefIdeal.main_arg9) = m ((c.tc : Thread Cert.OddIdeal.nD Cert.OddIdeal.τ).loc Cert.OddIdeal.main_arg9)
      ∧ m' ((c.tc : Thread Cert.OddRefIdeal.nD Cert.OddRefIdeal.τ).loc Cert.OddRefIdeal.main_arg10) = m ((c.tc : Thread Cert.OddIdeal.nD Cert.OddIdeal.τ).loc Cert.OddIdeal.main_arg10)
      ∧ m' ((c.tc : Thread Cert.OddRefIdeal.nD Cert.OddRefIdeal.τ).loc Cert.OddRefIdeal.main_arg11) = m ((c.tc : Thread Cert.OddIdeal.nD Cert.OddIdeal.τ).loc Cert.OddIdeal.main_arg11)) →
    ∃ (v0 : (c : Dev Cert.OddIdeal.nD) → Buf (Elt Ideal) ((c.tc : Thread Cert.OddIdeal.nD Cert.OddIdeal.τ).loc Cert.OddIdeal.main_v33)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v33) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
          ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
          ∧ r.2.mem ((c.tc : Thread Cert.OddIdeal.nD Cert.OddIdeal.τ).loc Cert.OddIdeal.main_arg9) = m ((c.tc : Thread Cert.OddIdeal.nD Cert.OddIdeal.τ).loc Cert.OddIdeal.main_arg9)
          ∧ r.2.mem ((c.tc : Thread Cert.OddIdeal.nD Cert.OddIdeal.τ).loc Cert.OddIdeal.main_arg10) = m ((c.tc : Thread Cert.OddIdeal.nD Cert.OddIdeal.τ).loc Cert.OddIdeal.main_arg10)
          ∧ r.2.mem ((c.tc : Thread Cert.OddIdeal.nD Cert.OddIdeal.τ).loc Cert.OddIdeal.main_arg11) = m ((c.tc : Thread Cert.OddIdeal.nD Cert.OddIdeal.τ).loc Cert.OddIdeal.main_arg11))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v143) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6)
          ∧ r.2.mem ((c.tc : Thread Cert.OddRefIdeal.nD Cert.OddRefIdeal.τ).loc Cert.OddRefIdeal.main_arg7) = m' ((c.tc : Thread Cert.OddRefIdeal.nD Cert.OddRefIdeal.τ).loc Cert.OddRefIdeal.main_arg7)
          ∧ r.2.mem ((c.tc : Thread Cert.OddRefIdeal.nD Cert.OddRefIdeal.τ).loc Cert.OddRefIdeal.main_arg8) = m' ((c.tc : Thread Cert.OddRefIdeal.nD Cert.OddRefIdeal.τ).loc Cert.OddRefIdeal.main_arg8)
          ∧ r.2.mem ((c.tc : Thread Cert.OddRefIdeal.nD Cert.OddRefIdeal.τ).loc Cert.OddRefIdeal.main_arg9) = m' ((c.tc : Thread Cert.OddRefIdeal.nD Cert.OddRefIdeal.τ).loc Cert.OddRefIdeal.main_arg9)
          ∧ r.2.mem ((c.tc : Thread Cert.OddRefIdeal.nD Cert.OddRefIdeal.τ).loc Cert.OddRefIdeal.main_arg10) = m' ((c.tc : Thread Cert.OddRefIdeal.nD Cert.OddRefIdeal.τ).loc Cert.OddRefIdeal.main_arg10)
          ∧ r.2.mem ((c.tc : Thread Cert.OddRefIdeal.nD Cert.OddRefIdeal.τ).loc Cert.OddRefIdeal.main_arg11) = m' ((c.tc : Thread Cert.OddRefIdeal.nD Cert.OddRefIdeal.τ).loc Cert.OddRefIdeal.main_arg11))

def preserves_Post_PostIdeal : Prop :=
  True

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v13)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v13) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v83) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v19)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v19) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v75) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v4)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v4) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v18) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)
      ∧ m' ((c.tc : Thread Cert.PoolRefIdeal.nD Cert.PoolRefIdeal.τ).loc Cert.PoolRefIdeal.main_arg8) = m ((c.tc : Thread Cert.PoolIdeal.nD Cert.PoolIdeal.τ).loc Cert.PoolIdeal.main_arg8)
      ∧ m' ((c.tc : Thread Cert.PoolRefIdeal.nD Cert.PoolRefIdeal.τ).loc Cert.PoolRefIdeal.main_arg9) = m ((c.tc : Thread Cert.PoolIdeal.nD Cert.PoolIdeal.τ).loc Cert.PoolIdeal.main_arg9)) →
    ∃ (v0 : (c : Dev Cert.PoolIdeal.nD) → Buf (Elt Ideal) ((c.tc : Thread Cert.PoolIdeal.nD Cert.PoolIdeal.τ).loc Cert.PoolIdeal.main_v54_0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v54_0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
          ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
          ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v148) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7)
          ∧ r.2.mem ((c.tc : Thread Cert.PoolRefIdeal.nD Cert.PoolRefIdeal.τ).loc Cert.PoolRefIdeal.main_arg8) = m' ((c.tc : Thread Cert.PoolRefIdeal.nD Cert.PoolRefIdeal.τ).loc Cert.PoolRefIdeal.main_arg8)
          ∧ r.2.mem ((c.tc : Thread Cert.PoolRefIdeal.nD Cert.PoolRefIdeal.τ).loc Cert.PoolRefIdeal.main_arg9) = m' ((c.tc : Thread Cert.PoolRefIdeal.nD Cert.PoolRefIdeal.τ).loc Cert.PoolRefIdeal.main_arg9))

def Claim : Prop :=
  ∃ (hOdd : Cert.Odd.Facts) (hOddIdeal : Cert.OddIdeal.Facts) (hOddRefIdeal : Cert.OddRefIdeal.Facts) (hPost : Cert.Post.Facts) (hPostIdeal : Cert.PostIdeal.Facts) (hPostRefIdeal : Cert.PostRefIdeal.Facts) (hMix : Cert.Mix.Facts) (hMixIdeal : Cert.MixIdeal.Facts) (hMixRefIdeal : Cert.MixRefIdeal.Facts) (hKv : Cert.Kv.Facts) (hKvIdeal : Cert.KvIdeal.Facts) (hKvRefIdeal : Cert.KvRefIdeal.Facts) (hPool : Cert.Pool.Facts) (hPoolIdeal : Cert.PoolIdeal.Facts) (hPoolRefIdeal : Cert.PoolRefIdeal.Facts) (hPre_odd_decays : Cert.Pre_odd_decays.Facts) (hPre_post_finite : Cert.Pre_post_finite.Facts) (hPre_mix_finite : Cert.Pre_mix_finite.Facts),
    quiescent_Odd (hOdd := hOdd)
    ∧ quiescent_OddIdeal (hOddIdeal := hOddIdeal)
    ∧ quiescent_OddIdeal_pre_odd_decays (hOddIdeal := hOddIdeal) (hPre_odd_decays := hPre_odd_decays)
    ∧ quiescent_OddRefIdeal (hOddRefIdeal := hOddRefIdeal)
    ∧ quiescent_OddRefIdeal_pre_odd_decays (hOddRefIdeal := hOddRefIdeal) (hPre_odd_decays := hPre_odd_decays)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Kv (hKv := hKv)
    ∧ quiescent_KvIdeal (hKvIdeal := hKvIdeal)
    ∧ quiescent_KvRefIdeal (hKvRefIdeal := hKvRefIdeal)
    ∧ quiescent_Pool (hPool := hPool)
    ∧ quiescent_PoolIdeal (hPoolIdeal := hPoolIdeal)
    ∧ quiescent_PoolRefIdeal (hPoolRefIdeal := hPoolRefIdeal)
    ∧ preserves_Odd_OddIdeal
    ∧ algebraic_OddIdeal_OddRefIdeal_pre_odd_decays (hOddIdeal := hOddIdeal) (hOddRefIdeal := hOddRefIdeal) (hPre_odd_decays := hPre_odd_decays)
    ∧ preserves_Post_PostIdeal
    ∧ algebraic_PostIdeal_PostRefIdeal_pre_post_finite (hPostIdeal := hPostIdeal) (hPostRefIdeal := hPostRefIdeal) (hPre_post_finite := hPre_post_finite)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Kv_KvIdeal
    ∧ algebraic_KvIdeal_KvRefIdeal (hKvIdeal := hKvIdeal) (hKvRefIdeal := hKvRefIdeal)
    ∧ preserves_Pool_PoolIdeal
    ∧ algebraic_PoolIdeal_PoolRefIdeal (hPoolIdeal := hPoolIdeal) (hPoolRefIdeal := hPoolRefIdeal)
-- ==== Pre_mix_finite.lean ====
abbrev S2x16384x1024 : Shape := ⟨3, ![2, 16384, 1024]⟩
abbrev S32768x512 : Shape := ⟨2, ![32768, 512]⟩
abbrev S1x1024x1024 : Shape := ⟨3, ![1, 1024, 1024]⟩
abbrev S2x256x2048 : Shape := ⟨3, ![2, 256, 2048]⟩
abbrev S2x1024 : Shape := ⟨2, ![2, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1024 : Shape := ⟨1, ![1024]⟩
abbrev S_ : Shape := ⟨0, ![]⟩
abbrev S2x256x1024 : Shape := ⟨3, ![2, 256, 1024]⟩
abbrev S1x1024 : Shape := ⟨2, ![1, 1024]⟩
abbrev S1024x1024 : Shape := ⟨2, ![1024, 1024]⟩

class Facts : Prop where
  bcast_S_S2x16384x1024 : S_.BroadcastsInDim S2x16384x1024 (![] : Fin 0 → Fin S2x16384x1024.rank)
  bcast_S_S32768x512 : S_.BroadcastsInDim S32768x512 (![] : Fin 0 → Fin S32768x512.rank)
  bcast_S_S1x1024x1024 : S_.BroadcastsInDim S1x1024x1024 (![] : Fin 0 → Fin S1x1024x1024.rank)
  slices_S2x256x2048_S2x256x1024_0_0_0 : S2x256x2048.Slices ![0, 0, 0] S2x256x1024
  bcast_S_S2x256x1024 : S_.BroadcastsInDim S2x256x1024 (![] : Fin 0 → Fin S2x256x1024.rank)
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  slices_S2x1024x1024_S1x1024x1024_0_0_0 : S2x1024x1024.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)

variable [Facts]

def fn_part1 {F : FTy → Type} [FloatOps F] (main_arg6 : FVec F S2x1024x1024 .f32) (main_v2 : IVec S2x16384x1024 1) (main_v5 : IVec S32768x512 1) (main_v8 : IVec S32768x512 1) (main_v11 : IVec S1x1024x1024 1) (main_v15 : IVec S2x256x1024 1) (main_v18 : FVec F S1024 .f32) : IVec S2x16384x1024 1 × IVec S32768x512 1 × IVec S32768x512 1 × IVec S1x1024x1024 1 × IVec S2x256x1024 1 × IVec S1024 1 × IVec S1024x1024 1 :=
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_v21 : FVec F S1x1024x1024 .f32 := (extractStridedSlice S1x1024x1024 ![0, 0, 0] · slices_S2x1024x1024_S1x1024x1024_0_0_0) main_arg6
  let main_v22 : FVec F S1024x1024 .f32 := shapeCast S1024x1024 main_v21 shapeCasts_S1x1024x1024_S1024x1024
  let main_v23 : FVec F S1024x1024 .f32 := Host.absf main_v22
  let main_cst_5 : FVec F S_ .f32 := constant S_ .f32 0x7F800000#32
  let main_v24 : FVec F S1024x1024 .f32 := broadcastInDim S1024x1024 ![] bcast_S_S1024x1024 main_cst_5
  let main_v25 : IVec S1024x1024 1 := cmpf .olt main_v23 main_v24
  (main_v2, main_v5, main_v8, main_v11, main_v15, main_v20, main_v25)

def fn {F : FTy → Type} [FloatOps F] (main_arg0 : FVec F S2x16384x1024 .f32) (main_arg1 : FVec F S32768x512 .f32) (main_arg2 : FVec F S32768x512 .f32) (main_arg3 : FVec F S1x1024x1024 .f32) (main_arg4 : FVec F S2x256x2048 .f32) (main_arg5 : FVec F S2x1024 .f32) (main_arg6 : FVec F S2x1024x1024 .f32) (main_arg7 : FVec F S2x1024x1024 .f32) (main_arg8 : FVec F S2x1024 .f32) (main_arg9 : FVec F S2x1024x5632 .f32) (main_arg10 : FVec F S2x2816x1024 .f32) (main_arg11 : FVec F S1024 .f32) : IVec S2x16384x1024 1 × IVec S32768x512 1 × IVec S32768x512 1 × IVec S1x1024x1024 1 × IVec S2x256x1024 1 × IVec S1024 1 × IVec S1024x1024 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_v3 : FVec F S32768x512 .f32 := Host.absf main_arg1
  let main_cst_0 : FVec F S_ .f32 := constant S_ .f32 0x7F800000#32
  let main_v4 : FVec F S32768x512 .f32 := broadcastInDim S32768x512 ![] bcast_S_S32768x512 main_cst_0
  let main_v5 : IVec S32768x512 1 := cmpf .olt main_v3 main_v4
  let main_v6 : FVec F S32768x512 .f32 := Host.absf main_arg2
  let main_cst_1 : FVec F S_ .f32 := constant S_ .f32 0x7F800000#32
  let main_v7 : FVec F S32768x512 .f32 := broadcastInDim S32768x512 ![] bcast_S_S32768x512 main_cst_1
  let main_v8 : IVec S32768x512 1 := cmpf .olt main_v6 main_v7
  let main_v9 : FVec F S1x1024x1024 .f32 := Host.absf main_arg3
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_v12 : FVec F S2x256x1024 .f32 := (extractStridedSlice S2x256x1024 ![0, 0, 0] · slices_S2x256x2048_S2x256x1024_0_0_0) main_arg4
  let main_v13 : FVec F S2x256x1024 .f32 := Host.absf main_v12
  let main_cst_3 : FVec F S_ .f32 := constant S_ .f32 0x7F800000#32
  let main_v14 : FVec F S2x256x1024 .f32 := broadcastInDim S2x256x1024 ![] bcast_S_S2x256x1024 main_cst_3
  let main_v15 : IVec S2x256x1024 1 := cmpf .olt main_v13 main_v14
  let main_v16 : FVec F S1x1024 .f32 := (extractStridedSlice S1x1024 ![0, 0] · slices_S2x1024_S1x1024_0_0) main_arg5
  let main_v17 : FVec F S1024 .f32 := shapeCast S1024 main_v16 shapeCasts_S1x1024_S1024
  let main_v18 : FVec F S1024 .f32 := Host.absf main_v17
  fn_part1 (F := F) main_arg6 main_v2 main_v5 main_v8 main_v11 main_v15 main_v18
-- ==== Pre_odd_decays.lean ====
abbrev S2x16384x1024 : Shape := ⟨3, ![2, 16384, 1024]⟩
abbrev S2x16384 : Shape := ⟨2, ![2, 16384]⟩
abbrev S1x1024 : Shape := ⟨2, ![1, 1024]⟩
abbrev S1x1024x2048 : Shape := ⟨3, ![1, 1024, 2048]⟩
abbrev S1x4x1024 : Shape := ⟨3, ![1, 4, 1024]⟩
abbrev S1x4x256x256 : Shape := ⟨4, ![1, 4, 256, 256]⟩
abbrev S1x1024x1024 : Shape := ⟨3, ![1, 1024, 1024]⟩
abbrev S_ : Shape := ⟨0, ![]⟩

class Facts : Prop where
  bcast_S_S1x1024 : S_.BroadcastsInDim S1x1024 (![] : Fin 0 → Fin S1x1024.rank)

variable [Facts]

def fn {F : FTy → Type} [FloatOps F] (main_arg0 : FVec F S2x16384x1024 .f32) (main_arg1 : IVec S2x16384 32) (main_arg2 : FVec F S1x1024 .f32) (main_arg3 : FVec F S1x1024x2048 .f32) (main_arg4 : FVec F S1x4x1024 .f32) (main_arg5 : FVec F S1x1024 .f32) (main_arg6 : FVec F S1x4x256x256 .f32) (main_arg7 : FVec F S1x1024 .f32) (main_arg8 : FVec F S1x4x256x256 .f32) (main_arg9 : FVec F S1x1024 .f32) (main_arg10 : FVec F S1x1024 .f32) (main_arg11 : FVec F S1x1024x1024 .f32) : IVec S1x1024 1 :=
  let main_cst : FVec F S_ .f32 := constant S_ .f32 0xFF800000#32
  let main_v0 : FVec F S1x1024 .f32 := broadcastInDim S1x1024 ![] bcast_S_S1x1024 main_cst
  let main_v1 : IVec S1x1024 1 := cmpf .ogt main_arg10 main_v0
  main_v1
-- ==== Pre_post_finite.lean ====
abbrev S2x16384x1024 : Shape := ⟨3, ![2, 16384, 1024]⟩
abbrev S2x256x2048 : Shape := ⟨3, ![2, 256, 2048]⟩
abbrev S2x1024 : Shape := ⟨2, ![2, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1024 : Shape := ⟨1, ![1024]⟩
abbrev S_ : Shape := ⟨0, ![]⟩
abbrev S2x256x1024 : Shape := ⟨3, ![2, 256, 1024]⟩
abbrev S1x1024 : Shape := ⟨2, ![1, 1024]⟩
abbrev S1x1024x1024 : Shape := ⟨3, ![1, 1024, 1024]⟩
abbrev S1024x1024 : Shape := ⟨2, ![1024, 1024]⟩

class Facts : Prop where
  bcast_S_S2x16384x1024 : S_.BroadcastsInDim S2x16384x1024 (![] : Fin 0 → Fin S2x16384x1024.rank)
  slices_S2x256x2048_S2x256x1024_0_0_0 : S2x256x2048.Slices ![0, 0, 0] S2x256x1024
  bcast_S_S2x256x1024 : S_.BroadcastsInDim S2x256x1024 (![] : Fin 0 → Fin S2x256x1024.rank)
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  slices_S2x1024x1024_S1x1024x1024_1_0_0 : S2x1024x1024.Slices ![1, 0, 0] S1x1024x1024
  shapeCasts_S1x1024x1024_S1024x1024 : S1x1024x1024.ShapeCasts S1024x1024
  bcast_S_S1024x1024 : S_.BroadcastsInDim S1024x1024 (![] : Fin 0 → Fin S1024x1024.rank)

variable [Facts]

def fn {F : FTy → Type} [FloatOps F] (main_arg0 : FVec F S2x16384x1024 .f32) (main_arg1 : FVec F S2x256x2048 .f32) (main_arg2 : FVec F S2x1024 .f32) (main_arg3 : FVec F S2x1024x1024 .f32) (main_arg4 : FVec F S2x1024x1024 .f32) (main_arg5 : FVec F S2x1024 .f32) (main_arg6 : FVec F S2x1024x5632 .f32) (main_arg7 : FVec F S2x2816x1024 .f32) (main_arg8 : FVec F S1024 .f32) : IVec S2x16384x1024 1 × IVec S2x256x1024 1 × IVec S1024 1 × IVec S1024x1024 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_v3 : FVec F S2x256x1024 .f32 := (extractStridedSlice S2x256x1024 ![0, 0, 0] · slices_S2x256x2048_S2x256x1024_0_0_0) main_arg1
  let main_v4 : FVec F S2x256x1024 .f32 := Host.absf main_v3
  let main_cst_0 : FVec F S_ .f32 := constant S_ .f32 0x7F800000#32
  let main_v5 : FVec F S2x256x1024 .f32 := broadcastInDim S2x256x1024 ![] bcast_S_S2x256x1024 main_cst_0
  let main_v6 : IVec S2x256x1024 1 := cmpf .olt main_v4 main_v5
  let main_v7 : FVec F S1x1024 .f32 := (extractStridedSlice S1x1024 ![1, 0] · slices_S2x1024_S1x1024_1_0) main_arg2
  let main_v8 : FVec F S1024 .f32 := shapeCast S1024 main_v7 shapeCasts_S1x1024_S1024
  let main_v9 : FVec F S1024 .f32 := Host.absf main_v8
  let main_cst_1 : FVec F S_ .f32 := constant S_ .f32 0x7F800000#32
  let main_v10 : FVec F S1024 .f32 := broadcastInDim S1024 ![] bcast_S_S1024 main_cst_1
  let main_v11 : IVec S1024 1 := cmpf .olt main_v9 main_v10
  let main_v12 : FVec F S1x1024x1024 .f32 := (extractStridedSlice S1x1024x1024 ![1, 0, 0] · slices_S2x1024x1024_S1x1024x1024_1_0_0) main_arg3
  let main_v13 : FVec F S1024x1024 .f32 := shapeCast S1024x1024 main_v12 shapeCasts_S1x1024x1024_S1024x1024
  let main_v14 : FVec F S1024x1024 .f32 := Host.absf main_v13
  let main_cst_2 : FVec F S_ .f32 := constant S_ .f32 0x7F800000#32
  let main_v15 : FVec F S1024x1024 .f32 := broadcastInDim S1024x1024 ![] bcast_S_S1024x1024 main_cst_2
  let main_v16 : IVec S1024x1024 1 := cmpf .olt main_v14 main_v15
  (main_v2, main_v6, main_v11, main_v16)
-- ==== Odd.lean ====
abbrev S2x16384x1024 : Shape := ⟨3, ![2, 16384, 1024]⟩
abbrev S2x16384 : Shape := ⟨2, ![2, 16384]⟩
abbrev S1x1024 : Shape := ⟨2, ![1, 1024]⟩
abbrev S1x1024x2048 : Shape := ⟨3, ![1, 1024, 2048]⟩
abbrev S1x4x1024 : Shape := ⟨3, ![1, 4, 1024]⟩
abbrev S1x4x256x256 : Shape := ⟨4, ![1, 4, 256, 256]⟩
abbrev S1x1024x1024 : Shape := ⟨3, ![1, 1024, 1024]⟩
abbrev S2x16384x1 : Shape := ⟨3, ![2, 16384, 1]⟩
abbrev S4x256x256 : Shape := ⟨3, ![4, 256, 256]⟩
abbrev S4x256x512 : Shape := ⟨3, ![4, 256, 512]⟩
abbrev S_ : Shape := ⟨0, ![]⟩
abbrev S1024 : Shape := ⟨1, ![1024]⟩
abbrev S2x1024 : Shape := ⟨2, ![2, 1024]⟩
abbrev S2048 : Shape := ⟨1, ![2048]⟩
abbrev S1024x2048 : Shape := ⟨2, ![1024, 2048]⟩
abbrev S1x2048 : Shape := ⟨2, ![1, 2048]⟩
abbrev S4x1024 : Shape := ⟨2, ![4, 1024]⟩
abbrev S1024x1024 : Shape := ⟨2, ![1024, 1024]⟩
abbrev S1x512x1024 : Shape := ⟨3, ![1, 512, 1024]⟩
abbrev S1x512x1 : Shape := ⟨3, ![1, 512, 1]⟩
abbrev S520x1024 : Shape := ⟨2, ![520, 1024]⟩
abbrev S8x1024 : Shape := ⟨2, ![8, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩
abbrev S1x256x512 : Shape := ⟨3, ![1, 256, 512]⟩
abbrev S256x512 : Shape := ⟨2, ![256, 512]⟩
abbrev S1x256x1 : Shape := ⟨3, ![1, 256, 1]⟩

abbrev nBuf : Space → Nat
  | .hbm => 53
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S2x16384, .i32⟩
  | .hbm, ⟨2, _⟩ => ⟨S1x1024, .f32⟩
  | .hbm, ⟨3, _⟩ => ⟨S1x1024x2048, .f32⟩
  | .hbm, ⟨4, _⟩ => ⟨S1x4x1024, .f32⟩
  | .hbm, ⟨5, _⟩ => ⟨S1x1024, .f32⟩
  | .hbm, ⟨6, _⟩ => ⟨S1x4x256x256, .f32⟩
  | .hbm, ⟨7, _⟩ => ⟨S1x1024, .f32⟩
  | .hbm, ⟨8, _⟩ => ⟨S1x4x256x256, .f32⟩
  | .hbm, ⟨9, _⟩ => ⟨S1x1024, .f32⟩
  | .hbm, ⟨10, _⟩ => ⟨S1x1024, .f32⟩
  | .hbm, ⟨11, _⟩ => ⟨S1x1024x1024, .f32⟩
  | .hbm, ⟨12, _⟩ => ⟨S2x16384x1, .i32⟩
  | .hbm, ⟨13, _⟩ => ⟨S4x256x256, .f32⟩
  | .hbm, ⟨14, _⟩ => ⟨S4x256x256, .f32⟩
  | .hbm, ⟨15, _⟩ => ⟨S4x256x512, .f32⟩
  | .hbm, ⟨16, _⟩ => ⟨S_, .f32⟩
  | .hbm, ⟨17, _⟩ => ⟨S4x256x512, .f32⟩
  | .hbm, ⟨18, _⟩ => ⟨S4x256x512, .f32⟩
  | .hbm, ⟨19, _⟩ => ⟨S4x256x512, .bf16⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S2x1024, .f32⟩
  | .hbm, ⟨25, _⟩ => ⟨S_, .f32⟩
  | .hbm, ⟨26, _⟩ => ⟨S2x1024, .f32⟩
  | .hbm, ⟨27, _⟩ => ⟨S2x1024, .f32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S1024, .f32⟩
  | .hbm, ⟨39, _⟩ => ⟨S1x1024, .f32⟩
  | .hbm, ⟨40, _⟩ => ⟨S1024x2048, .f32⟩
  | .hbm, ⟨41, _⟩ => ⟨S1x2048, .f32⟩
  | .hbm, ⟨42, _⟩ => ⟨S1024x2048, .f32⟩
  | .hbm, ⟨43, _⟩ => ⟨S1024x2048, .f32⟩
  | .hbm, ⟨44, _⟩ => ⟨S1024x2048, .bf16⟩
  | .hbm, ⟨45, _⟩ => ⟨S4x1024, .f32⟩
  | .hbm, ⟨46, _⟩ => ⟨S1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1024x1024, .f32⟩
  | .hbm, ⟨51, _⟩ => ⟨S1024x1024, .bf16⟩
  | .hbm, ⟨52, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S1x1024, .f32⟩
  | .local _ .vmem, ⟨5, _⟩ => ⟨S1024x2048, .bf16⟩
  | .local _ .vmem, ⟨6, _⟩ => ⟨S4x1024, .f32⟩
  | .local _ .vmem, ⟨7, _⟩ => ⟨S1x1024, .f32⟩
  | .local _ .vmem, ⟨8, _⟩ => ⟨S4x256x512, .bf16⟩
  | .local _ .vmem, ⟨9, _⟩ => ⟨S2x1024, .f32⟩
  | .local _ .vmem, ⟨10, _⟩ => ⟨S1x1024, .f32⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | .local _ .vmem, ⟨14, _⟩ => ⟨S520x1024, .f32⟩
  | .local _ .vmem, ⟨15, _⟩ => ⟨S8x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OddIdeal.lean ====
variable {F : FTy → Type} [FloatOps F] [Named F]
def κ : String → Option EReal := fun
  | "gelu_cubic" => some ((80338380498831 / 281474976710656 : ℝ) : EReal)
  | _ => none
-- ==== OddRefIdeal.lean ====
abbrev S2x16384x1024 : Shape := ⟨3, ![2, 16384, 1024]⟩
abbrev S2x16384 : Shape := ⟨2, ![2, 16384]⟩
abbrev S1x1024 : Shape := ⟨2, ![1, 1024]⟩
abbrev S1x1024x2048 : Shape := ⟨3, ![1, 1024, 2048]⟩
abbrev S1x4x1024 : Shape := ⟨3, ![1, 4, 1024]⟩
abbrev S1x4x256x256 : Shape := ⟨4, ![1, 4, 256, 256]⟩
abbrev S1x1024x1024 : Shape := ⟨3, ![1, 1024, 1024]⟩
abbrev S_ : Shape := ⟨0, ![]⟩
abbrev S2x16384x1 : Shape := ⟨3, ![2, 16384, 1]⟩
abbrev S1024x1024 : Shape := ⟨2, ![1024, 1024]⟩
abbrev S1024 : Shape := ⟨1, ![1024]⟩
abbrev S1x1x1024 : Shape := ⟨3, ![1, 1, 1024]⟩
abbrev S2x3x1024 : Shape := ⟨3, ![2, 3, 1024]⟩
abbrev S2x16387x1024 : Shape := ⟨3, ![2, 16387, 1024]⟩
abbrev S2x16384x4x256 : Shape := ⟨4, ![2, 16384, 4, 256]⟩
abbrev S4x256x256 : Shape := ⟨3, ![4, 256, 256]⟩
abbrev S4x256x2x16384 : Shape := ⟨4, ![4, 256, 2, 16384]⟩
abbrev S2x1024 : Shape := ⟨2, ![2, 1024]⟩
abbrev S16384x2x1024 : Shape := ⟨3, ![16384, 2, 1024]⟩
abbrev S1x2x1024 : Shape := ⟨3, ![1, 2, 1024]⟩

abbrev nBuf : Space → Nat
  | .hbm => 222
  | .vmem => 0
  | .smem => 0
  | _ => 0

abbrev hbmTy0_0 (i : Nat) : BufTy := match i % 128 with
  | 0 => ⟨S2x16384x1024, .f32⟩
  | 1 => ⟨S2x16384, .i32⟩
  | 2 => ⟨S1x1024, .f32⟩
  | 3 => ⟨S1x1024x2048, .f32⟩
  | 4 => ⟨S1x4x1024, .f32⟩
  | 5 => ⟨S1x1024, .f32⟩
  | 6 => ⟨S1x4x256x256, .f32⟩
  | 7 => ⟨S1x1024, .f32⟩
  | 8 => ⟨S1x4x256x256, .f32⟩
  | 9 => ⟨S1x1024, .f32⟩
  | 10 => ⟨S1x1024, .f32⟩
  | 11 => ⟨S1x1024x1024, .f32⟩
  | 12 => ⟨S_, .i32⟩
  | 13 => ⟨S2x16384, .i32⟩
  | 14 => ⟨S2x16384, .i1⟩
  | 15 => ⟨S2x16384x1, .i1⟩
  | 16 => ⟨S1x1024x1024, .f32⟩
  | 17 => ⟨S1024x1024, .f32⟩
  | 18 => ⟨S1024, .f32⟩
  | 19 => ⟨S2x16384x1024, .f32⟩
  | 20 => ⟨S_, .f32⟩
  | 21 => ⟨S2x16384, .f32⟩
  | 22 => ⟨S2x16384x1, .f32⟩
  | 23 => ⟨S_, .f32⟩
  | 24 => ⟨S2x16384x1, .f32⟩
  | 25 => ⟨S2x16384x1, .f32⟩
  | 26 => ⟨S_, .f32⟩
  | 27 => ⟨S2x16384x1, .f32⟩
  | 28 => ⟨S2x16384x1, .f32⟩
  | 29 => ⟨S2x16384x1, .f32⟩
  | 30 => ⟨S2x16384x1024, .f32⟩
  | 31 => ⟨S2x16384x1024, .f32⟩
  | 32 => ⟨S1x1x1024, .f32⟩
  | 33 => ⟨S2x16384x1024, .f32⟩
  | 34 => ⟨S2x16384x1024, .f32⟩
  | 35 => ⟨S2x16384x1024, .f32⟩
  | 36 => ⟨S_, .f32⟩
  | 37 => ⟨S2x3x1024, .f32⟩
  | 38 => ⟨S2x16387x1024, .f32⟩
  | 39 => ⟨S1x1x1024, .f32⟩
  | 40 => ⟨S1024, .f32⟩
  | 41 => ⟨S2x16384x1024, .f32⟩
  | 42 => ⟨S1x1x1024, .f32⟩
  | 43 => ⟨S2x16384x1024, .f32⟩
  | 44 => ⟨S2x16384x1024, .f32⟩
  | 45 => ⟨S_, .f32⟩
  | 46 => ⟨S2x16384x1024, .f32⟩
  | 47 => ⟨S2x16384x1024, .f32⟩
  | 48 => ⟨S1x1x1024, .f32⟩
  | 49 => ⟨S1024, .f32⟩
  | 50 => ⟨S2x16384x1024, .f32⟩
  | 51 => ⟨S1x1x1024, .f32⟩
  | 52 => ⟨S2x16384x1024, .f32⟩
  | 53 => ⟨S2x16384x1024, .f32⟩
  | 54 => ⟨S2x16384x1024, .f32⟩
  | 55 => ⟨S1x1x1024, .f32⟩
  | 56 => ⟨S1024, .f32⟩
  | 57 => ⟨S2x16384x1024, .f32⟩
  | 58 => ⟨S1x1x1024, .f32⟩
  | 59 => ⟨S2x16384x1024, .f32⟩
  | 60 => ⟨S2x16384x1024, .f32⟩
  | 61 => ⟨S2x16384x1024, .f32⟩
  | 62 => ⟨S1x1x1024, .f32⟩
  | 63 => ⟨S1024, .f32⟩
  | 64 => ⟨S2x16384x1024, .f32⟩
  | 65 => ⟨S1x1x1024, .f32⟩
  | 66 => ⟨S2x16384x1024, .f32⟩
  | 67 => ⟨S2x16384x1024, .f32⟩
  | 68 => ⟨S2x16384x1024, .f32⟩
  | 69 => ⟨S1024, .f32⟩
  | 70 => ⟨S1x1x1024, .f32⟩
  | 71 => ⟨S2x16384x1024, .f32⟩
  | 72 => ⟨S2x16384x1024, .f32⟩
  | 73 => ⟨S2x16384x4x256, .f32⟩
  | 74 => ⟨S4x256x256, .f32⟩
  | 75 => ⟨S4x256x2x16384, .f32⟩
  | 76 => ⟨S2x16384x4x256, .f32⟩
  | 77 => ⟨S2x16384x1024, .f32⟩
  | 78 => ⟨S1024, .f32⟩
  | 79 => ⟨S1x1x1024, .f32⟩
  | 80 => ⟨S2x16384x1024, .f32⟩
  | 81 => ⟨S2x16384x1024, .f32⟩
  | 82 => ⟨S2x16384x1024, .f32⟩
  | 83 => ⟨S2x16384x1024, .f32⟩
  | 84 => ⟨S_, .f32⟩
  | 85 => ⟨S2x16384x1024, .f32⟩
  | 86 => ⟨S2x16384x1024, .f32⟩
  | 87 => ⟨S_, .f32⟩
  | 88 => ⟨S2x16384x1024, .f32⟩
  | 89 => ⟨S2x16384x1024, .f32⟩
  | 90 => ⟨S4x256x256, .f32⟩
  | 91 => ⟨S4x256x2x16384, .f32⟩
  | 92 => ⟨S2x16384x4x256, .f32⟩
  | 93 => ⟨S2x16384x1024, .f32⟩
  | 94 => ⟨S1024, .f32⟩
  | 95 => ⟨S1x1x1024, .f32⟩
  | 96 => ⟨S2x16384x1024, .f32⟩
  | 97 => ⟨S2x16384x1024, .f32⟩
  | 98 => ⟨S2x16384x1024, .f32⟩
  | 99 => ⟨S2x16384x1024, .f32⟩
  | 100 => ⟨S_, .f32⟩
  | 101 => ⟨S2x16384x1024, .f32⟩
  | 102 => ⟨S2x16384x1024, .f32⟩
  | 103 => ⟨S_, .f32⟩
  | 104 => ⟨S2x16384x1024, .f32⟩
  | 105 => ⟨S2x16384x1024, .f32⟩
  | 106 => ⟨S_, .f32⟩
  | 107 => ⟨S2x16384x1024, .f32⟩
  | 108 => ⟨S2x16384x1024, .f32⟩
  | 109 => ⟨S1024, .f32⟩
  | 110 => ⟨S1024, .f32⟩
  | 111 => ⟨S_, .f32⟩
  | 112 => ⟨S1024, .f32⟩
  | 113 => ⟨S1024, .f32⟩
  | 114 => ⟨S1024, .f32⟩
  | 115 => ⟨S1024, .f32⟩
  | 116 => ⟨S1024, .i1⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1x1x1024, .f32⟩
  | 126 => ⟨S2x16384x1024, .f32⟩
  | 127 => ⟨S2x16384x1024, .f32⟩
  | _ => ⟨S2x16384x1024, .f32⟩

abbrev hbmTy0_1 (i : Nat) : BufTy := match i % 128 with
  | 0 => ⟨S2x16384x1024, .f32⟩
  | 1 => ⟨S_, .f32⟩
  | 2 => ⟨S2x16384x1024, .f32⟩
  | 3 => ⟨S2x16384x1024, .f32⟩
  | 4 => ⟨S2x16384x1024, .f32⟩
  | 5 => ⟨S2x16384x1024, .f32⟩
  | 6 => ⟨S_, .f32⟩
  | 7 => ⟨S2x16384x1024, .f32⟩
  | 8 => ⟨S2x16384x1024, .f32⟩
  | 9 => ⟨S2x16384x1024, .f32⟩
  | 10 => ⟨S_, .f32⟩
  | 11 => ⟨S_, .f32⟩
  | 12 => ⟨S2x16384x1024, .i1⟩
  | 13 => ⟨S2x16384x1024, .f32⟩
  | 14 => ⟨S2x16384x1024, .f32⟩
  | 15 => ⟨S_, .f32⟩
  | 16 => ⟨S_, .f32⟩
  | 17 => ⟨S2x16384x1024, .i1⟩
  | 18 => ⟨S2x16384x1024, .f32⟩
  | 19 => ⟨S2x16384x1024, .f32⟩
  | 20 => ⟨S2x16384x1024, .f32⟩
  | 21 => ⟨S2x16384x1024, .f32⟩
  | 22 => ⟨S_, .f32⟩
  | 23 => ⟨S2x1024, .f32⟩
  | 24 => ⟨S16384x2x1024, .f32⟩
  | 25 => ⟨S16384x2x1024, .f32⟩
  | 26 => ⟨S_, .f32⟩
  | 27 => ⟨S16384x2x1024, .f32⟩
  | 28 => ⟨S_, .i32⟩
  | 29 => ⟨S16384x2x1024, .f32⟩
  | 30 => ⟨S16384x2x1024, .f32⟩
  | 31 => ⟨S_, .i32⟩
  | 32 => ⟨S2x1024, .f32⟩
  | 33 => ⟨S16384x2x1024, .f32⟩
  | 34 => ⟨S_, .i32⟩
  | 35 => ⟨S_, .i1⟩
  | 36 => ⟨S_, .i32⟩
  | 37 => ⟨S_, .i32⟩
  | 38 => ⟨S1x2x1024, .f32⟩
  | 39 => ⟨S2x1024, .f32⟩
  | 40 => ⟨S_, .i32⟩
  | 41 => ⟨S_, .i32⟩
  | 42 => ⟨S1x2x1024, .f32⟩
  | 43 => ⟨S2x1024, .f32⟩
  | 44 => ⟨S2x1024, .f32⟩
  | 45 => ⟨S2x1024, .f32⟩
  | 46 => ⟨S1x2x1024, .f32⟩
  | 47 => ⟨S_, .i32⟩
  | 48 => ⟨S_, .i32⟩
  | 49 => ⟨S16384x2x1024, .f32⟩
  | 50 => ⟨S_, .i32⟩
  | 51 => ⟨S_, .i32⟩
  | 52 => ⟨S1x1024x1024, .f32⟩
  | 53 => ⟨S1024x1024, .f32⟩
  | 54 => ⟨S1024, .f32⟩
  | 55 => ⟨S2x16384x1024, .f32⟩
  | 56 => ⟨S_, .f32⟩
  | 57 => ⟨S2x16384, .f32⟩
  | 58 => ⟨S2x16384x1, .f32⟩
  | 59 => ⟨S_, .f32⟩
  | 60 => ⟨S2x16384x1, .f32⟩
  | 61 => ⟨S2x16384x1, .f32⟩
  | 62 => ⟨S_, .f32⟩
  | 63 => ⟨S2x16384x1, .f32⟩
  | 64 => ⟨S2x16384x1, .f32⟩
  | 65 => ⟨S2x16384x1, .f32⟩
  | 66 => ⟨S2x16384x1024, .f32⟩
  | 67 => ⟨S2x16384x1024, .f32⟩
  | 68 => ⟨S1x1x1024, .f32⟩
  | 69 => ⟨S2x16384x1024, .f32⟩
  | 70 => ⟨S2x16384x1024, .f32⟩
  | 71 => ⟨S2x16384x1024, .f32⟩
  | 72 => ⟨S2x16384x1024, .f32⟩
  | 73 => ⟨S2x16384x1024, .f32⟩
  | 74 => ⟨S_, .f32⟩
  | 75 => ⟨S2x16384x1024, .f32⟩
  | 76 => ⟨S2x16384x1024, .f32⟩
  | 77 => ⟨S2x16384x1024, .f32⟩
  | 78 => ⟨S_, .f32⟩
  | 79 => ⟨S2x16384x1024, .f32⟩
  | 80 => ⟨S2x16384x1024, .f32⟩
  | 81 => ⟨S2x16384x1024, .f32⟩
  | 82 => ⟨S_, .f32⟩
  | 83 => ⟨S2x16384x1024, .f32⟩
  | 84 => ⟨S2x16384x1024, .f32⟩
  | 85 => ⟨S_, .f32⟩
  | 86 => ⟨S2x16384x1024, .f32⟩
  | 87 => ⟨S2x16384x1024, .f32⟩
  | 88 => ⟨S2x16384x1024, .f32⟩
  | 89 => ⟨S2x16384x1024, .f32⟩
  | 90 => ⟨S2x16384x1024, .f32⟩
  | 91 => ⟨S1024x1024, .f32⟩
  | 92 => ⟨S2x16384x1024, .f32⟩
  | 93 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_4 : Ref sig .tc := ⟨.hbm, 84, rfl⟩
abbrev main_v66 : Ref sig .tc := ⟨.hbm, 85, rfl⟩
abbrev main_v67 : Ref sig .tc := ⟨.hbm, 86, rfl⟩
abbrev main_cst_5 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_6 : Ref sig .tc := ⟨.hbm, 100, rfl⟩
abbrev main_v80 : Ref sig .tc := ⟨.hbm, 101, rfl⟩
abbrev main_v81 : Ref sig .tc := ⟨.hbm, 102, rfl⟩
abbrev main_cst_7 : Ref sig .tc := ⟨.hbm, 103, rfl⟩
abbrev main_v82 : Ref sig .tc := ⟨.hbm, 104, rfl⟩
abbrev main_v83 : Ref sig .tc := ⟨.hbm, 105, rfl⟩
abbrev main_cst_8 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_call0_cst : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_call0_v5 : Ref sig .tc := ⟨.hbm, 117, rfl⟩
abbrev main_call0_v6 : Ref sig .tc := ⟨.hbm, 118, rfl⟩
abbrev main_call0_v7 : Ref sig .tc := ⟨.hbm, 119, rfl⟩
abbrev main_call0_v8 : Ref sig .tc := ⟨.hbm, 120, rfl⟩
abbrev main_call0_v9 : Ref sig .tc := ⟨.hbm, 121, rfl⟩
abbrev main_call0_v10 : Ref sig .tc := ⟨.hbm, 122, rfl⟩
abbrev main_call0_v11 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_9 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_10 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_11 : Ref sig .tc := ⟨.hbm, 138, rfl⟩
abbrev main_call1_v0 : Ref sig .tc := ⟨.hbm, 139, rfl⟩
abbrev main_call1_v1 : Ref sig .tc := ⟨.hbm, 140, rfl⟩
abbrev main_call1_v2 : Ref sig .tc := ⟨.hbm, 141, rfl⟩
abbrev main_v100 : Ref sig .tc := ⟨.hbm, 142, rfl⟩
abbrev main_cst_12 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_13 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_14 : Ref sig .tc := ⟨.hbm, 154, rfl⟩
abbrev main_v107 : Ref sig .tc := ⟨.hbm, 155, rfl⟩
abbrev main_c_15 : Ref sig .tc := ⟨.hbm, 156, rfl⟩
abbrev main_v108_0 : Ref sig .tc := ⟨.hbm, 157, rfl⟩
abbrev main_v108_1 : Ref sig .tc := ⟨.hbm, 158, rfl⟩
abbrev main_v108_2 : Ref sig .tc := ⟨.hbm, 159, rfl⟩
abbrev main_v108_3 : Ref sig .tc := ⟨.hbm, 160, rfl⟩
abbrev main_v108_4 : Ref sig .tc := ⟨.hbm, 161, rfl⟩
abbrev main_while0c_c_27 : Ref sig .tc := ⟨.hbm, 162, rfl⟩
abbrev main_while0c_v144 : Ref sig .tc := ⟨.hbm, 163, rfl⟩
abbrev main_while0b_call3_c : Ref sig .tc := ⟨.hbm, 164, rfl⟩
abbrev main_while0b_call3_c_0 : Ref sig .tc := ⟨.hbm, 165, rfl⟩
abbrev main_while0b_call3_v0 : Ref sig .tc := ⟨.hbm, 166, rfl⟩
abbrev main_while0b_v144 : Ref sig .tc := ⟨.hbm, 167, rfl⟩
abbrev main_while0b_call4_c : Ref sig .tc := ⟨.hbm, 168, rfl⟩
abbrev main_while0b_call4_c_0 : Ref sig .tc := ⟨.hbm, 169, rfl⟩
abbrev main_while0b_call4_v0 : Ref sig .tc := ⟨.hbm, 170, rfl⟩
abbrev main_while0b_v145 : Ref sig .tc := ⟨.hbm, 171, rfl⟩
abbrev main_while0b_v146 : Ref sig .tc := ⟨.hbm, 172, rfl⟩
abbrev main_while0b_v147 : Ref sig .tc := ⟨.hbm, 173, rfl⟩
abbrev main_while0b_call5_v0 : Ref sig .tc := ⟨.hbm, 174, rfl⟩
abbrev main_while0b_call5_c : Ref sig .tc := ⟨.hbm, 175, rfl⟩
abbrev main_while0b_call5_c_0 : Ref sig .tc := ⟨.hbm, 176, rfl⟩
abbrev main_while0b_v148 : Ref sig .tc := ⟨.hbm, 177, rfl⟩
abbrev main_while0b_c_27 : Ref sig .tc := ⟨.hbm, 178, rfl⟩
abbrev main_while0b_v149 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_cst_16 : Ref sig .tc := ⟨.hbm, 184, rfl⟩
abbrev main_v113 : Ref sig .tc := ⟨.hbm, 185, rfl⟩
abbrev main_v114 : Ref sig .tc := ⟨.hbm, 186, rfl⟩
abbrev main_cst_17 : Ref sig .tc := ⟨.hbm, 187, rfl⟩
abbrev main_v115 : Ref sig .tc := ⟨.hbm, 188, rfl⟩
abbrev main_v116 : Ref sig .tc := ⟨.hbm, 189, rfl⟩
abbrev main_cst_18 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_cst_19 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_cst_20 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_cst_21 : Ref sig .tc := ⟨.hbm, 210, rfl⟩
abbrev main_v134 : Ref sig .tc := ⟨.hbm, 211, rfl⟩
abbrev main_v135 : Ref sig .tc := ⟨.hbm, 212, rfl⟩
abbrev main_cst_22 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]

abbrev main_while0_count : Scf.Loop 32 := ⟨0#32, 16384#32, 1#32⟩
-- ==== Post.lean ====
abbrev S2x16384x1024 : Shape := ⟨3, ![2, 16384, 1024]⟩
abbrev S2x256x2048 : Shape := ⟨3, ![2, 256, 2048]⟩
abbrev S2x1024 : Shape := ⟨2, ![2, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S1x1024x1024 : Shape := ⟨3, ![1, 1024, 1024]⟩
abbrev S1x256x2048 : Shape := ⟨3, ![1, 256, 2048]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1024x1024 : Shape := ⟨2, ![1024, 1024]⟩
abbrev S1x256x256 : Shape := ⟨3, ![1, 256, 256]⟩
abbrev S256x256 : Shape := ⟨2, ![256, 256]⟩
abbrev S512x256 : Shape := ⟨2, ![512, 256]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 23
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x256x2048, .f32⟩
  | .hbm, ⟨2, _⟩ => ⟨S2x1024, .f32⟩
  | .hbm, ⟨3, _⟩ => ⟨S2x1024x1024, .f32⟩
  | .hbm, ⟨4, _⟩ => ⟨S2x1024x1024, .f32⟩
  | .hbm, ⟨5, _⟩ => ⟨S2x1024, .f32⟩
  | .hbm, ⟨6, _⟩ => ⟨S2x1024x5632, .f32⟩
  | .hbm, ⟨7, _⟩ => ⟨S2x2816x1024, .f32⟩
  | .hbm, ⟨8, _⟩ => ⟨S1024, .f32⟩
  | .hbm, ⟨9, _⟩ => ⟨S32768x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S2x1024x1024, .bf16⟩
  | .hbm, ⟨14, _⟩ => ⟨S2x256x2048, .bf16⟩
  | .hbm, ⟨15, _⟩ => ⟨S2x1024x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2x1024x5632, .bf16⟩
  | .hbm, ⟨20, _⟩ => ⟨S2x2816x1024, .bf16⟩
  | .hbm, ⟨21, _⟩ => ⟨S1x1024, .f32⟩
  | .hbm, ⟨22, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x1024x1024, .bf16⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostRefIdeal.lean ====
abbrev S2x16384x1024 : Shape := ⟨3, ![2, 16384, 1024]⟩
abbrev S2x256x2048 : Shape := ⟨3, ![2, 256, 2048]⟩
abbrev S2x1024 : Shape := ⟨2, ![2, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S2x16384x4x256 : Shape := ⟨4, ![2, 16384, 4, 256]⟩
abbrev S2x256x1024 : Shape := ⟨3, ![2, 256, 1024]⟩
abbrev S2x256x4x256 : Shape := ⟨4, ![2, 256, 4, 256]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x256x16384 : Shape := ⟨4, ![2, 4, 256, 16384]⟩
abbrev S1x1024x5632 : Shape := ⟨3, ![1, 1024, 5632]⟩
abbrev S1024x5632 : Shape := ⟨2, ![1024, 5632]⟩
abbrev S2x16384x5632 : Shape := ⟨3, ![2, 16384, 5632]⟩
abbrev S2x16384x2816 : Shape := ⟨3, ![2, 16384, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 114
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x2048, .f32⟩
  | .hbm, ⟨2, _⟩ => ⟨S2x1024, .f32⟩
  | .hbm, ⟨3, _⟩ => ⟨S2x1024x1024, .f32⟩
  | .hbm, ⟨4, _⟩ => ⟨S2x1024x1024, .f32⟩
  | .hbm, ⟨5, _⟩ => ⟨S2x1024, .f32⟩
  | .hbm, ⟨6, _⟩ => ⟨S2x1024x5632, .f32⟩
  | .hbm, ⟨7, _⟩ => ⟨S2x2816x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S2x16384x1024, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x1024, .f32⟩
  | .hbm, ⟨23, _⟩ => ⟨S2x16384x1024, .f32⟩
  | .hbm, ⟨24, _⟩ => ⟨S1x1x1024, .f32⟩
  | .hbm, ⟨25, _⟩ => ⟨S2x16384x1024, .f32⟩
  | .hbm, ⟨26, _⟩ => ⟨S2x16384x1024, .f32⟩
  | .hbm, ⟨27, _⟩ => ⟨S1x1024x1024, .f32⟩
  | .hbm, ⟨28, _⟩ => ⟨S1024x1024, .f32⟩
  | .hbm, ⟨29, _⟩ => ⟨S2x16384x1024, .f32⟩
  | .hbm, ⟨30, _⟩ => ⟨S2x16384x4x256, .f32⟩
  | .hbm, ⟨31, _⟩ => ⟨S2x256x1024, .f32⟩
  | .hbm, ⟨32, _⟩ => ⟨S2x256x1024, .f32⟩
  | .hbm, ⟨33, _⟩ => ⟨S2x256x4x256, .f32⟩
  | .hbm, ⟨34, _⟩ => ⟨S2x256x4x256, .f32⟩
  | .hbm, ⟨35, _⟩ => ⟨S2x4x16384x256, .f32⟩
  | .hbm, ⟨36, _⟩ => ⟨S_, .f32⟩
  | .hbm, ⟨37, _⟩ => ⟨S2x4x16384x256, .f32⟩
  | .hbm, ⟨38, _⟩ => ⟨S2x4x16384x256, .f32⟩
  | .hbm, ⟨39, _⟩ => ⟨S_, .f32⟩
  | .hbm, ⟨40, _⟩ => ⟨S2x4x16384, .f32⟩
  | .hbm, ⟨41, _⟩ => ⟨S_, .f32⟩
  | .hbm, ⟨42, _⟩ => ⟨S2x4x16384, .f32⟩
  | .hbm, ⟨43, _⟩ => ⟨S2x4x16384, .f32⟩
  | .hbm, ⟨44, _⟩ => ⟨S2x4x16384x1, .f32⟩
  | .hbm, ⟨45, _⟩ => ⟨S2x4x16384x256, .f32⟩
  | .hbm, ⟨46, _⟩ => ⟨S2x4x16384x256, .f32⟩
  | .hbm, ⟨47, _⟩ => ⟨S2x4x16384x256, .f32⟩
  | .hbm, ⟨48, _⟩ => ⟨S_, .f32⟩
  | .hbm, ⟨49, _⟩ => ⟨S2x4x16384, .f32⟩
  | .hbm, ⟨50, _⟩ => ⟨S2x4x16384x1, .f32⟩
  | .hbm, ⟨51, _⟩ => ⟨S2x4x16384x256, .f32⟩
  | .hbm, ⟨52, _⟩ => ⟨S2x4x16384x256, .f32⟩
  | .hbm, ⟨53, _⟩ => ⟨S2x4x256x16384, .f32⟩
  | .hbm, ⟨54, _⟩ => ⟨S2x16384x4x256, .f32⟩
  | .hbm, ⟨55, _⟩ => ⟨S2x16384x1024, .f32⟩
  | .hbm, ⟨56, _⟩ => ⟨S1x1024x1024, .f32⟩
  | .hbm, ⟨57, _⟩ => ⟨S1024x1024, .f32⟩
  | .hbm, ⟨58, _⟩ => ⟨S2x16384x1024, .f32⟩
  | .hbm, ⟨59, _⟩ => ⟨S2x16384x1024, .f32⟩
  | .hbm, ⟨60, _⟩ => ⟨S1x1024, .f32⟩
  | .hbm, ⟨61, _⟩ => ⟨S1024, .f32⟩
  | .hbm, ⟨62, _⟩ => ⟨S2x16384x1024, .f32⟩
  | .hbm, ⟨63, _⟩ => ⟨S_, .f32⟩
  | .hbm, ⟨64, _⟩ => ⟨S2x16384, .f32⟩
  | .hbm, ⟨65, _⟩ => ⟨S2x16384x1, .f32⟩
  | .hbm, ⟨66, _⟩ => ⟨S_, .f32⟩
  | .hbm, ⟨67, _⟩ => ⟨S2x16384x1, .f32⟩
  | .hbm, ⟨68, _⟩ => ⟨S2x16384x1, .f32⟩
  | .hbm, ⟨69, _⟩ => ⟨S_, .f32⟩
  | .hbm, ⟨70, _⟩ => ⟨S2x16384x1, .f32⟩
  | .hbm, ⟨71, _⟩ => ⟨S2x16384x1, .f32⟩
  | .hbm, ⟨72, _⟩ => ⟨S2x16384x1, .f32⟩
  | .hbm, ⟨73, _⟩ => ⟨S2x16384x1024, .f32⟩
  | .hbm, ⟨74, _⟩ => ⟨S2x16384x1024, .f32⟩
  | .hbm, ⟨75, _⟩ => ⟨S1x1x1024, .f32⟩
  | .hbm, ⟨76, _⟩ => ⟨S2x16384x1024, .f32⟩
  | .hbm, ⟨77, _⟩ => ⟨S2x16384x1024, .f32⟩
  | .hbm, ⟨78, _⟩ => ⟨S1x1024x5632, .f32⟩
  | .hbm, ⟨79, _⟩ => ⟨S1024x5632, .f32⟩
  | .hbm, ⟨80, _⟩ => ⟨S2x16384x5632, .f32⟩
  | .hbm, ⟨81, _⟩ => ⟨S2x16384x2816, .f32⟩
  | .hbm, ⟨82, _⟩ => ⟨S2x16384x2816, .f32⟩
  | .hbm, ⟨83, _⟩ => ⟨S2x16384x2816, .f32⟩
  | .hbm, ⟨84, _⟩ => ⟨S2x16384x2816, .f32⟩
  | .hbm, ⟨85, _⟩ => ⟨S_, .f32⟩
  | .hbm, ⟨86, _⟩ => ⟨S2x16384x2816, .f32⟩
  | .hbm, ⟨87, _⟩ => ⟨S2x16384x2816, .f32⟩
  | .hbm, ⟨88, _⟩ => ⟨S_, .f32⟩
  | .hbm, ⟨89, _⟩ => ⟨S2x16384x2816, .f32⟩
  | .hbm, ⟨90, _⟩ => ⟨S2x16384x2816, .f32⟩
  | .hbm, ⟨91, _⟩ => ⟨S2x16384x2816, .f32⟩
  | .hbm, ⟨92, _⟩ => ⟨S2x16384x2816, .f32⟩
  | .hbm, ⟨93, _⟩ => ⟨S1x2816x1024, .f32⟩
  | .hbm, ⟨94, _⟩ => ⟨S2816x1024, .f32⟩
  | .hbm, ⟨95, _⟩ => ⟨S2x16384x1024, .f32⟩
  | .hbm, ⟨96, _⟩ => ⟨S2x16384x1024, .f32⟩
  | .hbm, ⟨97, _⟩ => ⟨S2x16384x1024, .f32⟩
  | .hbm, ⟨98, _⟩ => ⟨S_, .f32⟩
  | .hbm, ⟨99, _⟩ => ⟨S2x16384, .f32⟩
  | .hbm, ⟨100, _⟩ => ⟨S2x16384x1, .f32⟩
  | .hbm, ⟨101, _⟩ => ⟨S_, .f32⟩
  | .hbm, ⟨102, _⟩ => ⟨S2x16384x1, .f32⟩
  | .hbm, ⟨103, _⟩ => ⟨S2x16384x1, .f32⟩
  | .hbm, ⟨104, _⟩ => ⟨S_, .f32⟩
  | .hbm, ⟨105, _⟩ => ⟨S2x16384x1, .f32⟩
  | .hbm, ⟨106, _⟩ => ⟨S2x16384x1, .f32⟩
  | .hbm, ⟨107, _⟩ => ⟨S2x16384x1, .f32⟩
  | .hbm, ⟨108, _⟩ => ⟨S2x16384x1024, .f32⟩
  | .hbm, ⟨109, _⟩ => ⟨S2x16384x1024, .f32⟩
  | .hbm, ⟨110, _⟩ => ⟨S1x1x1024, .f32⟩
  | .hbm, ⟨111, _⟩ => ⟨S2x16384x1024, .f32⟩
  | .hbm, ⟨112, _⟩ => ⟨S2x16384x1024, .f32⟩
  | .hbm, ⟨113, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_9 : Ref sig .tc := ⟨.hbm, 98, rfl⟩
abbrev main_v71 : Ref sig .tc := ⟨.hbm, 99, rfl⟩
abbrev main_v72 : Ref sig .tc := ⟨.hbm, 100, rfl⟩
abbrev main_cst_10 : Ref sig .tc := ⟨.hbm, 101, rfl⟩
abbrev main_v73 : Ref sig .tc := ⟨.hbm, 102, rfl⟩
abbrev main_v74 : Ref sig .tc := ⟨.hbm, 103, rfl⟩
abbrev main_cst_11 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]
-- ==== Mix.lean ====
abbrev S2x16384x1024 : Shape := ⟨3, ![2, 16384, 1024]⟩
abbrev S32768x512 : Shape := ⟨2, ![32768, 512]⟩
abbrev S1x1024x1024 : Shape := ⟨3, ![1, 1024, 1024]⟩
abbrev S2x256x2048 : Shape := ⟨3, ![2, 256, 2048]⟩
abbrev S2x1024 : Shape := ⟨2, ![2, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S512x1024 : Shape := ⟨2, ![512, 1024]⟩
abbrev S32768x1024 : Shape := ⟨2, ![32768, 1024]⟩
abbrev S1x1024 : Shape := ⟨2, ![1, 1024]⟩
abbrev S512x512 : Shape := ⟨2, ![512, 512]⟩
abbrev S1x256x2048 : Shape := ⟨3, ![1, 256, 2048]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S512x256 : Shape := ⟨2, ![512, 256]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 32
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S32768x512, .f32⟩
  | .hbm, ⟨2, _⟩ => ⟨S32768x512, .f32⟩
  | .hbm, ⟨3, _⟩ => ⟨S1x1024x1024, .f32⟩
  | .hbm, ⟨4, _⟩ => ⟨S2x256x2048, .f32⟩
  | .hbm, ⟨5, _⟩ => ⟨S2x1024, .f32⟩
  | .hbm, ⟨6, _⟩ => ⟨S2x1024x1024, .f32⟩
  | .hbm, ⟨7, _⟩ => ⟨S2x1024x1024, .f32⟩
  | .hbm, ⟨8, _⟩ => ⟨S2x1024, .f32⟩
  | .hbm, ⟨9, _⟩ => ⟨S2x1024x5632, .f32⟩
  | .hbm, ⟨10, _⟩ => ⟨S2x2816x1024, .f32⟩
  | .hbm, ⟨11, _⟩ => ⟨S1024, .f32⟩
  | .hbm, ⟨12, _⟩ => ⟨S1024x1024, .f32⟩
  | .hbm, ⟨13, _⟩ => ⟨S1024x1024, .bf16⟩
  | .hbm, ⟨14, _⟩ => ⟨S32768x512, .bf16⟩
  | .hbm, ⟨15, _⟩ => ⟨S32768x512, .bf16⟩
  | .hbm, ⟨16, _⟩ => ⟨S512x1024, .bf16⟩
  | .hbm, ⟨17, _⟩ => ⟨S512x1024, .bf16⟩
  | .hbm, ⟨18, _⟩ => ⟨S32768x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S2x1024x1024, .bf16⟩
  | .hbm, ⟨23, _⟩ => ⟨S2x256x2048, .bf16⟩
  | .hbm, ⟨24, _⟩ => ⟨S2x1024x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S2x1024x5632, .bf16⟩
  | .hbm, ⟨29, _⟩ => ⟨S2x2816x1024, .bf16⟩
  | .hbm, ⟨30, _⟩ => ⟨S1x1024, .f32⟩
  | .hbm, ⟨31, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024x1024, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x1024x1024, .bf16⟩
  | .local _ .vmem, ⟨13, _⟩ => ⟨S1x1024, .f32⟩
  | .local _ .vmem, ⟨14, _⟩ => ⟨S1x1024x5632, .bf16⟩
  | .local _ .vmem, ⟨15, _⟩ => ⟨S1x2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixRefIdeal.lean ====
abbrev S2x16384x1024 : Shape := ⟨3, ![2, 16384, 1024]⟩
abbrev S32768x512 : Shape := ⟨2, ![32768, 512]⟩
abbrev S1x1024x1024 : Shape := ⟨3, ![1, 1024, 1024]⟩
abbrev S2x256x2048 : Shape := ⟨3, ![2, 256, 2048]⟩
abbrev S2x1024 : Shape := ⟨2, ![2, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1024 : Shape := ⟨1, ![1024]⟩
abbrev S32768x1024 : Shape := ⟨2, ![32768, 1024]⟩
abbrev S1024x1024 : Shape := ⟨2, ![1024, 1024]⟩
abbrev S1x1024 : Shape := ⟨2, ![1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4x256 : Shape := ⟨4, ![2, 16384, 4, 256]⟩
abbrev S2x256x1024 : Shape := ⟨3, ![2, 256, 1024]⟩
abbrev S2x256x4x256 : Shape := ⟨4, ![2, 256, 4, 256]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x256x16384 : Shape := ⟨4, ![2, 4, 256, 16384]⟩
abbrev S1x1024x5632 : Shape := ⟨3, ![1, 1024, 5632]⟩
abbrev S1024x5632 : Shape := ⟨2, ![1024, 5632]⟩
abbrev S2x16384x5632 : Shape := ⟨3, ![2, 16384, 5632]⟩
abbrev S2x16384x2816 : Shape := ⟨3, ![2, 16384, 2816]⟩
abbrev S1x2816x1024 : Shape := ⟨3, ![1, 2816, 1024]⟩
abbrev S2816x1024 : Shape := ⟨2, ![2816, 1024]⟩

abbrev nBuf : Space → Nat
  | .hbm => 106
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x512, .f32⟩
  | .hbm, ⟨2, _⟩ => ⟨S32768x512, .f32⟩
  | .hbm, ⟨3, _⟩ => ⟨S1x1024x1024, .f32⟩
  | .hbm, ⟨4, _⟩ => ⟨S2x256x2048, .f32⟩
  | .hbm, ⟨5, _⟩ => ⟨S2x1024, .f32⟩
  | .hbm, ⟨6, _⟩ => ⟨S2x1024x1024, .f32⟩
  | .hbm, ⟨7, _⟩ => ⟨S2x1024x1024, .f32⟩
  | .hbm, ⟨8, _⟩ => ⟨S2x1024, .f32⟩
  | .hbm, ⟨9, _⟩ => ⟨S2x1024x5632, .f32⟩
  | .hbm, ⟨10, _⟩ => ⟨S2x2816x1024, .f32⟩
  | .hbm, ⟨11, _⟩ => ⟨S1024, .f32⟩
  | .hbm, ⟨12, _⟩ => ⟨S32768x1024, .f32⟩
  | .hbm, ⟨13, _⟩ => ⟨S1024x1024, .f32⟩
  | .hbm, ⟨14, _⟩ => ⟨S32768x1024, .f32⟩
  | .hbm, ⟨15, _⟩ => ⟨S2x16384x1024, .f32⟩
  | .hbm, ⟨16, _⟩ => ⟨S2x16384x1024, .f32⟩
  | .hbm, ⟨17, _⟩ => ⟨S1x1024, .f32⟩
  | .hbm, ⟨18, _⟩ => ⟨S1024, .f32⟩
  | .hbm, ⟨19, _⟩ => ⟨S2x16384x1024, .f32⟩
  | .hbm, ⟨20, _⟩ => ⟨S_, .f32⟩
  | .hbm, ⟨21, _⟩ => ⟨S2x16384, .f32⟩
  | .hbm, ⟨22, _⟩ => ⟨S2x16384x1, .f32⟩
  | .hbm, ⟨23, _⟩ => ⟨S_, .f32⟩
  | .hbm, ⟨24, _⟩ => ⟨S2x16384x1, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S2x16384x1, .f32⟩
  | .hbm, ⟨30, _⟩ => ⟨S2x16384x1024, .f32⟩
  | .hbm, ⟨31, _⟩ => ⟨S2x16384x1024, .f32⟩
  | .hbm, ⟨32, _⟩ => ⟨S1x1x1024, .f32⟩
  | .hbm, ⟨33, _⟩ => ⟨S2x16384x1024, .f32⟩
  | .hbm, ⟨34, _⟩ => ⟨S2x16384x1024, .f32⟩
  | .hbm, ⟨35, _⟩ => ⟨S1x1024x1024, .f32⟩
  | .hbm, ⟨36, _⟩ => ⟨S1024x1024, .f32⟩
  | .hbm, ⟨37, _⟩ => ⟨S2x16384x1024, .f32⟩
  | .hbm, ⟨38, _⟩ => ⟨S2x16384x4x256, .f32⟩
  | .hbm, ⟨39, _⟩ => ⟨S2x256x1024, .f32⟩
  | .hbm, ⟨40, _⟩ => ⟨S2x256x1024, .f32⟩
  | .hbm, ⟨41, _⟩ => ⟨S2x256x4x256, .f32⟩
  | .hbm, ⟨42, _⟩ => ⟨S2x256x4x256, .f32⟩
  | .hbm, ⟨43, _⟩ => ⟨S2x4x16384x256, .f32⟩
  | .hbm, ⟨44, _⟩ => ⟨S_, .f32⟩
  | .hbm, ⟨45, _⟩ => ⟨S2x4x16384x256, .f32⟩
  | .hbm, ⟨46, _⟩ => ⟨S2x4x16384x256, .f32⟩
  | .hbm, ⟨47, _⟩ => ⟨S_, .f32⟩
  | .hbm, ⟨48, _⟩ => ⟨S2x4x16384, .f32⟩
  | .hbm, ⟨49, _⟩ => ⟨S_, .f32⟩
  | .hbm, ⟨50, _⟩ => ⟨S2x4x16384, .f32⟩
  | .hbm, ⟨51, _⟩ => ⟨S2x4x16384, .f32⟩
  | .hbm, ⟨52, _⟩ => ⟨S2x4x16384x1, .f32⟩
  | .hbm, ⟨53, _⟩ => ⟨S2x4x16384x256, .f32⟩
  | .hbm, ⟨54, _⟩ => ⟨S2x4x16384x256, .f32⟩
  | .hbm, ⟨55, _⟩ => ⟨S2x4x16384x256, .f32⟩
  | .hbm, ⟨56, _⟩ => ⟨S_, .f32⟩
  | .hbm, ⟨57, _⟩ => ⟨S2x4x16384, .f32⟩
  | .hbm, ⟨58, _⟩ => ⟨S2x4x16384x1, .f32⟩
  | .hbm, ⟨59, _⟩ => ⟨S2x4x16384x256, .f32⟩
  | .hbm, ⟨60, _⟩ => ⟨S2x4x16384x256, .f32⟩
  | .hbm, ⟨61, _⟩ => ⟨S2x4x256x16384, .f32⟩
  | .hbm, ⟨62, _⟩ => ⟨S2x16384x4x256, .f32⟩
  | .hbm, ⟨63, _⟩ => ⟨S2x16384x1024, .f32⟩
  | .hbm, ⟨64, _⟩ => ⟨S1x1024x1024, .f32⟩
  | .hbm, ⟨65, _⟩ => ⟨S1024x1024, .f32⟩
  | .hbm, ⟨66, _⟩ => ⟨S2x16384x1024, .f32⟩
  | .hbm, ⟨67, _⟩ => ⟨S2x16384x1024, .f32⟩
  | .hbm, ⟨68, _⟩ => ⟨S1x1024, .f32⟩
  | .hbm, ⟨69, _⟩ => ⟨S1024, .f32⟩
  | .hbm, ⟨70, _⟩ => ⟨S2x16384x1024, .f32⟩
  | .hbm, ⟨71, _⟩ => ⟨S_, .f32⟩
  | .hbm, ⟨72, _⟩ => ⟨S2x16384, .f32⟩
  | .hbm, ⟨73, _⟩ => ⟨S2x16384x1, .f32⟩
  | .hbm, ⟨74, _⟩ => ⟨S_, .f32⟩
  | .hbm, ⟨75, _⟩ => ⟨S2x16384x1, .f32⟩
  | .hbm, ⟨76, _⟩ => ⟨S2x16384x1, .f32⟩
  | .hbm, ⟨77, _⟩ => ⟨S_, .f32⟩
  | .hbm, ⟨78, _⟩ => ⟨S2x16384x1, .f32⟩
  | .hbm, ⟨79, _⟩ => ⟨S2x16384x1, .f32⟩
  | .hbm, ⟨80, _⟩ => ⟨S2x16384x1, .f32⟩
  | .hbm, ⟨81, _⟩ => ⟨S2x16384x1024, .f32⟩
  | .hbm, ⟨82, _⟩ => ⟨S2x16384x1024, .f32⟩
  | .hbm, ⟨83, _⟩ => ⟨S1x1x1024, .f32⟩
  | .hbm, ⟨84, _⟩ => ⟨S2x16384x1024, .f32⟩
  | .hbm, ⟨85, _⟩ => ⟨S2x16384x1024, .f32⟩
  | .hbm, ⟨86, _⟩ => ⟨S1x1024x5632, .f32⟩
  | .hbm, ⟨87, _⟩ => ⟨S1024x5632, .f32⟩
  | .hbm, ⟨88, _⟩ => ⟨S2x16384x5632, .f32⟩
  | .hbm, ⟨89, _⟩ => ⟨S2x16384x2816, .f32⟩
  | .hbm, ⟨90, _⟩ => ⟨S2x16384x2816, .f32⟩
  | .hbm, ⟨91, _⟩ => ⟨S2x16384x2816, .f32⟩
  | .hbm, ⟨92, _⟩ => ⟨S2x16384x2816, .f32⟩
  | .hbm, ⟨93, _⟩ => ⟨S_, .f32⟩
  | .hbm, ⟨94, _⟩ => ⟨S2x16384x2816, .f32⟩
  | .hbm, ⟨95, _⟩ => ⟨S2x16384x2816, .f32⟩
  | .hbm, ⟨96, _⟩ => ⟨S_, .f32⟩
  | .hbm, ⟨97, _⟩ => ⟨S2x16384x2816, .f32⟩
  | .hbm, ⟨98, _⟩ => ⟨S2x16384x2816, .f32⟩
  | .hbm, ⟨99, _⟩ => ⟨S2x16384x2816, .f32⟩
  | .hbm, ⟨100, _⟩ => ⟨S2x16384x2816, .f32⟩
  | .hbm, ⟨101, _⟩ => ⟨S1x2816x1024, .f32⟩
  | .hbm, ⟨102, _⟩ => ⟨S2816x1024, .f32⟩
  | .hbm, ⟨103, _⟩ => ⟨S2x16384x1024, .f32⟩
  | .hbm, ⟨104, _⟩ => ⟨S2x16384x1024, .f32⟩
  | .hbm, ⟨105, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call0_v0 : Ref sig .tc := ⟨.hbm, 91, rfl⟩
abbrev main_call0_v1 : Ref sig .tc := ⟨.hbm, 92, rfl⟩
abbrev main_call0_cst : Ref sig .tc := ⟨.hbm, 93, rfl⟩
abbrev main_call0_v2 : Ref sig .tc := ⟨.hbm, 94, rfl⟩
abbrev main_call0_v3 : Ref sig .tc := ⟨.hbm, 95, rfl⟩
abbrev main_call0_cst_0 : Ref sig .tc := ⟨.hbm, 96, rfl⟩
abbrev main_call0_v4 : Ref sig .tc := ⟨.hbm, 97, rfl⟩
abbrev main_call0_v5 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== Kv.lean ====
abbrev S2x256x1024 : Shape := ⟨3, ![2, 256, 1024]⟩
abbrev S2x1024 : Shape := ⟨2, ![2, 1024]⟩
abbrev S2x1024x2048 : Shape := ⟨3, ![2, 1024, 2048]⟩
abbrev S1x1024 : Shape := ⟨2, ![1, 1024]⟩
abbrev S1024 : Shape := ⟨1, ![1024]⟩
abbrev S2x256x2048 : Shape := ⟨3, ![2, 256, 2048]⟩
abbrev S1x256x1024 : Shape := ⟨3, ![1, 256, 1024]⟩
abbrev S1x1024x2048 : Shape := ⟨3, ![1, 1024, 2048]⟩
abbrev S1x256x2048 : Shape := ⟨3, ![1, 256, 2048]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 8
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S2x1024, .f32⟩
  | .hbm, ⟨2, _⟩ => ⟨S2x1024x2048, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S2x1024x2048, .bf16⟩
  | .hbm, ⟨7, _⟩ => ⟨S2x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024x2048, .bf16⟩
  | .local _ .vmem, ⟨4, _⟩ => ⟨S1x256x2048, .bf16⟩
  | .local _ .vmem, ⟨5, _⟩ => ⟨S1x256x2048, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KvRefIdeal.lean ====
abbrev S2x256x1024 : Shape := ⟨3, ![2, 256, 1024]⟩
abbrev S2x1024 : Shape := ⟨2, ![2, 1024]⟩
abbrev S2x1024x2048 : Shape := ⟨3, ![2, 1024, 2048]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S2x256x2048 : Shape := ⟨3, ![2, 256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x1024, .f32⟩
  | .hbm, ⟨2, _⟩ => ⟨S2x1024x2048, .f32⟩
  | .hbm, ⟨3, _⟩ => ⟨S1x1024, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1x1024x2048, .f32⟩
  | .hbm, ⟨22, _⟩ => ⟨S1024x2048, .f32⟩
  | .hbm, ⟨23, _⟩ => ⟨S2x256x2048, .f32⟩
  | .hbm, ⟨24, _⟩ => ⟨S2x256x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Pool.lean ====
abbrev S2x16384x1024 : Shape := ⟨3, ![2, 16384, 1024]⟩
abbrev S2x16384 : Shape := ⟨2, ![2, 16384]⟩
abbrev S1x1024 : Shape := ⟨2, ![1, 1024]⟩
abbrev S1x1024x928 : Shape := ⟨3, ![1, 1024, 928]⟩
abbrev S1x4x128x128 : Shape := ⟨4, ![1, 4, 128, 128]⟩
abbrev S1x512 : Shape := ⟨2, ![1, 512]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S2x1x16384 : Shape := ⟨3, ![2, 1, 16384]⟩
abbrev S16 : Shape := ⟨1, ![16]⟩
abbrev S_ : Shape := ⟨0, ![]⟩
abbrev S16x1 : Shape := ⟨2, ![16, 1]⟩
abbrev S1 : Shape := ⟨1, ![1]⟩
abbrev S2 : Shape := ⟨1, ![2]⟩
abbrev S1024x928 : Shape := ⟨2, ![1024, 928]⟩
abbrev S1024x896 : Shape := ⟨2, ![1024, 896]⟩
abbrev S1024x64 : Shape := ⟨2, ![1024, 64]⟩
abbrev S1024x32 : Shape := ⟨2, ![1024, 32]⟩
abbrev S1024x1024 : Shape := ⟨2, ![1024, 1024]⟩
abbrev S256x768 : Shape := ⟨2, ![256, 768]⟩
abbrev S256x8x96 : Shape := ⟨3, ![256, 8, 96]⟩
abbrev S256x8x128 : Shape := ⟨3, ![256, 8, 128]⟩
abbrev S256x1024 : Shape := ⟨2, ![256, 1024]⟩
abbrev S128x1024 : Shape := ⟨2, ![128, 1024]⟩
abbrev S128x8x128 : Shape := ⟨3, ![128, 8, 128]⟩
abbrev S128x8x64 : Shape := ⟨3, ![128, 8, 64]⟩
abbrev S128x512 : Shape := ⟨2, ![128, 512]⟩
abbrev S1024 : Shape := ⟨1, ![1024]⟩
abbrev S4x128x128 : Shape := ⟨3, ![4, 128, 128]⟩
abbrev S512 : Shape := ⟨1, ![512]⟩
abbrev S256 : Shape := ⟨1, ![256]⟩
abbrev S128 : Shape := ⟨1, ![128]⟩
abbrev S2x16384x512 : Shape := ⟨3, ![2, 16384, 512]⟩
abbrev S2x8x128x16384 : Shape := ⟨4, ![2, 8, 128, 16384]⟩
abbrev S2x8x16384x128 : Shape := ⟨4, ![2, 8, 16384, 128]⟩
abbrev S2x8x64x128x256 : Shape := ⟨5, ![2, 8, 64, 128, 256]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1x8x128x1024 : Shape := ⟨4, ![1, 8, 128, 1024]⟩
abbrev S1x8x1024x128 : Shape := ⟨4, ![1, 8, 1024, 128]⟩
abbrev S1x8x4x128x256 : Shape := ⟨5, ![1, 8, 4, 128, 256]⟩
abbrev S1040x512 : Shape := ⟨2, ![1040, 512]⟩
abbrev S16x512 : Shape := ⟨2, ![16, 512]⟩
abbrev S1x256x1024 : Shape := ⟨3, ![1, 256, 1024]⟩
abbrev S256x1 : Shape := ⟨2, ![256, 1]⟩
abbrev S256x512 : Shape := ⟨2, ![256, 512]⟩
abbrev S272x128 : Shape := ⟨2, ![272, 128]⟩
abbrev S256x128 : Shape := ⟨2, ![256, 128]⟩
abbrev S1x128x128 : Shape := ⟨3, ![1, 128, 128]⟩
abbrev S128x128 : Shape := ⟨2, ![128, 128]⟩
abbrev S1x256x512 : Shape := ⟨3, ![1, 256, 512]⟩
abbrev S1x1x256 : Shape := ⟨3, ![1, 1, 256]⟩
abbrev S16x256 : Shape := ⟨2, ![16, 256]⟩
abbrev S256x256 : Shape := ⟨2, ![256, 256]⟩
abbrev S128x256 : Shape := ⟨2, ![128, 256]⟩
abbrev S64x256 : Shape := ⟨2, ![64, 256]⟩
abbrev S32x256 : Shape := ⟨2, ![32, 256]⟩
abbrev S1x1x128x256 : Shape := ⟨4, ![1, 1, 128, 256]⟩
abbrev S1x1x256x128 : Shape := ⟨4, ![1, 1, 256, 128]⟩
abbrev S1x1x1x128x256 : Shape := ⟨5, ![1, 1, 1, 128, 256]⟩

abbrev nBuf : Space → Nat
  | .hbm => 84
  | .vmem => 24
  | .smem => 0
  | _ => 0

abbrev bufTy : (tb : Table) → Fin (tcTables nBuf tb) → BufTy
  | .hbm, ⟨0, _⟩ => ⟨S2x16384x1024, .f32⟩
  | .hbm, ⟨1, _⟩ => ⟨S2x16384, .i32⟩
  | .hbm, ⟨2, _⟩ => ⟨S1x1024, .f32⟩
  | .hbm, ⟨3, _⟩ => ⟨S1x1024x928, .f32⟩
  | .hbm, ⟨4, _⟩ => ⟨S1x4x128x128, .f32⟩
  | .hbm, ⟨5, _⟩ => ⟨S1x512, .f32⟩
  | .hbm, ⟨6, _⟩ => ⟨S1x256, .f32⟩
  | .hbm, ⟨7, _⟩ => ⟨S1x256x768, .f32⟩
  | .hbm, ⟨8, _⟩ => ⟨S1x128, .f32⟩
  | .hbm, ⟨9, _⟩ => ⟨S1x128x1024, .f32⟩
  | .hbm, ⟨10, _⟩ => ⟨S2x1x16384, .i32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16x1, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S_, .f32⟩
  | .hbm, ⟨34, _⟩ => ⟨S1x128, .f32⟩
  | .hbm, ⟨35, _⟩ => ⟨S1024x928, .f32⟩
  | .hbm, ⟨36, _⟩ => ⟨S1024x896, .f32⟩
  | .hbm, ⟨37, _⟩ => ⟨S_, .f32⟩
  | .hbm, ⟨38, _⟩ => ⟨S1024x64, .f32⟩
  | .hbm, ⟨39, _⟩ => ⟨S1024x928, .f32⟩
  | .hbm, ⟨40, _⟩ => ⟨S1024x32, .f32⟩
  | .hbm, ⟨41, _⟩ => ⟨S_, .f32⟩
  | .hbm, ⟨42, _⟩ => ⟨S1024x32, .f32⟩
  | .hbm, ⟨43, _⟩ => ⟨S1024x1024, .f32⟩
  | .hbm, ⟨44, _⟩ => ⟨S1024x1024, .bf16⟩
  | .hbm, ⟨45, _⟩ => ⟨S256x768, .f32⟩
  | .hbm, ⟨46, _⟩ => ⟨S256x8x96, .f32⟩
  | .hbm, ⟨47, _⟩ => ⟨S_, .i32⟩
  | .hbm, ⟨48, _⟩ => ⟨S_, .f32⟩
  | .hbm, ⟨49, _⟩ => ⟨S256x8x128, .f32⟩
  | .hbm, ⟨50, _⟩ => ⟨S256x1024, .f32⟩
  | .hbm, ⟨51, _⟩ => ⟨S256x1024, .bf16⟩
  | .hbm, ⟨52, _⟩ => ⟨S128x1024, .f32⟩
  | .hbm, ⟨53, _⟩ => ⟨S128x8x128, .f32⟩
  | .hbm, ⟨54, _⟩ => ⟨S128x8x64, .f32⟩
  | .hbm, ⟨55, _⟩ => ⟨S128x512, .f32⟩
  | .hbm, ⟨56, _⟩ => ⟨S128x8x64, .f32⟩
  | .hbm, ⟨57, _⟩ => ⟨S_, .i32⟩
  | .hbm, ⟨58, _⟩ => ⟨S_, .f32⟩
  | .hbm, ⟨59, _⟩ => ⟨S128x8x128, .f32⟩
  | .hbm, ⟨60, _⟩ => ⟨S128x1024, .f32⟩
  | .hbm, ⟨61, _⟩ => ⟨S128x1024, .bf16⟩
  | .hbm, ⟨62, _⟩ => ⟨S128x8x64, .f32⟩
  | .hbm, ⟨63, _⟩ => ⟨S128x512, .f32⟩
  | .hbm, ⟨64, _⟩ => ⟨S128x8x64, .f32⟩
  | .hbm, ⟨65, _⟩ => ⟨S_, .i32⟩
  | .hbm, ⟨66, _⟩ => ⟨S_, .f32⟩
  | .hbm, ⟨67, _⟩ => ⟨S128x8x128, .f32⟩
  | .hbm, ⟨68, _⟩ => ⟨S128x1024, .f32⟩
  | .hbm, ⟨69, _⟩ => ⟨S128x1024, .bf16⟩
  | .hbm, ⟨70, _⟩ => ⟨S1024, .f32⟩
  | .hbm, ⟨71, _⟩ => ⟨S1x1024, .f32⟩
  | .hbm, ⟨72, _⟩ => ⟨S4x128x128, .f32⟩
  | .hbm, ⟨73, _⟩ => ⟨S4x128x128, .bf16⟩
  | .hbm, ⟨74, _⟩ => ⟨S512, .f32⟩
  | .hbm, ⟨75, _⟩ => ⟨S1x512, .f32⟩
  | .hbm, ⟨76, _⟩ => ⟨S256, .f32⟩
  | .hbm, ⟨77, _⟩ => ⟨S1x256, .f32⟩
  | .hbm, ⟨78, _⟩ => ⟨S128, .f32⟩
  | .hbm, ⟨79, _⟩ => ⟨S1x128, .f32⟩
  | .hbm, ⟨80, _⟩ => ⟨S2x16384x512, .bf16⟩
  | .hbm, ⟨81, _⟩ => ⟨S2x8x128x16384, .bf16⟩
  | .hbm, ⟨82, _⟩ => ⟨S2x8x16384x128, .bf16⟩
  | .hbm, ⟨83, _⟩ => ⟨S2x8x64x128x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .i32⟩
  | .local _ .vmem, ⟨3, _⟩ => ⟨S1x1x1024, .i32⟩
  | .local _ .vmem, ⟨4, _⟩ => ⟨S1x1024, .f32⟩
  | .local _ .vmem, ⟨5, _⟩ => ⟨S1024x1024, .bf16⟩
  | .local _ .vmem, ⟨6, _⟩ => ⟨S4x128x128, .bf16⟩
  | .local _ .vmem, ⟨7, _⟩ => ⟨S1x512, .f32⟩
  | .local _ .vmem, ⟨8, _⟩ => ⟨S1x256, .f32⟩
  | .local _ .vmem, ⟨9, _⟩ => ⟨S256x1024, .bf16⟩
  | .local _ .vmem, ⟨10, _⟩ => ⟨S1x128, .f32⟩
  | .local _ .vmem, ⟨11, _⟩ => ⟨S128x1024, .bf16⟩
  | .local _ .vmem, ⟨12, _⟩ => ⟨S128x1024, .bf16⟩
  | .local _ .vmem, ⟨13, _⟩ => ⟨S16x1, .f32⟩
  | .local _ .vmem, ⟨14, _⟩ => ⟨S1x128, .f32⟩
  | .local _ .vmem, ⟨15, _⟩ => ⟨S1x1024x512, .bf16⟩
  | .local _ .vmem, ⟨16, _⟩ => ⟨S1x1024x512, .bf16⟩
  | .local _ .vmem, ⟨17, _⟩ => ⟨S1x8x128x1024, .bf16⟩
  | .local _ .vmem, ⟨18, _⟩ => ⟨S1x8x128x1024, .bf16⟩
  | .local _ .vmem, ⟨19, _⟩ => ⟨S1x8x1024x128, .bf16⟩
  | .local _ .vmem, ⟨20, _⟩ => ⟨S1x8x1024x128, .bf16⟩
  | .local _ .vmem, ⟨21, _⟩ => ⟨S1x8x4x128x256, .bf16⟩
  | .local _ .vmem, ⟨22, _⟩ => ⟨S1x8x4x128x256, .bf16⟩
  | .local _ .vmem, ⟨23, _⟩ => ⟨S1040x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_7 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_8 : Ref sig .tc := ⟨.hbm, 47, rfl⟩
abbrev main_call0_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_call1_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_call2_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54_0 : Ref sig .tc := ⟨.hbm, 80, rfl⟩
abbrev main_v54_1 : Ref sig .tc := ⟨.hbm, 81, rfl⟩
abbrev main_v54_2 : Ref sig .tc := ⟨.hbm, 82, rfl⟩
abbrev main_v54_3 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x4x128x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== PoolRefIdeal.lean ====
abbrev S2x16384x1024 : Shape := ⟨3, ![2, 16384, 1024]⟩
abbrev S2x16384 : Shape := ⟨2, ![2, 16384]⟩
abbrev S1x1024 : Shape := ⟨2, ![1, 1024]⟩
abbrev S1x1024x928 : Shape := ⟨3, ![1, 1024, 928]⟩
abbrev S1x4x128x128 : Shape := ⟨4, ![1, 4, 128, 128]⟩
abbrev S1x512 : Shape := ⟨2, ![1, 512]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1024 : Shape := ⟨1, ![1024]⟩
abbrev S_ : Shape := ⟨0, ![]⟩
abbrev S2x16384x1 : Shape := ⟨3, ![2, 16384, 1]⟩
abbrev S1x1x1024 : Shape := ⟨3, ![1, 1, 1024]⟩
abbrev S1x1024x512 : Shape := ⟨3, ![1, 1024, 512]⟩
abbrev S1024x512 : Shape := ⟨2, ![1024, 512]⟩
abbrev S2x16384x512 : Shape := ⟨3, ![2, 16384, 512]⟩
abbrev S2x16x512 : Shape := ⟨3, ![2, 16, 512]⟩
abbrev S2x16400x512 : Shape := ⟨3, ![2, 16400, 512]⟩
abbrev S2x16384x128 : Shape := ⟨3, ![2, 16384, 128]⟩
abbrev S16384 : Shape := ⟨1, ![16384]⟩
abbrev S16384x1 : Shape := ⟨2, ![16384, 1]⟩
abbrev S1x16384x1 : Shape := ⟨3, ![1, 16384, 1]⟩
abbrev S1x1x128x128 : Shape := ⟨4, ![1, 1, 128, 128]⟩
abbrev S128x128 : Shape := ⟨2, ![128, 128]⟩
abbrev S512 : Shape := ⟨1, ![512]⟩
abbrev S1x1x512 : Shape := ⟨3, ![1, 1, 512]⟩

abbrev nBuf : Space → Nat
  | .hbm => 175
  | .vmem => 0
  | .smem => 0
  | _ => 0

abbrev hbmTy0_0 (i : Nat) : BufTy := match i % 128 with
  | 0 => ⟨S2x16384x1024, .f32⟩
  | 1 => ⟨S2x16384, .i32⟩
  | 2 => ⟨S1x1024, .f32⟩
  | 3 => ⟨S1x1024x928, .f32⟩
  | 4 => ⟨S1x4x128x128, .f32⟩
  | 5 => ⟨S1x512, .f32⟩
  | 6 => ⟨S1x256, .f32⟩
  | 7 => ⟨S1x256x768, .f32⟩
  | 8 => ⟨S1x128, .f32⟩
  | 9 => ⟨S1x128x1024, .f32⟩
  | 10 => ⟨S1024, .f32⟩
  | 11 => ⟨S2x16384x1024, .f32⟩
  | 12 => ⟨S_, .f32⟩
  | 13 => ⟨S2x16384, .f32⟩
  | 14 => ⟨S2x16384x1, .f32⟩
  | 15 => ⟨S_, .f32⟩
  | 16 => ⟨S2x16384x1, .f32⟩
  | 17 => ⟨S2x16384x1, .f32⟩
  | 18 => ⟨S_, .f32⟩
  | 19 => ⟨S2x16384x1, .f32⟩
  | 20 => ⟨S2x16384x1, .f32⟩
  | 21 => ⟨S2x16384x1, .f32⟩
  | 22 => ⟨S2x16384x1024, .f32⟩
  | 23 => ⟨S2x16384x1024, .f32⟩
  | 24 => ⟨S1x1x1024, .f32⟩
  | 25 => ⟨S2x16384x1024, .f32⟩
  | 26 => ⟨S2x16384x1024, .f32⟩
  | 27 => ⟨S1x1024x512, .f32⟩
  | 28 => ⟨S1024x512, .f32⟩
  | 29 => ⟨S2x16384x512, .f32⟩
  | 30 => ⟨S_, .f32⟩
  | 31 => ⟨S2x16x512, .f32⟩
  | 32 => ⟨S2x16400x512, .f32⟩
  | 33 => ⟨S2x16384x128, .f32⟩
  | 34 => ⟨S_, .f32⟩
  | 35 => ⟨S2x16384x128, .f32⟩
  | 36 => ⟨S2x16384x128, .f32⟩
  | 37 => ⟨S2x16384x128, .f32⟩
  | 38 => ⟨S2x16384x128, .f32⟩
  | 39 => ⟨S16384, .i32⟩
  | 40 => ⟨S_, .i32⟩
  | 41 => ⟨S16384, .i32⟩
  | 42 => ⟨S16384, .i32⟩
  | 43 => ⟨S_, .i32⟩
  | 44 => ⟨S16384, .i32⟩
  | 45 => ⟨S16384, .i32⟩
  | 46 => ⟨S16384, .f32⟩
  | 47 => ⟨S16384x1, .f32⟩
  | 48 => ⟨S1x16384x1, .f32⟩
  | 49 => ⟨S2x16384x128, .f32⟩
  | 50 => ⟨S2x16384x128, .f32⟩
  | 51 => ⟨S2x16384x128, .f32⟩
  | 52 => ⟨S2x16384x128, .f32⟩
  | 53 => ⟨S1x1x128x128, .f32⟩
  | 54 => ⟨S128x128, .f32⟩
  | 55 => ⟨S2x16384x128, .f32⟩
  | 56 => ⟨S2x16384x128, .f32⟩
  | 57 => ⟨S_, .f32⟩
  | 58 => ⟨S2x16384x128, .f32⟩
  | 59 => ⟨S2x16384x128, .f32⟩
  | 60 => ⟨S2x16384x128, .f32⟩
  | 61 => ⟨S2x16384x128, .f32⟩
  | 62 => ⟨S2x16384x128, .f32⟩
  | 63 => ⟨S2x16384x128, .f32⟩
  | 64 => ⟨S2x16384x128, .f32⟩
  | 65 => ⟨S2x16384x128, .f32⟩
  | 66 => ⟨S16384, .i32⟩
  | 67 => ⟨S_, .i32⟩
  | 68 => ⟨S16384, .i32⟩
  | 69 => ⟨S16384, .i32⟩
  | 70 => ⟨S_, .i32⟩
  | 71 => ⟨S16384, .i32⟩
  | 72 => ⟨S16384, .i32⟩
  | 73 => ⟨S16384, .f32⟩
  | 74 => ⟨S16384x1, .f32⟩
  | 75 => ⟨S1x16384x1, .f32⟩
  | 76 => ⟨S2x16384x128, .f32⟩
  | 77 => ⟨S2x16384x128, .f32⟩
  | 78 => ⟨S2x16384x128, .f32⟩
  | 79 => ⟨S2x16384x128, .f32⟩
  | 80 => ⟨S1x1x128x128, .f32⟩
  | 81 => ⟨S128x128, .f32⟩
  | 82 => ⟨S2x16384x128, .f32⟩
  | 83 => ⟨S2x16384x128, .f32⟩
  | 84 => ⟨S_, .f32⟩
  | 85 => ⟨S2x16384x128, .f32⟩
  | 86 => ⟨S2x16384x128, .f32⟩
  | 87 => ⟨S2x16384x128, .f32⟩
  | 88 => ⟨S2x16384x128, .f32⟩
  | 89 => ⟨S2x16384x128, .f32⟩
  | 90 => ⟨S2x16384x128, .f32⟩
  | 91 => ⟨S2x16384x128, .f32⟩
  | 92 => ⟨S2x16384x128, .f32⟩
  | 93 => ⟨S2x16384x128, .f32⟩
  | 94 => ⟨S2x16384x128, .f32⟩
  | 95 => ⟨S2x16384x128, .f32⟩
  | 96 => ⟨S2x16384x128, .f32⟩
  | 97 => ⟨S2x16384x128, .f32⟩
  | 98 => ⟨S2x16384x128, .f32⟩
  | 99 => ⟨S2x16384x128, .f32⟩
  | 100 => ⟨S2x16384x128, .f32⟩
  | 101 => ⟨S16384, .i32⟩
  | 102 => ⟨S_, .i32⟩
  | 103 => ⟨S16384, .i32⟩
  | 104 => ⟨S16384, .i32⟩
  | 105 => ⟨S_, .i32⟩
  | 106 => ⟨S16384, .i32⟩
  | 107 => ⟨S16384, .i32⟩
  | 108 => ⟨S16384, .f32⟩
  | 109 => ⟨S16384x1, .f32⟩
  | 110 => ⟨S1x16384x1, .f32⟩
  | 111 => ⟨S2x16384x128, .f32⟩
  | 112 => ⟨S2x16384x128, .f32⟩
  | 113 => ⟨S2x16384x128, .f32⟩
  | 114 => ⟨S2x16384x128, .f32⟩
  | 115 => ⟨S1x1x128x128, .f32⟩
  | 116 => ⟨S128x128, .f32⟩
  | 117 => ⟨S2x16384x128, .f32⟩
  | 118 => ⟨S2x16384x128, .f32⟩
  | 119 => ⟨S_, .f32⟩
  | 120 => ⟨S2x16384x128, .f32⟩
  | 121 => ⟨S2x16384x128, .f32⟩
  | 122 => ⟨S2x16384x128, .f32⟩
  | 123 => ⟨S2x16384x128, .f32⟩
  | 124 => ⟨S2x16384x128, .f32⟩
  | 125 => ⟨S2x16384x128, .f32⟩
  | 126 => ⟨S2x16384x128, .f32⟩
  | 127 => ⟨S2x16384x128, .f32⟩
  | _ => ⟨S2x16384x1024, .f32⟩

abbrev hbmTy0_1 (i : Nat) : BufTy := match i % 128 with
  | 0 => ⟨S2x16384x128, .f32⟩
  | 1 => ⟨S2x16384x128, .f32⟩
  | 2 => ⟨S2x16384x128, .f32⟩
  | 3 => ⟨S2x16384x128, .f32⟩
  | 4 => ⟨S2x16384x128, .f32⟩
  | 5 => ⟨S2x16384x128, .f32⟩
  | 6 => ⟨S2x16384x128, .f32⟩
  | 7 => ⟨S2x16384x128, .f32⟩
  | 8 => ⟨S2x16384x128, .f32⟩
  | 9 => ⟨S2x16384x128, .f32⟩
  | 10 => ⟨S2x16384x128, .f32⟩
  | 11 => ⟨S2x16384x128, .f32⟩
  | 12 => ⟨S2x16384x128, .f32⟩
  | 13 => ⟨S2x16384x128, .f32⟩
  | 14 => ⟨S2x16384x128, .f32⟩
  | 15 => ⟨S2x16384x128, .f32⟩
  | 16 => ⟨S2x16384x128, .f32⟩
  | 17 => ⟨S2x16384x128, .f32⟩
  | 18 => ⟨S2x16384x128, .f32⟩
  | 19 => ⟨S2x16384x128, .f32⟩
  | 20 => ⟨S2x16384x128, .f32⟩
  | 21 => ⟨S2x16384x128, .f32⟩
  | 22 => ⟨S2x16384x128, .f32⟩
  | 23 => ⟨S2x16384x128, .f32⟩
  | 24 => ⟨S16384, .i32⟩
  | 25 => ⟨S_, .i32⟩
  | 26 => ⟨S16384, .i32⟩
  | 27 => ⟨S16384, .i32⟩
  | 28 => ⟨S_, .i32⟩
  | 29 => ⟨S16384, .i32⟩
  | 30 => ⟨S16384, .i32⟩
  | 31 => ⟨S16384, .f32⟩
  | 32 => ⟨S16384x1, .f32⟩
  | 33 => ⟨S1x16384x1, .f32⟩
  | 34 => ⟨S2x16384x128, .f32⟩
  | 35 => ⟨S2x16384x128, .f32⟩
  | 36 => ⟨S2x16384x128, .f32⟩
  | 37 => ⟨S2x16384x128, .f32⟩
  | 38 => ⟨S1x1x128x128, .f32⟩
  | 39 => ⟨S128x128, .f32⟩
  | 40 => ⟨S2x16384x128, .f32⟩
  | 41 => ⟨S2x16384x512, .f32⟩
  | 42 => ⟨S512, .f32⟩
  | 43 => ⟨S1x1x512, .f32⟩
  | 44 => ⟨S2x16384x512, .f32⟩
  | 45 => ⟨S2x16384x512, .f32⟩
  | 46 => ⟨S2x16384x512, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_6 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_c_9 : Ref sig .tc := ⟨.hbm, 102, rfl⟩
abbrev main_v81 : Ref sig .tc := ⟨.hbm, 103, rfl⟩
abbrev main_v82 : Ref sig .tc := ⟨.hbm, 104, rfl⟩
abbrev main_c_10 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_11 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_c_12 : Ref sig .tc := ⟨.hbm, 153, rfl⟩
abbrev main_v129 : Ref sig .tc := ⟨.hbm, 154, rfl⟩
abbrev main_v130 : Ref sig .tc := ⟨.hbm, 155, rfl⟩
abbrev main_c_13 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩

abbrev nD : Nat := 1
abbrev τ : Topo := Topo.v7x

variable {F : FTy → Type} [FloatOps F]
-- ==== Proof.OddFrames.lean ====
module

public import proofs.«01_k».proof.Defs
public import proofs.«01_k».proof.Proof.Gen.Odd.Frame
public import proofs.«01_k».proof.Proof.Gen.OddIdeal.Frame
public import proofs.«01_k».proof.Proof.Gen.OddRefIdeal.Run

/-!
  The claims about the recurrent mixer: every execution of the kernel and of its reference ends, with the arguments kept.
-/

@[expose] public section

noncomputable section

namespace Cert.OddFrames

open Idealize.ShloMosaic Idealize.SL.Sem

theorem quiet : Cert.quiescent_Odd (hOdd := Cert.Odd.Gen.facts) := fun m ρ _ => Cert.Odd.Gen.frame m ρ

theorem quietIdeal : Cert.quiescent_OddIdeal (hOddIdeal := Cert.OddIdeal.Gen.facts) := fun m ρ _ => Cert.OddIdeal.Gen.frame m ρ

theorem quietRef : Cert.quiescent_OddRefIdeal (hOddRefIdeal := Cert.OddRefIdeal.Gen.facts) := fun m ρ _ =>
  (θ_run Cert.OddRefIdeal.defs _ _).mono (fun r h => ⟨fun c => (h c).2, sem_eq_zero_of_no_sems (by decide) r.2⟩)
    (Cert.OddRefIdeal.Value.run (F := Ideal) m ρ)

/-- The named constant reads as its value. -/
theorem kept : Cert.preserves_Odd_OddIdeal :=
  IdealRules.named_const.statement _ _ _ _ _ rfl

end Cert.OddFrames
-- ==== Proof.Rows.lean ====
/-
  THE LAYER ROW BY ROW: the operations of one token's row, as functions of rows of extended reals. The kernels work on
  blocks of rows and the references on whole arrays, but each output row of either is one of these functions of the
  token's own row and the weights; the modules beside this one read both sides down to them.
-/
module

public import Idealize.ShloMosaic.Lib.Pointwise

@[expose] public section

noncomputable section

namespace Cert.Rows

open Idealize.ShloMosaic
open scoped BigOperators

/-- The normalisation's factor of a row: the inverse root of its mean square plus the epsilon (`n` given as its word). -/
def scale {n : ℕ} (x : Fin n → EReal) : EReal :=
  Ideal.rsqrt (Ideal.div (∑ k : Fin n, x k * x k) (Ideal.ofBits .f32 0x44800000#32) + Ideal.ofBits .f32 0x358637BD#32)

/-- A row normalised by its root mean square and weighted. -/
def rms {n : ℕ} (x w : Fin n → EReal) (j : Fin n) : EReal := x j * scale x * w j

/-- A row times a matrix. -/
def mv {k n : ℕ} (x : Fin k → EReal) (W : Fin k → Fin n → EReal) (j : Fin n) : EReal := ∑ i : Fin k, x i * W i j

/-- Column `d` of head `h` among the heads' columns laid side by side. -/
def col (h : Fin 4) (d : Fin 256) : Fin 1024 := ⟨256 * h.val + d.val, by omega⟩

theorem val_three : ((3 : Fin 4) : ℕ) = 3 := rfl

/-- The head a column belongs to, and its place in it. -/
def headOf (l : Fin 1024) : Fin 4 := ⟨l.val / 256, by omega⟩
def placeOf (l : Fin 1024) : Fin 256 := ⟨l.val % 256, by omega⟩

/-- The scaled scores of one head's query row against the memory's keys. -/
def score (q : Fin 1024 → EReal) (K : Fin 256 → Fin 1024 → EReal) (h : Fin 4) (j : Fin 256) : EReal :=
  (∑ d : Fin 256, q (col h d) * K j (col h d)) * Ideal.ofBits .f32 0x3D800000#32

/-- The row's greatest entry, from the bottom. -/
def top {n : ℕ} (s : Fin n → EReal) : EReal := Finset.univ.fold max (Ideal.ofBits .f32 0xFF800000#32) s

/-- The row's exponentials, shifted by its greatest entry. -/
def ex {n : ℕ} (s : Fin n → EReal) (j : Fin n) : EReal := Ideal.exp (s j - top s)

/-- One head's output, the sum of weighted values divided by the sum of weights (the kernel's order). -/
def headK (s v : Fin 256 → EReal) : EReal := Ideal.div (∑ j, ex s j * v j) (∑ j, ex s j)

/-- One head's output, the weights normalised first (the reference's order). -/
def headR (s v : Fin 256 → EReal) : EReal := ∑ j, v j * Ideal.div (ex s j) (∑ j, ex s j)

/-- All heads' outputs side by side, by a head function `H`. -/
def heads (H : (Fin 256 → EReal) → (Fin 256 → EReal) → EReal) (q : Fin 1024 → EReal) (K V : Fin 256 → Fin 1024 → EReal)
    (l : Fin 1024) : EReal := H (score q K (headOf l)) (fun j => V j l)

/-- The cross attention to the memory added to the row. -/
def cross (H : (Fin 256 → EReal) → (Fin 256 → EReal) → EReal) (x wn : Fin 1024 → EReal) (Wq : Fin 1024 → Fin 1024 → EReal)
    (K V : Fin 256 → Fin 1024 → EReal) (Wo : Fin 1024 → Fin 1024 → EReal) (l : Fin 1024) : EReal :=
  x l + mv (heads H (mv (rms x wn) Wq) K V) Wo l

/-- A gate entry times its logistic, times the value entry. -/
def swi {n : ℕ} (g u : Fin n → EReal) (j : Fin n) : EReal := g j * Ideal.logistic (g j) * u j

/-- The gated feed-forward added to the row. -/
def ffn (x wn : Fin 1024 → EReal) (Wg Wu : Fin 1024 → Fin 2816 → EReal) (Wd : Fin 2816 → Fin 1024 → EReal) (l : Fin 1024) : EReal :=
  x l + mv (swi (mv (rms x wn) Wg) (mv (rms x wn) Wu)) Wd l

/-- Four things, by head. -/
def four {α : Type} (a b c d : α) : Fin 4 → α
  | 0 => a | 1 => b | 2 => c | 3 => d

/-- A column is the place it has in the head it belongs to. -/
theorem col_headOf (l : Fin 1024) : col (headOf l) (placeOf l) = l := by
  apply Fin.ext; simp only [col, headOf, placeOf]; omega

/-- Four pieces side by side, read at a column. -/
theorem four_split (a b c d : Fin 256 → EReal) (x : Fin 1024) :
    (if h : x.val < 256 then a ⟨x.val, h⟩ else if h : x.val - 256 < 256 then b ⟨x.val - 256, h⟩
      else if h : x.val - 256 - 256 < 256 then c ⟨x.val - 256 - 256, h⟩ else d ⟨x.val - 256 - 256 - 256, by omega⟩)
      = four a b c d (headOf x) (placeOf x) := by
  have key : ∀ (n : Fin 4) (y : Fin 256), headOf x = n → placeOf x = y → four a b c d (headOf x) (placeOf x) = four a b c d n y := by
    intro n y hn hy; rw [hn, hy]
  split_ifs with h1 h2 h3
  · exact (key 0 ⟨x.val, h1⟩ (Fin.ext (show x.val / 256 = 0 by omega)) (Fin.ext (show x.val % 256 = x.val by omega))).symm
  · exact (key 1 ⟨x.val - 256, h2⟩ (Fin.ext (show x.val / 256 = 1 by omega)) (Fin.ext (show x.val % 256 = x.val - 256 by omega))).symm
  · exact (key 2 ⟨x.val - 256 - 256, h3⟩ (Fin.ext (show x.val / 256 = 2 by omega)) (Fin.ext (show x.val % 256 = x.val - 256 - 256 by omega))).symm
  · exact (key 3 ⟨x.val - 256 - 256 - 256, by omega⟩ (Fin.ext (show x.val / 256 = 3 by omega))
      (Fin.ext (show x.val % 256 = x.val - 256 - 256 - 256 by omega))).symm

/-- Four heads' outputs side by side are the heads of the layer, when each is its own. -/
theorem four_heads (H : (Fin 256 → EReal) → (Fin 256 → EReal) → EReal) (q : Fin 1024 → EReal) (K V : Fin 256 → Fin 1024 → EReal)
    (a b c d : Fin 256 → EReal) (ha : ∀ y, a y = H (score q K 0) fun j => V j (col 0 y)) (hb : ∀ y, b y = H (score q K 1) fun j => V j (col 1 y))
    (hc : ∀ y, c y = H (score q K 2) fun j => V j (col 2 y)) (hd : ∀ y, d y = H (score q K 3) fun j => V j (col 3 y)) (x : Fin 1024) :
    four a b c d (headOf x) (placeOf x) = heads H q K V x := by
  have key : ∀ (n : Fin 4) (y : Fin 256), four a b c d n y = H (score q K n) fun j => V j (col n y) := by
    intro n y
    match n with
    | 0 => exact ha y
    | 1 => exact hb y
    | 2 => exact hc y
    | 3 => exact hd y
  rw [key, col_headOf]
  rfl

end Cert.Rows
-- ==== Proof.OddScan.lean ====
module

public import proofs.«01_k».proof.Proof.Rows
public import proofs.«01_k».proof.Proof.Gen.OddIdeal.Value
public import Idealize.ShloMosaic.Lib.Pipeline.Value
public import Idealize.ShloMosaic.Lib.KernelVsHost
import Idealize.ShloMosaic.Lib.IdealHost

/-!
  The gated recurrence of the recurrent mixer. `walk` is the recurrence one time step after another. The kernel instead
  takes eight steps at a time: three rounds of shifted products make row `r` of the chunk the composition of the steps
  `0 … r`, which is then applied to the state carried in. `block_apply` says the two agree on a block of 256 rows.
-/

@[expose] public section

noncomputable section

namespace Cert.OddScan

open Idealize.ShloMosaic Cert.OddIdeal Cert.OddIdeal.Gen

/-- The state after `n` steps of the recurrence `h ↦ A·h + B`. -/
def walk (A B : ℕ → EReal) (h : EReal) : ℕ → EReal
  | 0 => h
  | n + 1 => A n * walk A B h n + B n

/-- Steps taken after the first `m` continue from the state those left. -/
theorem walk_add (A B : ℕ → EReal) (h : EReal) (m n : ℕ) :
    walk A B h (m + n) = walk (fun i => A (m + i)) (fun i => B (m + i)) (walk A B h m) n := by
  induction n with
  | zero => rfl
  | succ n ih => show A (m + n) * walk A B h (m + n) + B (m + n) = _; rw [ih]; rfl

/-- Only the steps taken are read. -/
theorem walk_congr {A A' B B' : ℕ → EReal} (h : EReal) (n : ℕ) (hA : ∀ i < n, A i = A' i) (hB : ∀ i < n, B i = B' i) :
    walk A B h n = walk A' B' h n := by
  induction n with
  | zero => rfl
  | succ n ih =>
    show A n * walk A B h n + B n = A' n * walk A' B' h n + B' n
    rw [ih (fun i hi => hA i (by omega)) fun i hi => hB i (by omega), hA n (by omega), hB n (by omega)]

/-! ## One chunk of eight rows -/

/-- The rows moved down by `d`, the first `d` rows filled. -/
def shift (d : BitVec 32) (w : BitVec 32) (v : FVec Ideal S8x1024 .f32) : FVec Ideal S8x1024 .f32 :=
  select (cmpi .sge (iota .tc S8x1024 32 [0] iota_S8x1024_d0_w32) (broadcast S8x1024 d)) (dynamicRotate 0 d none v rotates_S8x1024_d0)
    (broadcast S8x1024 (Scalar.ofBits .f32 w))

/-- One doubling round on the multipliers, and on the addends. -/
def stepA (d : BitVec 32) (a : FVec Ideal S8x1024 .f32) : FVec Ideal S8x1024 .f32 := mulf a (shift d 0x3F800000#32 a)
def stepB (d : BitVec 32) (a b : FVec Ideal S8x1024 .f32) : FVec Ideal S8x1024 .f32 := addf (mulf a (shift d 0x00000000#32 b)) b

/-- The eight states of a chunk, from the state carried in. -/
def chunk (a b h : FVec Ideal S8x1024 .f32) : FVec Ideal S8x1024 .f32 :=
  addf (mulf (stepA 4#32 (stepA 2#32 (stepA 1#32 a))) h)
    (stepB 4#32 (stepA 2#32 (stepA 1#32 a)) (stepB 2#32 (stepA 1#32 a) (stepB 1#32 a b)))

/-- The chunk's last row, on all eight rows. -/
def last (h : FVec Ideal S8x1024 .f32) : FVec Ideal S8x1024 .f32 :=
  broadcastTo S8x1024 (shapeCast S1x1024 (extractStridedSlice S1x1024 ![7, 0] h slices_S8x1024_o7_0_S1x1024) shapeCasts_S1x1024_S1x1024)
    broadcasts_S1x1024_S8x1024

theorem one_word : (Scalar.ofBits .f32 0x3F800000#32 : Ideal .f32) = (1 : EReal) := Ideal.ofBits_one_f32

theorem zero_word : (Scalar.ofBits .f32 0x00000000#32 : Ideal .f32) = (0 : EReal) := Ideal.ofBits_zero_f32

/-- The mask of the rows from `d` on. -/
theorem mask_apply (d : ℕ) (hd : d = 1 ∨ d = 2 ∨ d = 4) (r : Fin 8) (j : Fin 1024) :
    cmpi .sge (iota .tc S8x1024 32 [0] iota_S8x1024_d0_w32) (broadcast S8x1024 (BitVec.ofNat 32 d)) (ix2 r j)
      = BitVec.ofBool (decide (d ≤ r.val)) := by
  have e : iota .tc S8x1024 32 [0] iota_S8x1024_d0_w32 (ix2 r j) = BitVec.ofNat 32 r.val := iota_single_apply _ _ _ _ _ _
  show Scalar.cmpi .sge (iota .tc S8x1024 32 [0] iota_S8x1024_d0_w32 (ix2 r j)) (BitVec.ofNat 32 d) = _
  rw [e]
  rcases hd with rfl | rfl | rfl <;> fin_cases r <;> rfl

theorem shift_apply (d : ℕ) (hd : d = 1 ∨ d = 2 ∨ d = 4) (w : BitVec 32) (v : FVec Ideal S8x1024 .f32) (r : Fin 8) (j : Fin 1024) :
    shift (BitVec.ofNat 32 d) w v (ix2 r j) = if h : d ≤ r.val then v (ix2 ⟨r.val - d, by omega⟩ j) else Scalar.ofBits .f32 w := by
  show Scalar.select (cmpi .sge (iota .tc S8x1024 32 [0] iota_S8x1024_d0_w32) (broadcast S8x1024 (BitVec.ofNat 32 d)) (ix2 r j)) _ _ = _
  rw [mask_apply d hd r j]
  by_cases h : d ≤ r.val
  · rw [dif_pos h, decide_eq_true h]
    refine (if_pos rfl).trans ?_
    refine dynamicRotate_apply 0 _ v _ (ix2 r j) (ix2 ⟨r.val - d, by omega⟩ j) fun b => ?_
    match b with
    | ⟨0, _⟩ =>
      show r.val - d = (r.val + 8 - (BitVec.ofNat 32 d).toNat % 8) % 8
      have : (BitVec.ofNat 32 d).toNat = d := by rcases hd with rfl | rfl | rfl <;> rfl
      rw [this]; omega
    | ⟨1, _⟩ => rfl
  · rw [dif_neg h, decide_eq_false h]
    exact if_neg (by decide)

/-- A multiplier the recurrence keeps: not negative, not infinite. Such a factor distributes over every sum. -/
def Fine (a : EReal) : Prop := 0 ≤ a ∧ a ≠ ⊤

theorem Fine.add {a : EReal} (h : Fine a) (x y : EReal) : a * (x + y) = a * x + a * y :=
  EReal.left_distrib_of_nonneg_of_ne_top h.1 h.2 x y

theorem Fine.mul {a b : EReal} (ha : Fine a) (hb : Fine b) : Fine (a * b) :=
  ⟨mul_nonneg ha.1 hb.1, fun h => by
    rcases (EReal.mul_eq_top a b).mp h with h | h | h | h
    · exact not_lt.mpr hb.1 h.2
    · exact not_lt.mpr ha.1 h.1
    · exact ha.2 h.1
    · exact hb.2 h.2⟩

theorem fine_one : Fine 1 := ⟨zero_le_one, EReal.coe_ne_top 1⟩

/-- What rows `(a, b)` of the multipliers and addends do to a state. -/
def act (a b : FVec Ideal S8x1024 .f32) (j : Fin 1024) (r : Fin 8) (h : EReal) : EReal := a (ix2 r j) * h + b (ix2 r j)

/-- A doubling round composes each row's action with that of the row `d` above, where there is one. -/
theorem act_step (d : ℕ) (hd : d = 1 ∨ d = 2 ∨ d = 4) (a b : FVec Ideal S8x1024 .f32) (j : Fin 1024) (ha : ∀ r : Fin 8, Fine (a (ix2 r j)))
    (r : Fin 8) (h : EReal) :
    act (stepA (BitVec.ofNat 32 d) a) (stepB (BitVec.ofNat 32 d) a b) j r h
      = act a b j r (if hr : d ≤ r.val then act a b j ⟨r.val - d, by omega⟩ h else h) := by
  show a (ix2 r j) * shift (BitVec.ofNat 32 d) _ a (ix2 r j) * h + (a (ix2 r j) * shift (BitVec.ofNat 32 d) _ b (ix2 r j) + b (ix2 r j)) = _
  rw [shift_apply d hd, shift_apply d hd]
  by_cases hr : d ≤ r.val
  · rw [dif_pos hr, dif_pos hr, dif_pos hr]
    show _ = a (ix2 r j) * (a (ix2 _ j) * h + b (ix2 _ j)) + b (ix2 r j)
    rw [(ha r).add, ← mul_assoc, add_assoc]
  · rw [dif_neg hr, dif_neg hr, dif_neg hr]
    show _ = a (ix2 r j) * h + b (ix2 r j)
    rw [one_word, zero_word, mul_one, mul_zero, zero_add]

theorem fine_step (d : ℕ) (hd : d = 1 ∨ d = 2 ∨ d = 4) (a : FVec Ideal S8x1024 .f32) (j : Fin 1024) (ha : ∀ r : Fin 8, Fine (a (ix2 r j)))
    (r : Fin 8) : Fine (stepA (BitVec.ofNat 32 d) a (ix2 r j)) := by
  show Fine (a (ix2 r j) * shift (BitVec.ofNat 32 d) _ a (ix2 r j))
  rw [shift_apply d hd]
  refine (ha r).mul ?_
  split
  · exact ha _
  · rw [one_word]; exact fine_one

/-- Row `r` of a chunk is the state after `r + 1` steps. -/
theorem chunk_apply (a b h : FVec Ideal S8x1024 .f32) (A B : ℕ → EReal) (j : Fin 1024) (hA : ∀ r : Fin 8, a (ix2 r j) = A r.val)
    (hB : ∀ r : Fin 8, b (ix2 r j) = B r.val) (hf : ∀ r : Fin 8, Fine (A r.val)) (r : Fin 8) :
    chunk a b h (ix2 r j) = walk A B (h (ix2 r j)) (r.val + 1) := by
  have f0 : ∀ r : Fin 8, Fine (a (ix2 r j)) := fun r => by rw [hA]; exact hf r
  have f1 := fine_step 1 (.inl rfl) a j f0
  have f2 := fine_step 2 (.inr (.inl rfl)) _ j f1
  show act (stepA (BitVec.ofNat 32 4) _) (stepB (BitVec.ofNat 32 4) _ _) j r (h (ix2 r j)) = _
  generalize h (ix2 r j) = h0
  have e : ∀ (r : Fin 8) (x : EReal), act a b j r x = A r.val * x + B r.val := fun r x => by unfold act; rw [hA, hB]
  rw [act_step 4 (.inr (.inr rfl)) _ _ j f2]
  simp only [act_step 2 (.inr (.inl rfl)) _ _ j f1, act_step 1 (.inl rfl) _ _ j f0, e]
  fin_cases r <;> rfl

theorem last_apply (h : FVec Ideal S8x1024 .f32) (r : Fin 8) (j : Fin 1024) : last h (ix2 r j) = h (ix2 7 j) := by
  pointwise [last]

/-! ## A block of 32 chunks -/

theorem slices_rows (c : Fin 32) : S256x1024.Slices ![8 * c.val, 0] S8x1024 := by
  revert c; decide

/-- The chunk's eight rows of a block. -/
def rows8 (c : Fin 32) (a : FVec Ideal S256x1024 .f32) : FVec Ideal S8x1024 .f32 :=
  extractStridedSlice S8x1024 ![8 * c.val, 0] a (slices_rows c)

theorem rows8_apply (c : Fin 32) (a : FVec Ideal S256x1024 .f32) (r : Fin 8) (j : Fin 1024) :
    rows8 c a (ix2 r j) = a (ix2 ⟨8 * c.val + r.val, by omega⟩ j) := by
  refine extractStridedSlice_apply _ _ _ (ix2 r j) (ix2 ⟨8 * c.val + r.val, by omega⟩ j) fun b => ?_
  match b with
  | ⟨0, _⟩ => rfl
  | ⟨1, _⟩ => show j.val = 0 + j.val; omega

/-- The state carried into chunk `c`, on all eight rows. -/
def carry (a b : FVec Ideal S256x1024 .f32) (h : FVec Ideal S8x1024 .f32) : (c : ℕ) → c ≤ 32 → FVec Ideal S8x1024 .f32
  | 0, _ => h
  | c + 1, hc => last (chunk (rows8 ⟨c, hc⟩ a) (rows8 ⟨c, hc⟩ b) (carry a b h c (Nat.le_of_succ_le hc)))

/-- The states of chunk `c`. -/
def states (a b : FVec Ideal S256x1024 .f32) (h : FVec Ideal S8x1024 .f32) (c : Fin 32) : FVec Ideal S8x1024 .f32 :=
  chunk (rows8 c a) (rows8 c b) (carry a b h c.val (Nat.le_of_lt c.isLt))

theorem concat_rows : Shape.Concatenates ((List.ofFn fun _ : Fin 32 => (⟨S8x1024, fun _ => 0⟩ : (s : Shape) × (s.Idx → Ideal .f32))).map (·.1)) S256x1024 0 := by
  decide

/-- The states of a block. -/
def block (a b : FVec Ideal S256x1024 .f32) (h : FVec Ideal S8x1024 .f32) : FVec Ideal S256x1024 .f32 :=
  concatenate S256x1024 0 (List.ofFn fun c : Fin 32 => (⟨S8x1024, states a b h c⟩ : (s : Shape) × (s.Idx → Ideal .f32))) concat_rows

variable (a b : FVec Ideal S256x1024 .f32) (h : FVec Ideal S8x1024 .f32) (A B : ℕ → EReal) (h0 : EReal) (j : Fin 1024)
  (hA : ∀ i : Fin 256, a (ix2 i j) = A i.val) (hB : ∀ i : Fin 256, b (ix2 i j) = B i.val) (hf : ∀ i : Fin 256, Fine (A i.val))
  (hh : ∀ r : Fin 8, h (ix2 r j) = h0)
include hA hB hf hh

/-- The chunks' states, and the state carried into each. -/
theorem carry_apply : ∀ (c : ℕ) (hc : c ≤ 32) (r : Fin 8), carry a b h c hc (ix2 r j) = walk A B h0 (8 * c)
  | 0, _, r => hh r
  | c + 1, hc, r => by
    show last _ (ix2 r j) = _
    rw [last_apply, chunk_apply _ _ _ (fun i => A (8 * c + i)) (fun i => B (8 * c + i)) j
      (fun r => by rw [rows8_apply]; exact hA _) (fun r => by rw [rows8_apply]; exact hB _)
      (fun r => hf ⟨8 * c + r.val, by omega⟩), carry_apply c (Nat.le_of_succ_le hc) 7, ← walk_add]
    rfl

theorem states_apply (c : Fin 32) (r : Fin 8) : states a b h c (ix2 r j) = walk A B h0 (8 * c.val + r.val + 1) := by
  unfold states
  rw [chunk_apply _ _ _ (fun i => A (8 * c.val + i)) (fun i => B (8 * c.val + i)) j
      (fun r => by rw [rows8_apply]; exact hA _) (fun r => by rw [rows8_apply]; exact hB _)
      (fun r => hf ⟨8 * c.val + r.val, by omega⟩), carry_apply a b h A B h0 j hA hB hf hh c.val _ r, ← walk_add]
  rfl

/-- Row `i` of a block's states is the state after `i + 1` steps. -/
theorem block_apply (i : Fin 256) : block a b h (ix2 i j) = walk A B h0 (i.val + 1) := by
  unfold block
  refine (concatenate_ofFn_apply (s₁ := S8x1024) (t := S256x1024) 0 (fun c : Fin 32 => states a b h c) _ rfl 8 rfl (ix2 i j)
    ⟨i.val / 8, by omega⟩ rfl (ix2 ⟨i.val % 8, by omega⟩ j) rfl fun b hb => ?_).trans ?_
  · match b with
    | ⟨0, _⟩ => exact absurd rfl hb
    | ⟨1, _⟩ => rfl
  · rw [states_apply a b h A B h0 j hA hB hf hh]
    exact congrArg (walk A B h0) (show 8 * (i.val / 8) + i.val % 8 + 1 = i.val + 1 by omega)

end Cert.OddScan
-- ==== Proof.OddRow.lean ====
/-
  THE RECURRENT MIXER ROW BY ROW: what the kernel computes of a sequence, as functions of the sequence's rows and the
  weights as the kernel receives them (the gates' weights and the gate half of the projection already halved). `outRow`
  is the row of the result.
-/
module

public import proofs.«01_k».proof.Proof.OddScan

@[expose] public section

noncomputable section

namespace Cert.OddRow

open Idealize.ShloMosaic Cert.Rows Cert.OddScan
open scoped BigOperators

/-- The weights, as the kernel receives them. -/
structure Wt where
  wn : Fin 1024 → EReal
  W : Fin 1024 → Fin 2048 → EReal
  cw : Fin 4 → Fin 1024 → EReal
  cb : Fin 1024 → EReal
  G : Fin 4 → Fin 256 → Fin 512 → EReal
  bg : Fin 2 → Fin 1024 → EReal
  lam : Fin 1024 → EReal
  wo : Fin 1024 → Fin 1024 → EReal

variable (w : Wt)

/-- The halves of a row's projection: half the gate, and what the convolution reads. -/
def gRow (x : Fin 1024 → EReal) (j : Fin 1024) : EReal := mv (rms x w.wn) w.W ⟨j.val, by omega⟩
def xbRow (x : Fin 1024 → EReal) (j : Fin 1024) : EReal := mv (rms x w.wn) w.W ⟨1024 + j.val, by omega⟩

/-- The convolution's rows, eight zero rows before the sequence's first. -/
def ent (X : ℕ → Fin 1024 → EReal) (n : ℕ) (j : Fin 1024) : EReal := if n < 8 then 0 else xbRow w (X (n - 8)) j

/-- The causal convolution at place `s`. -/
def conv (X : ℕ → Fin 1024 → EReal) (s : ℕ) (j : Fin 1024) : EReal :=
  w.cb j + w.cw 3 j * ent w X (s + 8) j + w.cw 0 j * ent w X (s + 5) j + w.cw 1 j * ent w X (s + 6) j + w.cw 2 j * ent w X (s + 7) j

/-- The product of a head's columns of `c` with its weights, from the weights' column `q` on. -/
def side (c : Fin 1024 → EReal) (q : ℕ) (hq : q ≤ 256) (j : Fin 1024) : EReal :=
  ∑ d : Fin 256, c (col (headOf j) d) * w.G (headOf j) d ⟨q + (placeOf j).val, by omega⟩

/-- Half the decay's coefficient. -/
def halfC (j : Fin 1024) : EReal :=
  Ideal.ofBits .f32 0xC0800000#32 * (max (0 - w.lam j) 0 + Ideal.log1p (Ideal.exp (0 - FloatOps.absf (F := Ideal) (φ := .f32) (0 - w.lam j))))

/-- The logarithm of the decay, of the convolution's row. -/
def logRow (c : Fin 1024 → EReal) (j : Fin 1024) : EReal := Ideal.tanh (side w c 0 (by omega) j + w.bg 0 j) * halfC w j + halfC w j

/-- The input gate, of the convolution's row. -/
def inRow (c : Fin 1024 → EReal) (j : Fin 1024) : EReal :=
  Ideal.ofBits .f32 0x3F000000#32 * Ideal.tanh (side w c 256 (by omega) j + w.bg 1 j) + Ideal.ofBits .f32 0x3F000000#32

/-- The input's factor, of the decay's logarithm. -/
def mult (L : EReal) : EReal := Ideal.sqrt (max ((0 - Ideal.tanh L) * (Ideal.exp L * Ideal.exp L + 1)) 0)

/-- The recurrence's multiplier and addend at a place, the state reset where the position is zero. -/
def aRow (X : ℕ → Fin 1024 → EReal) (Z : ℕ → BitVec 32) (j : Fin 1024) (s : ℕ) : EReal :=
  Scalar.select (IntOp.cmpi .eq (Z s) 0#32) 0 (Ideal.exp (logRow w (conv w X s) j))
def bRow (X : ℕ → Fin 1024 → EReal) (Z : ℕ → BitVec 32) (j : Fin 1024) (s : ℕ) : EReal :=
  Scalar.select (IntOp.cmpi .eq (Z s) 0#32) 1 (mult (logRow w (conv w X s) j)) * (inRow w (conv w X s) j * conv w X s j)

/-- The state after the first `n` places. -/
def state (X : ℕ → Fin 1024 → EReal) (Z : ℕ → BitVec 32) (j : Fin 1024) (n : ℕ) : EReal := walk (aRow w X Z j) (bRow w X Z j) 0 n

/-- The gelu of twice `g`, with its two coefficients. -/
def gelu (cc cl g : EReal) : EReal := g * (1 + Ideal.tanh (g * (cc * (g * g) + cl)))

/-- The row of the result at place `s`. -/
def outRow (cc cl : EReal) (X : ℕ → Fin 1024 → EReal) (Z : ℕ → BitVec 32) (s : ℕ) (l : Fin 1024) : EReal :=
  X s l + ∑ j : Fin 1024, gelu cc cl (gRow w (X s) j) * state w X Z j (s + 1) * w.wo j l

end Cert.OddRow
-- ==== Proof.OddBody.lean ====
/-
  THE RECURRENT MIXER'S BODY: what a block of 256 rows is turned into, as the operations of the kernel's body; and that
  both of the body's cases (a sequence's first tile, and every other tile) are two such blocks one after the other.
-/
module

public import proofs.«01_k».proof.Proof.OddScan
public import proofs.«01_k».proof.Proof.Gen.OddIdeal.Frame

@[expose] public section

noncomputable section

namespace Cert.OddBody

open Idealize.ShloMosaic Cert.OddIdeal Cert.OddIdeal.Gen Cert.Rows Cert.OddScan
open scoped BigOperators

/-- The gate half of a block's projection. -/
def gateB (v : Vec Ideal S1x256x1024 .f32) (wn : Vec Ideal S1x1024 .f32) (w : Vec Ideal S1024x2048 .bf16) : FVec Ideal S256x1024 .f32 :=
  extractStridedSlice S256x1024 ![0, 0] (k0_pay12 v wn w) slices_S256x2048_o0_0_S256x1024

/-- The half of a block's projection that the convolution reads. -/
def xbB (v : Vec Ideal S1x256x1024 .f32) (wn : Vec Ideal S1x1024 .f32) (w : Vec Ideal S1024x2048 .bf16) : FVec Ideal S256x1024 .f32 :=
  extractStridedSlice S256x1024 ![0, 1024] (k0_pay12 v wn w) slices_S256x2048_o0_1024_S256x1024

/-- A row laid over the block. -/
def over (b : Vec Ideal S1x1024 .f32) : FVec Ideal S256x1024 .f32 :=
  broadcastTo S256x1024 (shapeCast S1x1024 b shapeCasts_S1x1024_S1x1024) broadcasts_S1x1024_S256x1024

/-- The causal convolution of a block: `xb` and the three rows before each row. -/
def convB (xb p0 p1 p2 : FVec Ideal S256x1024 .f32) (c0 c1 c2 c3 cb : Vec Ideal S1x1024 .f32) : FVec Ideal S256x1024 .f32 :=
  addf (addf (addf (addf (over cb) (mulf (over c3) xb)) (mulf (over c0) p0)) (mulf (over c1) p1)) (mulf (over c2) p2)

/-- Both gates of one head, side by side, before their biases. -/
def headB (xc : FVec Ideal S256x1024 .f32) (o : ℕ) (ho : S256x1024.Slices ![0, o] S256x256) (g : Vec Ideal S1x256x512 .bf16) : FVec Ideal S256x512 .f32 :=
  matmul (φ₁ := .bf16) (φ₂ := .bf16) dot_S256x256_S256x512_S256x512_1_0_0_1_n_n none (extractStridedSlice S256x256 ![0, o] (truncf .bf16 xc bitsLt_bf16_f32) ho)
    (shapeCast (α := Ideal .bf16) S256x512 g shapeCasts_S1x256x512_S256x512) (constant S256x512 .f32 0x00000000#32)

/-- One gate of all heads, before its bias: the columns from `q` on of each head's product. -/
def sideB (xc : FVec Ideal S256x1024 .f32) (q : ℕ) (hq : S256x512.Slices ![0, q] S256x256) (g0 g1 g2 g3 : Vec Ideal S1x256x512 .bf16) : FVec Ideal S256x1024 .f32 :=
  concatenate S256x1024 1
    [⟨S256x256, extractStridedSlice S256x256 ![0, q] (headB xc 0 slices_S256x1024_o0_0_S256x256 g0) hq⟩,
     ⟨S256x256, extractStridedSlice S256x256 ![0, q] (headB xc 256 slices_S256x1024_o0_256_S256x256 g1) hq⟩,
     ⟨S256x256, extractStridedSlice S256x256 ![0, q] (headB xc 512 slices_S256x1024_o0_512_S256x256 g2) hq⟩,
     ⟨S256x256, extractStridedSlice S256x256 ![0, q] (headB xc 768 slices_S256x1024_o0_768_S256x256 g3) hq⟩]
    concatenates_S256x256_S256x256_S256x256_S256x256_S256x1024_d1

/-- The logarithm of the decay. -/
def logB (xc : FVec Ideal S256x1024 .f32) (g0 g1 g2 g3 : Vec Ideal S1x256x512 .bf16) (br lam : Vec Ideal S1x1024 .f32) : FVec Ideal S256x1024 .f32 :=
  addf (mulf (tanh (addf (sideB xc 0 slices_S256x512_o0_0_S256x256 g0 g1 g2 g3) (over br)))
      (broadcastTo S256x1024 (k0_pay3 lam) broadcasts_S1x1024_S256x1024))
    (broadcastTo S256x1024 (k0_pay3 lam) broadcasts_S1x1024_S256x1024)

/-- The input gate. -/
def inB (xc : FVec Ideal S256x1024 .f32) (g0 g1 g2 g3 : Vec Ideal S1x256x512 .bf16) (bi : Vec Ideal S1x1024 .f32) : FVec Ideal S256x1024 .f32 :=
  addf (mulf (broadcast S256x1024 (Scalar.ofBits .f32 0x3F000000#32)) (tanh (addf (sideB xc 256 slices_S256x512_o0_256_S256x256 g0 g1 g2 g3) (over bi))))
    (broadcast S256x1024 (Scalar.ofBits .f32 0x3F000000#32))

/-- The input's factor, of the decay's logarithm. -/
def multB (L : FVec Ideal S256x1024 .f32) : FVec Ideal S256x1024 .f32 :=
  sqrt (maximumf (mulf (subf (broadcast S256x1024 (Scalar.ofBits .f32 0x00000000#32)) (tanh L))
      (addf (mulf (exp L) (exp L)) (broadcast S256x1024 (Scalar.ofBits .f32 0x3F800000#32))))
    (broadcast S256x1024 (Scalar.ofBits .f32 0x00000000#32)))

/-- The recurrence's multipliers. -/
def aB (L : FVec Ideal S256x1024 .f32) (pos : Vec Ideal S1x256x1 .i32) : FVec Ideal S256x1024 .f32 := k0_pay36 (exp L) (k0_pay34 pos) 0#32

/-- The recurrence's addends. -/
def bB (xc ig L : FVec Ideal S256x1024 .f32) (pos : Vec Ideal S1x256x1 .i32) : FVec Ideal S256x1024 .f32 := k0_pay37 xc ig (multB L) (k0_pay34 pos) 0#32

/-- The gelu of twice a block. -/
def geluB (g : FVec Ideal S256x1024 .f32) : FVec Ideal S256x1024 .f32 :=
  mulf g (addf (broadcast S256x1024 (Scalar.ofBits .f32 0x3F800000#32))
    (tanh (mulf g (addf (mulf (broadcast S256x1024 (Named.named κ "gelu_cubic" 0x3E922279#32)) (mulf g g)) (broadcast S256x1024 (Scalar.ofBits .f32 0x3FCC422A#32))))))

/-- The output of a block, of its gate and its states. -/
def outB (v : Vec Ideal S1x256x1024 .f32) (g hs : FVec Ideal S256x1024 .f32) (wo : Vec Ideal S1024x1024 .bf16) : FVec Ideal S1x256x1024 .f32 :=
  shapeCast S1x256x1024 (addf (k0_pay7 v) (matmul (φ₁ := .bf16) (φ₂ := .bf16) dot_S256x1024_S1024x1024_S256x1024_1_0_0_1_n_n none (truncf .bf16 (mulf (geluB g) hs) bitsLt_bf16_f32)
    (shapeCast (α := Ideal .bf16) S1024x1024 wo shapeCasts_S1024x1024_S1024x1024) (constant S256x1024 .f32 0x00000000#32))) shapeCasts_S256x1024_S1x256x1024

/-! ## A block of a tile, over what the tile's windows read -/

section
variable (v : Vec Ideal S1x256x1024 .f32) (pos : Vec Ideal S1x256x1 .i32) (y2 : Vec Ideal S1x1024 .f32) (y3 : Vec Ideal S1024x2048 .bf16)
  (y4 : Vec Ideal S4x1024 .f32) (y5 : Vec Ideal S1x1024 .f32) (y6 : Vec Ideal S4x256x512 .bf16) (y7 : Vec Ideal S2x1024 .f32)
  (y8 : Vec Ideal S1x1024 .f32) (y9 : Vec Ideal S1024x1024 .bf16) (p0 p1 p2 : FVec Ideal S256x1024 .f32)

/-- The whole of a row. -/
def row1 (y : Vec Ideal S1x1024 .f32) : Vec Ideal S1x1024 .f32 := View.ld y (Rect.unit (s := S1x1024) ![0, 0] S1x1024.size inb_S1x1024_S1x1024_0_0)

/-- The projection's half that the convolution reads, of a block of the tile. -/
def xbV : FVec Ideal S256x1024 .f32 := xbB v (row1 y2) (View.ld y3 (Rect.unit (s := S1024x2048) ![0, 0] S1024x2048.size inb_S1024x2048_S1024x2048_0_0))

/-- The gate of a block of the tile. -/
def gV : FVec Ideal S256x1024 .f32 := gateB v (row1 y2) (View.ld y3 (Rect.unit (s := S1024x2048) ![0, 0] S1024x2048.size inb_S1024x2048_S1024x2048_0_0))

/-- The convolution of a block of the tile. -/
def xcV : FVec Ideal S256x1024 .f32 :=
  convB (xbV v y2 y3) p0 p1 p2 (View.ld y4 (Rect.unit (s := S4x1024) ![0, 0] S1x1024.size inb_S4x1024_S1x1024_0_0))
    (View.ld y4 (Rect.unit (s := S4x1024) ![1, 0] S1x1024.size inb_S4x1024_S1x1024_1_0))
    (View.ld y4 (Rect.unit (s := S4x1024) ![2, 0] S1x1024.size inb_S4x1024_S1x1024_2_0))
    (View.ld y4 (Rect.unit (s := S4x1024) ![3, 0] S1x1024.size inb_S4x1024_S1x1024_3_0)) (row1 y5)

/-- The decay's logarithm over a block of the tile. -/
def logV : FVec Ideal S256x1024 .f32 :=
  logB (xcV v y2 y3 y4 y5 p0 p1 p2) (View.ld y6 (Rect.unit (s := S4x256x512) ![0, 0, 0] S1x256x512.size inb_S4x256x512_S1x256x512_0_0_0))
    (View.ld y6 (Rect.unit (s := S4x256x512) ![1, 0, 0] S1x256x512.size inb_S4x256x512_S1x256x512_1_0_0))
    (View.ld y6 (Rect.unit (s := S4x256x512) ![2, 0, 0] S1x256x512.size inb_S4x256x512_S1x256x512_2_0_0))
    (View.ld y6 (Rect.unit (s := S4x256x512) ![3, 0, 0] S1x256x512.size inb_S4x256x512_S1x256x512_3_0_0))
    (View.ld y7 (Rect.unit (s := S2x1024) ![0, 0] S1x1024.size inb_S2x1024_S1x1024_0_0)) (row1 y8)

/-- The input gate over a block of the tile. -/
def inV : FVec Ideal S256x1024 .f32 :=
  inB (xcV v y2 y3 y4 y5 p0 p1 p2) (View.ld y6 (Rect.unit (s := S4x256x512) ![0, 0, 0] S1x256x512.size inb_S4x256x512_S1x256x512_0_0_0))
    (View.ld y6 (Rect.unit (s := S4x256x512) ![1, 0, 0] S1x256x512.size inb_S4x256x512_S1x256x512_1_0_0))
    (View.ld y6 (Rect.unit (s := S4x256x512) ![2, 0, 0] S1x256x512.size inb_S4x256x512_S1x256x512_2_0_0))
    (View.ld y6 (Rect.unit (s := S4x256x512) ![3, 0, 0] S1x256x512.size inb_S4x256x512_S1x256x512_3_0_0))
    (View.ld y7 (Rect.unit (s := S2x1024) ![1, 0] S1x1024.size inb_S2x1024_S1x1024_1_0))

/-- The multipliers of a block of the tile. -/
def aV : FVec Ideal S256x1024 .f32 := aB (logV v y2 y3 y4 y5 y6 y7 y8 p0 p1 p2) pos

/-- The addends of a block of the tile. -/
def bV : FVec Ideal S256x1024 .f32 :=
  bB (xcV v y2 y3 y4 y5 p0 p1 p2) (inV v y2 y3 y4 y5 y6 y7 p0 p1 p2) (logV v y2 y3 y4 y5 y6 y7 y8 p0 p1 p2) pos

/-- The output of a block of the tile, from the state `h`. -/
def outV (h : FVec Ideal S8x1024 .f32) : FVec Ideal S1x256x1024 .f32 :=
  outB v (gV v y2 y3) (block (aV v pos y2 y3 y4 y5 y6 y7 y8 p0 p1 p2) (bV v pos y2 y3 y4 y5 y6 y7 y8 p0 p1 p2) h)
    (View.ld y9 (Rect.unit (s := S1024x1024) ![0, 0] S1024x1024.size inb_S1024x1024_S1024x1024_0_0))

/-- The state after a block of the tile, from the state `h`. -/
def nextV (h : FVec Ideal S8x1024 .f32) : FVec Ideal S8x1024 .f32 :=
  carry (aV v pos y2 y3 y4 y5 y6 y7 y8 p0 p1 p2) (bV v pos y2 y3 y4 y5 y6 y7 y8 p0 p1 p2) h 32 le_rfl
end

section
variable (y0 : Vec Ideal S1x512x1024 .f32) (y1 : Vec Ideal S1x512x1 .i32)

/-- The two halves of a tile. -/
def v0 : Vec Ideal S1x256x1024 .f32 := View.ld y0 (Rect.unit (s := S1x512x1024) ![0, 0, 0] S1x256x1024.size inb_S1x512x1024_S1x256x1024_0_0_0)
def v1 : Vec Ideal S1x256x1024 .f32 := View.ld y0 (Rect.unit (s := S1x512x1024) ![0, 256, 0] S1x256x1024.size inb_S1x512x1024_S1x256x1024_0_256_0)
def pos0 : Vec Ideal S1x256x1 .i32 := View.ld y1 (Rect.unit (s := S1x512x1) ![0, 0, 0] S1x256x1.size inb_S1x512x1_S1x256x1_0_0_0)
def pos1 : Vec Ideal S1x256x1 .i32 := View.ld y1 (Rect.unit (s := S1x512x1) ![0, 256, 0] S1x256x1.size inb_S1x512x1_S1x256x1_0_256_0)

variable (y2 : Vec Ideal S1x1024 .f32) (y3 : Vec Ideal S1024x2048 .bf16)
  (y4 : Vec Ideal S4x1024 .f32) (y5 : Vec Ideal S1x1024 .f32) (y6 : Vec Ideal S4x256x512 .bf16) (y7 : Vec Ideal S2x1024 .f32)
  (y8 : Vec Ideal S1x1024 .f32) (y9 : Vec Ideal S1024x1024 .bf16) (p0 p1 p2 q0 q1 q2 : FVec Ideal S256x1024 .f32) (h : FVec Ideal S8x1024 .f32)

/-- The state between the two halves, and after the tile. -/
def mid : FVec Ideal S8x1024 .f32 := nextV (v0 y0) (pos0 y1) y2 y3 y4 y5 y6 y7 y8 p0 p1 p2 h
def fin : FVec Ideal S8x1024 .f32 := nextV (v1 y0) (pos1 y1) y2 y3 y4 y5 y6 y7 y8 q0 q1 q2 (mid y0 y1 y2 y3 y4 y5 y6 y7 y8 p0 p1 p2 h)

/-- The pieces the tile's output is stored in. -/
def outP : List (View.Piece (Elt Ideal) S1x512x1024 .f32) :=
  [⟨Rect.unit (s := S1x512x1024) ![0, 256, 0] S1x256x1024.size inb_S1x512x1024_S1x256x1024_0_256_0,
      outV (v1 y0) (pos1 y1) y2 y3 y4 y5 y6 y7 y8 y9 q0 q1 q2 (mid y0 y1 y2 y3 y4 y5 y6 y7 y8 p0 p1 p2 h)⟩,
   ⟨Rect.unit (s := S1x512x1024) ![0, 0, 0] S1x256x1024.size inb_S1x512x1024_S1x256x1024_0_0_0,
      outV (v0 y0) (pos0 y1) y2 y3 y4 y5 y6 y7 y8 y9 p0 p1 p2 h⟩]

/-- What the tile has stored in the rows' buffer, over `L`: after its first half, after both. -/
def ext1 (L : List (View.Piece (Elt Ideal) S520x1024 .f32)) : List (View.Piece (Elt Ideal) S520x1024 .f32) :=
  ⟨Rect.unit (s := S520x1024) ![8, 0] S256x1024.size inb_S520x1024_S256x1024_8_0, shapeCast S256x1024 (xbV (v0 y0) y2 y3) shapeCasts_S256x1024_S256x1024⟩ :: L
def ext2 (L : List (View.Piece (Elt Ideal) S520x1024 .f32)) : List (View.Piece (Elt Ideal) S520x1024 .f32) :=
  ⟨Rect.unit (s := S520x1024) ![264, 0] S256x1024.size inb_S520x1024_S256x1024_264_0, shapeCast S256x1024 (xbV (v1 y0) y2 y3) shapeCasts_S256x1024_S256x1024⟩
    :: ext1 y0 y2 y3 L
end

/-- The load of 256 rows of the rows' buffer from row `o`. -/
def rowsAt (o : ℕ) (ho : ∀ a, (![o, 0] : Fin 2 → ℕ) a + S256x1024.size a ≤ S520x1024.size a) : LoadRect S520x1024 :=
  (Rect.unit (s := S520x1024) ![o, 0] S256x1024.size ho).toLoadRect

/-! ## The two cases -/

/-- The zeros a sequence's first tile puts in the rows' buffer and in the state's. -/
def zeroExt : List (View.Piece (Elt Ideal) S520x1024 .f32) :=
  [⟨Rect.unit (s := S520x1024) ![0, 0] S8x1024.size inb_S520x1024_S8x1024_0_0, k0_pay1 (F := Ideal)⟩]
def zeroState : List (View.Piece (Elt Ideal) S8x1024 .f32) :=
  [⟨Rect.unit (s := S8x1024) ![0, 0] S8x1024.size inb_S8x1024_S8x1024_0_0, k0_pay2 (F := Ideal)⟩]

section
variable (c : Dev nD) (i : grid0.Coords) (arg2 : Memref sig .tc .vmem S1x512x1024 .f32) (harg2 : arg2.IsWhole) (arg3 : Memref sig .tc .vmem S1x512x1 .i32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x1024 .f32) (harg6 : arg6.IsWhole) (arg7 : Memref sig .tc .vmem S1x1024 .f32) (harg7 : arg7.IsWhole) (arg8 : Memref sig .tc .vmem S4x256x512 .bf16) (harg8 : arg8.IsWhole) (arg9 : Memref sig .tc .vmem S2x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S520x1024 .f32) (harg13 : arg13.IsWhole) (arg14 : Memref sig .tc .vmem S8x1024 .f32) (harg14 : arg14.IsWhole) (hc0 : ¬cond0_0 i)
    (x0 : Vec Ideal S1x512x1024 .f32) (x1 : Vec Ideal S1x512x1 .i32) (x2 : Vec Ideal S1x1024 .f32) (x3 : Vec Ideal S1024x2048 .bf16) (x4 : Vec Ideal S4x1024 .f32) (x5 : Vec Ideal S1x1024 .f32) (x6 : Vec Ideal S4x256x512 .bf16) (x7 : Vec Ideal S2x1024 .f32) (x8 : Vec Ideal S1x1024 .f32) (x9 : Vec Ideal S1024x1024 .bf16) (xs0 : Vec Ideal S520x1024 .f32) (xs1 : Vec Ideal S8x1024 .f32)

theorem next_out : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).1
    = outP (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg11.view.read (Elt Ideal) (harg11.unread x9))
      (arg13.view.readAt (Elt Ideal) (rowsAt 5 inb_S520x1024_S256x1024_5_0) (arg13.view.writes (Elt Ideal) (harg13.unread xs0) (ext1 (arg2.view.read (Elt Ideal) (harg2.unread x0)) (arg4.view.read (Elt Ideal) (harg4.unread x2)) (arg5.view.read (Elt Ideal) (harg5.unread x3)) [])))
      (arg13.view.readAt (Elt Ideal) (rowsAt 6 inb_S520x1024_S256x1024_6_0) (arg13.view.writes (Elt Ideal) (harg13.unread xs0) (ext1 (arg2.view.read (Elt Ideal) (harg2.unread x0)) (arg4.view.read (Elt Ideal) (harg4.unread x2)) (arg5.view.read (Elt Ideal) (harg5.unread x3)) [])))
      (arg13.view.readAt (Elt Ideal) (rowsAt 7 inb_S520x1024_S256x1024_7_0) (arg13.view.writes (Elt Ideal) (harg13.unread xs0) (ext1 (arg2.view.read (Elt Ideal) (harg2.unread x0)) (arg4.view.read (Elt Ideal) (harg4.unread x2)) (arg5.view.read (Elt Ideal) (harg5.unread x3)) [])))
      (arg13.view.readCov (ext2 (arg2.view.read (Elt Ideal) (harg2.unread x0)) (arg4.view.read (Elt Ideal) (harg4.unread x2)) (arg5.view.read (Elt Ideal) (harg5.unread x3)) []) (rowsAt 261 inb_S520x1024_S256x1024_261_0))
      (arg13.view.readCov (ext2 (arg2.view.read (Elt Ideal) (harg2.unread x0)) (arg4.view.read (Elt Ideal) (harg4.unread x2)) (arg5.view.read (Elt Ideal) (harg5.unread x3)) []) (rowsAt 262 inb_S520x1024_S256x1024_262_0))
      (arg13.view.readCov (ext2 (arg2.view.read (Elt Ideal) (harg2.unread x0)) (arg4.view.read (Elt Ideal) (harg4.unread x2)) (arg5.view.read (Elt Ideal) (harg5.unread x3)) []) (rowsAt 263 inb_S520x1024_S256x1024_263_0))
      (arg14.view.readAt (Elt Ideal) (Rect.unit (s := S8x1024) ![0, 0] S8x1024.size inb_S8x1024_S8x1024_0_0).toLoadRect (harg14.unread xs1)) := by
  sl_kernel_rfl

theorem next_ext : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).2.1
    = ⟨Rect.unit (s := S520x1024) ![0, 0] S8x1024.size inb_S520x1024_S8x1024_0_0, k0_pay363 (arg13.view.readCov (ext2 (arg2.view.read (Elt Ideal) (harg2.unread x0)) (arg4.view.read (Elt Ideal) (harg4.unread x2)) (arg5.view.read (Elt Ideal) (harg5.unread x3)) [])
        (Rect.unit (s := S520x1024) ![512, 0] S8x1024.size inb_S520x1024_S8x1024_512_0).toLoadRect)⟩
      :: ext2 (arg2.view.read (Elt Ideal) (harg2.unread x0)) (arg4.view.read (Elt Ideal) (harg4.unread x2)) (arg5.view.read (Elt Ideal) (harg5.unread x3)) [] := by
  sl_kernel_rfl

theorem next_state : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1).2.2.1
    = ⟨Rect.unit (s := S8x1024) ![0, 0] S8x1024.size inb_S8x1024_S8x1024_0_0, k0_pay364 (fin (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8))
      (arg13.view.readAt (Elt Ideal) (rowsAt 5 inb_S520x1024_S256x1024_5_0) (arg13.view.writes (Elt Ideal) (harg13.unread xs0) (ext1 (arg2.view.read (Elt Ideal) (harg2.unread x0)) (arg4.view.read (Elt Ideal) (harg4.unread x2)) (arg5.view.read (Elt Ideal) (harg5.unread x3)) [])))
      (arg13.view.readAt (Elt Ideal) (rowsAt 6 inb_S520x1024_S256x1024_6_0) (arg13.view.writes (Elt Ideal) (harg13.unread xs0) (ext1 (arg2.view.read (Elt Ideal) (harg2.unread x0)) (arg4.view.read (Elt Ideal) (harg4.unread x2)) (arg5.view.read (Elt Ideal) (harg5.unread x3)) [])))
      (arg13.view.readAt (Elt Ideal) (rowsAt 7 inb_S520x1024_S256x1024_7_0) (arg13.view.writes (Elt Ideal) (harg13.unread xs0) (ext1 (arg2.view.read (Elt Ideal) (harg2.unread x0)) (arg4.view.read (Elt Ideal) (harg4.unread x2)) (arg5.view.read (Elt Ideal) (harg5.unread x3)) [])))
      (arg13.view.readCov (ext2 (arg2.view.read (Elt Ideal) (harg2.unread x0)) (arg4.view.read (Elt Ideal) (harg4.unread x2)) (arg5.view.read (Elt Ideal) (harg5.unread x3)) []) (rowsAt 261 inb_S520x1024_S256x1024_261_0))
      (arg13.view.readCov (ext2 (arg2.view.read (Elt Ideal) (harg2.unread x0)) (arg4.view.read (Elt Ideal) (harg4.unread x2)) (arg5.view.read (Elt Ideal) (harg5.unread x3)) []) (rowsAt 262 inb_S520x1024_S256x1024_262_0))
      (arg13.view.readCov (ext2 (arg2.view.read (Elt Ideal) (harg2.unread x0)) (arg4.view.read (Elt Ideal) (harg4.unread x2)) (arg5.view.read (Elt Ideal) (harg5.unread x3)) []) (rowsAt 263 inb_S520x1024_S256x1024_263_0))
      (arg14.view.readAt (Elt Ideal) (Rect.unit (s := S8x1024) ![0, 0] S8x1024.size inb_S8x1024_S8x1024_0_0).toLoadRect (harg14.unread xs1)))⟩ :: [] := by
  sl_kernel_rfl
end

section
variable (c : Dev nD) (i : grid0.Coords) (arg2 : Memref sig .tc .vmem S1x512x1024 .f32) (harg2 : arg2.IsWhole) (arg3 : Memref sig .tc .vmem S1x512x1 .i32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x1024 .f32) (harg6 : arg6.IsWhole) (arg7 : Memref sig .tc .vmem S1x1024 .f32) (harg7 : arg7.IsWhole) (arg8 : Memref sig .tc .vmem S4x256x512 .bf16) (harg8 : arg8.IsWhole) (arg9 : Memref sig .tc .vmem S2x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S520x1024 .f32) (harg13 : arg13.IsWhole) (arg14 : Memref sig .tc .vmem S8x1024 .f32) (harg14 : arg14.IsWhole) (hc0 : cond0_0 i)
    (x0 : Vec Ideal S1x512x1024 .f32) (x1 : Vec Ideal S1x512x1 .i32) (x2 : Vec Ideal S1x1024 .f32) (x3 : Vec Ideal S1024x2048 .bf16) (x4 : Vec Ideal S4x1024 .f32) (x5 : Vec Ideal S1x1024 .f32) (x6 : Vec Ideal S4x256x512 .bf16) (x7 : Vec Ideal S2x1024 .f32) (x8 : Vec Ideal S1x1024 .f32) (x9 : Vec Ideal S1024x1024 .bf16)

theorem first_out : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1
    = outP (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8)) (arg11.view.read (Elt Ideal) (harg11.unread x9))
      (arg13.view.readCov (ext1 (arg2.view.read (Elt Ideal) (harg2.unread x0)) (arg4.view.read (Elt Ideal) (harg4.unread x2)) (arg5.view.read (Elt Ideal) (harg5.unread x3)) zeroExt) (rowsAt 5 inb_S520x1024_S256x1024_5_0))
      (arg13.view.readCov (ext1 (arg2.view.read (Elt Ideal) (harg2.unread x0)) (arg4.view.read (Elt Ideal) (harg4.unread x2)) (arg5.view.read (Elt Ideal) (harg5.unread x3)) zeroExt) (rowsAt 6 inb_S520x1024_S256x1024_6_0))
      (arg13.view.readCov (ext1 (arg2.view.read (Elt Ideal) (harg2.unread x0)) (arg4.view.read (Elt Ideal) (harg4.unread x2)) (arg5.view.read (Elt Ideal) (harg5.unread x3)) zeroExt) (rowsAt 7 inb_S520x1024_S256x1024_7_0))
      (arg13.view.readCov (ext2 (arg2.view.read (Elt Ideal) (harg2.unread x0)) (arg4.view.read (Elt Ideal) (harg4.unread x2)) (arg5.view.read (Elt Ideal) (harg5.unread x3)) zeroExt) (rowsAt 261 inb_S520x1024_S256x1024_261_0))
      (arg13.view.readCov (ext2 (arg2.view.read (Elt Ideal) (harg2.unread x0)) (arg4.view.read (Elt Ideal) (harg4.unread x2)) (arg5.view.read (Elt Ideal) (harg5.unread x3)) zeroExt) (rowsAt 262 inb_S520x1024_S256x1024_262_0))
      (arg13.view.readCov (ext2 (arg2.view.read (Elt Ideal) (harg2.unread x0)) (arg4.view.read (Elt Ideal) (harg4.unread x2)) (arg5.view.read (Elt Ideal) (harg5.unread x3)) zeroExt) (rowsAt 263 inb_S520x1024_S256x1024_263_0))
      (arg14.view.readCov zeroState (Rect.unit (s := S8x1024) ![0, 0] S8x1024.size inb_S8x1024_S8x1024_0_0).toLoadRect) := by
  sl_kernel_rfl

theorem first_ext : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1
    = ⟨Rect.unit (s := S520x1024) ![0, 0] S8x1024.size inb_S520x1024_S8x1024_0_0, k0_pay363 (arg13.view.readCov (ext2 (arg2.view.read (Elt Ideal) (harg2.unread x0)) (arg4.view.read (Elt Ideal) (harg4.unread x2)) (arg5.view.read (Elt Ideal) (harg5.unread x3)) zeroExt)
        (Rect.unit (s := S520x1024) ![512, 0] S8x1024.size inb_S520x1024_S8x1024_512_0).toLoadRect)⟩
      :: ext2 (arg2.view.read (Elt Ideal) (harg2.unread x0)) (arg4.view.read (Elt Ideal) (harg4.unread x2)) (arg5.view.read (Elt Ideal) (harg5.unread x3)) zeroExt := by
  sl_kernel_rfl

theorem first_state : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1
    = ⟨Rect.unit (s := S8x1024) ![0, 0] S8x1024.size inb_S8x1024_S8x1024_0_0, k0_pay364 (fin (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg8.view.read (Elt Ideal) (harg8.unread x6)) (arg9.view.read (Elt Ideal) (harg9.unread x7)) (arg10.view.read (Elt Ideal) (harg10.unread x8))
      (arg13.view.readCov (ext1 (arg2.view.read (Elt Ideal) (harg2.unread x0)) (arg4.view.read (Elt Ideal) (harg4.unread x2)) (arg5.view.read (Elt Ideal) (harg5.unread x3)) zeroExt) (rowsAt 5 inb_S520x1024_S256x1024_5_0))
      (arg13.view.readCov (ext1 (arg2.view.read (Elt Ideal) (harg2.unread x0)) (arg4.view.read (Elt Ideal) (harg4.unread x2)) (arg5.view.read (Elt Ideal) (harg5.unread x3)) zeroExt) (rowsAt 6 inb_S520x1024_S256x1024_6_0))
      (arg13.view.readCov (ext1 (arg2.view.read (Elt Ideal) (harg2.unread x0)) (arg4.view.read (Elt Ideal) (harg4.unread x2)) (arg5.view.read (Elt Ideal) (harg5.unread x3)) zeroExt) (rowsAt 7 inb_S520x1024_S256x1024_7_0))
      (arg13.view.readCov (ext2 (arg2.view.read (Elt Ideal) (harg2.unread x0)) (arg4.view.read (Elt Ideal) (harg4.unread x2)) (arg5.view.read (Elt Ideal) (harg5.unread x3)) zeroExt) (rowsAt 261 inb_S520x1024_S256x1024_261_0))
      (arg13.view.readCov (ext2 (arg2.view.read (Elt Ideal) (harg2.unread x0)) (arg4.view.read (Elt Ideal) (harg4.unread x2)) (arg5.view.read (Elt Ideal) (harg5.unread x3)) zeroExt) (rowsAt 262 inb_S520x1024_S256x1024_262_0))
      (arg13.view.readCov (ext2 (arg2.view.read (Elt Ideal) (harg2.unread x0)) (arg4.view.read (Elt Ideal) (harg4.unread x2)) (arg5.view.read (Elt Ideal) (harg5.unread x3)) zeroExt) (rowsAt 263 inb_S520x1024_S256x1024_263_0))
      (arg14.view.readCov zeroState (Rect.unit (s := S8x1024) ![0, 0] S8x1024.size inb_S8x1024_S8x1024_0_0).toLoadRect))⟩ :: zeroState := by
  sl_kernel_rfl
end

end Cert.OddBody
-- ==== Proof.OddBlock.lean ====
/-
  A BLOCK OF 256 ROWS OF THE RECURRENT MIXER'S BODY is the block of the sequence's rows (OddRow.lean), when what it is
  given is: its rows are the sequence's from place `s0` on, the three rows read before each are the convolution's, and
  the state carried in is the sequence's after `s0` places.
-/
module

public import proofs.«01_k».proof.Proof.OddRow
public import proofs.«01_k».proof.Proof.OddBody

@[expose] public section

noncomputable section

namespace Cert.OddBlock

open Idealize.ShloMosaic Cert.OddIdeal Cert.OddIdeal.Gen Cert.Rows Cert.OddScan Cert.OddBody Cert.OddRow
open scoped BigOperators

variable (y2 : Vec Ideal S1x1024 .f32) (y3 : Vec Ideal S1024x2048 .bf16)
  (y4 : Vec Ideal S4x1024 .f32) (y5 : Vec Ideal S1x1024 .f32) (y6 : Vec Ideal S4x256x512 .bf16) (y7 : Vec Ideal S2x1024 .f32)
  (y8 : Vec Ideal S1x1024 .f32) (y9 : Vec Ideal S1024x1024 .bf16)

/-- The weights a tile's windows read. -/
def wt : Wt where
  wn k := y2 (ix2 0 k)
  W i k := y3 (ix2 i k)
  cw q k := y4 (ix2 q k)
  cb k := y5 (ix2 0 k)
  G h d k := y6 (ix3 h d k)
  bg q k := y7 (ix2 q k)
  lam k := y8 (ix2 0 k)
  wo i k := y9 (ix2 i k)

theorem row1_apply (y : Vec Ideal S1x1024 .f32) (j : Fin 1024) : row1 y (ix2 0 j) = y (ix2 0 j) := by
  pointwise [row1]

theorem xbV_apply (v : Vec Ideal S1x256x1024 .f32) (r : Fin 256) (j : Fin 1024) :
    xbV v y2 y3 (ix2 r j) = xbRow (wt y2 y3 y4 y5 y6 y7 y8 y9) (fun k => v (ix3 0 r k)) j := by
  pointwise [xbV, xbB, k0_pay12, k0_pay11, row1]
  simp only [xbRow, mv, rms, scale, wt]

theorem gV_apply (v : Vec Ideal S1x256x1024 .f32) (r : Fin 256) (j : Fin 1024) :
    gV v y2 y3 (ix2 r j) = gRow (wt y2 y3 y4 y5 y6 y7 y8 y9) (fun k => v (ix3 0 r k)) j := by
  pointwise [gV, gateB, k0_pay12, k0_pay11, row1]
  simp only [gRow, mv, rms, scale, wt]

/-- A row of the convolution's block, from its four rows. -/
theorem xcV_apply (v : Vec Ideal S1x256x1024 .f32) (p0 p1 p2 : FVec Ideal S256x1024 .f32) (r : Fin 256) (j : Fin 1024) :
    xcV v y2 y3 y4 y5 p0 p1 p2 (ix2 r j)
      = y5 (ix2 0 j) + y4 (ix2 3 j) * xbV v y2 y3 (ix2 r j) + y4 (ix2 0 j) * p0 (ix2 r j) + y4 (ix2 1 j) * p1 (ix2 r j) + y4 (ix2 2 j) * p2 (ix2 r j) := by
  pointwise [xcV, convB, over, row1]

/-- Four pieces side by side, each a head's own, read at a column. -/
theorem four_own (f : Fin 4 → Fin 256 → EReal) (a b c d : Fin 256 → EReal) (ha : ∀ y, a y = f 0 y) (hb : ∀ y, b y = f 1 y)
    (hc : ∀ y, c y = f 2 y) (hd : ∀ y, d y = f 3 y) (h : Fin 4) (y : Fin 256) : four a b c d h y = f h y := by
  match h with
  | 0 => exact ha y
  | 1 => exact hb y
  | 2 => exact hc y
  | 3 => exact hd y

/-- The decay gate's product, of the loaded weights of the heads. -/
theorem side0_apply (xc : FVec Ideal S256x1024 .f32) (r : Fin 256) (j : Fin 1024) :
    sideB xc 0 slices_S256x512_o0_0_S256x256 (View.ld y6 (Rect.unit (s := S4x256x512) ![0, 0, 0] S1x256x512.size inb_S4x256x512_S1x256x512_0_0_0))
      (View.ld y6 (Rect.unit (s := S4x256x512) ![1, 0, 0] S1x256x512.size inb_S4x256x512_S1x256x512_1_0_0))
      (View.ld y6 (Rect.unit (s := S4x256x512) ![2, 0, 0] S1x256x512.size inb_S4x256x512_S1x256x512_2_0_0))
      (View.ld y6 (Rect.unit (s := S4x256x512) ![3, 0, 0] S1x256x512.size inb_S4x256x512_S1x256x512_3_0_0)) (ix2 r j)
      = side (wt y2 y3 y4 y5 y6 y7 y8 y9) (fun k => xc (ix2 r k)) 0 (by omega) j := by
  pointwise [sideB, headB]
  refine (four_split (fun y => ∑ x : Fin 256, xc (ix2 r ⟨x.val, by omega⟩) * y6 (ix3 0 x ⟨y.val, by omega⟩))
    (fun y => ∑ x : Fin 256, xc (ix2 r ⟨256 + x.val, by omega⟩) * y6 (ix3 1 x ⟨y.val, by omega⟩))
    (fun y => ∑ x : Fin 256, xc (ix2 r ⟨512 + x.val, by omega⟩) * y6 (ix3 2 x ⟨y.val, by omega⟩))
    (fun y => ∑ x : Fin 256, xc (ix2 r ⟨768 + x.val, by omega⟩) * y6 (ix3 3 x ⟨y.val, by omega⟩)) j).trans ?_
  refine four_own (fun h y => ∑ d : Fin 256, xc (ix2 r (col h d)) * y6 (ix3 h d ⟨0 + y.val, by omega⟩)) _ _ _ _ ?_ ?_ ?_ ?_ _ _ <;> intro y <;>
    simp only [col, Fin.val_zero, Fin.val_one, Fin.val_two, val_three, Nat.mul_zero, Nat.mul_one, Nat.reduceMul, Nat.zero_add]

/-- The input gate's product, of the loaded weights of the heads. -/
theorem side256_apply (xc : FVec Ideal S256x1024 .f32) (r : Fin 256) (j : Fin 1024) :
    sideB xc 256 slices_S256x512_o0_256_S256x256 (View.ld y6 (Rect.unit (s := S4x256x512) ![0, 0, 0] S1x256x512.size inb_S4x256x512_S1x256x512_0_0_0))
      (View.ld y6 (Rect.unit (s := S4x256x512) ![1, 0, 0] S1x256x512.size inb_S4x256x512_S1x256x512_1_0_0))
      (View.ld y6 (Rect.unit (s := S4x256x512) ![2, 0, 0] S1x256x512.size inb_S4x256x512_S1x256x512_2_0_0))
      (View.ld y6 (Rect.unit (s := S4x256x512) ![3, 0, 0] S1x256x512.size inb_S4x256x512_S1x256x512_3_0_0)) (ix2 r j)
      = side (wt y2 y3 y4 y5 y6 y7 y8 y9) (fun k => xc (ix2 r k)) 256 (by omega) j := by
  pointwise [sideB, headB]
  refine (four_split (fun y => ∑ x : Fin 256, xc (ix2 r ⟨x.val, by omega⟩) * y6 (ix3 0 x ⟨256 + y.val, by omega⟩))
    (fun y => ∑ x : Fin 256, xc (ix2 r ⟨256 + x.val, by omega⟩) * y6 (ix3 1 x ⟨256 + y.val, by omega⟩))
    (fun y => ∑ x : Fin 256, xc (ix2 r ⟨512 + x.val, by omega⟩) * y6 (ix3 2 x ⟨256 + y.val, by omega⟩))
    (fun y => ∑ x : Fin 256, xc (ix2 r ⟨768 + x.val, by omega⟩) * y6 (ix3 3 x ⟨256 + y.val, by omega⟩)) j).trans ?_
  refine four_own (fun h y => ∑ d : Fin 256, xc (ix2 r (col h d)) * y6 (ix3 h d ⟨256 + y.val, by omega⟩)) _ _ _ _ ?_ ?_ ?_ ?_ _ _ <;> intro y <;>
    simp only [col, Fin.val_zero, Fin.val_one, Fin.val_two, val_three, Nat.mul_zero, Nat.mul_one, Nat.reduceMul, Nat.zero_add]

theorem halfC_apply (j : Fin 1024) : k0_pay3 (row1 y8) (ix2 0 j) = halfC (wt y2 y3 y4 y5 y6 y7 y8 y9) j := by
  pointwise [k0_pay3, row1]
  rfl

theorem row7_apply (q : Fin 2) (y : Vec Ideal S2x1024 .f32) (hq : ∀ a, (![q.val, 0] : Fin 2 → ℕ) a + S1x1024.size a ≤ S2x1024.size a) (j : Fin 1024) :
    View.ld y (Rect.unit (s := S2x1024) ![q.val, 0] S1x1024.size hq) (ix2 0 j) = y (ix2 q j) := by
  refine congrArg y (funext fun a => Fin.ext ?_)
  match a with
  | ⟨0, _⟩ => show q.val + 1 * 0 = q.val; omega
  | ⟨1, _⟩ => show 0 + 1 * j.val = j.val; omega

variable (v : Vec Ideal S1x256x1024 .f32) (pos : Vec Ideal S1x256x1 .i32) (p0 p1 p2 : FVec Ideal S256x1024 .f32) (h : FVec Ideal S8x1024 .f32)

theorem logV_apply (r : Fin 256) (j : Fin 1024) : logV v y2 y3 y4 y5 y6 y7 y8 p0 p1 p2 (ix2 r j)
    = logRow (wt y2 y3 y4 y5 y6 y7 y8 y9) (fun k => xcV v y2 y3 y4 y5 p0 p1 p2 (ix2 r k)) j := by
  unfold logV
  pointwise [logB, over, side0_apply y2 y3 y4 y5 y6 y7 y8 y9]
  simp only [side0_apply y2 y3 y4 y5 y6 y7 y8 y9, halfC_apply y2 y3 y4 y5 y6 y7 y8 y9, logRow, wt]

theorem inV_apply (r : Fin 256) (j : Fin 1024) : inV v y2 y3 y4 y5 y6 y7 p0 p1 p2 (ix2 r j)
    = inRow (wt y2 y3 y4 y5 y6 y7 y8 y9) (fun k => xcV v y2 y3 y4 y5 p0 p1 p2 (ix2 r k)) j := by
  unfold inV
  pointwise [inB, over]
  simp only [side256_apply y2 y3 y4 y5 y6 y7 y8 y9, inRow, wt]

theorem aV_apply (r : Fin 256) (j : Fin 1024) : aV v pos y2 y3 y4 y5 y6 y7 y8 p0 p1 p2 (ix2 r j)
    = Scalar.select (IntOp.cmpi .eq (pos (ix3 0 r 0)) 0#32) 0 (Ideal.exp (logV v y2 y3 y4 y5 y6 y7 y8 p0 p1 p2 (ix2 r j))) := by
  pointwise [aV, aB, k0_pay36, k0_pay34, k0_pay35]

theorem bV_apply (r : Fin 256) (j : Fin 1024) : bV v pos y2 y3 y4 y5 y6 y7 y8 p0 p1 p2 (ix2 r j)
    = Scalar.select (IntOp.cmpi .eq (pos (ix3 0 r 0)) 0#32) 1 (mult (logV v y2 y3 y4 y5 y6 y7 y8 p0 p1 p2 (ix2 r j)))
      * (inV v y2 y3 y4 y5 y6 y7 p0 p1 p2 (ix2 r j) * xcV v y2 y3 y4 y5 p0 p1 p2 (ix2 r j)) := by
  pointwise [bV, bB, k0_pay37, k0_pay34, k0_pay35, multB]
  rfl

theorem outV_apply (r : Fin 256) (l : Fin 1024) : outV v pos y2 y3 y4 y5 y6 y7 y8 y9 p0 p1 p2 h (ix3 0 r l)
    = v (ix3 0 r l) + ∑ j : Fin 1024, gelu (Named.named (F := Ideal) (φ := .f32) κ "gelu_cubic" 0x3E922279#32) (Ideal.ofBits .f32 0x3FCC422A#32)
        (gV v y2 y3 (ix2 r j)) * block (aV v pos y2 y3 y4 y5 y6 y7 y8 p0 p1 p2) (bV v pos y2 y3 y4 y5 y6 y7 y8 p0 p1 p2) h (ix2 r j) * y9 (ix2 j l) := by
  unfold outV
  pointwise [outB, k0_pay7, geluB]
  simp only [gelu]

/-! ## The block of the sequence -/

/-- The gelu's coefficients. -/
def cubic : EReal := Named.named (F := Ideal) (φ := .f32) κ "gelu_cubic" 0x3E922279#32
def linear : EReal := Ideal.ofBits .f32 0x3FCC422A#32

/-- The block is given the rows of the sequence from place `s0` on, and the state before them. -/
structure Given (w : Wt) (X : ℕ → Fin 1024 → EReal) (Z : ℕ → BitVec 32) (s0 : ℕ) : Prop where
  v : ∀ (r : Fin 256) k, v (ix3 0 r k) = X (s0 + r.val) k
  pos : ∀ r : Fin 256, pos (ix3 0 r 0) = Z (s0 + r.val)
  p0 : ∀ (r : Fin 256) j, p0 (ix2 r j) = ent w X (s0 + r.val + 5) j
  p1 : ∀ (r : Fin 256) j, p1 (ix2 r j) = ent w X (s0 + r.val + 6) j
  p2 : ∀ (r : Fin 256) j, p2 (ix2 r j) = ent w X (s0 + r.val + 7) j
  h : ∀ (q : Fin 8) j, h (ix2 q j) = state w X Z j s0

variable {X : ℕ → Fin 1024 → EReal} {Z : ℕ → BitVec 32} {s0 : ℕ}

/-- The block's own rows of the convolution's input. -/
theorem xb_seq (hv : ∀ (r : Fin 256) k, v (ix3 0 r k) = X (s0 + r.val) k) (r : Fin 256) (j : Fin 1024) :
    xbV v y2 y3 (ix2 r j) = ent (wt y2 y3 y4 y5 y6 y7 y8 y9) X (s0 + r.val + 8) j := by
  rw [xbV_apply y2 y3 y4 y5 y6 y7 y8 y9, ent, if_neg (by omega), show s0 + r.val + 8 - 8 = s0 + r.val by omega]
  exact congrArg (fun x => xbRow _ x j) (funext fun k => hv r k)

variable (g : Given v pos p0 p1 p2 h (wt y2 y3 y4 y5 y6 y7 y8 y9) X Z s0)
include g

theorem xc_seq (r : Fin 256) (j : Fin 1024) : xcV v y2 y3 y4 y5 p0 p1 p2 (ix2 r j) = conv (wt y2 y3 y4 y5 y6 y7 y8 y9) X (s0 + r.val) j := by
  rw [xcV_apply, xb_seq y2 y3 y4 y5 y6 y7 y8 y9 v g.v, g.p0, g.p1, g.p2]
  rfl

theorem a_seq (r : Fin 256) (j : Fin 1024) :
    aV v pos y2 y3 y4 y5 y6 y7 y8 p0 p1 p2 (ix2 r j) = aRow (wt y2 y3 y4 y5 y6 y7 y8 y9) X Z j (s0 + r.val) := by
  rw [aV_apply, logV_apply y2 y3 y4 y5 y6 y7 y8 y9, g.pos]
  simp only [xc_seq y2 y3 y4 y5 y6 y7 y8 y9 v pos p0 p1 p2 h g]
  rfl

theorem b_seq (r : Fin 256) (j : Fin 1024) :
    bV v pos y2 y3 y4 y5 y6 y7 y8 p0 p1 p2 (ix2 r j) = bRow (wt y2 y3 y4 y5 y6 y7 y8 y9) X Z j (s0 + r.val) := by
  rw [bV_apply, logV_apply y2 y3 y4 y5 y6 y7 y8 y9, inV_apply y2 y3 y4 y5 y6 y7 y8 y9, g.pos]
  simp only [xc_seq y2 y3 y4 y5 y6 y7 y8 y9 v pos p0 p1 p2 h g]
  rfl

variable (hf : ∀ j s, Fine (aRow (wt y2 y3 y4 y5 y6 y7 y8 y9) X Z j s))
include hf

/-- The state after the block. -/
theorem next_seq (q : Fin 8) (j : Fin 1024) :
    nextV v pos y2 y3 y4 y5 y6 y7 y8 p0 p1 p2 h (ix2 q j) = state (wt y2 y3 y4 y5 y6 y7 y8 y9) X Z j (s0 + 256) := by
  refine (carry_apply _ _ _ (fun i => aRow (wt y2 y3 y4 y5 y6 y7 y8 y9) X Z j (s0 + i)) (fun i => bRow (wt y2 y3 y4 y5 y6 y7 y8 y9) X Z j (s0 + i))
    (state (wt y2 y3 y4 y5 y6 y7 y8 y9) X Z j s0) j (fun i => a_seq y2 y3 y4 y5 y6 y7 y8 y9 v pos p0 p1 p2 h g i j)
    (fun i => b_seq y2 y3 y4 y5 y6 y7 y8 y9 v pos p0 p1 p2 h g i j) (fun i => hf j _) (fun r => g.h r j) 32 le_rfl q).trans ?_
  exact (walk_add _ _ _ _ _).symm

/-- The output of the block. -/
theorem out_seq (r : Fin 256) (l : Fin 1024) :
    outV v pos y2 y3 y4 y5 y6 y7 y8 y9 p0 p1 p2 h (ix3 0 r l) = outRow (wt y2 y3 y4 y5 y6 y7 y8 y9) cubic linear X Z (s0 + r.val) l := by
  rw [outV_apply, g.v]
  refine congrArg (X (s0 + r.val) l + ·) (Finset.sum_congr rfl fun j _ => ?_)
  refine congrArg₂ (· * ·) (congrArg₂ (· * ·) (congrArg _ ?_) ?_) rfl
  · rw [gV_apply y2 y3 y4 y5 y6 y7 y8 y9]
    exact congrArg (fun x => gRow _ x j) (funext fun k => g.v r k)
  · refine (block_apply _ _ _ (fun i => aRow (wt y2 y3 y4 y5 y6 y7 y8 y9) X Z j (s0 + i)) (fun i => bRow (wt y2 y3 y4 y5 y6 y7 y8 y9) X Z j (s0 + i))
      (state (wt y2 y3 y4 y5 y6 y7 y8 y9) X Z j s0) j (fun i => a_seq y2 y3 y4 y5 y6 y7 y8 y9 v pos p0 p1 p2 h g i j)
      (fun i => b_seq y2 y3 y4 y5 y6 y7 y8 y9 v pos p0 p1 p2 h g i j) (fun i => hf j _) (fun r => g.h r j) r).trans ?_
    exact (walk_add _ _ _ _ _).symm

end Cert.OddBlock
-- ==== Proof.OddTile.lean ====
/-
  A TILE OF 512 ROWS OF THE RECURRENT MIXER'S BODY is the tile of the sequence's rows, and leaves behind what the next tile
  needs: the last rows of the convolution's input in the rows' buffer, and the state.
-/
module

public import proofs.«01_k».proof.Proof.OddBlock
public import Idealize.ShloMosaic.Lib.WritesUnit
public import Idealize.ShloMosaic.Lib.VecWindow

@[expose] public section

noncomputable section

namespace Cert.OddTile

open Idealize.ShloMosaic Idealize.ShloMosaic.TcCoe Idealize.SL.Sem Cert.OddIdeal Cert.OddIdeal.Gen Cert.Rows Cert.OddScan Cert.OddBody Cert.OddRow Cert.OddBlock
open scoped BigOperators

/-- The state as loaded, and as stored. -/
theorem state_apply (v : View OddIdeal.sig .tc .vmem S8x1024 .f32) (f : v.ty.Contents (Elt Ideal)) (q : Fin 8) (j : Fin 1024) :
    v.readAt (Elt Ideal) (Rect.unit (s := S8x1024) ![0, 0] S8x1024.size inb_S8x1024_S8x1024_0_0).toLoadRect f (ix2 q j)
      = v.read (Elt Ideal) f (ix2 q j) := by
  refine congrArg (v.read (Elt Ideal) f) (funext fun a => Fin.ext ?_)
  match a with
  | ⟨0, _⟩ => show 0 + 1 * q.val = q.val; omega
  | ⟨1, _⟩ => show 0 + 1 * j.val = j.val; omega

theorem keep_apply (h : FVec Ideal S8x1024 .f32) (q : Fin 8) (j : Fin 1024) : k0_pay364 h (ix2 q j) = h (ix2 q j) := by
  pointwise [k0_pay364]

section
variable (y0 : Vec Ideal S1x512x1024 .f32) (y1 : Vec Ideal S1x512x1 .i32) (y2 : Vec Ideal S1x1024 .f32) (y3 : Vec Ideal S1024x2048 .bf16)
  (y4 : Vec Ideal S4x1024 .f32) (y5 : Vec Ideal S1x1024 .f32) (y6 : Vec Ideal S4x256x512 .bf16) (y7 : Vec Ideal S2x1024 .f32)
  (y8 : Vec Ideal S1x1024 .f32) (y9 : Vec Ideal S1024x1024 .bf16)
variable {X : ℕ → Fin 1024 → EReal} {Z : ℕ → BitVec 32} {s0 : ℕ}
variable (hx : ∀ (r : Fin 512) k, y0 (ix3 0 r k) = X (s0 + r.val) k) (hz : ∀ r : Fin 512, y1 (ix3 0 r 0) = Z (s0 + r.val))

theorem v0_apply (r : Fin 256) (k : Fin 1024) : v0 y0 (ix3 0 r k) = y0 (ix3 0 ⟨r.val, by omega⟩ k) := by
  pointwise [v0]

theorem v1_apply (r : Fin 256) (k : Fin 1024) : v1 y0 (ix3 0 r k) = y0 (ix3 0 ⟨256 + r.val, by omega⟩ k) := by
  pointwise [v1]

theorem pos0_apply (r : Fin 256) : pos0 y1 (ix3 0 r 0) = y1 (ix3 0 ⟨r.val, by omega⟩ 0) := by
  pointwise [pos0]

theorem pos1_apply (r : Fin 256) : pos1 y1 (ix3 0 r 0) = y1 (ix3 0 ⟨256 + r.val, by omega⟩ 0) := by
  pointwise [pos1]

include hx in
/-- The rows' buffer after the first half: the convolution's rows. -/
theorem ext1_read (v : View OddIdeal.sig .tc .vmem S520x1024 .f32) (f : v.ty.Contents (Elt Ideal)) (n : Fin 520) (hn : n.val < 264) (j : Fin 1024)
    (h0 : n.val < 8 → v.read (Elt Ideal) f (ix2 n j) = ent (wt y2 y3 y4 y5 y6 y7 y8 y9) X (s0 + n.val) j) :
    v.read (Elt Ideal) (v.writes (Elt Ideal) f (ext1 y0 y2 y3 [])) (ix2 n j) = ent (wt y2 y3 y4 y5 y6 y7 y8 y9) X (s0 + n.val) j := by
  by_cases h8 : n.val < 8
  · exact (View.read_writes_cons_rows_of_not_mem v f _ _ _ (ix2 n j) rfl rfl (Or.inl h8)).trans (h0 h8)
  · refine (View.read_writes_cons_rows_of_mem v f _ _ _ (ix2 n j) (ix2 (⟨n.val - 8, by omega⟩ : Fin 256) j) rfl ?_ rfl).trans ?_
    · show n.val = 8 + (n.val - 8); omega
    · refine (congrFun (shapeCast_self _ _) _).trans ((xb_seq y2 y3 y4 y5 y6 y7 y8 y9 (v0 y0) (X := X) (s0 := s0) (fun r k => (v0_apply y0 r k).trans (hx _ k)) _ j).trans ?_)
      show ent _ X (s0 + (n.val - 8) + 8) j = _
      rw [show s0 + (n.val - 8) + 8 = s0 + n.val by omega]

include hx in
/-- The rows' buffer after both halves. -/
theorem ext2_read (v : View OddIdeal.sig .tc .vmem S520x1024 .f32) (f : v.ty.Contents (Elt Ideal)) (n : Fin 520) (j : Fin 1024)
    (h0 : n.val < 8 → v.read (Elt Ideal) f (ix2 n j) = ent (wt y2 y3 y4 y5 y6 y7 y8 y9) X (s0 + n.val) j) :
    v.read (Elt Ideal) (v.writes (Elt Ideal) f (ext2 y0 y2 y3 [])) (ix2 n j) = ent (wt y2 y3 y4 y5 y6 y7 y8 y9) X (s0 + n.val) j := by
  by_cases h8 : n.val < 264
  · exact (View.read_writes_cons_rows_of_not_mem v f _ _ _ (ix2 n j) rfl rfl (Or.inl h8)).trans (ext1_read y0 y2 y3 y4 y5 y6 y7 y8 y9 hx v f n h8 j h0)
  · refine (View.read_writes_cons_rows_of_mem v f _ _ _ (ix2 n j) (ix2 (⟨n.val - 264, by omega⟩ : Fin 256) j) rfl ?_ rfl).trans ?_
    · show n.val = 264 + (n.val - 264); omega
    · refine (congrFun (shapeCast_self _ _) _).trans ((xb_seq y2 y3 y4 y5 y6 y7 y8 y9 (v1 y0) (X := X) (s0 := s0 + 256)
        (fun r k => (v1_apply y0 r k).trans ((hx _ k).trans (congrArg (X · k) (Nat.add_assoc _ _ _).symm))) _ j).trans ?_)
      show ent _ X (s0 + 256 + (n.val - 264) + 8) j = _
      rw [show s0 + 256 + (n.val - 264) + 8 = s0 + n.val by omega]

/-- The zeros of a sequence's first tile are the rows before the sequence. -/
theorem zero_read (v : View OddIdeal.sig .tc .vmem S520x1024 .f32) (f : v.ty.Contents (Elt Ideal)) (n : Fin 520) (hn : n.val < 8) (j : Fin 1024) (w : Wt) :
    v.read (Elt Ideal) (v.writes (Elt Ideal) f zeroExt) (ix2 n j) = ent w X (0 + n.val) j := by
  refine (View.read_writes_cons_rows_of_mem v f _ _ _ (ix2 n j) (ix2 (⟨n.val, hn⟩ : Fin 8) j) rfl ?_ rfl).trans ?_
  · show n.val = 0 + n.val; omega
  · rw [ent, if_pos (by omega)]
    pointwise [k0_pay1]

/-- Rows of the buffer as loaded. -/
theorem rowsAt_apply (v : View OddIdeal.sig .tc .vmem S520x1024 .f32) (f : v.ty.Contents (Elt Ideal)) (o : ℕ)
    (ho : ∀ a, (![o, 0] : Fin 2 → ℕ) a + S256x1024.size a ≤ S520x1024.size a) (r : Fin 256) (j : Fin 1024) :
    v.readAt (Elt Ideal) (rowsAt o ho) f (ix2 r j) = v.read (Elt Ideal) f (ix2 (⟨o + r.val, by have := ho 0; simp at this; omega⟩ : Fin 520) j) := by
  refine congrArg (v.read (Elt Ideal) f) (funext fun a => Fin.ext ?_)
  match a with
  | ⟨0, _⟩ => show o + 1 * r.val = o + r.val; omega
  | ⟨1, _⟩ => show 0 + 1 * j.val = j.val; omega

theorem tail_apply (v : View OddIdeal.sig .tc .vmem S520x1024 .f32) (f : v.ty.Contents (Elt Ideal)) (q : Fin 8) (j : Fin 1024) :
    v.readAt (Elt Ideal) (Rect.unit (s := S520x1024) ![512, 0] S8x1024.size inb_S520x1024_S8x1024_512_0).toLoadRect f (ix2 q j)
      = v.read (Elt Ideal) f (ix2 (⟨512 + q.val, by omega⟩ : Fin 520) j) := by
  refine congrArg (v.read (Elt Ideal) f) (funext fun a => Fin.ext ?_)
  match a with
  | ⟨0, _⟩ => show 512 + 1 * q.val = 512 + q.val; omega
  | ⟨1, _⟩ => show 0 + 1 * j.val = j.val; omega

variable (p0 p1 p2 q0 q1 q2 : FVec Ideal S256x1024 .f32) (h : FVec Ideal S8x1024 .f32)

/-- What the tile reads back is the sequence's. -/
structure Reads (w : Wt) (X : ℕ → Fin 1024 → EReal) (Z : ℕ → BitVec 32) (s0 : ℕ) : Prop where
  p0 : ∀ (r : Fin 256) j, p0 (ix2 r j) = ent w X (s0 + (5 + r.val)) j
  p1 : ∀ (r : Fin 256) j, p1 (ix2 r j) = ent w X (s0 + (6 + r.val)) j
  p2 : ∀ (r : Fin 256) j, p2 (ix2 r j) = ent w X (s0 + (7 + r.val)) j
  q0 : ∀ (r : Fin 256) j, q0 (ix2 r j) = ent w X (s0 + (261 + r.val)) j
  q1 : ∀ (r : Fin 256) j, q1 (ix2 r j) = ent w X (s0 + (262 + r.val)) j
  q2 : ∀ (r : Fin 256) j, q2 (ix2 r j) = ent w X (s0 + (263 + r.val)) j
  h : ∀ (q : Fin 8) j, h (ix2 q j) = state w X Z j s0

variable (g : Reads p0 p1 p2 q0 q1 q2 h (wt y2 y3 y4 y5 y6 y7 y8 y9) X Z s0)
variable (hf : ∀ j s, Fine (aRow (wt y2 y3 y4 y5 y6 y7 y8 y9) X Z j s))

include hx hz g in
theorem given0 : Given (v0 y0) (pos0 y1) p0 p1 p2 h (wt y2 y3 y4 y5 y6 y7 y8 y9) X Z s0 where
  v r k := (v0_apply y0 r k).trans (hx _ k)
  pos r := (pos0_apply y1 r).trans (hz _)
  p0 r j := (g.p0 r j).trans (congrArg (ent _ X · j) (by omega))
  p1 r j := (g.p1 r j).trans (congrArg (ent _ X · j) (by omega))
  p2 r j := (g.p2 r j).trans (congrArg (ent _ X · j) (by omega))
  h := g.h

include hx hz g hf

theorem given1 : Given (v1 y0) (pos1 y1) q0 q1 q2 (mid y0 y1 y2 y3 y4 y5 y6 y7 y8 p0 p1 p2 h) (wt y2 y3 y4 y5 y6 y7 y8 y9) X Z (s0 + 256) where
  v r k := (v1_apply y0 r k).trans ((hx _ k).trans (congrArg (X · k) (Nat.add_assoc _ _ _).symm))
  pos r := (pos1_apply y1 r).trans ((hz _).trans (congrArg Z (Nat.add_assoc _ _ _).symm))
  p0 r j := (g.q0 r j).trans (congrArg (ent _ X · j) (by omega))
  p1 r j := (g.q1 r j).trans (congrArg (ent _ X · j) (by omega))
  p2 r j := (g.q2 r j).trans (congrArg (ent _ X · j) (by omega))
  h q j := next_seq y2 y3 y4 y5 y6 y7 y8 y9 _ _ _ _ _ _ (given0 y0 y1 y2 y3 y4 y5 y6 y7 y8 y9 hx hz p0 p1 p2 q0 q1 q2 h g) hf q j

/-- The state after the tile. -/
theorem fin_read (q : Fin 8) (j : Fin 1024) : fin y0 y1 y2 y3 y4 y5 y6 y7 y8 p0 p1 p2 q0 q1 q2 h (ix2 q j) = state (wt y2 y3 y4 y5 y6 y7 y8 y9) X Z j (s0 + 512) :=
  next_seq y2 y3 y4 y5 y6 y7 y8 y9 _ _ _ _ _ _ (given1 y0 y1 y2 y3 y4 y5 y6 y7 y8 y9 hx hz p0 p1 p2 q0 q1 q2 h g hf) hf q j

/-- The tile's output. -/
theorem outP_read (v : View OddIdeal.sig .tc .vmem S1x512x1024 .f32) (f : v.ty.Contents (Elt Ideal)) (r : Fin 512) (l : Fin 1024) :
    v.read (Elt Ideal) (v.writes (Elt Ideal) f (outP y0 y1 y2 y3 y4 y5 y6 y7 y8 y9 p0 p1 p2 q0 q1 q2 h)) (ix3 0 r l)
      = outRow (wt y2 y3 y4 y5 y6 y7 y8 y9) cubic linear X Z (s0 + r.val) l := by
  by_cases hr : r.val < 256
  · refine (View.read_writes_cons_unit_of_not_mem v f _ _ _ (ix3 0 r l) rfl (1 : Fin 3) (Or.inl hr)).trans ?_
    refine (View.read_writes_cons_unit_of_mem v f _ _ _ (ix3 0 r l) (ix3 0 (⟨r.val, hr⟩ : Fin 256) l) rfl fun a => ?_).trans ?_
    · match a with
      | ⟨0, _⟩ => rfl
      | ⟨1, _⟩ => exact (Nat.zero_add _).symm
      | ⟨2, _⟩ => exact (Nat.zero_add _).symm
    · exact out_seq y2 y3 y4 y5 y6 y7 y8 y9 _ _ _ _ _ _ (given0 y0 y1 y2 y3 y4 y5 y6 y7 y8 y9 hx hz p0 p1 p2 q0 q1 q2 h g) hf _ l
  · refine (View.read_writes_cons_unit_of_mem v f _ _ _ (ix3 0 r l) (ix3 0 (⟨r.val - 256, by omega⟩ : Fin 256) l) rfl fun a => ?_).trans ?_
    · match a with
      | ⟨0, _⟩ => rfl
      | ⟨1, _⟩ => show r.val = 256 + (r.val - 256); omega
      | ⟨2, _⟩ => exact (Nat.zero_add _).symm
    · refine (out_seq y2 y3 y4 y5 y6 y7 y8 y9 _ _ _ _ _ _ (given1 y0 y1 y2 y3 y4 y5 y6 y7 y8 y9 hx hz p0 p1 p2 q0 q1 q2 h g hf) hf _ l).trans ?_
      show outRow _ _ _ X Z (s0 + 256 + (r.val - 256)) l = _
      rw [show s0 + 256 + (r.val - 256) = s0 + r.val by omega]
end

/-! ## A later tile -/

section
variable (c : Dev nD) (i : grid0.Coords) (arg2 : Memref sig .tc .vmem S1x512x1024 .f32) (harg2 : arg2.IsWhole) (arg3 : Memref sig .tc .vmem S1x512x1 .i32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x1024 .f32) (harg6 : arg6.IsWhole) (arg7 : Memref sig .tc .vmem S1x1024 .f32) (harg7 : arg7.IsWhole) (arg8 : Memref sig .tc .vmem S4x256x512 .bf16) (harg8 : arg8.IsWhole) (arg9 : Memref sig .tc .vmem S2x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S520x1024 .f32) (harg13 : arg13.IsWhole) (arg14 : Memref sig .tc .vmem S8x1024 .f32) (harg14 : arg14.IsWhole) (hc0 : ¬cond0_0 i)
    (x0 : Vec Ideal S1x512x1024 .f32) (x1 : Vec Ideal S1x512x1 .i32) (x2 : Vec Ideal S1x1024 .f32) (x3 : Vec Ideal S1024x2048 .bf16) (x4 : Vec Ideal S4x1024 .f32) (x5 : Vec Ideal S1x1024 .f32) (x6 : Vec Ideal S4x256x512 .bf16) (x7 : Vec Ideal S2x1024 .f32) (x8 : Vec Ideal S1x1024 .f32) (x9 : Vec Ideal S1024x1024 .bf16) (xs0 : Vec Ideal S520x1024 .f32) (xs1 : Vec Ideal S8x1024 .f32)
variable {X : ℕ → Fin 1024 → EReal} {Z : ℕ → BitVec 32} {s0 : ℕ}
variable (hx : ∀ (r : Fin 512) k, x0 (ix3 0 r k) = X (s0 + r.val) k) (hz : ∀ r : Fin 512, x1 (ix3 0 r 0) = Z (s0 + r.val))
variable (hf : ∀ j s, Fine (aRow (wt x2 x3 x4 x5 x6 x7 x8 x9) X Z j s))
variable (hxs0 : ∀ (n : Fin 520) j, n.val < 8 → xs0 (ix2 n j) = ent (wt x2 x3 x4 x5 x6 x7 x8 x9) X (s0 + n.val) j) (hxs1 : ∀ (q : Fin 8) j, xs1 (ix2 q j) = state (wt x2 x3 x4 x5 x6 x7 x8 x9) X Z j s0)

include hx hxs0 hxs1 in
theorem next_reads : Reads (arg13.view.readAt (Elt Ideal) (rowsAt 5 inb_S520x1024_S256x1024_5_0) (arg13.view.writes (Elt Ideal) (harg13.unread xs0) (ext1 x0 x2 x3 [])))
      (arg13.view.readAt (Elt Ideal) (rowsAt 6 inb_S520x1024_S256x1024_6_0) (arg13.view.writes (Elt Ideal) (harg13.unread xs0) (ext1 x0 x2 x3 [])))
      (arg13.view.readAt (Elt Ideal) (rowsAt 7 inb_S520x1024_S256x1024_7_0) (arg13.view.writes (Elt Ideal) (harg13.unread xs0) (ext1 x0 x2 x3 [])))
      (arg13.view.readCov (ext2 x0 x2 x3 []) (rowsAt 261 inb_S520x1024_S256x1024_261_0))
      (arg13.view.readCov (ext2 x0 x2 x3 []) (rowsAt 262 inb_S520x1024_S256x1024_262_0))
      (arg13.view.readCov (ext2 x0 x2 x3 []) (rowsAt 263 inb_S520x1024_S256x1024_263_0))
      (arg14.view.readAt (Elt Ideal) (Rect.unit (s := S8x1024) ![0, 0] S8x1024.size inb_S8x1024_S8x1024_0_0).toLoadRect (harg14.unread xs1)) (wt x2 x3 x4 x5 x6 x7 x8 x9) X Z s0 where
  p0 := fun r j => (rowsAt_apply _ _ _ _ r j).trans (ext1_read x0 x2 x3 x4 x5 x6 x7 x8 x9 hx _ _ _ (by show 5 + r.val < 264; omega) j fun hn => (congrFun (harg13.read_unread xs0) _).trans (hxs0 _ j hn))
  p1 := fun r j => (rowsAt_apply _ _ _ _ r j).trans (ext1_read x0 x2 x3 x4 x5 x6 x7 x8 x9 hx _ _ _ (by show 6 + r.val < 264; omega) j fun hn => (congrFun (harg13.read_unread xs0) _).trans (hxs0 _ j hn))
  p2 := fun r j => (rowsAt_apply _ _ _ _ r j).trans (ext1_read x0 x2 x3 x4 x5 x6 x7 x8 x9 hx _ _ _ (by show 7 + r.val < 264; omega) j fun hn => (congrFun (harg13.read_unread xs0) _).trans (hxs0 _ j hn))
  q0 := fun r j => (rowsAt_apply _ _ _ _ r j).trans (ext2_read x0 x2 x3 x4 x5 x6 x7 x8 x9 hx _ _ _ j fun hn => absurd hn (by show ¬ (261 + r.val < 8); omega))
  q1 := fun r j => (rowsAt_apply _ _ _ _ r j).trans (ext2_read x0 x2 x3 x4 x5 x6 x7 x8 x9 hx _ _ _ j fun hn => absurd hn (by show ¬ (262 + r.val < 8); omega))
  q2 := fun r j => (rowsAt_apply _ _ _ _ r j).trans (ext2_read x0 x2 x3 x4 x5 x6 x7 x8 x9 hx _ _ _ j fun hn => absurd hn (by show ¬ (263 + r.val < 8); omega))
  h := fun q j => (state_apply _ _ q j).trans ((congrFun (harg14.read_unread xs1) _).trans (hxs1 q j))

include hx hxs0 hxs1 hz hf

/-- The tile's output. -/
theorem next_out_read (r : Fin 512) (l : Fin 1024) : out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1 (ix3 0 r l) = outRow (wt x2 x3 x4 x5 x6 x7 x8 x9) cubic linear X Z (s0 + r.val) l := by
  unfold out0_B_10
  rw [next_out]
  simp only [Memref.IsWhole.read_unread]
  exact outP_read x0 x1 x2 x3 x4 x5 x6 x7 x8 x9 hx hz _ _ _ _ _ _ _ (next_reads arg13 harg13 arg14 harg14 x0 x2 x3 x4 x5 x6 x7 x8 x9 xs0 xs1 hx hxs0 hxs1) hf _ _ r l

/-- The state after the tile. -/
theorem next_state_read (q : Fin 8) (j : Fin 1024) : sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1 (ix2 q j) = state (wt x2 x3 x4 x5 x6 x7 x8 x9) X Z j (s0 + 512) := by
  unfold sout0_B_1
  rw [next_state]
  simp only [Memref.IsWhole.read_unread]
  refine (congrFun (View.read_writes_full (s := S8x1024) _ _ _ _ _) _).trans ?_
  refine (keep_apply _ q j).trans ?_
  exact fin_read x0 x1 x2 x3 x4 x5 x6 x7 x8 x9 hx hz _ _ _ _ _ _ _ (next_reads arg13 harg13 arg14 harg14 x0 x2 x3 x4 x5 x6 x7 x8 x9 xs0 xs1 hx hxs0 hxs1) hf q j

omit hz hf in
/-- The rows the next tile's convolution reaches back to. -/
theorem next_ext_read (n : Fin 520) (hn : n.val < 8) (j : Fin 1024) : sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1 (ix2 n j) = ent (wt x2 x3 x4 x5 x6 x7 x8 x9) X (s0 + 512 + n.val) j := by
  unfold sout0_B_0
  rw [next_ext]
  simp only [Memref.IsWhole.read_unread]
  refine (View.read_writes_cons_rows_of_mem _ _ _ _ _ (ix2 n j) (ix2 (⟨n.val, hn⟩ : Fin 8) j) rfl ?_ rfl).trans ?_
  · show n.val = 0 + n.val; omega
  · refine (congrFun (shapeCast_self _ _) _).trans ((tail_apply _ _ _ j).trans ?_)
    refine (ext2_read x0 x2 x3 x4 x5 x6 x7 x8 x9 hx arg13.view _ _ j fun h => absurd h (by show ¬ (512 + n.val < 8); omega)).trans ?_
    exact congrArg (ent _ X · j) (Nat.add_assoc _ _ _).symm
end

/-! ## A sequence's first tile -/

section
variable (c : Dev nD) (i : grid0.Coords) (arg2 : Memref sig .tc .vmem S1x512x1024 .f32) (harg2 : arg2.IsWhole) (arg3 : Memref sig .tc .vmem S1x512x1 .i32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x1024 .f32) (harg6 : arg6.IsWhole) (arg7 : Memref sig .tc .vmem S1x1024 .f32) (harg7 : arg7.IsWhole) (arg8 : Memref sig .tc .vmem S4x256x512 .bf16) (harg8 : arg8.IsWhole) (arg9 : Memref sig .tc .vmem S2x1024 .f32) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S520x1024 .f32) (harg13 : arg13.IsWhole) (arg14 : Memref sig .tc .vmem S8x1024 .f32) (harg14 : arg14.IsWhole) (hc0 : cond0_0 i)
    (x0 : Vec Ideal S1x512x1024 .f32) (x1 : Vec Ideal S1x512x1 .i32) (x2 : Vec Ideal S1x1024 .f32) (x3 : Vec Ideal S1024x2048 .bf16) (x4 : Vec Ideal S4x1024 .f32) (x5 : Vec Ideal S1x1024 .f32) (x6 : Vec Ideal S4x256x512 .bf16) (x7 : Vec Ideal S2x1024 .f32) (x8 : Vec Ideal S1x1024 .f32) (x9 : Vec Ideal S1024x1024 .bf16)
variable {X : ℕ → Fin 1024 → EReal} {Z : ℕ → BitVec 32}
variable (hx : ∀ (r : Fin 512) k, x0 (ix3 0 r k) = X (0 + r.val) k) (hz : ∀ r : Fin 512, x1 (ix3 0 r 0) = Z (0 + r.val))
variable (hf : ∀ j s, Fine (aRow (wt x2 x3 x4 x5 x6 x7 x8 x9) X Z j s))

include hx in
theorem first_reads : Reads (arg13.view.readCov (ext1 x0 x2 x3 zeroExt) (rowsAt 5 inb_S520x1024_S256x1024_5_0))
      (arg13.view.readCov (ext1 x0 x2 x3 zeroExt) (rowsAt 6 inb_S520x1024_S256x1024_6_0))
      (arg13.view.readCov (ext1 x0 x2 x3 zeroExt) (rowsAt 7 inb_S520x1024_S256x1024_7_0))
      (arg13.view.readCov (ext2 x0 x2 x3 zeroExt) (rowsAt 261 inb_S520x1024_S256x1024_261_0))
      (arg13.view.readCov (ext2 x0 x2 x3 zeroExt) (rowsAt 262 inb_S520x1024_S256x1024_262_0))
      (arg13.view.readCov (ext2 x0 x2 x3 zeroExt) (rowsAt 263 inb_S520x1024_S256x1024_263_0))
      (arg14.view.readCov zeroState (Rect.unit (s := S8x1024) ![0, 0] S8x1024.size inb_S8x1024_S8x1024_0_0).toLoadRect) (wt x2 x3 x4 x5 x6 x7 x8 x9) X Z 0 where
  p0 := fun r j => (rowsAt_apply _ _ _ _ r j).trans (ext1_read x0 x2 x3 x4 x5 x6 x7 x8 x9 hx arg13.view (arg13.view.writes (Elt Ideal) arg13.view.junk zeroExt) _ (by show 5 + r.val < 264; omega) j fun hn => zero_read _ _ _ hn j _)
  p1 := fun r j => (rowsAt_apply _ _ _ _ r j).trans (ext1_read x0 x2 x3 x4 x5 x6 x7 x8 x9 hx arg13.view (arg13.view.writes (Elt Ideal) arg13.view.junk zeroExt) _ (by show 6 + r.val < 264; omega) j fun hn => zero_read _ _ _ hn j _)
  p2 := fun r j => (rowsAt_apply _ _ _ _ r j).trans (ext1_read x0 x2 x3 x4 x5 x6 x7 x8 x9 hx arg13.view (arg13.view.writes (Elt Ideal) arg13.view.junk zeroExt) _ (by show 7 + r.val < 264; omega) j fun hn => zero_read _ _ _ hn j _)
  q0 := fun r j => (rowsAt_apply _ _ _ _ r j).trans (ext2_read x0 x2 x3 x4 x5 x6 x7 x8 x9 hx arg13.view (arg13.view.writes (Elt Ideal) arg13.view.junk zeroExt) _ j fun hn => absurd hn (by show ¬ (261 + r.val < 8); omega))
  q1 := fun r j => (rowsAt_apply _ _ _ _ r j).trans (ext2_read x0 x2 x3 x4 x5 x6 x7 x8 x9 hx arg13.view (arg13.view.writes (Elt Ideal) arg13.view.junk zeroExt) _ j fun hn => absurd hn (by show ¬ (262 + r.val < 8); omega))
  q2 := fun r j => (rowsAt_apply _ _ _ _ r j).trans (ext2_read x0 x2 x3 x4 x5 x6 x7 x8 x9 hx arg13.view (arg13.view.writes (Elt Ideal) arg13.view.junk zeroExt) _ j fun hn => absurd hn (by show ¬ (263 + r.val < 8); omega))
  h := fun q j => (congrFun (View.readCov_full (s := S8x1024) _ _ _ _ _) _).trans (by pointwise [k0_pay2]; rfl)

include hx hz hf

/-- The tile's output. -/
theorem first_out_read (r : Fin 512) (l : Fin 1024) : out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix3 0 r l) = outRow (wt x2 x3 x4 x5 x6 x7 x8 x9) cubic linear X Z (0 + r.val) l := by
  unfold out0_A_10
  rw [first_out]
  simp only [Memref.IsWhole.read_unread]
  exact outP_read x0 x1 x2 x3 x4 x5 x6 x7 x8 x9 hx hz _ _ _ _ _ _ _ (first_reads arg13 arg14 x0 x2 x3 x4 x5 x6 x7 x8 x9 hx) hf _ _ r l

/-- The state after the tile. -/
theorem first_state_read (q : Fin 8) (j : Fin 1024) : sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 q j) = state (wt x2 x3 x4 x5 x6 x7 x8 x9) X Z j (0 + 512) := by
  unfold sout0_A_1
  rw [first_state]
  simp only [Memref.IsWhole.read_unread]
  refine (congrFun (View.read_writes_full (s := S8x1024) _ _ _ _ _) _).trans ?_
  refine (keep_apply _ q j).trans ?_
  exact fin_read x0 x1 x2 x3 x4 x5 x6 x7 x8 x9 hx hz _ _ _ _ _ _ _ (first_reads arg13 arg14 x0 x2 x3 x4 x5 x6 x7 x8 x9 hx) hf q j

omit hz hf in
/-- The rows the next tile's convolution reaches back to. -/
theorem first_ext_read (n : Fin 520) (hn : n.val < 8) (j : Fin 1024) : sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 n j) = ent (wt x2 x3 x4 x5 x6 x7 x8 x9) X (0 + 512 + n.val) j := by
  unfold sout0_A_0
  rw [first_ext]
  simp only [Memref.IsWhole.read_unread]
  refine (View.read_writes_cons_rows_of_mem _ _ _ _ _ (ix2 n j) (ix2 (⟨n.val, hn⟩ : Fin 8) j) rfl ?_ rfl).trans ?_
  · show n.val = 0 + n.val; omega
  · refine (congrFun (shapeCast_self _ _) _).trans ((tail_apply _ _ _ j).trans ?_)
    refine (ext2_read x0 x2 x3 x4 x5 x6 x7 x8 x9 hx arg13.view (arg13.view.writes (Elt Ideal) arg13.view.junk zeroExt) _ j fun h => absurd h (by show ¬ (512 + n.val < 8); omega)).trans ?_
    exact congrArg (ent _ X · j) (Nat.add_assoc _ _ _).symm
end

end Cert.OddTile
-- ==== Proof.OddPlain.lean ====
/-
  THE RECURRENT MIXER'S WEIGHTS AS GIVEN, and as the kernel's host hands them on: the gates' weights and biases halved and
  laid side by side, the gate half of the projection halved.
-/
module

public import proofs.«01_k».proof.Proof.OddRow

@[expose] public section

noncomputable section

namespace Cert.OddPlain

open Idealize.ShloMosaic Cert.OddRow

/-- The weights, as the arguments hold them. -/
structure Pt where
  wn : Fin 1024 → EReal
  W : Fin 1024 → Fin 2048 → EReal
  cw : Fin 4 → Fin 1024 → EReal
  cb : Fin 1024 → EReal
  Gr : Fin 4 → Fin 256 → Fin 256 → EReal
  br : Fin 1024 → EReal
  Gi : Fin 4 → Fin 256 → Fin 256 → EReal
  bi : Fin 1024 → EReal
  lam : Fin 1024 → EReal
  wo : Fin 1024 → Fin 1024 → EReal

/-- A half, as the programs write it. -/
abbrev half : EReal := Ideal.ofBits .f32 0x3F000000#32

/-- The weights as the kernel receives them. -/
def halved (p : Pt) : Wt where
  wn := p.wn
  W i k := p.W i k * (if k.val < 1024 then half else 1)
  cw := p.cw
  cb := p.cb
  G h d k := half * (if hk : k.val < 256 then p.Gr h d ⟨k.val, hk⟩ else p.Gi h d ⟨k.val - 256, by omega⟩)
  bg q k := half * (if q = 0 then p.br k else p.bi k)
  lam := p.lam
  wo := p.wo

end Cert.OddPlain
-- ==== Proof.OddHost.lean ====
/-
  WHAT THE RECURRENT MIXER'S CALL IS HANDED: each window's block, read off the arguments. The host halves the gates' weights
  and biases and the gate half of the projection, and lays the two gates' weights side by side.
-/
module

public import proofs.«01_k».proof.Proof.OddTile
public import proofs.«01_k».proof.Proof.OddPlain
public import proofs.«01_k».proof.Proof.Gen.OddIdeal.Value
public import Idealize.ShloMosaic.Lib.StableHlo.Run
public import Idealize.ShloMosaic.Lib.Pipeline.ValueKit.Geometry

@[expose] public section

noncomputable section

namespace Cert.OddHost

open Idealize.ShloMosaic Idealize.ShloMosaic.TcCoe Idealize.SL.Sem Cert.OddIdeal Cert.OddIdeal.Gen Cert.Rows Cert.OddRow Cert.OddBlock Cert.OddPlain
open Idealize.ShloMosaic.StableHlo
open scoped BigOperators

variable (m : (ℓ : Loc nD τ sig) → Buf (Elt Ideal) ℓ) (c : Dev nD)

/-- The weights, from the arguments. -/
def pt : Pt where
  wn k := m ((c : Thread nD τ).loc main_arg2) (ix2 0 k)
  W i k := m ((c : Thread nD τ).loc main_arg3) (ix3 0 i k)
  cw q k := m ((c : Thread nD τ).loc main_arg4) (ix3 0 q k)
  cb k := m ((c : Thread nD τ).loc main_arg5) (ix2 0 k)
  Gr h d k := m ((c : Thread nD τ).loc main_arg6) (ix4 0 h d k)
  br k := m ((c : Thread nD τ).loc main_arg7) (ix2 0 k)
  Gi h d k := m ((c : Thread nD τ).loc main_arg8) (ix4 0 h d k)
  bi k := m ((c : Thread nD τ).loc main_arg9) (ix2 0 k)
  lam k := m ((c : Thread nD τ).loc main_arg10) (ix2 0 k)
  wo i k := m ((c : Thread nD τ).loc main_arg11) (ix3 0 i k)

/-! ## The arrays when the call is entered -/

theorem Vx : V m c main_arg0 = m ((c : Thread nD τ).loc main_arg0) := by
  unfold V; simp only [hostOps0, hostOps0_1, hostOps0_2, List.flatten_cons, List.flatten_nil, List.append_nil, List.cons_append, List.nil_append]; after_results_simp; try rfl

theorem V0 : V m c main_v0 = shapeCast S2x16384x1 (m ((c : Thread nD τ).loc main_arg1)) shapeCasts_S2x16384_S2x16384x1 := by
  unfold V; simp only [hostOps0, hostOps0_1, hostOps0_2, List.flatten_cons, List.flatten_nil, List.append_nil, List.cons_append, List.nil_append]; after_results_simp; rfl

theorem V20 : V m c main_v20 = shapeCast S1x1024 (shapeCast S1024 (m ((c : Thread nD τ).loc main_arg2)) shapeCasts_S1x1024_S1024) shapeCasts_S1024_S1x1024 := by
  unfold V; simp only [hostOps0, hostOps0_1, hostOps0_2, List.flatten_cons, List.flatten_nil, List.append_nil, List.cons_append, List.nil_append]; after_results_simp; rfl

theorem V25 : V m c main_v25 = truncf (F := Ideal) FTy.bf16
    (mulf (shapeCast S1024x2048 (m ((c : Thread nD τ).loc main_arg3)) shapeCasts_S1x1024x2048_S1024x2048)
      (broadcastInDim S1024x2048 ![0, 1] bcast_S1x2048_S1024x2048_0_1 (broadcastInDim S1x2048 ![1] bcast_S2048_S1x2048_1
        (select (cmpi CmpIPredicate.slt (iotaInDim S2048 32 0) (broadcastInDim S2048 ![] bcast_S_S2048 (constantI S_ 32 1024#32)))
          (broadcastInDim S2048 ![] bcast_S_S2048 (constant (F := Ideal) S_ FTy.f32 1056964608#32))
          (broadcastInDim S2048 ![] bcast_S_S2048 (constant (F := Ideal) S_ FTy.f32 1065353216#32)))))) bitsLt_bf16_f32 := by
  unfold V; simp only [hostOps0, hostOps0_1, hostOps0_2, List.flatten_cons, List.flatten_nil, List.append_nil, List.cons_append, List.nil_append]; after_results_simp; rfl

theorem V26 : V m c main_v26 = shapeCast S4x1024 (m ((c : Thread nD τ).loc main_arg4)) shapeCasts_S1x4x1024_S4x1024 := by
  unfold V; simp only [hostOps0, hostOps0_1, hostOps0_2, List.flatten_cons, List.flatten_nil, List.append_nil, List.cons_append, List.nil_append]; after_results_simp; rfl

theorem V28 : V m c main_v28 = shapeCast S1x1024 (shapeCast S1024 (m ((c : Thread nD τ).loc main_arg5)) shapeCasts_S1x1024_S1024) shapeCasts_S1024_S1x1024 := by
  unfold V; simp only [hostOps0, hostOps0_1, hostOps0_2, List.flatten_cons, List.flatten_nil, List.append_nil, List.cons_append, List.nil_append]; after_results_simp; rfl

theorem V6 : V m c main_v6 = truncf (F := Ideal) FTy.bf16 (mulf (broadcastInDim S4x256x512 ![] bcast_S_S4x256x512 (constant (F := Ideal) S_ FTy.f32 1056964608#32))
    (concatenate S4x256x512 2 [⟨S4x256x256, shapeCast S4x256x256 (m ((c : Thread nD τ).loc main_arg6)) shapeCasts_S1x4x256x256_S4x256x256⟩,
      ⟨S4x256x256, shapeCast S4x256x256 (m ((c : Thread nD τ).loc main_arg8)) shapeCasts_S1x4x256x256_S4x256x256⟩] concatenates_S4x256x256_S4x256x256_S4x256x512_d2)) bitsLt_bf16_f32 := by
  unfold V; simp only [hostOps0, hostOps0_1, hostOps0_2, List.flatten_cons, List.flatten_nil, List.append_nil, List.cons_append, List.nil_append]; after_results_simp; rfl

theorem V13 : V m c main_v13 = mulf (broadcastInDim S2x1024 ![] bcast_S_S2x1024 (constant (F := Ideal) S_ FTy.f32 1056964608#32))
    (concatenate S2x1024 0 [⟨S1x1024, broadcastInDim S1x1024 ![1] bcast_S1024_S1x1024_1 (shapeCast S1024 (m ((c : Thread nD τ).loc main_arg7)) shapeCasts_S1x1024_S1024)⟩,
      ⟨S1x1024, broadcastInDim S1x1024 ![1] bcast_S1024_S1x1024_1 (shapeCast S1024 (m ((c : Thread nD τ).loc main_arg9)) shapeCasts_S1x1024_S1024)⟩] concatenates_S1x1024_S1x1024_S2x1024_d0) := by
  unfold V; simp only [hostOps0, hostOps0_1, hostOps0_2, List.flatten_cons, List.flatten_nil, List.append_nil, List.cons_append, List.nil_append]; after_results_simp; rfl

theorem V30 : V m c main_v30 = shapeCast S1x1024 (shapeCast S1024 (m ((c : Thread nD τ).loc main_arg10)) shapeCasts_S1x1024_S1024) shapeCasts_S1024_S1x1024 := by
  unfold V; simp only [hostOps0, hostOps0_1, hostOps0_2, List.flatten_cons, List.flatten_nil, List.append_nil, List.cons_append, List.nil_append]; after_results_simp; rfl

theorem V32 : V m c main_v32 = truncf (F := Ideal) FTy.bf16 (shapeCast S1024x1024 (m ((c : Thread nD τ).loc main_arg11)) shapeCasts_S1x1024x1024_S1024x1024) bitsLt_bf16_f32 := by
  unfold V; simp only [hostOps0, hostOps0_1, hostOps0_2, List.flatten_cons, List.flatten_nil, List.append_nil, List.cons_append, List.nil_append]; after_results_simp; rfl

/-! ## Where the windows' blocks lie -/

theorem e0 : ∀ t : Fin cfg0.N, win0_0.index t = ![t.val / 32, t.val % 32, 0] := (by decide +kernel : ∀ t : Fin grid0.N, _)
theorem e1 : ∀ t : Fin cfg0.N, win0_1.index t = ![t.val / 32, t.val % 32, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val / 32, t.val % 32, 0] := (by decide +kernel : ∀ t : Fin grid0.N, _)

theorem lt64 (t : Fin cfg0.N) : t.val < 64 := t.isLt

/-! ## The host's rearrangements, of any contents -/

theorem places_apply (P : IVec S2x16384 32) (b : Fin 2) (s : Fin 16384) :
    shapeCast S2x16384x1 P shapeCasts_S2x16384_S2x16384x1 (ix3 b s 0) = P (ix2 b s) := by
  refine shapeCast_apply P _ _ _ ?_
  rw [Shape.rowMajor_val_three, Shape.rowMajor_val_two]
  show b.val * 16384 + s.val = (b.val * 16384 + s.val) * 1 + 0
  omega

theorem taps_apply (W : FVec Ideal S1x4x1024 .f32) (q : Fin 4) (k : Fin 1024) :
    shapeCast S4x1024 W shapeCasts_S1x4x1024_S4x1024 (ix2 q k) = W (ix3 0 q k) := by
  refine shapeCast_apply W _ _ _ ?_
  rw [Shape.rowMajor_val_three, Shape.rowMajor_val_two]
  show (0 * 4 + q.val) * 1024 + k.val = q.val * 1024 + k.val
  omega

/-- The two gates' weights, halved, side by side. -/
theorem gates_apply (A B : FVec Ideal S4x256x256 .f32) (h : Fin 4) (d : Fin 256) (k : Fin 512) :
    truncf (F := Ideal) FTy.bf16 (mulf (broadcastInDim S4x256x512 ![] bcast_S_S4x256x512 (constant (F := Ideal) S_ FTy.f32 1056964608#32))
      (concatenate S4x256x512 2 [⟨S4x256x256, A⟩, ⟨S4x256x256, B⟩] concatenates_S4x256x256_S4x256x256_S4x256x512_d2)) bitsLt_bf16_f32 (ix3 h d k)
      = half * (if hk : k.val < 256 then A (ix3 h d ⟨k.val, hk⟩) else B (ix3 h d ⟨k.val - 256, by omega⟩)) := by
  pointwise

/-- The two gates' biases, halved, one row each. -/
theorem biases_apply (a b : FVec Ideal S1x1024 .f32) (q : Fin 2) (k : Fin 1024) :
    mulf (broadcastInDim S2x1024 ![] bcast_S_S2x1024 (constant (F := Ideal) S_ FTy.f32 1056964608#32))
      (concatenate S2x1024 0 [⟨S1x1024, broadcastInDim S1x1024 ![1] bcast_S1024_S1x1024_1 (shapeCast S1024 a shapeCasts_S1x1024_S1024)⟩,
        ⟨S1x1024, broadcastInDim S1x1024 ![1] bcast_S1024_S1x1024_1 (shapeCast S1024 b shapeCasts_S1x1024_S1024)⟩] concatenates_S1x1024_S1x1024_S2x1024_d0) (ix2 q k)
      = half * (if q = 0 then a (ix2 0 k) else b (ix2 0 k)) := by
  match q with
  | ⟨0, _⟩ => pointwise
  | ⟨1, _⟩ => pointwise

/-- The column scale: the gate half of the projection is halved. -/
theorem scale_apply (k : Fin 2048) :
    Scalar.select (IntOp.cmpi .slt (BitVec.ofNat 32 k.val) 1024#32) half (1 : EReal) = if k.val < 1024 then half else 1 := by
  have h : ∀ k : Fin 2048, IntOp.cmpi .slt (BitVec.ofNat 32 k.val) 1024#32 = if k.val < 1024 then 1#1 else 0#1 := by decide +kernel
  rw [h]
  by_cases hk : k.val < 1024
  · rw [if_pos hk, if_pos hk]; rfl
  · rw [if_neg hk, if_neg hk]; rfl

theorem blk0 (t : Fin cfg0.N) (r : Fin 512) (k : Fin 1024) :
    (iblk m c 0 t : Vec Ideal S1x512x1024 .f32) (ix3 0 r k)
      = m ((c : Thread nD τ).loc main_arg0) (ix3 ⟨t.val / 32, by have := lt64 t; omega⟩ ⟨512 * (t.val % 32) + r.val, by omega⟩ k) := by
  have h : (iblk m c 0 t : Vec Ideal S1x512x1024 .f32) (ix3 0 r k) = V m c main_arg0 (ix3 ⟨t.val / 32, by have := lt64 t; omega⟩ ⟨512 * (t.val % 32) + r.val, by omega⟩ k) := by
    blk_simp [iblk]
    refine congrArg (V m c main_arg0) ?_
    blk_ext [e0]
  rw [h, Vx]

theorem blk1 (t : Fin cfg0.N) (r : Fin 512) :
    (iblk m c 1 t : Vec Ideal S1x512x1 .i32) (ix3 0 r 0)
      = m ((c : Thread nD τ).loc main_arg1) (ix2 ⟨t.val / 32, by have := lt64 t; omega⟩ ⟨512 * (t.val % 32) + r.val, by omega⟩) := by
  have h : (iblk m c 1 t : Vec Ideal S1x512x1 .i32) (ix3 0 r 0) = V m c main_v0 (ix3 ⟨t.val / 32, by have := lt64 t; omega⟩ ⟨512 * (t.val % 32) + r.val, by omega⟩ 0) := by
    blk_simp [iblk]
    refine congrArg (V m c main_v0) ?_
    blk_ext [e1]
  rw [h, V0]
  exact places_apply _ _ _

theorem blk2 (t : Fin cfg0.N) (k : Fin 1024) :
    (iblk m c 2 t : Vec Ideal S1x1024 .f32) (ix2 0 k) = m ((c : Thread nD τ).loc main_arg2) (ix2 0 k) := by
  have h : (iblk m c 2 t : Vec Ideal S1x1024 .f32) (ix2 0 k) = V m c main_v20 (ix2 0 k) := by
    blk_simp [iblk]
    refine congrArg (V m c main_v20) ?_
    blk_ext [e2]
  rw [h, V20]
  pointwise

theorem wide_apply (W : FVec Ideal S1x1024x2048 .f32) (i : Fin 1024) (k : Fin 2048) :
    shapeCast S1024x2048 W shapeCasts_S1x1024x2048_S1024x2048 (ix2 i k) = W (ix3 0 i k) := by
  refine shapeCast_apply W _ _ _ ?_
  rw [Shape.rowMajor_val_three, Shape.rowMajor_val_two]
  show (0 * 1024 + i.val) * 2048 + k.val = i.val * 2048 + k.val
  omega

theorem square_apply (W : FVec Ideal S1x1024x1024 .f32) (i k : Fin 1024) :
    shapeCast S1024x1024 W shapeCasts_S1x1024x1024_S1024x1024 (ix2 i k) = W (ix3 0 i k) := by
  refine shapeCast_apply W _ _ _ ?_
  rw [Shape.rowMajor_val_three, Shape.rowMajor_val_two]
  show (0 * 1024 + i.val) * 1024 + k.val = i.val * 1024 + k.val
  omega

theorem heads_apply (W : FVec Ideal S1x4x256x256 .f32) (h : Fin 4) (d k : Fin 256) :
    shapeCast S4x256x256 W shapeCasts_S1x4x256x256_S4x256x256 (ix3 h d k) = W (ix4 0 h d k) := by
  refine shapeCast_apply W _ _ _ ?_
  rw [Shape.rowMajor_val_three, Shape.rowMajor_val_four]
  show ((0 * 4 + h.val) * 256 + d.val) * 256 + k.val = (h.val * 256 + d.val) * 256 + k.val
  omega

theorem blk3 (t : Fin cfg0.N) (i : Fin 1024) (k : Fin 2048) :
    (iblk m c 3 t : Vec Ideal S1024x2048 .bf16) (ix2 i k) = (pt m c).W i k * (if k.val < 1024 then half else (1 : EReal)) := by
  have h : (iblk m c 3 t : Vec Ideal S1024x2048 .bf16) (ix2 i k) = V m c main_v25 (ix2 i k) := by
    blk_simp [iblk]
    refine congrArg (V m c main_v25) ?_
    blk_ext [e3]
  rw [h, V25, ← scale_apply k]
  refine congrArg₂ (· * ·) (wide_apply _ i k) ?_
  pointwise

theorem blk4 (t : Fin cfg0.N) (q : Fin 4) (k : Fin 1024) :
    (iblk m c 4 t : Vec Ideal S4x1024 .f32) (ix2 q k) = m ((c : Thread nD τ).loc main_arg4) (ix3 0 q k) := by
  have h : (iblk m c 4 t : Vec Ideal S4x1024 .f32) (ix2 q k) = V m c main_v26 (ix2 q k) := by
    blk_simp [iblk]
    refine congrArg (V m c main_v26) ?_
    blk_ext [e4]
  rw [h, V26]
  exact taps_apply _ q k

theorem blk5 (t : Fin cfg0.N) (k : Fin 1024) :
    (iblk m c 5 t : Vec Ideal S1x1024 .f32) (ix2 0 k) = m ((c : Thread nD τ).loc main_arg5) (ix2 0 k) := by
  have h : (iblk m c 5 t : Vec Ideal S1x1024 .f32) (ix2 0 k) = V m c main_v28 (ix2 0 k) := by
    blk_simp [iblk]
    refine congrArg (V m c main_v28) ?_
    blk_ext [e5]
  rw [h, V28]
  pointwise

theorem blk6 (t : Fin cfg0.N) (h : Fin 4) (d : Fin 256) (k : Fin 512) :
    (iblk m c 6 t : Vec Ideal S4x256x512 .bf16) (ix3 h d k) = half * (if hk : k.val < 256 then m ((c : Thread nD τ).loc main_arg6) (ix4 0 h d ⟨k.val, hk⟩)
      else m ((c : Thread nD τ).loc main_arg8) (ix4 0 h d ⟨k.val - 256, by omega⟩)) := by
  have hh : (iblk m c 6 t : Vec Ideal S4x256x512 .bf16) (ix3 h d k) = V m c main_v6 (ix3 h d k) := by
    blk_simp [iblk]
    refine congrArg (V m c main_v6) ?_
    blk_ext [e6]
  rw [hh, V6]
  refine (gates_apply _ _ h d k).trans ?_
  by_cases hk : k.val < 256
  · rw [dif_pos hk, dif_pos hk]; exact congrArg (half * ·) (heads_apply _ h d _)
  · rw [dif_neg hk, dif_neg hk]; exact congrArg (half * ·) (heads_apply _ h d _)

theorem blk7 (t : Fin cfg0.N) (q : Fin 2) (k : Fin 1024) :
    (iblk m c 7 t : Vec Ideal S2x1024 .f32) (ix2 q k)
      = half * (if q = 0 then m ((c : Thread nD τ).loc main_arg7) (ix2 0 k) else m ((c : Thread nD τ).loc main_arg9) (ix2 0 k)) := by
  have h : (iblk m c 7 t : Vec Ideal S2x1024 .f32) (ix2 q k) = V m c main_v13 (ix2 q k) := by
    blk_simp [iblk]
    refine congrArg (V m c main_v13) ?_
    blk_ext [e7]
  rw [h, V13]
  exact biases_apply _ _ q k

theorem blk8 (t : Fin cfg0.N) (k : Fin 1024) :
    (iblk m c 8 t : Vec Ideal S1x1024 .f32) (ix2 0 k) = m ((c : Thread nD τ).loc main_arg10) (ix2 0 k) := by
  have h : (iblk m c 8 t : Vec Ideal S1x1024 .f32) (ix2 0 k) = V m c main_v30 (ix2 0 k) := by
    blk_simp [iblk]
    refine congrArg (V m c main_v30) ?_
    blk_ext [e8]
  rw [h, V30]
  pointwise

theorem blk9 (t : Fin cfg0.N) (i k : Fin 1024) :
    (iblk m c 9 t : Vec Ideal S1024x1024 .bf16) (ix2 i k) = m ((c : Thread nD τ).loc main_arg11) (ix3 0 i k) := by
  have h : (iblk m c 9 t : Vec Ideal S1024x1024 .bf16) (ix2 i k) = V m c main_v32 (ix2 i k) := by
    blk_simp [iblk]
    refine congrArg (V m c main_v32) ?_
    blk_ext [e9]
  rw [h, V32]
  exact square_apply _ i k

/-! ## The weights -/

theorem wt_blk (t : Fin cfg0.N) :
    wt (iblk m c 2 t) (iblk m c 3 t) (iblk m c 4 t) (iblk m c 5 t) (iblk m c 6 t) (iblk m c 7 t) (iblk m c 8 t) (iblk m c 9 t) = halved (pt m c) := by
  unfold wt halved
  simp only [blk3]
  unfold pt
  simp only [blk2, blk4, blk5, blk6, blk7, blk8, blk9]

end Cert.OddHost
-- ==== Proof.OddValue.lean ====
/-
  THE ARRAY THE RECURRENT MIXER'S CALL LEAVES BEHIND, row by row. Each of the two sequences is walked in 32 tiles; a tile
  takes the convolution's last rows and the state from the tile before, and the first tile starts both afresh.
-/
module

public import proofs.«01_k».proof.Proof.OddHost

@[expose] public section

noncomputable section

namespace Cert.OddValue

open Idealize.ShloMosaic Idealize.ShloMosaic.TcCoe Idealize.SL.Sem Cert.OddIdeal Cert.OddIdeal.Gen Cert.Rows Cert.OddScan Cert.OddRow Cert.OddBlock Cert.OddTile Cert.OddPlain Cert.OddHost
open Idealize.ShloMosaic.Pipeline (Dat)
open scoped BigOperators

variable (m : (ℓ : Loc nD τ sig) → Buf (Elt Ideal) ℓ) (c : Dev nD)

/-- The rows and the positions of sequence `b`. -/
def seqX (b s : ℕ) (k : Fin 1024) : EReal :=
  m ((c : Thread nD τ).loc main_arg0) (ix3 ⟨b % 2, by omega⟩ ⟨s % 16384, by omega⟩ k)
def seqZ (b s : ℕ) : BitVec 32 :=
  m ((c : Thread nD τ).loc main_arg1) (ix2 ⟨b % 2, by omega⟩ ⟨s % 16384, by omega⟩)

theorem x_blk (t : Fin cfg0.N) (r : Fin 512) (k : Fin 1024) :
    (iblk m c 0 t : Vec Ideal S1x512x1024 .f32) (ix3 0 r k) = seqX m c (t.val / 32) (512 * (t.val % 32) + r.val) k := by
  have ht := lt64 t
  have hb : t.val / 32 % 2 = t.val / 32 := by omega
  have hs : (512 * (t.val % 32) + r.val) % 16384 = 512 * (t.val % 32) + r.val := by omega
  rw [blk0]
  unfold seqX
  simp only [hb, hs]

theorem z_blk (t : Fin cfg0.N) (r : Fin 512) :
    (iblk m c 1 t : Vec Ideal S1x512x1 .i32) (ix3 0 r 0) = seqZ m c (t.val / 32) (512 * (t.val % 32) + r.val) := by
  have ht := lt64 t
  have hb : t.val / 32 % 2 = t.val / 32 := by omega
  have hs : (512 * (t.val % 32) + r.val) % 16384 = 512 * (t.val % 32) + r.val := by omega
  rw [blk1]
  unfold seqZ
  simp only [hb, hs]

/-- Every multiplier of every recurrence is a nonnegative number, not `⊤`. -/
def Tame : Prop := ∀ b j s, Fine (aRow (halved (pt m c)) (seqX m c b) (seqZ m c b) j s)

/-- What point `t` leaves for the next. -/
structure Left (t : Fin cfg0.N) : Prop where
  ext : ∀ (n : Fin 520) (j : Fin 1024), n.val < 8 → ((outsAt0 m c t.val t.isLt).2.1 : Vec Ideal S520x1024 .f32) (ix2 n j)
    = ent (halved (pt m c)) (seqX m c (t.val / 32)) (512 * (t.val % 32) + 512 + n.val) j
  state : ∀ (q : Fin 8) (j : Fin 1024), ((outsAt0 m c t.val t.isLt).2.2 : Vec Ideal S8x1024 .f32) (ix2 q j)
    = state (halved (pt m c)) (seqX m c (t.val / 32)) (seqZ m c (t.val / 32)) j (512 * (t.val % 32) + 512)

/-- What point `t` writes. -/
def Wrote (t : Fin cfg0.N) : Prop := ∀ (r : Fin 512) (l : Fin 1024), ((outsAt0 m c t.val t.isLt).1 : Vec Ideal S1x512x1024 .f32) (ix3 0 r l)
  = outRow (halved (pt m c)) cubic linear (seqX m c (t.val / 32)) (seqZ m c (t.val / 32)) (512 * (t.val % 32) + r.val) l

variable (hf : Tame m c)
include hf

/-- A sequence's first point. -/
theorem first (t : Fin cfg0.N) (h0 : t.val % 32 = 0) : Left m c t ∧ Wrote m c t := by
  have hx : ∀ (r : Fin 512) k, (iblk m c 0 t : Vec Ideal S1x512x1024 .f32) (ix3 0 r k) = seqX m c (t.val / 32) (0 + r.val) k := fun r k =>
    (x_blk m c t r k).trans (by rw [h0])
  have hz : ∀ r : Fin 512, (iblk m c 1 t : Vec Ideal S1x512x1 .i32) (ix3 0 r 0) = seqZ m c (t.val / 32) (0 + r.val) := fun r =>
    (z_blk m c t r).trans (by rw [h0])
  have hw := wt_blk m c t
  have hf' : ∀ j s, Fine (aRow (wt (iblk m c 2 t) (iblk m c 3 t) (iblk m c 4 t) (iblk m c 5 t) (iblk m c 6 t) (iblk m c 7 t) (iblk m c 8 t) (iblk m c 9 t)) (seqX m c (t.val / 32)) (seqZ m c (t.val / 32)) j s) := fun j s => by
    rw [hw]; exact hf _ j s
  have e : 512 * (t.val % 32) + 512 = 0 + 512 := by omega
  refine ⟨⟨fun n j hn => ?_, fun q j => ?_⟩, fun r l => ?_⟩
  · rw [outsAt0_A m c t h0, e, ← hw]; dsimp only
    exact first_ext_read _ _ _ _ _ _ _ _ _ _ _ _ _ _ _ _ _ _ _ _ _ _ _ _ _ _ _ _ _ _ _ _ _ _ _ _ _ _ _ hx n hn j
  · rw [outsAt0_A m c t h0, e, ← hw]; dsimp only
    exact first_state_read _ _ _ _ _ _ _ _ _ _ _ _ _ _ _ _ _ _ _ _ _ _ _ _ _ _ _ _ _ _ _ _ _ _ _ _ _ _ _ hx hz hf' q j
  · rw [outsAt0_A m c t h0, show 512 * (t.val % 32) + r.val = 0 + r.val by omega, ← hw]; dsimp only
    exact first_out_read _ _ _ _ _ _ _ _ _ _ _ _ _ _ _ _ _ _ _ _ _ _ _ _ _ _ _ _ _ _ _ _ _ _ _ _ _ _ _ hx hz hf' r l

/-- A later point, of what the one before left. -/
theorem next (t : Fin cfg0.N) (h0 : ¬ t.val % 32 = 0)
    (he : ∀ (n : Fin 520) (j : Fin 1024), n.val < 8 → ((outsAt0 m c (t.val - 1) (lt_of_le_of_lt (Nat.sub_le _ _) t.isLt)).2.1 : Vec Ideal S520x1024 .f32) (ix2 n j)
      = ent (halved (pt m c)) (seqX m c (t.val / 32)) (512 * (t.val % 32) + n.val) j)
    (hs : ∀ (q : Fin 8) (j : Fin 1024), ((outsAt0 m c (t.val - 1) (lt_of_le_of_lt (Nat.sub_le _ _) t.isLt)).2.2 : Vec Ideal S8x1024 .f32) (ix2 q j)
      = state (halved (pt m c)) (seqX m c (t.val / 32)) (seqZ m c (t.val / 32)) j (512 * (t.val % 32))) : Left m c t ∧ Wrote m c t := by
  have hx := x_blk m c t
  have hz := z_blk m c t
  have hw := wt_blk m c t
  have hf' : ∀ j s, Fine (aRow (wt (iblk m c 2 t) (iblk m c 3 t) (iblk m c 4 t) (iblk m c 5 t) (iblk m c 6 t) (iblk m c 7 t) (iblk m c 8 t) (iblk m c 9 t)) (seqX m c (t.val / 32)) (seqZ m c (t.val / 32)) j s) := fun j s => by
    rw [hw]; exact hf _ j s
  rw [← hw] at he hs
  refine ⟨⟨fun n j hn => ?_, fun q j => ?_⟩, fun r l => ?_⟩
  · rw [outsAt0_B m c t h0, ← hw]; dsimp only
    exact next_ext_read _ _ _ _ _ _ _ _ _ _ _ _ _ _ _ _ _ _ _ _ _ _ _ _ _ _ _ _ _ _ _ _ _ _ _ _ _ _ _ _ _ hx he hs n hn j
  · rw [outsAt0_B m c t h0, ← hw]; dsimp only
    exact next_state_read _ _ _ _ _ _ _ _ _ _ _ _ _ _ _ _ _ _ _ _ _ _ _ _ _ _ _ _ _ _ _ _ _ _ _ _ _ _ _ _ _ hx hz hf' he hs q j
  · rw [outsAt0_B m c t h0, ← hw]; dsimp only
    exact next_out_read _ _ _ _ _ _ _ _ _ _ _ _ _ _ _ _ _ _ _ _ _ _ _ _ _ _ _ _ _ _ _ _ _ _ _ _ _ _ _ _ _ hx hz hf' he hs r l

/-- Every point. -/
theorem point : ∀ (n : ℕ) (h : n < cfg0.N), Left m c ⟨n, h⟩ ∧ Wrote m c ⟨n, h⟩
  | 0, h => first m c hf ⟨0, h⟩ rfl
  | n + 1, h => by
    by_cases h0 : (n + 1) % 32 = 0
    · exact first m c hf ⟨n + 1, h⟩ h0
    · have ih := (point n (by omega)).1
      have hd : n / 32 = (n + 1) / 32 := by omega
      have hm : 512 * (n % 32) + 512 = 512 * ((n + 1) % 32) := by omega
      refine next m c hf ⟨n + 1, h⟩ h0 (fun k j hk => ?_) (fun q j => ?_)
      · refine (ih.ext k j hk).trans ?_
        show ent _ (seqX m c (n / 32)) (512 * (n % 32) + 512 + k.val) j = ent _ (seqX m c ((n + 1) / 32)) (512 * ((n + 1) % 32) + k.val) j
        rw [hd, hm]
      · refine (ih.state q j).trans ?_
        show state _ (seqX m c (n / 32)) (seqZ m c (n / 32)) j (512 * (n % 32) + 512) = state _ (seqX m c ((n + 1) / 32)) (seqZ m c ((n + 1) / 32)) j (512 * ((n + 1) % 32))
        rw [hd, hm]

omit hf in
/-- The result array. -/
def G : (⟨3, ![2, 16384, 1024]⟩ : Shape).Idx → EReal := fun i =>
  outRow (halved (pt m c)) cubic linear (seqX m c (i 0).val) (seqZ m c (i 0).val) (i 1).val (i 2)

/-- The array after the call. -/
theorem final : (dats (F := Ideal) m 0 c).arrAt 10 cfg0.N = G m c := by
  refine (dats m 0 c).arrAt_eq_of_covers 10 _ (by decide +kernel) fun t hc y => ?_
  have hp := (point m c hf t.val t.isLt).2
  have ht := lt64 t
  blk_simp
  rw [after0_10]
  obtain ⟨r, l, rfl⟩ : ∃ (r : Fin 512) (l : Fin 1024), y = ix3 0 r l := ⟨y 1, y 2, by
    funext a
    match a with
    | ⟨0, _⟩ => exact Fin.ext (by have h : (y 0).val < 1 := (y 0).isLt; show (y 0).val = 0; omega)
    | ⟨1, _⟩ => rfl
    | ⟨2, _⟩ => rfl⟩
  refine (hp r l).trans ?_
  refine congrArg (G m c) (?_ : (ix3 ⟨t.val / 32, by omega⟩ ⟨512 * (t.val % 32) + r.val, by omega⟩ l : (⟨3, ![2, 16384, 1024]⟩ : Shape).Idx) = _)
  blk_ext [e10]

end Cert.OddValue
-- ==== Proof.OddSpec.lean ====
/-
  THE RECURRENT MIXER ROW BY ROW AS THE REFERENCE STATES IT, over the weights as the arguments hold them. `outRow` is the
  row of the reference's result.
-/
module

public import proofs.«01_k».proof.Proof.OddPlain

@[expose] public section

noncomputable section

namespace Cert.OddSpec

open Idealize.ShloMosaic Cert.Rows Cert.OddScan Cert.OddPlain
open scoped BigOperators

variable (p : Pt)

/-- The halves of a row's projection: the gate, and what the convolution reads. -/
def gRow (x : Fin 1024 → EReal) (j : Fin 1024) : EReal := mv (rms x p.wn) p.W ⟨j.val, by omega⟩
def xbRow (x : Fin 1024 → EReal) (j : Fin 1024) : EReal := mv (rms x p.wn) p.W ⟨1024 + j.val, by omega⟩

/-- The convolution's rows, three zero rows before the sequence's first. -/
def pad (X : ℕ → Fin 1024 → EReal) (n : ℕ) (j : Fin 1024) : EReal := if n < 3 then 0 else xbRow p (X (n - 3)) j

/-- The causal convolution at place `s`. -/
def conv (X : ℕ → Fin 1024 → EReal) (s : ℕ) (j : Fin 1024) : EReal :=
  0 + p.cw 0 j * pad p X s j + p.cw 1 j * pad p X (s + 1) j + p.cw 2 j * pad p X (s + 2) j + p.cw 3 j * pad p X (s + 3) j + p.cb j

/-- The product of a head's columns of `c` with its weights `g`. -/
def side (g : Fin 4 → Fin 256 → Fin 256 → EReal) (c : Fin 1024 → EReal) (j : Fin 1024) : EReal :=
  ∑ d : Fin 256, g (headOf j) d (placeOf j) * c (col (headOf j) d)

/-- The softplus. -/
def soft (x : EReal) : EReal :=
  max x 0 + Ideal.log1p (Ideal.exp (-FloatOps.absf (F := Ideal) (φ := .f32) (x - 0)))

/-- The logarithm of the decay, and the input gate, of the convolution's row. -/
def logRow (c : Fin 1024 → EReal) (j : Fin 1024) : EReal :=
  Ideal.ofBits .f32 0xC1000000#32 * Ideal.logistic (side p.Gr c j + p.br j) * soft (-p.lam j)
def inRow (c : Fin 1024 → EReal) (j : Fin 1024) : EReal := Ideal.logistic (side p.Gi c j + p.bi j)

/-- The input's factor, of the decay's logarithm. -/
def mult (L : EReal) : EReal := Ideal.sqrt (max (-(Ideal.exp (Ideal.ofBits .f32 0x40000000#32 * L) - 1)) 0)

/-- The recurrence's multiplier and addend at a place, the state reset where the position is zero. -/
def aRow (X : ℕ → Fin 1024 → EReal) (Z : ℕ → BitVec 32) (j : Fin 1024) (s : ℕ) : EReal :=
  Scalar.select (IntOp.cmpi .eq (Z s) 0#32) 0 (Ideal.exp (logRow p (conv p X s) j))
def bRow (X : ℕ → Fin 1024 → EReal) (Z : ℕ → BitVec 32) (j : Fin 1024) (s : ℕ) : EReal :=
  Scalar.select (IntOp.cmpi .eq (Z s) 0#32) 1 (mult (logRow p (conv p X s) j)) * (inRow p (conv p X s) j * conv p X s j)

/-- The state after the first `n` places. -/
def state (X : ℕ → Fin 1024 → EReal) (Z : ℕ → BitVec 32) (j : Fin 1024) (n : ℕ) : EReal := walk (aRow p X Z j) (bRow p X Z j) 0 n

/-- The gelu, with its constants' words. -/
def gelu (g : EReal) : EReal :=
  g * (half * (1 + Ideal.tanh (Ideal.ofBits .f32 0x3F4C422A#32 * (g + Ideal.ofBits .f32 0x3D372713#32 * (g * g * g)))))

/-- The row of the result at place `s`. -/
def outRow (X : ℕ → Fin 1024 → EReal) (Z : ℕ → BitVec 32) (s : ℕ) (l : Fin 1024) : EReal :=
  X s l + ∑ j : Fin 1024, gelu (gRow p (X s) j) * state p X Z j (s + 1) * p.wo j l

end Cert.OddSpec
-- ==== Proof.OddEntry.lean ====
module

public import proofs.«01_k».proof.Proof.OddSpec
public import proofs.«01_k».proof.Proof.Gen.OddRefIdeal.Run

/-!
  The arrays the reference's recurrence starts from, as far as they are read again, each of the earlier ones.
-/

@[expose] public section

noncomputable section

namespace Cert.OddEntry

open Idealize.ShloMosaic Idealize.ShloMosaic.TcCoe Idealize.SL.Sem Cert.OddRefIdeal Cert.OddRefIdeal.Gen Cert.OddRefIdeal.Value Cert.Rows
open Idealize.ShloMosaic.StableHlo

variable (m : (ℓ : Loc nD τ sig) → Buf (Elt Ideal) ℓ) (c : Dev nD)

/-! ## The arguments -/

def a0 : FVec Ideal S2x16384x1024 .f32 := m ((c : Thread nD τ).loc main_arg0)
def a1 : IVec S2x16384 32 := m ((c : Thread nD τ).loc main_arg1)
def a2 : FVec Ideal S1x1024 .f32 := m ((c : Thread nD τ).loc main_arg2)
def a3 : FVec Ideal S1x1024x2048 .f32 := m ((c : Thread nD τ).loc main_arg3)
def a4 : FVec Ideal S1x4x1024 .f32 := m ((c : Thread nD τ).loc main_arg4)
def a5 : FVec Ideal S1x1024 .f32 := m ((c : Thread nD τ).loc main_arg5)
def a6 : FVec Ideal S1x4x256x256 .f32 := m ((c : Thread nD τ).loc main_arg6)
def a7 : FVec Ideal S1x1024 .f32 := m ((c : Thread nD τ).loc main_arg7)
def a8 : FVec Ideal S1x4x256x256 .f32 := m ((c : Thread nD τ).loc main_arg8)
def a9 : FVec Ideal S1x1024 .f32 := m ((c : Thread nD τ).loc main_arg9)
def a10 : FVec Ideal S1x1024 .f32 := m ((c : Thread nD τ).loc main_arg10)
def a11 : FVec Ideal S1x1024x1024 .f32 := m ((c : Thread nD τ).loc main_arg11)

/-! ## The arrays -/

def v2 : IVec S2x16384x1 1 := entryContents preI m c (Proc.devRef .tc main_v2)
def v19 : FVec Ideal S2x16384x1024 .f32 := entryContents preI m c (Proc.devRef .tc main_v19)
def v21 : FVec Ideal S2x16387x1024 .f32 := entryContents preI m c (Proc.devRef .tc main_v21)
def v29 : FVec Ideal S2x16384x1024 .f32 := entryContents preI m c (Proc.devRef .tc main_v29)
def v36 : FVec Ideal S2x16384x1024 .f32 := entryContents preI m c (Proc.devRef .tc main_v36)
def v43 : FVec Ideal S2x16384x1024 .f32 := entryContents preI m c (Proc.devRef .tc main_v43)
def v54 : FVec Ideal S2x16384x1024 .f32 := entryContents preI m c (Proc.devRef .tc main_v54)
def v63 : FVec Ideal S2x16384x1024 .f32 := entryContents preI m c (Proc.devRef .tc main_v63)
def v69 : FVec Ideal S2x16384x1024 .f32 := entryContents preI m c (Proc.devRef .tc main_v69)
def v77 : FVec Ideal S2x16384x1024 .f32 := entryContents preI m c (Proc.devRef .tc main_v77)
def v83 : FVec Ideal S2x16384x1024 .f32 := entryContents preI m c (Proc.devRef .tc main_v83)
def v88 : FVec Ideal S1024 .f32 := entryContents preI m c (Proc.devRef .tc main_v88)
def v91 : FVec Ideal S2x16384x1024 .f32 := entryContents preI m c (Proc.devRef .tc main_v91)
def v99 : FVec Ideal S2x16384x1024 .f32 := entryContents preI m c (Proc.devRef .tc main_v99)
def v100 : FVec Ideal S2x16384x1024 .f32 := entryContents preI m c (Proc.devRef .tc main_v100)
def v101 : FVec Ideal S2x16384x1024 .f32 := entryContents preI m c (Proc.devRef .tc main_v101)
def v103 : FVec Ideal S2x16384x1024 .f32 := entryContents preI m c (Proc.devRef .tc main_v103)
def t0 : FVec Ideal S16384x2x1024 .f32 := entryContents preI m c (Proc.devRef .tc main_v108_0)
def t1 : FVec Ideal S16384x2x1024 .f32 := entryContents preI m c (Proc.devRef .tc main_v108_1)
def t3 : FVec Ideal S2x1024 .f32 := entryContents preI m c (Proc.devRef .tc main_v108_3)

/-! ## Each of the earlier -/

set_option maxRecDepth 8192 in
theorem v2_eq : v2 m c = broadcastInDim S2x16384x1 ![0, 1] bcast_S2x16384_S2x16384x1_0_1 (cmpi .eq (a1 m c) (broadcastInDim S2x16384 ![] bcast_S_S2x16384 (constantI S_ 32 0#32))) := by
  unfold v2
  simp only [entryContents, afterL_cons, afterL_nil]
  after_reads_simp <;> rfl

set_option maxRecDepth 8192 in
theorem v19_eq : v19 m c = Host.dotGeneral (φ₁ := .f32) (φ₂ := .f32) dot_S2x16384x1024_S1024x1024_S2x16384x1024_2_0_01_1_n_n none (mulf (mulf (a0 m c) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (a0 m c) (a0 m c)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast S1024 (a2 m c) shapeCasts_S1x1024_S1024)))) (shapeCast S1024x1024 (extractStridedSlice S1x1024x1024 ![0, 0, 1024] (a3 m c) slices_S1x1024x2048_S1x1024x1024_0_0_1024) shapeCasts_S1x1024x1024_S1024x1024) := by
  unfold v19
  simp only [entryContents, afterL_cons, afterL_nil]
  after_reads_simp <;> rfl

set_option maxRecDepth 8192 in
theorem v21_eq : v21 m c = concatenate S2x16387x1024 1 [⟨S2x3x1024, broadcastInDim S2x3x1024 ![] bcast_S_S2x3x1024 (constant (F := Ideal) S_ .f32 0x00000000#32)⟩, ⟨S2x16384x1024, v19 m c⟩] concatenates_S2x3x1024_S2x16384x1024_S2x16387x1024_d1 := by
  unfold v21 v19
  simp only [entryContents, afterL_cons, afterL_nil]
  after_reads_simp <;> rfl

set_option maxRecDepth 8192 in
theorem v29_eq : v29 m c = addf (broadcastInDim S2x16384x1024 ![] bcast_S_S2x16384x1024 (constant S_ .f32 0x00000000#32)) (mulf (broadcastInDim S2x16384x1024 ![0, 1, 2] bcast_S1x1x1024_S2x16384x1024_0_1_2 (broadcastInDim S1x1x1024 ![2] bcast_S1024_S1x1x1024_2 (shapeCast S1024 (extractStridedSlice S1x1x1024 ![0, 0, 0] (a4 m c) slices_S1x4x1024_S1x1x1024_0_0_0) shapeCasts_S1x1x1024_S1024))) (extractStridedSlice S2x16384x1024 ![0, 0, 0] (v21 m c) slices_S2x16387x1024_S2x16384x1024_0_0_0)) := by
  unfold v29 v21
  simp only [entryContents, afterL_cons, afterL_nil]
  after_reads_simp <;> rfl

set_option maxRecDepth 8192 in
theorem v36_eq : v36 m c = addf (v29 m c) (mulf (broadcastInDim S2x16384x1024 ![0, 1, 2] bcast_S1x1x1024_S2x16384x1024_0_1_2 (broadcastInDim S1x1x1024 ![2] bcast_S1024_S1x1x1024_2 (shapeCast S1024 (extractStridedSlice S1x1x1024 ![0, 1, 0] (a4 m c) slices_S1x4x1024_S1x1x1024_0_1_0) shapeCasts_S1x1x1024_S1024))) (extractStridedSlice S2x16384x1024 ![0, 1, 0] (v21 m c) slices_S2x16387x1024_S2x16384x1024_0_1_0)) := by
  unfold v36 v29 v21
  simp only [entryContents, afterL_cons, afterL_nil]
  after_reads_simp <;> rfl

set_option maxRecDepth 8192 in
theorem v43_eq : v43 m c = addf (v36 m c) (mulf (broadcastInDim S2x16384x1024 ![0, 1, 2] bcast_S1x1x1024_S2x16384x1024_0_1_2 (broadcastInDim S1x1x1024 ![2] bcast_S1024_S1x1x1024_2 (shapeCast S1024 (extractStridedSlice S1x1x1024 ![0, 2, 0] (a4 m c) slices_S1x4x1024_S1x1x1024_0_2_0) shapeCasts_S1x1x1024_S1024))) (extractStridedSlice S2x16384x1024 ![0, 2, 0] (v21 m c) slices_S2x16387x1024_S2x16384x1024_0_2_0)) := by
  unfold v43 v36 v21
  simp only [entryContents, afterL_cons, afterL_nil]
  after_reads_simp <;> rfl

set_option maxRecDepth 8192 in
theorem v54_eq : v54 m c = addf (addf (v43 m c) (mulf (broadcastInDim S2x16384x1024 ![0, 1, 2] bcast_S1x1x1024_S2x16384x1024_0_1_2 (broadcastInDim S1x1x1024 ![2] bcast_S1024_S1x1x1024_2 (shapeCast S1024 (extractStridedSlice S1x1x1024 ![0, 3, 0] (a4 m c) slices_S1x4x1024_S1x1x1024_0_3_0) shapeCasts_S1x1x1024_S1024))) (extractStridedSlice S2x16384x1024 ![0, 3, 0] (v21 m c) slices_S2x16387x1024_S2x16384x1024_0_3_0))) (broadcastInDim S2x16384x1024 ![0, 1, 2] bcast_S1x1x1024_S2x16384x1024_0_1_2 (broadcastInDim S1x1x1024 ![2] bcast_S1024_S1x1x1024_2 (shapeCast S1024 (a5 m c) shapeCasts_S1x1024_S1024))) := by
  unfold v54 v43 v21
  simp only [entryContents, afterL_cons, afterL_nil]
  after_reads_simp <;> rfl

set_option maxRecDepth 8192 in
theorem v63_eq : v63 m c = addf (shapeCast S2x16384x1024 (transpose S2x16384x4x256 [2, 3, 0, 1] (Host.dotGeneral (φ₁ := .f32) (φ₂ := .f32) dot_S4x256x256_S2x16384x4x256_S4x256x2x16384_1_3_2_01_0_2 none (shapeCast S4x256x256 (a6 m c) shapeCasts_S1x4x256x256_S4x256x256) (shapeCast S2x16384x4x256 (v54 m c) shapeCasts_S2x16384x1024_S2x16384x4x256)) transposes_S4x256x2x16384_S2x16384x4x256_2_3_0_1) shapeCasts_S2x16384x4x256_S2x16384x1024) (broadcastInDim S2x16384x1024 ![0, 1, 2] bcast_S1x1x1024_S2x16384x1024_0_1_2 (broadcastInDim S1x1x1024 ![2] bcast_S1024_S1x1x1024_2 (shapeCast S1024 (a7 m c) shapeCasts_S1x1024_S1024))) := by
  unfold v63 v54
  simp only [entryContents, afterL_cons, afterL_nil]
  after_reads_simp <;> rfl

set_option maxRecDepth 8192 in
theorem v69_eq : v69 m c = Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf (v63 m c)))) := by
  unfold v69 v63
  simp only [entryContents, afterL_cons, afterL_nil]
  after_reads_simp <;> rfl

set_option maxRecDepth 8192 in
theorem v77_eq : v77 m c = addf (shapeCast S2x16384x1024 (transpose S2x16384x4x256 [2, 3, 0, 1] (Host.dotGeneral (φ₁ := .f32) (φ₂ := .f32) dot_S4x256x256_S2x16384x4x256_S4x256x2x16384_1_3_2_01_0_2 none (shapeCast S4x256x256 (a8 m c) shapeCasts_S1x4x256x256_S4x256x256) (shapeCast S2x16384x4x256 (v54 m c) shapeCasts_S2x16384x1024_S2x16384x4x256)) transposes_S4x256x2x16384_S2x16384x4x256_2_3_0_1) shapeCasts_S2x16384x4x256_S2x16384x1024) (broadcastInDim S2x16384x1024 ![0, 1, 2] bcast_S1x1x1024_S2x16384x1024_0_1_2 (broadcastInDim S1x1x1024 ![2] bcast_S1024_S1x1x1024_2 (shapeCast S1024 (a9 m c) shapeCasts_S1x1024_S1024))) := by
  unfold v77 v54
  simp only [entryContents, afterL_cons, afterL_nil]
  after_reads_simp <;> rfl

set_option maxRecDepth 8192 in
theorem v83_eq : v83 m c = Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf (v77 m c)))) := by
  unfold v83 v77
  simp only [entryContents, afterL_cons, afterL_nil]
  after_reads_simp <;> rfl

set_option maxRecDepth 8192 in
theorem v88_eq : v88 m c = select (cmpf .une (subf (Host.negf (shapeCast S1024 (a10 m c) shapeCasts_S1x1024_S1024)) (broadcastInDim S1024 ![] bcast_S_S1024 (constant S_ .f32 0x00000000#32))) (subf (Host.negf (shapeCast S1024 (a10 m c) shapeCasts_S1x1024_S1024)) (broadcastInDim S1024 ![] bcast_S_S1024 (constant S_ .f32 0x00000000#32)))) (addf (Host.negf (shapeCast S1024 (a10 m c) shapeCasts_S1x1024_S1024)) (broadcastInDim S1024 ![] bcast_S_S1024 (constant S_ .f32 0x00000000#32))) (addf (maximumf (Host.negf (shapeCast S1024 (a10 m c) shapeCasts_S1x1024_S1024)) (broadcastInDim S1024 ![] bcast_S_S1024 (constant S_ .f32 0x00000000#32))) (Host.log1p (Host.exp (Host.negf (Host.absf (subf (Host.negf (shapeCast S1024 (a10 m c) shapeCasts_S1x1024_S1024)) (broadcastInDim S1024 ![] bcast_S_S1024 (constant S_ .f32 0x00000000#32)))))))) := by
  unfold v88
  simp only [entryContents, afterL_cons, afterL_nil]
  after_reads_simp <;> rfl

set_option maxRecDepth 8192 in
theorem v91_eq : v91 m c = mulf (mulf (broadcastInDim S2x16384x1024 ![] bcast_S_S2x16384x1024 (constant S_ .f32 0xC1000000#32)) (v69 m c)) (broadcastInDim S2x16384x1024 ![0, 1, 2] bcast_S1x1x1024_S2x16384x1024_0_1_2 (broadcastInDim S1x1x1024 ![2] bcast_S1024_S1x1x1024_2 (v88 m c))) := by
  unfold v91 v69 v88
  simp only [entryContents, afterL_cons, afterL_nil]
  after_reads_simp <;> rfl

set_option maxRecDepth 8192 in
theorem v99_eq : v99 m c = Host.sqrt (maximumf (Host.negf (Host.expm1 (mulf (broadcastInDim S2x16384x1024 ![] bcast_S_S2x16384x1024 (constant S_ .f32 0x40000000#32)) (v91 m c)))) (broadcastInDim S2x16384x1024 ![] bcast_S_S2x16384x1024 (constant S_ .f32 0x00000000#32))) := by
  unfold v99 v91
  simp only [entryContents, afterL_cons, afterL_nil]
  after_reads_simp <;> rfl

set_option maxRecDepth 8192 in
theorem v100_eq : v100 m c = select (broadcastInDim S2x16384x1024 ![0, 1, 2] bcast_S2x16384x1_S2x16384x1024_0_1_2 (v2 m c)) (broadcastInDim S2x16384x1024 ![] bcast_S_S2x16384x1024 (constant S_ .f32 0x00000000#32)) (Host.exp (v91 m c)) := by
  unfold v100 v2 v91
  simp only [entryContents, afterL_cons, afterL_nil]
  after_reads_simp <;> rfl

set_option maxRecDepth 8192 in
theorem v101_eq : v101 m c = select (broadcastInDim S2x16384x1024 ![0, 1, 2] bcast_S2x16384x1_S2x16384x1024_0_1_2 (v2 m c)) (broadcastInDim S2x16384x1024 ![] bcast_S_S2x16384x1024 (constant S_ .f32 0x3F800000#32)) (v99 m c) := by
  unfold v101 v2 v99
  simp only [entryContents, afterL_cons, afterL_nil]
  after_reads_simp <;> rfl

set_option maxRecDepth 8192 in
theorem v103_eq : v103 m c = mulf (v101 m c) (mulf (v83 m c) (v54 m c)) := by
  unfold v103 v101 v83 v54
  simp only [entryContents, afterL_cons, afterL_nil]
  after_reads_simp <;> rfl

set_option maxRecDepth 8192 in
theorem t0_eq : t0 m c = transpose S16384x2x1024 [1, 0, 2] (v100 m c) transposes_S2x16384x1024_S16384x2x1024_1_0_2 := by
  unfold t0 v100
  simp only [entryContents, afterL_cons, afterL_nil]
  after_reads_simp <;> rfl

set_option maxRecDepth 8192 in
theorem t1_eq : t1 m c = transpose S16384x2x1024 [1, 0, 2] (v103 m c) transposes_S2x16384x1024_S16384x2x1024_1_0_2 := by
  unfold t1 v103
  simp only [entryContents, afterL_cons, afterL_nil]
  after_reads_simp <;> rfl

set_option maxRecDepth 8192 in
theorem t3_eq : t3 m c = broadcastInDim S2x1024 ![] bcast_S_S2x1024 (constant S_ .f32 0x00000000#32) := by
  unfold t3
  simp only [entryContents, afterL_cons, afterL_nil]
  after_reads_simp <;> rfl

end Cert.OddEntry
-- ==== Proof.PostRow.lean ====
module

public import proofs.«01_k».proof.Proof.Rows
public import Idealize.ShloMosaic.Lib.Pipeline.Value
public import Idealize.ShloMosaic.Lib.ValueLayout
public import Idealize.ShloMosaic.Lib.KernelVsHost

/-!
  One row of the memory attention followed by the gated feed-forward part and the last normalisation, as a function of
  the row, its batch's keys and values, and the layer's weights. `H` says how one head weighs the values.
-/

@[expose] public section

noncomputable section

namespace Cert.Rows

/-- The layer's tail: memory attention, feed-forward part. -/
def tail (H : (Fin 256 → EReal) → (Fin 256 → EReal) → EReal) (x : Fin 1024 → EReal) (nx : Fin 1024 → EReal)
    (wq : Fin 1024 → Fin 1024 → EReal) (kv : Fin 256 → Fin 2048 → EReal) (wo : Fin 1024 → Fin 1024 → EReal)
    (nf : Fin 1024 → EReal) (gu : Fin 1024 → Fin 5632 → EReal) (wd : Fin 2816 → Fin 1024 → EReal) : Fin 1024 → EReal :=
  ffn (cross H x nx wq (fun j c => kv j ⟨c.val, by omega⟩) (fun j c => kv j ⟨1024 + c.val, by omega⟩) wo) nf
    (fun i j => gu i ⟨j.val, by omega⟩) (fun i j => gu i ⟨2816 + j.val, by omega⟩) wd

open Idealize.ShloMosaic in
/-- The two batches' rows laid one after the other: row `n` is row `n % 16384` of batch `n / 16384`. -/
theorem flat_rows {α : Type} (x : (⟨3, ![2, 16384, 1024]⟩ : Shape).Idx → α)
    (h : (⟨3, ![2, 16384, 1024]⟩ : Shape).ShapeCasts ⟨2, ![32768, 1024]⟩) (n : Fin 32768) (l : Fin 1024) :
    shapeCast _ x h (ix2 n l) = x (ix3 ⟨n.val / 16384, by omega⟩ ⟨n.val % 16384, by omega⟩ l) := by
  refine shapeCast_apply x h _ _ ?_
  rw [Shape.rowMajor_val_three, Shape.rowMajor_val_two]
  show (n.val / 16384 * 16384 + n.val % 16384) * 1024 + l.val = n.val * 1024 + l.val
  omega

open Idealize.ShloMosaic in
/-- The greatest entry along the last of four axes. -/
theorem top_of_reduce {B H S' J : ℕ} {u : Shape} (S : FVec Ideal ⟨4, ![B, H, S', J]⟩ .f32)
    (h : Shape.ReducesTo ⟨4, ![B, H, S', J]⟩ [3] ⟨3, ![B, H, S']⟩) (hr : Shape.Reduces ⟨4, ![B, H, S', J]⟩ [3] ⟨3, ![B, H, S']⟩)
    (hu : 0 < u.numel) (a : Fin B) (b : Fin H) (c : Fin S') :
    Host.reduce FloatOps.maximumf S (constant u .f32 0xFF800000#32) h hu (ix3 a b c) = top (fun j => S (ix4 a b c j)) := by
  rw [hostReduce_maximumf_eq_multiReduction S _ h hu hr (by decide) (by decide), Ideal.multiReduction_maximumf_single]
  unfold top
  refine congrArg (fun f => Finset.univ.fold max _ f) (funext fun j => ?_)
  refine congrArg S ?_
  funext a
  match a with
  | ⟨0, _⟩ => rfl
  | ⟨1, _⟩ => rfl
  | ⟨2, _⟩ => rfl
  | ⟨3, _⟩ => rfl

end Cert.Rows
-- ==== Proof.PostRef.lean ====
module

public import proofs.«01_k».proof.Proof.PostRow
public import proofs.«01_k».proof.Proof.Gen.PostRefIdeal.Run

/-!
  The plain layer's tail read at one row: its composed result is the row function with the weights normalised before
  they weigh the values.
-/

@[expose] public section

noncomputable section

namespace Cert.PostRef

open Idealize.ShloMosaic Idealize.ShloMosaic.TcCoe Idealize.SL.Sem Cert.PostRefIdeal Cert.PostRefIdeal.Gen Cert.PostRefIdeal.Value Cert.Rows
open Idealize.ShloMosaic.StableHlo
open scoped BigOperators

/-- The normalisation of every row. -/
theorem rms_apply (X : FVec Ideal S2x16384x1024 .f32) (w : FVec Ideal S1024 .f32) (b : Fin 2) (s : Fin 16384) (k : Fin 1024) :
    mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 w)) (ix3 b s k)
      = rms (fun k => X (ix3 b s k)) (fun k => w (ix1 k)) k := by
  pointwise
  simp only [rms, scale]

/-- A projection of every row. -/
theorem proj_apply (X : FVec Ideal S2x16384x1024 .f32) (W : FVec Ideal S1024x1024 .f32) (b : Fin 2) (s : Fin 16384) (k : Fin 1024) :
    Host.dotGeneral dot_S2x16384x1024_S1024x1024_S2x16384x1024_2_0_01_1_n_n none X W (ix3 b s k)
      = mv (fun k => X (ix3 b s k)) (fun i k => W (ix2 i k)) k := by
  pointwise
  simp only [mv]

/-- The gate and value projections of every row. -/
theorem up_apply (X : FVec Ideal S2x16384x1024 .f32) (W : FVec Ideal S1024x5632 .f32) (b : Fin 2) (s : Fin 16384) (k : Fin 5632) :
    Host.dotGeneral dot_S2x16384x1024_S1024x5632_S2x16384x5632_2_0_01_1_n_n none X W (ix3 b s k)
      = mv (fun k => X (ix3 b s k)) (fun i k => W (ix2 i k)) k := by
  pointwise
  simp only [mv]

/-- The down projection of every row. -/
theorem down_apply (X : FVec Ideal S2x16384x2816 .f32) (W : FVec Ideal S2816x1024 .f32) (b : Fin 2) (s : Fin 16384) (k : Fin 1024) :
    Host.dotGeneral dot_S2x16384x2816_S2816x1024_S2x16384x1024_2_0_01_1_n_n none X W (ix3 b s k)
      = mv (fun k => X (ix3 b s k)) (fun i k => W (ix2 i k)) k := by
  pointwise
  simp only [mv]

/-- The columns split by head. -/
theorem split_apply (X : FVec Ideal S2x16384x1024 .f32) (b : Fin 2) (s : Fin 16384) (h : Fin 4) (d : Fin 256) :
    shapeCast S2x16384x4x256 X shapeCasts_S2x16384x1024_S2x16384x4x256 (ix4 b s h d) = X (ix3 b s (col h d)) := by
  refine shapeCast_apply X _ _ _ ?_
  rw [Shape.rowMajor_val_three, Shape.rowMajor_val_four]
  show (b.val * 16384 + s.val) * 1024 + (256 * h.val + d.val) = ((b.val * 16384 + s.val) * 4 + h.val) * 256 + d.val
  omega

theorem split_mem_apply (X : FVec Ideal S2x256x1024 .f32) (b : Fin 2) (s : Fin 256) (h : Fin 4) (d : Fin 256) :
    shapeCast S2x256x4x256 X shapeCasts_S2x256x1024_S2x256x4x256 (ix4 b s h d) = X (ix3 b s (col h d)) := by
  refine shapeCast_apply X _ _ _ ?_
  rw [Shape.rowMajor_val_three, Shape.rowMajor_val_four]
  show (b.val * 256 + s.val) * 1024 + (256 * h.val + d.val) = ((b.val * 256 + s.val) * 4 + h.val) * 256 + d.val
  omega

/-- The heads laid side by side. -/
theorem join_apply (X : FVec Ideal S2x16384x4x256 .f32) (b : Fin 2) (s : Fin 16384) (l : Fin 1024) :
    shapeCast S2x16384x1024 X shapeCasts_S2x16384x4x256_S2x16384x1024 (ix3 b s l) = X (ix4 b s (headOf l) (placeOf l)) := by
  refine shapeCast_apply X _ _ _ ?_
  rw [Shape.rowMajor_val_three, Shape.rowMajor_val_four]
  show ((b.val * 16384 + s.val) * 4 + l.val / 256) * 256 + l.val % 256 = (b.val * 16384 + s.val) * 1024 + l.val
  omega

/-- The scaled scores. -/
theorem score_apply (Q : FVec Ideal S2x16384x4x256 .f32) (K : FVec Ideal S2x256x4x256 .f32) (b : Fin 2) (h : Fin 4) (s : Fin 16384) (j : Fin 256) :
    mulf (Host.dotGeneral dot_S2x16384x4x256_S2x256x4x256_S2x4x16384x256_3_3_1_1_02_02 none Q K) (broadcastInDim S2x4x16384x256 ![] bcast_S_S2x4x16384x256 (constant S_ .f32 0x3D800000#32)) (ix4 b h s j)
      = (∑ d : Fin 256, Q (ix4 b s h d) * K (ix4 b j h d)) * Ideal.ofBits .f32 0x3D800000#32 := by
  pointwise

/-- The greatest of a row of scores, as reduced. -/
theorem reduce_apply (S : FVec Ideal S2x4x16384x256 .f32) (b : Fin 2) (h : Fin 4) (s : Fin 16384) :
    (Host.reduce FloatOps.maximumf S (constant S_ .f32 0xFF800000#32) reducesTo_S2x4x16384x256_S2x4x16384_d3 h_S_) (ix3 b h s)
      = top (fun j => S (ix4 b h s j)) := top_of_reduce S reducesTo_S2x4x16384x256_S2x4x16384_d3 (by decide) h_S_ b h s

/-- Taking the greater of the bottom and a row's value. -/
theorem max_apply (T : FVec Ideal S2x4x16384 .f32) (b : Fin 2) (h : Fin 4) (s : Fin 16384) :
    maximumf (broadcastInDim S2x4x16384 ![] bcast_S_S2x4x16384 (constant S_ .f32 0xFF800000#32)) T (ix3 b h s)
      = max (Ideal.ofBits .f32 0xFF800000#32) (T (ix3 b h s)) := by
  pointwise

/-- The greatest of a row of scores. -/
theorem top_apply (S : FVec Ideal S2x4x16384x256 .f32) (b : Fin 2) (h : Fin 4) (s : Fin 16384) :
    maximumf (broadcastInDim S2x4x16384 ![] bcast_S_S2x4x16384 (constant S_ .f32 0xFF800000#32)) (Host.reduce FloatOps.maximumf S (constant S_ .f32 0xFF800000#32) reducesTo_S2x4x16384x256_S2x4x16384_d3 h_S_) (ix3 b h s)
      = top (fun j => S (ix4 b h s j)) := by
  have e : ∀ (n : Fin 256 → EReal), max (Ideal.ofBits .f32 0xFF800000#32) (top n) = top n := by
    intro n
    exact max_eq_right (Finset.le_fold_max _ |>.mpr (Or.inl le_rfl))
  exact (max_apply _ b h s).trans ((congrArg (max _) (reduce_apply S b h s)).trans (e _))

/-- The shifted exponentials of a row of scores. -/
theorem ex_apply (S : FVec Ideal S2x4x16384x256 .f32) (b : Fin 2) (h : Fin 4) (s : Fin 16384) (j : Fin 256) :
    Host.exp (subf S (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) (Host.reduce FloatOps.maximumf S (constant S_ .f32 0xFF800000#32) reducesTo_S2x4x16384x256_S2x4x16384_d3 h_S_))))) (ix4 b h s j)
      = ex (fun j => S (ix4 b h s j)) j := by
  have h' := top_apply S
  generalize maximumf (broadcastInDim S2x4x16384 ![] bcast_S_S2x4x16384 (constant S_ .f32 0xFF800000#32)) (Host.reduce FloatOps.maximumf S (constant S_ .f32 0xFF800000#32) reducesTo_S2x4x16384x256_S2x4x16384_d3 h_S_) = T at h' ⊢
  pointwise
  simp only [h', ex]

/-- The normalised weights over the values. -/
theorem out_apply (P : FVec Ideal S2x4x16384x256 .f32) (Vv : FVec Ideal S2x256x4x256 .f32) (b : Fin 2) (h : Fin 4) (s : Fin 16384) (d : Fin 256) :
    transpose S2x16384x4x256 [0, 3, 1, 2] (Host.dotGeneral dot_S2x256x4x256_S2x4x16384x256_S2x4x256x16384_1_3_3_2_02_01 none Vv (Host.divf P (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd P (constant S_ .f32 0x00000000#32) reducesTo_S2x4x16384x256_S2x4x16384_d3 h_S_))))) transposes_S2x4x256x16384_S2x16384x4x256_0_3_1_2 (ix4 b s h d)
      = ∑ j : Fin 256, Vv (ix4 b j h d) * Ideal.div (P (ix4 b h s j)) (∑ j : Fin 256, P (ix4 b h s j)) := by
  pointwise

/-- The gated product. -/
theorem swi_apply (g u : FVec Ideal S2x16384x2816 .f32) (b : Fin 2) (s : Fin 16384) (j : Fin 2816) :
    mulf (mulf g (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf g))))) u (ix3 b s j)
      = swi (fun j => g (ix3 b s j)) (fun j => u (ix3 b s j)) j := by
  pointwise
  simp only [swi, Ideal.logistic]

/-! ## The result -/

section

variable (v : Valuation τ sig (Elt Ideal))

/-- The query row. -/
abbrev qrow (b : Fin 2) (s : Fin 16384) : Fin 1024 → EReal :=
  mv (rms (fun k => (v (Proc.devRef .tc main_arg0) : FVec Ideal S2x16384x1024 .f32) (ix3 b s k)) (fun k => (v (Proc.devRef .tc main_arg2) : FVec Ideal S2x1024 .f32) (ix2 1 k)))
    (fun i k => (v (Proc.devRef .tc main_arg3) : FVec Ideal S2x1024x1024 .f32) (ix3 1 i k))

theorem v25_apply (b : Fin 2) (h : Fin 4) (s : Fin 16384) (j : Fin 256) :
    (res_main_v25 v : FVec Ideal S2x4x16384x256 .f32) (ix4 b h s j)
      = score (qrow v b s) (fun j c => (v (Proc.devRef .tc main_arg1) : FVec Ideal S2x256x2048 .f32) (ix3 b j ⟨c.val, by omega⟩)) h j := by
  unfold res_main_v25
  rw [score_apply]
  unfold score
  refine congrArg (· * _) (Finset.sum_congr rfl fun d _ => congrArg₂ (· * ·) ?_ ?_)
  · rw [split_apply, proj_apply]
    refine congrArg₂ (fun x w => mv x w _) (funext fun k => ?_) (funext fun i => funext fun k => ?_)
    · rw [rms_apply]
      refine congrArg (fun w => rms _ w _) (funext fun k => ?_)
      pointwise
    · pointwise
  · rw [split_mem_apply]
    pointwise

theorem v32_apply (b : Fin 2) (h : Fin 4) (s : Fin 16384) (j : Fin 256) :
    (res_main_v32 v : FVec Ideal S2x4x16384x256 .f32) (ix4 b h s j)
      = ex (score (qrow v b s) (fun j c => (v (Proc.devRef .tc main_arg1) : FVec Ideal S2x256x2048 .f32) (ix3 b j ⟨c.val, by omega⟩)) h) j := by
  unfold res_main_v32
  rw [ex_apply]
  simp only [v25_apply]

/-- The row after the memory attention. -/
abbrev mrow (b : Fin 2) (s : Fin 16384) : Fin 1024 → EReal :=
  cross headR (fun k => (v (Proc.devRef .tc main_arg0) : FVec Ideal S2x16384x1024 .f32) (ix3 b s k)) (fun k => (v (Proc.devRef .tc main_arg2) : FVec Ideal S2x1024 .f32) (ix2 1 k))
    (fun i k => (v (Proc.devRef .tc main_arg3) : FVec Ideal S2x1024x1024 .f32) (ix3 1 i k))
    (fun j c => (v (Proc.devRef .tc main_arg1) : FVec Ideal S2x256x2048 .f32) (ix3 b j ⟨c.val, by omega⟩))
    (fun j c => (v (Proc.devRef .tc main_arg1) : FVec Ideal S2x256x2048 .f32) (ix3 b j ⟨1024 + c.val, by omega⟩))
    (fun i k => (v (Proc.devRef .tc main_arg4) : FVec Ideal S2x1024x1024 .f32) (ix3 1 i k))

theorem v43_apply (b : Fin 2) (s : Fin 16384) (l : Fin 1024) :
    (res_main_v43 v : FVec Ideal S2x16384x1024 .f32) (ix3 b s l) = mrow v b s l := by
  unfold res_main_v43
  rw [addf_apply, proj_apply]
  unfold mrow cross
  refine congrArg₂ (fun a b : EReal => a + b) rfl (congrArg₂ (fun x w => mv x w _) (funext fun k => ?_) (funext fun i => funext fun k => ?_))
  · rw [join_apply, out_apply]
    unfold heads headR
    simp only [v32_apply]
    refine Finset.sum_congr rfl fun j _ => congrArg (· * _) ?_
    rw [split_mem_apply, col_headOf]
    pointwise
  · pointwise

/-- The gate and value projections. -/
theorem v61_apply (b : Fin 2) (s : Fin 16384) (j : Fin 5632) :
    (res_main_v61 v : FVec Ideal S2x16384x5632 .f32) (ix3 b s j)
      = mv (rms (mrow v b s) (fun k => (v (Proc.devRef .tc main_arg5) : FVec Ideal S2x1024 .f32) (ix2 1 k)))
        (fun i j => (v (Proc.devRef .tc main_arg6) : FVec Ideal S2x1024x5632 .f32) (ix3 1 i j)) j := by
  unfold res_main_v61
  rw [up_apply]
  refine congrArg₂ (fun x w => mv x w _) (funext fun k => ?_) (funext fun i => funext fun k => ?_)
  · rw [rms_apply]
    simp only [v43_apply]
    refine congrArg (fun w => rms _ w _) (funext fun k => ?_)
    pointwise
  · pointwise

/-- The row after the feed-forward part. -/
abbrev frow (b : Fin 2) (s : Fin 16384) : Fin 1024 → EReal :=
  tail headR (fun k => (v (Proc.devRef .tc main_arg0) : FVec Ideal S2x16384x1024 .f32) (ix3 b s k)) (fun k => (v (Proc.devRef .tc main_arg2) : FVec Ideal S2x1024 .f32) (ix2 1 k))
    (fun i k => (v (Proc.devRef .tc main_arg3) : FVec Ideal S2x1024x1024 .f32) (ix3 1 i k))
    (fun j c => (v (Proc.devRef .tc main_arg1) : FVec Ideal S2x256x2048 .f32) (ix3 b j c))
    (fun i k => (v (Proc.devRef .tc main_arg4) : FVec Ideal S2x1024x1024 .f32) (ix3 1 i k))
    (fun k => (v (Proc.devRef .tc main_arg5) : FVec Ideal S2x1024 .f32) (ix2 1 k))
    (fun i k => (v (Proc.devRef .tc main_arg6) : FVec Ideal S2x1024x5632 .f32) (ix3 1 i k))
    (fun i k => (v (Proc.devRef .tc main_arg7) : FVec Ideal S2x2816x1024 .f32) (ix3 1 i k))

theorem v62_apply (b : Fin 2) (s : Fin 16384) (j : Fin 2816) :
    (res_main_v62 v : FVec Ideal S2x16384x2816 .f32) (ix3 b s j) = (res_main_v61 v : FVec Ideal S2x16384x5632 .f32) (ix3 b s ⟨j.val, by omega⟩) := by
  unfold res_main_v62
  pointwise

theorem v69_apply (b : Fin 2) (s : Fin 16384) (l : Fin 1024) :
    (res_main_v69 v : FVec Ideal S2x16384x1024 .f32) (ix3 b s l) = frow v b s l := by
  have hu : ∀ j : Fin 2816, extractStridedSlice S2x16384x2816 ![0, 0, 2816] (res_main_v61 v : FVec Ideal S2x16384x5632 .f32) slices_S2x16384x5632_S2x16384x2816_0_0_2816 (ix3 b s j)
      = (res_main_v61 v : FVec Ideal S2x16384x5632 .f32) (ix3 b s ⟨2816 + j.val, by omega⟩) := by
    intro j; pointwise
  unfold res_main_v69
  rw [addf_apply, down_apply, v43_apply]
  unfold frow tail ffn
  refine congrArg₂ (fun a b : EReal => a + b) rfl (congrArg₂ (fun x w => mv x w _) (funext fun k => ?_) (funext fun i => funext fun k => ?_))
  · rw [swi_apply]
    simp only [hu, v62_apply, v61_apply, swi, mv]
  · pointwise

/-- The whole result at row `n`. -/
theorem res_apply (n : Fin 32768) (l : Fin 1024) :
    shapeCast S32768x1024 (mulf (mulf (res_main_v69 v) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (res_main_v69 v) (res_main_v69 v)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (v (Proc.devRef .tc main_arg8))))) shapeCasts_S2x16384x1024_S32768x1024 (ix2 n l)
      = rms (frow v ⟨n.val / 16384, by omega⟩ ⟨n.val % 16384, by omega⟩) (fun k => (v (Proc.devRef .tc main_arg8) : FVec Ideal S1024 .f32) (ix1 k)) l := by
  rw [flat_rows, rms_apply]
  simp only [v69_apply]

end

end Cert.PostRef
-- ==== Proof.PostBody.lean ====
/-
  THE POST KERNEL'S BODY ROW BY ROW: what the body leaves in the output block is, at row `r`, the final normalisation of
  the gated feed-forward of the cross attention of row `r` of the input block (Rows.lean), with the kernel's order of
  dividing each head's weighted sum by the sum of its weights.
-/
module

public import proofs.«01_k».proof.Proof.Rows
public import proofs.«01_k».proof.Proof.Gen.PostIdeal.Frame

@[expose] public section

noncomputable section

namespace Cert.PostBody

open Idealize.ShloMosaic Cert.PostIdeal Cert.PostIdeal.Gen Cert.Rows
open scoped BigOperators

/-- The query row. -/
theorem pay3_apply (v0 : Vec Ideal S512x1024 .f32) (v2 : Vec Ideal S1x1024 .f32) (v17 : Vec Ideal S1x1024x1024 .bf16) (r : Fin 512) (l : Fin 1024) :
    k0_pay3 v0 v2 v17 (ix2 r l) = mv (rms (fun k => v0 (ix2 r k)) (fun k => v2 (ix2 0 k))) (fun i j => v17 (ix3 0 i j)) l := by
  pointwise [k0_pay3, k0_pay2]
  simp only [mv, rms, scale]

/-- The first head's exponentials. -/
theorem pay4_apply (v0 : Vec Ideal S512x1024 .f32) (v2 : Vec Ideal S1x1024 .f32) (v17 : Vec Ideal S1x1024x1024 .bf16) (v21 : Vec Ideal S1x256x256 .bf16) (r : Fin 512) (j : Fin 256) :
    k0_pay4 v0 v2 v17 v21 (ix2 r j) = ex (fun j => (∑ d : Fin 256, k0_pay3 v0 v2 v17 (ix2 r (col 0 d)) * v21 (ix3 0 j d)) * Ideal.ofBits .f32 0x3D800000#32) j := by
  pointwise [k0_pay4]
  simp only [ex, top, col, Fin.val_zero, Nat.mul_zero, Nat.zero_add]

/-- The first head's output. -/
theorem pay7_apply (v0 : Vec Ideal S512x1024 .f32) (v2 : Vec Ideal S1x1024 .f32) (v17 : Vec Ideal S1x1024x1024 .bf16) (v21 v23 : Vec Ideal S1x256x256 .bf16) (r : Fin 512) (d : Fin 256) :
    k0_pay7 (k0_pay5 v0 v2 v17 v21 v23) (k0_pay6 v0 v2 v17 v21) (ix2 r d)
      = headK (fun j => (∑ d : Fin 256, k0_pay3 v0 v2 v17 (ix2 r (col 0 d)) * v21 (ix3 0 j d)) * Ideal.ofBits .f32 0x3D800000#32) (fun j => v23 (ix3 0 j d)) := by
  pointwise [k0_pay7, k0_pay5, k0_pay6]
  simp only [headK, pay4_apply]

/-- The second head's output. -/
theorem pay8_apply (v20 : Vec Ideal S512x1024 .bf16) (v41 v43 : Vec Ideal S1x256x256 .bf16) (r : Fin 512) (d : Fin 256) :
    k0_pay8 v20 v41 v43 (ix2 r d)
      = headK (fun j => (∑ d : Fin 256, v20 (ix2 r (col 1 d)) * v41 (ix3 0 j d)) * Ideal.ofBits .f32 0x3D800000#32) (fun j => v43 (ix3 0 j d)) := by
  pointwise [k0_pay8]
  simp only [headK, ex, top, col, Fin.val_one, Nat.mul_one]

/-- The third head's exponentials. -/
theorem pay9_apply (v20 : Vec Ideal S512x1024 .bf16) (v61 : Vec Ideal S1x256x256 .bf16) (r : Fin 512) (j : Fin 256) :
    k0_pay9 v20 v61 (ix2 r j)
      = ex (fun j => (∑ d : Fin 256, v20 (ix2 r (col 2 d)) * v61 (ix3 0 j d)) * Ideal.ofBits .f32 0x3D800000#32) j := by
  pointwise [k0_pay9]
  simp only [ex, top, col, Fin.val_two, Nat.reduceMul]

/-- The third head's weighted sum. -/
theorem pay10_apply (v20 : Vec Ideal S512x1024 .bf16) (v61 v63 : Vec Ideal S1x256x256 .bf16) (r : Fin 512) (d : Fin 256) :
    k0_pay10 v20 v61 v63 (ix2 r d) = ∑ j : Fin 256, k0_pay9 v20 v61 (ix2 r j) * v63 (ix3 0 j d) := by
  pointwise [k0_pay10]

/-- The row after the cross attention, from the first two heads' outputs and the query row. -/
theorem pay11_apply (v1 : Vec Ideal S512x1024 .f32) (v20 : Vec Ideal S512x1024 .bf16) (v40 v60 : Vec Ideal S512x256 .bf16)
    (v61 v63 v81 v83 : Vec Ideal S1x256x256 .bf16) (v102 : Vec Ideal S1x1024x1024 .bf16) (r : Fin 512) (l : Fin 1024) :
    k0_pay11 v1 v20 v40 v60 (k0_pay9 v20 v61) (k0_pay10 v20 v61 v63) v81 v83 v102 (ix2 r l)
      = v1 (ix2 r l) + ∑ x : Fin 1024, four (fun y => v40 (ix2 r y)) (fun y => v60 (ix2 r y))
          (fun y => headK (fun j => (∑ d : Fin 256, v20 (ix2 r (col 2 d)) * v61 (ix3 0 j d)) * Ideal.ofBits .f32 0x3D800000#32) (fun j => v63 (ix3 0 j y)))
          (fun y => headK (fun j => (∑ d : Fin 256, v20 (ix2 r (col 3 d)) * v81 (ix3 0 j d)) * Ideal.ofBits .f32 0x3D800000#32) (fun j => v83 (ix3 0 j y)))
          (headOf x) (placeOf x) * v102 (ix3 0 x l) := by
  pointwise [k0_pay11]
  refine congrArg (v1 (ix2 r l) + ·) (Finset.sum_congr rfl fun x _ => congrArg (· * v102 (ix3 0 x l)) ?_)
  rw [← four_split]
  simp only [headK, ex, top, col, pay9_apply, pay10_apply, Fin.val_two, val_three, Nat.reduceMul]

/-- The feed-forward and the final normalisation of a row. -/
theorem pay1_apply (v105 : Vec Ideal S512x1024 .f32) (v107 : Vec Ideal S1x1024 .f32) (v114 : Vec Ideal S512x1 .f32)
    (v121 v124 : Vec Ideal S1x1024x2816 .bf16) (v131 : Vec Ideal S1x2816x1024 .bf16) (v135 : Vec Ideal S1x1024 .f32) (r : Fin 512) (l : Fin 1024)
    (h : Ideal.rsqrt (v114 (ix2 r 0)) = scale (fun k => v105 (ix2 r k))) :
    k0_pay1 v105 v107 v114 v121 v124 v131 v135 (ix2 r l)
      = rms (ffn (fun k => v105 (ix2 r k)) (fun k => v107 (ix2 0 k)) (fun i j => v121 (ix3 0 i j)) (fun i j => v124 (ix3 0 i j)) (fun i j => v131 (ix3 0 i j)))
          (fun k => v135 (ix2 0 k)) l := by
  pointwise [k0_pay1]
  rw [h]
  simp only [rms, scale, ffn, swi, mv]

/-- The keys and the values of a block of the memory's projection. -/
def keys (x3 : Vec Ideal S1x256x2048 .bf16) (j : Fin 256) (c : Fin 1024) : EReal := x3 (ix3 0 j ⟨c.val, by omega⟩)
def vals (x3 : Vec Ideal S1x256x2048 .bf16) (j : Fin 256) (c : Fin 1024) : EReal := x3 (ix3 0 j ⟨1024 + c.val, by omega⟩)

theorem hz2 : (![0, 0] : Fin 2 → Nat) = fun _ => 0 := funext fun a => by fin_cases a <;> rfl
theorem hz3 : (![0, 0, 0] : Fin 3 → Nat) = fun _ => 0 := funext fun a => by fin_cases a <;> rfl

section
variable (x0 : Vec Ideal S512x1024 .f32) (x1 : Vec Ideal S1x1024 .f32) (x2 : Vec Ideal S1x1024x1024 .bf16) (x3 : Vec Ideal S1x256x2048 .bf16)
  (x4 : Vec Ideal S1x1024x1024 .bf16) (x5 : Vec Ideal S1x1024 .f32) (x6 : Vec Ideal S1x1024x5632 .bf16) (x7 : Vec Ideal S1x2816x1024 .bf16)
  (x8 : Vec Ideal S1x1024 .f32)

/-- The block's row after the cross attention. -/
def crossRow (r : Fin 512) : Fin 1024 → EReal :=
  cross headK (fun k => x0 (ix2 r k)) (fun k => x1 (ix2 0 k)) (fun i j => x2 (ix3 0 i j)) (keys x3) (vals x3) (fun i j => x4 (ix3 0 i j))

/-- The block's query row. -/
theorem query_apply (r : Fin 512) (l : Fin 1024) :
    k0_pay3 (View.ld x0 r0_0) (View.ld x1 r0_1) (View.ld x2 r0_2) (ix2 r l)
      = mv (rms (fun k => x0 (ix2 r k)) (fun k => x1 (ix2 0 k))) (fun i j => x2 (ix3 0 i j)) l := by
  rw [pay3_apply, View.ld_unit_zero (S := S512x1024) hz2, View.ld_unit_zero (S := S1x1024) hz2, View.ld_unit_zero (S := S1x1024x1024) hz3]

/-- The row the body keeps between its two parts. -/
theorem mid_apply (r : Fin 512) (l : Fin 1024) :
    k0_pay11 (k0_pay14 x0 x1 x2 x3 x4 x5 x6 x7 x8) (k0_pay15 x0 x1 x2 x3 x4 x5 x6 x7 x8) (k0_pay16 x0 x1 x2 x3 x4 x5 x6 x7 x8)
      (k0_pay17 x0 x1 x2 x3 x4 x5 x6 x7 x8) (k0_pay18 x0 x1 x2 x3 x4 x5 x6 x7 x8) (k0_pay19 x0 x1 x2 x3 x4 x5 x6 x7 x8)
      (View.ld x3 r0_9) (View.ld x3 r0_10) (View.ld x4 r0_2) (ix2 r l) = crossRow x0 x1 x2 x3 x4 r l := by
  unfold k0_pay18 k0_pay19
  rw [pay11_apply]
  unfold crossRow cross
  refine congrArg₂ (· + ·) ?_ (Finset.sum_congr rfl fun x _ => congrArg₂ (· * ·) ?_ ?_)
  · unfold k0_pay14 k0_pay2
    rw [View.ld_unit_zero (S := S512x1024) hz2, shapeCast_self]
  · refine four_heads headK _ (keys x3) (vals x3) _ _ _ _ (fun y => ?_) (fun y => ?_) (fun y => ?_) (fun y => ?_) x
    · unfold k0_pay16
      rw [pay7_apply]
      simp only [query_apply]
      refine congrArg₂ headK (funext fun j => ?_) (funext fun j => ?_)
      · pointwise [score, keys, col]
      · pointwise [vals, col]
    · unfold k0_pay17 k0_pay15
      rw [pay8_apply]
      simp only [query_apply]
      refine congrArg₂ headK (funext fun j => ?_) (funext fun j => ?_)
      · pointwise [score, keys, col]
      · pointwise [vals, col]
        simp only [Nat.reduceAdd, ← Nat.add_assoc]
    · unfold k0_pay15
      simp only [query_apply]
      refine congrArg₂ headK (funext fun j => ?_) (funext fun j => ?_)
      · pointwise [score, keys, col]
      · pointwise [vals, col]
        simp only [Nat.reduceAdd, ← Nat.add_assoc]
    · unfold k0_pay15
      simp only [query_apply]
      refine congrArg₂ headK (funext fun j => ?_) (funext fun j => ?_)
      · pointwise [score, keys, col]
      · pointwise [vals, col]
        simp only [Nat.reduceAdd, ← Nat.add_assoc]
  · rw [View.ld_unit_zero (S := S1x1024x1024) hz3]

/-- The body's result, row by row. -/
theorem out_apply (r : Fin 512) (l : Fin 1024) :
    out0_9 x0 x1 x2 x3 x4 x5 x6 x7 x8 (ix2 r l)
      = rms (ffn (crossRow x0 x1 x2 x3 x4 r) (fun k => x5 (ix2 0 k)) (fun i j => x6 (ix3 0 i ⟨j.val, by omega⟩))
          (fun i j => x6 (ix3 0 i ⟨2816 + j.val, by omega⟩)) (fun i j => x7 (ix3 0 i j))) (fun k => x8 (ix2 0 k)) l := by
  unfold out0_9
  rw [View.canon_unit_zero hz2, pay1_apply _ _ _ _ _ _ _ _ _ (by
    pointwise [k0_pay13]
    simp only [scale])]
  simp only [mid_apply]
  refine congrArg₂ (fun a b => rms a b l) ?_ (funext fun k => ?_)
  · have e : ∀ (a b b' : Fin 1024 → EReal) (g g' u u' : Fin 1024 → Fin 2816 → EReal) (d d' : Fin 2816 → Fin 1024 → EReal), b = b' → g = g' → u = u' → d = d' →
        ffn a b g u d = ffn a b' g' u' d' := by
      intro _ _ _ _ _ _ _ _ _ h1 h2 h3 h4; rw [h1, h2, h3, h4]
    refine e _ _ _ _ _ _ _ _ _ (funext fun k => ?_) (funext fun i => funext fun j => ?_) (funext fun i => funext fun j => ?_) (funext fun i => funext fun j => ?_)
    · unfold k0_pay12
      rw [View.ld_unit_zero (S := S1x1024) hz2, shapeCast_self]
    · pointwise
    · pointwise
    · rw [View.ld_unit_zero (S := S1x2816x1024) hz3]
  · rw [View.ld_unit_zero (S := S1x1024) hz2]

end

end Cert.PostBody
-- ==== Proof.MixBody.lean ====
module

public import proofs.«01_k».proof.Proof.PostBody
public import proofs.«01_k».proof.Proof.Gen.MixIdeal.Frame

/-!
  The first layer's body row by row: the input row first takes up the two mixers' outputs through their halves of the
  output projection, then follow the cross attention and the gated feed-forward of Rows.lean.
-/

@[expose] public section

noncomputable section

namespace Cert.MixBody

open Idealize.ShloMosaic Cert.MixIdeal Cert.MixIdeal.Gen Cert.Rows Cert.PostBody
open scoped BigOperators

/-- A row with both mixers' outputs projected onto it. -/
def mix (x : Fin 1024 → EReal) (yp ya : Fin 512 → EReal) (wp wa : Fin 512 → Fin 1024 → EReal) (l : Fin 1024) : EReal :=
  x l + mv yp wp l + mv ya wa l

theorem mix_apply (v0 : Vec Ideal S512x1024 .f32) (v2 : Vec Ideal S512x512 .bf16) (v4 : Vec Ideal S512x1024 .bf16) (v8 : Vec Ideal S512x512 .bf16)
    (v10 : Vec Ideal S512x1024 .bf16) (r : Fin 512) (l : Fin 1024) :
    k0_pay1 v0 v2 v4 v8 v10 (ix2 r l)
      = mix (fun k => v0 (ix2 r k)) (fun k => v2 (ix2 r k)) (fun k => v8 (ix2 r k)) (fun i k => v4 (ix2 i k)) (fun i k => v10 (ix2 i k)) l := by
  pointwise [k0_pay1]
  simp only [mix, mv]

/-- The query row. -/
theorem query_pay (v0 : Vec Ideal S512x1024 .f32) (v2 : Vec Ideal S512x512 .bf16) (v4 : Vec Ideal S512x1024 .bf16) (v8 : Vec Ideal S512x512 .bf16)
    (v10 : Vec Ideal S512x1024 .bf16) (v14 : Vec Ideal S1x1024 .f32) (v29 : Vec Ideal S1x1024x1024 .bf16) (r : Fin 512) (l : Fin 1024) :
    k0_pay2 v0 v2 v4 v8 v10 v14 v29 (ix2 r l)
      = mv (rms (fun k => k0_pay1 v0 v2 v4 v8 v10 (ix2 r k)) (fun k => v14 (ix2 0 k))) (fun i j => v29 (ix3 0 i j)) l := by
  pointwise [k0_pay2]
  simp only [mv, rms, scale]

/-- The first head's output. -/
theorem first_pay (v32 : Vec Ideal S512x1024 .bf16) (v33 v35 : Vec Ideal S1x256x256 .bf16) (r : Fin 512) (d : Fin 256) :
    k0_pay4 v32 (k0_pay3 v33) v35 (ix2 r d)
      = headK (fun j => (∑ d : Fin 256, v32 (ix2 r (col 0 d)) * v33 (ix3 0 j d)) * Ideal.ofBits .f32 0x3D800000#32) (fun j => v35 (ix3 0 j d)) := by
  pointwise [k0_pay4, k0_pay3]
  simp only [headK, ex, top, col, Fin.val_zero, Nat.mul_zero, Nat.zero_add]

/-- The second head's output. -/
theorem second_pay (v32 : Vec Ideal S512x1024 .bf16) (v53 v55 : Vec Ideal S1x256x256 .bf16) (r : Fin 512) (d : Fin 256) :
    k0_pay5 v32 v53 v55 (ix2 r d)
      = headK (fun j => (∑ d : Fin 256, v32 (ix2 r (col 1 d)) * v53 (ix3 0 j d)) * Ideal.ofBits .f32 0x3D800000#32) (fun j => v55 (ix3 0 j d)) := by
  pointwise [k0_pay5]
  simp only [headK, ex, top, col, Fin.val_one, Nat.mul_one]

/-- The four heads side by side. -/
theorem heads_pay (v32 : Vec Ideal S512x1024 .bf16) (v52 v72 : Vec Ideal S512x256 .bf16) (v73 v75 v93 v95 : Vec Ideal S1x256x256 .bf16)
    (r : Fin 512) (x : Fin 1024) :
    k0_pay6 v32 v52 v72 v73 v75 v93 v95 (ix2 r x)
      = four (fun y => v52 (ix2 r y)) (fun y => v72 (ix2 r y))
          (fun y => headK (fun j => (∑ d : Fin 256, v32 (ix2 r (col 2 d)) * v73 (ix3 0 j d)) * Ideal.ofBits .f32 0x3D800000#32) (fun j => v75 (ix3 0 j y)))
          (fun y => headK (fun j => (∑ d : Fin 256, v32 (ix2 r (col 3 d)) * v93 (ix3 0 j d)) * Ideal.ofBits .f32 0x3D800000#32) (fun j => v95 (ix3 0 j y)))
          (headOf x) (placeOf x) := by
  pointwise [k0_pay6]
  rw [← four_split]
  simp only [headK, ex, top, col, Fin.val_two, val_three, Nat.reduceMul]

/-- The attention's projection and the feed-forward. -/
theorem last_pay (v13 : Vec Ideal S512x1024 .f32) (v113 : Vec Ideal S512x1024 .bf16) (v114 : Vec Ideal S1x1024x1024 .bf16) (v118 : Vec Ideal S1x1024 .f32)
    (v133 v136 : Vec Ideal S1x1024x2816 .bf16) (v143 : Vec Ideal S1x2816x1024 .bf16) (r : Fin 512) (l : Fin 1024) :
    k0_pay7 v13 v113 v114 v118 v133 v136 v143 (ix2 r l)
      = ffn (fun k => v13 (ix2 r k) + mv (fun x => v113 (ix2 r x)) (fun i j => v114 (ix3 0 i j)) k) (fun k => v118 (ix2 0 k))
          (fun i j => v133 (ix3 0 i j)) (fun i j => v136 (ix3 0 i j)) (fun i j => v143 (ix3 0 i j)) l := by
  pointwise [k0_pay7]
  simp only [ffn, rms, scale, swi, mv]

section
variable (x0 : Vec Ideal S512x1024 .f32) (x1 x2 : Vec Ideal S512x512 .bf16) (x3 x4 : Vec Ideal S512x1024 .bf16) (x5 : Vec Ideal S1x1024 .f32)
  (x6 : Vec Ideal S1x1024x1024 .bf16) (x7 : Vec Ideal S1x256x2048 .bf16) (x8 : Vec Ideal S1x1024x1024 .bf16) (x9 : Vec Ideal S1x1024 .f32)
  (x10 : Vec Ideal S1x1024x5632 .bf16) (x11 : Vec Ideal S1x2816x1024 .bf16) (x12 : Vec Ideal S1x1024 .f32)

/-- The block's row before the attention. -/
def mixRow (r : Fin 512) : Fin 1024 → EReal :=
  mix (fun k => x0 (ix2 r k)) (fun k => x1 (ix2 r k)) (fun k => x2 (ix2 r k)) (fun i k => x3 (ix2 i k)) (fun i k => x4 (ix2 i k))

theorem mixRow_apply (r : Fin 512) (l : Fin 1024) :
    k0_pay1 (View.ld x0 r0_0) (View.ld x1 r0_1) (View.ld x3 r0_0) (View.ld x2 r0_1) (View.ld x4 r0_0) (ix2 r l) = mixRow x0 x1 x2 x3 x4 r l := by
  rw [mix_apply, View.ld_unit_zero (S := S512x1024) hz2, View.ld_unit_zero (S := S512x512) hz2, View.ld_unit_zero (S := S512x512) hz2,
    View.ld_unit_zero (S := S512x1024) hz2, View.ld_unit_zero (S := S512x1024) hz2]
  rfl

/-- The block's query row. -/
theorem query_apply (r : Fin 512) (l : Fin 1024) :
    k0_pay8 x0 x1 x2 x3 x4 x5 x6 x7 x8 x9 x10 x11 x12 (ix2 r l)
      = mv (rms (mixRow x0 x1 x2 x3 x4 r) (fun k => x5 (ix2 0 k))) (fun i j => x6 (ix3 0 i j)) l := by
  unfold k0_pay8
  rw [query_pay, View.ld_unit_zero (S := S1x1024) hz2, View.ld_unit_zero (S := S1x1024x1024) hz3]
  simp only [mixRow_apply]

/-- The body's result, row by row. -/
theorem out_apply (r : Fin 512) (l : Fin 1024) :
    out0_13 x0 x1 x2 x3 x4 x5 x6 x7 x8 x9 x10 x11 x12 (ix2 r l)
      = ffn (cross headK (mixRow x0 x1 x2 x3 x4 r) (fun k => x5 (ix2 0 k)) (fun i j => x6 (ix3 0 i j)) (keys x7) (vals x7) (fun i j => x8 (ix3 0 i j)))
          (fun k => x9 (ix2 0 k)) (fun i j => x10 (ix3 0 i ⟨j.val, by omega⟩))
          (fun i j => x10 (ix3 0 i ⟨2816 + j.val, by omega⟩)) (fun i j => x11 (ix3 0 i j)) l := by
  unfold out0_13
  rw [View.canon_unit_zero hz2, last_pay]
  have e : ∀ (a a' b b' : Fin 1024 → EReal) (g g' u u' : Fin 1024 → Fin 2816 → EReal) (d d' : Fin 2816 → Fin 1024 → EReal), a = a' → b = b' → g = g' → u = u' → d = d' →
      ffn a b g u d l = ffn a' b' g' u' d' l := by
    intro _ _ _ _ _ _ _ _ _ _ h0 h1 h2 h3 h4; rw [h0, h1, h2, h3, h4]
  refine e _ _ _ _ _ _ _ _ _ _ (funext fun k => ?_) (funext fun k => ?_) (funext fun i => funext fun j => ?_) (funext fun i => funext fun j => ?_) (funext fun i => funext fun j => ?_)
  · unfold cross
    refine congrArg₂ (fun a b : EReal => a + b) (mixRow_apply _ _ _ _ _ _ _) ?_
    refine congrArg₂ (fun x w => mv x w k) (funext fun x => ?_) (funext fun i => funext fun j => ?_)
    · rw [heads_pay]
      refine four_heads headK _ (keys x7) (vals x7) _ _ _ _ (fun y => ?_) (fun y => ?_) (fun y => ?_) (fun y => ?_) x
      · rw [first_pay]
        simp only [query_apply]
        refine congrArg₂ headK (funext fun j => ?_) (funext fun j => ?_)
        · pointwise [score, keys, col]
        · pointwise [vals, col]
      · rw [second_pay]
        simp only [query_apply]
        refine congrArg₂ headK (funext fun j => ?_) (funext fun j => ?_)
        · pointwise [score, keys, col]
        · pointwise [vals, col]
          simp only [Nat.reduceAdd, ← Nat.add_assoc]
      · simp only [query_apply]
        refine congrArg₂ headK (funext fun j => ?_) (funext fun j => ?_)
        · pointwise [score, keys, col]
        · pointwise [vals, col]
          simp only [Nat.reduceAdd, ← Nat.add_assoc]
      · simp only [query_apply]
        refine congrArg₂ headK (funext fun j => ?_) (funext fun j => ?_)
        · pointwise [score, keys, col]
        · pointwise [vals, col]
          simp only [Nat.reduceAdd, ← Nat.add_assoc]
    · rw [View.ld_unit_zero (S := S1x1024x1024) hz3]
  · rw [View.ld_unit_zero (S := S1x1024) hz2]
  · pointwise
  · pointwise
  · rw [View.ld_unit_zero (S := S1x2816x1024) hz3]

end

end Cert.MixBody
-- ==== Proof.MixRef.lean ====
module

public import proofs.«01_k».proof.Proof.MixBody
public import proofs.«01_k».proof.Proof.PostRef
public import proofs.«01_k».proof.Proof.Gen.MixRefIdeal.Run

/-!
  The first layer's tail of the reference read at one row: the mixers' outputs, side by side, times the output projection
  is the sum of the two halves' products; what follows is the row function of PostRow.lean with the first layer's weights.
-/

@[expose] public section

noncomputable section

namespace Cert.MixRef

open Idealize.ShloMosaic Idealize.ShloMosaic.TcCoe Idealize.SL.Sem Cert.MixRefIdeal Cert.MixRefIdeal.Gen Cert.MixRefIdeal.Value Cert.Rows
open Idealize.ShloMosaic.StableHlo
open scoped BigOperators

/-! ## The mixers' outputs through the output projection -/

theorem cat_low (A B : FVec Ideal S32768x512 .f32) (n : Fin 32768) (i : Fin 512) :
    concatenate S32768x1024 1 [⟨S32768x512, A⟩, ⟨S32768x512, B⟩] concatenates_S32768x512_S32768x512_S32768x1024_d1 (ix2 n ⟨i.val, by omega⟩) = A (ix2 n i) := by
  pointwise

theorem cat_high (A B : FVec Ideal S32768x512 .f32) (n : Fin 32768) (i : Fin 512) :
    concatenate S32768x1024 1 [⟨S32768x512, A⟩, ⟨S32768x512, B⟩] concatenates_S32768x512_S32768x512_S32768x1024_d1 (ix2 n ⟨512 + i.val, by omega⟩) = B (ix2 n i) := by
  pointwise

/-- The projection of a row, over the projection's rows. -/
theorem out_proj (X : FVec Ideal S32768x1024 .f32) (W : FVec Ideal S1024x1024 .f32) (n : Fin 32768) (l : Fin 1024) :
    Host.dotGeneral dot_S32768x1024_S1024x1024_S32768x1024_1_0_0_1_n_n none X W (ix2 n l) = ∑ i : Fin 1024, X (ix2 n i) * W (ix2 i l) := by
  pointwise

/-- Rows taken apart by batch. -/
theorem unflat_rows (X : FVec Ideal S32768x1024 .f32) (b : Fin 2) (s : Fin 16384) (l : Fin 1024) :
    shapeCast S2x16384x1024 X shapeCasts_S32768x1024_S2x16384x1024 (ix3 b s l) = X (ix2 ⟨b.val * 16384 + s.val, by omega⟩ l) := by
  refine shapeCast_apply X _ _ _ ?_
  rw [Shape.rowMajor_val_three, Shape.rowMajor_val_two]
  rfl

theorem plain_apply (W : FVec Ideal S1x1024x1024 .f32) (i k : Fin 1024) :
    shapeCast S1024x1024 W shapeCasts_S1x1024x1024_S1024x1024 (ix2 i k) = W (ix3 0 i k) := by
  refine shapeCast_apply W _ _ _ ?_
  rw [Shape.rowMajor_val_three, Shape.rowMajor_val_two]
  show (0 * 1024 + i.val) * 1024 + k.val = i.val * 1024 + k.val
  omega

section

variable (v : Valuation τ sig (Elt Ideal))

/-- The row with the mixers' outputs. -/
theorem v4_apply (b : Fin 2) (s : Fin 16384) (l : Fin 1024) :
    (res_main_v4 v : FVec Ideal S2x16384x1024 .f32) (ix3 b s l)
      = MixBody.mix (fun k => (v (Proc.devRef .tc main_arg0) : FVec Ideal S2x16384x1024 .f32) (ix3 b s k))
          (fun k => (v (Proc.devRef .tc main_arg1) : FVec Ideal S32768x512 .f32) (ix2 ⟨b.val * 16384 + s.val, by omega⟩ k))
          (fun k => (v (Proc.devRef .tc main_arg2) : FVec Ideal S32768x512 .f32) (ix2 ⟨b.val * 16384 + s.val, by omega⟩ k))
          (fun i k => (v (Proc.devRef .tc main_arg3) : FVec Ideal S1x1024x1024 .f32) (ix3 0 ⟨i.val, by omega⟩ k))
          (fun i k => (v (Proc.devRef .tc main_arg3) : FVec Ideal S1x1024x1024 .f32) (ix3 0 ⟨512 + i.val, by omega⟩ k)) l := by
  unfold res_main_v4
  refine (addf_apply _ _ _).trans ?_
  unfold MixBody.mix mv
  refine Eq.trans (congrArg₂ (fun a b : EReal => a + b) rfl ?_) (add_assoc _ _ _).symm
  refine (unflat_rows _ b s l).trans ((out_proj _ _ _ l).trans ?_)
  refine (Fin.sum_univ_add (a := 512) (b := 512) _).trans (congrArg₂ (fun a b : EReal => a + b) ?_ ?_)
  · exact Finset.sum_congr rfl fun i _ => congrArg₂ (fun a b : EReal => a * b) (cat_low _ _ _ i) (plain_apply _ _ _)
  · exact Finset.sum_congr rfl fun i _ => congrArg₂ (fun a b : EReal => a * b) (cat_high _ _ _ i) (plain_apply _ _ _)

/-- The row before the memory attention. -/
abbrev xrow (b : Fin 2) (s : Fin 16384) (k : Fin 1024) : EReal := (res_main_v4 v : FVec Ideal S2x16384x1024 .f32) (ix3 b s k)

/-- The query row. -/
abbrev qrow (b : Fin 2) (s : Fin 16384) : Fin 1024 → EReal :=
  mv (rms (xrow v b s) (fun k => (v (Proc.devRef .tc main_arg5) : FVec Ideal S2x1024 .f32) (ix2 0 k)))
    (fun i k => (v (Proc.devRef .tc main_arg6) : FVec Ideal S2x1024x1024 .f32) (ix3 0 i k))

theorem v30_apply (b : Fin 2) (h : Fin 4) (s : Fin 16384) (j : Fin 256) :
    (res_main_v30 v : FVec Ideal S2x4x16384x256 .f32) (ix4 b h s j)
      = score (qrow v b s) (fun j c => (v (Proc.devRef .tc main_arg4) : FVec Ideal S2x256x2048 .f32) (ix3 b j ⟨c.val, by omega⟩)) h j := by
  unfold res_main_v30
  refine (PostRef.score_apply _ _ b h s j).trans ?_
  unfold score
  refine congrArg (· * _) (Finset.sum_congr rfl fun d _ => congrArg₂ (· * ·) ?_ ?_)
  · refine (PostRef.split_apply _ b s h d).trans ((PostRef.proj_apply _ _ b s _).trans ?_)
    refine congrArg₂ (fun x w => mv x w _) (funext fun k => ?_) (funext fun i => funext fun k => ?_)
    · refine (PostRef.rms_apply _ _ b s k).trans ?_
      refine congrArg (fun w => rms _ w _) (funext fun k => ?_)
      pointwise
    · pointwise
  · refine (PostRef.split_mem_apply _ b j h d).trans ?_
    pointwise

theorem v37_apply (b : Fin 2) (h : Fin 4) (s : Fin 16384) (j : Fin 256) :
    (res_main_v37 v : FVec Ideal S2x4x16384x256 .f32) (ix4 b h s j)
      = ex (score (qrow v b s) (fun j c => (v (Proc.devRef .tc main_arg4) : FVec Ideal S2x256x2048 .f32) (ix3 b j ⟨c.val, by omega⟩)) h) j := by
  unfold res_main_v37
  refine (PostRef.ex_apply _ b h s j).trans ?_
  simp only [v30_apply]

/-- The row after the memory attention. -/
abbrev mrow (b : Fin 2) (s : Fin 16384) : Fin 1024 → EReal :=
  cross headR (xrow v b s) (fun k => (v (Proc.devRef .tc main_arg5) : FVec Ideal S2x1024 .f32) (ix2 0 k))
    (fun i k => (v (Proc.devRef .tc main_arg6) : FVec Ideal S2x1024x1024 .f32) (ix3 0 i k))
    (fun j c => (v (Proc.devRef .tc main_arg4) : FVec Ideal S2x256x2048 .f32) (ix3 b j ⟨c.val, by omega⟩))
    (fun j c => (v (Proc.devRef .tc main_arg4) : FVec Ideal S2x256x2048 .f32) (ix3 b j ⟨1024 + c.val, by omega⟩))
    (fun i k => (v (Proc.devRef .tc main_arg7) : FVec Ideal S2x1024x1024 .f32) (ix3 0 i k))

theorem v48_apply (b : Fin 2) (s : Fin 16384) (l : Fin 1024) :
    (res_main_v48 v : FVec Ideal S2x16384x1024 .f32) (ix3 b s l) = mrow v b s l := by
  unfold res_main_v48
  refine (addf_apply _ _ _).trans ?_
  unfold mrow cross
  refine congrArg₂ (fun a b : EReal => a + b) rfl ((PostRef.proj_apply _ _ b s l).trans
    (congrArg₂ (fun x w => mv x w _) (funext fun k => ?_) (funext fun i => funext fun k => ?_)))
  · refine (PostRef.join_apply _ b s k).trans ((PostRef.out_apply _ _ b _ s _).trans ?_)
    unfold heads headR
    simp only [v37_apply]
    refine Finset.sum_congr rfl fun j _ => congrArg (· * _) ?_
    refine (PostRef.split_mem_apply _ b j _ _).trans ?_
    rw [col_headOf]
    pointwise
  · pointwise

/-- The gate and value projections. -/
theorem v66_apply (b : Fin 2) (s : Fin 16384) (j : Fin 5632) :
    (res_main_v66 v : FVec Ideal S2x16384x5632 .f32) (ix3 b s j)
      = mv (rms (mrow v b s) (fun k => (v (Proc.devRef .tc main_arg8) : FVec Ideal S2x1024 .f32) (ix2 0 k)))
        (fun i j => (v (Proc.devRef .tc main_arg9) : FVec Ideal S2x1024x5632 .f32) (ix3 0 i j)) j := by
  unfold res_main_v66
  refine (PostRef.up_apply _ _ b s j).trans ?_
  refine congrArg₂ (fun x w => mv x w _) (funext fun k => ?_) (funext fun i => funext fun k => ?_)
  · refine (PostRef.rms_apply _ _ b s k).trans ?_
    simp only [v48_apply]
    refine congrArg (fun w => rms _ w _) (funext fun k => ?_)
    pointwise
  · pointwise

theorem v67_apply (b : Fin 2) (s : Fin 16384) (j : Fin 2816) :
    (res_main_v67 v : FVec Ideal S2x16384x2816 .f32) (ix3 b s j) = (res_main_v66 v : FVec Ideal S2x16384x5632 .f32) (ix3 b s ⟨j.val, by omega⟩) := by
  unfold res_main_v67
  pointwise

/-- The whole result at row `n`. -/
theorem res_apply (n : Fin 32768) (l : Fin 1024) :
    shapeCast S32768x1024 (addf (res_main_v48 v) (Host.dotGeneral (φ₁ := .f32) (φ₂ := .f32) dot_S2x16384x2816_S2816x1024_S2x16384x1024_2_0_01_1_n_n none (mulf (mulf (res_main_v67 v) (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf (res_main_v67 v)))))) (extractStridedSlice S2x16384x2816 ![0, 0, 2816] (res_main_v66 v) slices_S2x16384x5632_S2x16384x2816_0_0_2816)) (shapeCast S2816x1024 (extractStridedSlice S1x2816x1024 ![0, 0, 0] (v (Proc.devRef .tc main_arg10) : FVec Ideal S2x2816x1024 .f32) slices_S2x2816x1024_S1x2816x1024_0_0_0) shapeCasts_S1x2816x1024_S2816x1024))) shapeCasts_S2x16384x1024_S32768x1024 (ix2 n l)
      = tail headR (xrow v ⟨n.val / 16384, by omega⟩ ⟨n.val % 16384, by omega⟩) (fun k => (v (Proc.devRef .tc main_arg5) : FVec Ideal S2x1024 .f32) (ix2 0 k))
          (fun i k => (v (Proc.devRef .tc main_arg6) : FVec Ideal S2x1024x1024 .f32) (ix3 0 i k))
          (fun j c => (v (Proc.devRef .tc main_arg4) : FVec Ideal S2x256x2048 .f32) (ix3 ⟨n.val / 16384, by omega⟩ j c))
          (fun i k => (v (Proc.devRef .tc main_arg7) : FVec Ideal S2x1024x1024 .f32) (ix3 0 i k))
          (fun k => (v (Proc.devRef .tc main_arg8) : FVec Ideal S2x1024 .f32) (ix2 0 k))
          (fun i k => (v (Proc.devRef .tc main_arg9) : FVec Ideal S2x1024x5632 .f32) (ix3 0 i k))
          (fun i k => (v (Proc.devRef .tc main_arg10) : FVec Ideal S2x2816x1024 .f32) (ix3 0 i k)) l := by
  rw [flat_rows]
  generalize (⟨n.val / 16384, _⟩ : Fin 2) = b
  generalize (⟨n.val % 16384, _⟩ : Fin 16384) = s
  have hu : ∀ j : Fin 2816, extractStridedSlice S2x16384x2816 ![0, 0, 2816] (res_main_v66 v : FVec Ideal S2x16384x5632 .f32) slices_S2x16384x5632_S2x16384x2816_0_0_2816 (ix3 b s j)
      = (res_main_v66 v : FVec Ideal S2x16384x5632 .f32) (ix3 b s ⟨2816 + j.val, by omega⟩) := by
    intro j; pointwise
  refine (addf_apply _ _ _).trans ?_
  unfold tail ffn
  refine congrArg₂ (fun a b : EReal => a + b) (v48_apply v b s l) ((PostRef.down_apply _ _ b s l).trans
    (congrArg₂ (fun x w => mv x w _) (funext fun k => ?_) (funext fun i => funext fun k => ?_)))
  · refine (PostRef.swi_apply _ _ b s k).trans ?_
    simp only [hu, v67_apply, v66_apply, swi, mv]
  · pointwise

end

end Cert.MixRef
-- ==== Proof.OddRef.lean ====
module

public import proofs.«01_k».proof.Proof.OddEntry
public import proofs.«01_k».proof.Proof.PostRef
public import proofs.«01_k».proof.Proof.MixRef
import Idealize.ShloMosaic.Lib.IdealHost

/-!
  The arrays the reference's recurrence starts from, read at one row: they are the row functions of OddSpec.lean.
-/

@[expose] public section

noncomputable section

namespace Cert.OddRef

open Idealize.ShloMosaic Idealize.ShloMosaic.TcCoe Idealize.SL.Sem Cert.OddRefIdeal Cert.OddRefIdeal.Gen Cert.OddRefIdeal.Value Cert.Rows Cert.OddPlain Cert.OddEntry
open Idealize.ShloMosaic.StableHlo
open scoped BigOperators

/-! ## The operations, of any contents -/

/-- A row of the argument as a vector. -/
theorem vec_apply (w : FVec Ideal S1x1024 .f32) (k : Fin 1024) : shapeCast S1024 w shapeCasts_S1x1024_S1024 (ix1 k) = w (ix2 0 k) := by
  pointwise

/-- A vector over every row. -/
theorem over_apply (w : FVec Ideal S1024 .f32) (b : Fin 2) (s : Fin 16384) (k : Fin 1024) :
    (broadcastInDim S2x16384x1024 ![0, 1, 2] bcast_S1x1x1024_S2x16384x1024_0_1_2 (broadcastInDim S1x1x1024 ![2] bcast_S1024_S1x1x1024_2 w)) (ix3 b s k) = w (ix1 k) := by
  pointwise

/-- The convolution's rows: three rows of zeros, and then the projection's. -/
theorem pad_apply (Y : FVec Ideal S2x16384x1024 .f32) (b : Fin 2) (n : Fin 16387) (j : Fin 1024) :
    concatenate S2x16387x1024 1 [⟨S2x3x1024, broadcastInDim S2x3x1024 ![] bcast_S_S2x3x1024 (constant (F := Ideal) S_ .f32 0x00000000#32)⟩, ⟨S2x16384x1024, Y⟩] concatenates_S2x3x1024_S2x16384x1024_S2x16387x1024_d1 (ix3 b n j)
      = if h : n.val < 3 then 0 else Y (ix3 b ⟨n.val - 3, by omega⟩ j) := by
  pointwise

theorem tap0_apply (w : FVec Ideal S1x4x1024 .f32) (j : Fin 1024) :
    (shapeCast S1024 (extractStridedSlice S1x1x1024 ![0, 0, 0] w slices_S1x4x1024_S1x1x1024_0_0_0) shapeCasts_S1x1x1024_S1024) (ix1 j) = w (ix3 0 0 j) := by
  pointwise

theorem tap1_apply (w : FVec Ideal S1x4x1024 .f32) (j : Fin 1024) :
    (shapeCast S1024 (extractStridedSlice S1x1x1024 ![0, 1, 0] w slices_S1x4x1024_S1x1x1024_0_1_0) shapeCasts_S1x1x1024_S1024) (ix1 j) = w (ix3 0 1 j) := by
  pointwise

theorem tap2_apply (w : FVec Ideal S1x4x1024 .f32) (j : Fin 1024) :
    (shapeCast S1024 (extractStridedSlice S1x1x1024 ![0, 2, 0] w slices_S1x4x1024_S1x1x1024_0_2_0) shapeCasts_S1x1x1024_S1024) (ix1 j) = w (ix3 0 2 j) := by
  pointwise

theorem tap3_apply (w : FVec Ideal S1x4x1024 .f32) (j : Fin 1024) :
    (shapeCast S1024 (extractStridedSlice S1x1x1024 ![0, 3, 0] w slices_S1x4x1024_S1x1x1024_0_3_0) shapeCasts_S1x1x1024_S1024) (ix1 j) = w (ix3 0 3 j) := by
  pointwise

theorem row0_apply (Y : FVec Ideal S2x16387x1024 .f32) (b : Fin 2) (s : Fin 16384) (j : Fin 1024) :
    extractStridedSlice S2x16384x1024 ![0, 0, 0] Y slices_S2x16387x1024_S2x16384x1024_0_0_0 (ix3 b s j) = Y (ix3 b ⟨s.val, by omega⟩ j) := by
  pointwise

theorem row1_apply (Y : FVec Ideal S2x16387x1024 .f32) (b : Fin 2) (s : Fin 16384) (j : Fin 1024) :
    extractStridedSlice S2x16384x1024 ![0, 1, 0] Y slices_S2x16387x1024_S2x16384x1024_0_1_0 (ix3 b s j) = Y (ix3 b ⟨s.val + 1, by omega⟩ j) := by
  pointwise
  exact congrArg (fun n => Y (ix3 b n j)) (Fin.ext (Nat.add_comm _ _))

theorem row2_apply (Y : FVec Ideal S2x16387x1024 .f32) (b : Fin 2) (s : Fin 16384) (j : Fin 1024) :
    extractStridedSlice S2x16384x1024 ![0, 2, 0] Y slices_S2x16387x1024_S2x16384x1024_0_2_0 (ix3 b s j) = Y (ix3 b ⟨s.val + 2, by omega⟩ j) := by
  pointwise
  exact congrArg (fun n => Y (ix3 b n j)) (Fin.ext (Nat.add_comm _ _))

theorem row3_apply (Y : FVec Ideal S2x16387x1024 .f32) (b : Fin 2) (s : Fin 16384) (j : Fin 1024) :
    extractStridedSlice S2x16384x1024 ![0, 3, 0] Y slices_S2x16387x1024_S2x16384x1024_0_3_0 (ix3 b s j) = Y (ix3 b ⟨s.val + 3, by omega⟩ j) := by
  pointwise
  exact congrArg (fun n => Y (ix3 b n j)) (Fin.ext (Nat.add_comm _ _))

/-- A head's weights. -/
theorem weights_apply (g : FVec Ideal S1x4x256x256 .f32) (h : Fin 4) (d k : Fin 256) :
    shapeCast S4x256x256 g shapeCasts_S1x4x256x256_S4x256x256 (ix3 h d k) = g (ix4 0 h d k) := by
  refine shapeCast_apply g _ _ _ ?_
  rw [Shape.rowMajor_val_four, Shape.rowMajor_val_three]
  show ((0 * 4 + h.val) * 256 + d.val) * 256 + k.val = (h.val * 256 + d.val) * 256 + k.val
  omega

/-- The heads' products. -/
theorem dot_apply (g : FVec Ideal S4x256x256 .f32) (C : FVec Ideal S2x16384x4x256 .f32) (b : Fin 2) (s : Fin 16384) (h : Fin 4) (k : Fin 256) :
    transpose S2x16384x4x256 [2, 3, 0, 1] (Host.dotGeneral (φ₁ := .f32) (φ₂ := .f32) dot_S4x256x256_S2x16384x4x256_S4x256x2x16384_1_3_2_01_0_2 none g C) transposes_S4x256x2x16384_S2x16384x4x256_2_3_0_1 (ix4 b s h k)
      = ∑ d : Fin 256, g (ix3 h d k) * C (ix4 b s h d) := by
  pointwise

/-- The logistic as its quotient. -/
theorem sig_apply (z : FVec Ideal S2x16384x1024 .f32) (b : Fin 2) (s : Fin 16384) (j : Fin 1024) :
    Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf z))) (ix3 b s j)
      = Ideal.logistic (z (ix3 b s j)) := by
  pointwise
  rfl

/-- The softplus of the decay's parameter. -/
theorem soft_apply (w : FVec Ideal S1024 .f32) (j : Fin 1024) :
    select (cmpf .une (subf w (broadcastInDim S1024 ![] bcast_S_S1024 (constant S_ .f32 0x00000000#32))) (subf w (broadcastInDim S1024 ![] bcast_S_S1024 (constant S_ .f32 0x00000000#32)))) (addf w (broadcastInDim S1024 ![] bcast_S_S1024 (constant S_ .f32 0x00000000#32))) (addf (maximumf w (broadcastInDim S1024 ![] bcast_S_S1024 (constant S_ .f32 0x00000000#32))) (Host.log1p (Host.exp (Host.negf (Host.absf (subf w (broadcastInDim S1024 ![] bcast_S_S1024 (constant S_ .f32 0x00000000#32)))))))) (ix1 j)
      = OddSpec.soft (w (ix1 j)) := by
  pointwise
  unfold OddSpec.soft
  rw [if_neg (fun h => h rfl), sub_zero]

/-- The input's factor. -/
theorem mult_apply (L : FVec Ideal S2x16384x1024 .f32) (b : Fin 2) (s : Fin 16384) (j : Fin 1024) :
    Host.sqrt (maximumf (Host.negf (Host.expm1 (mulf (broadcastInDim S2x16384x1024 ![] bcast_S_S2x16384x1024 (constant S_ .f32 0x40000000#32)) L))) (broadcastInDim S2x16384x1024 ![] bcast_S_S2x16384x1024 (constant S_ .f32 0x00000000#32))) (ix3 b s j)
      = OddSpec.mult (L (ix3 b s j)) := by
  pointwise
  rfl

/-- A choice by the position. -/
theorem where_apply (P : IVec S2x16384 32) (x : FVec Ideal S2x16384x1024 .f32) (w : BitVec 32) (b : Fin 2) (s : Fin 16384) (j : Fin 1024) :
    select (broadcastInDim S2x16384x1024 ![0, 1, 2] bcast_S2x16384x1_S2x16384x1024_0_1_2 (broadcastInDim S2x16384x1 ![0, 1] bcast_S2x16384_S2x16384x1_0_1 (cmpi .eq P (broadcastInDim S2x16384 ![] bcast_S_S2x16384 (constantI S_ 32 0#32)))))
        (broadcastInDim S2x16384x1024 ![] bcast_S_S2x16384x1024 (constant S_ .f32 w)) x (ix3 b s j)
      = Scalar.select (IntOp.cmpi .eq (P (ix2 b s)) 0#32) (Ideal.ofBits .f32 w) (x (ix3 b s j)) := by
  pointwise

/-! ## The arrays -/

variable (m : (ℓ : Loc nD τ sig) → Buf (Elt Ideal) ℓ) (c : Dev nD)

/-- The weights, from the arguments. -/
def pt : Pt where
  wn k := a2 m c (ix2 0 k)
  W i k := a3 m c (ix3 0 i k)
  cw q k := a4 m c (ix3 0 q k)
  cb k := a5 m c (ix2 0 k)
  Gr h d k := a6 m c (ix4 0 h d k)
  br k := a7 m c (ix2 0 k)
  Gi h d k := a8 m c (ix4 0 h d k)
  bi k := a9 m c (ix2 0 k)
  lam k := a10 m c (ix2 0 k)
  wo i k := a11 m c (ix3 0 i k)

/-- A sequence's rows, and its positions. -/
def seqX (b : ℕ) (s : ℕ) (k : Fin 1024) : EReal := a0 m c (ix3 ⟨b % 2, by omega⟩ ⟨s % 16384, by omega⟩ k)
def seqZ (b : ℕ) (s : ℕ) : BitVec 32 := a1 m c (ix2 ⟨b % 2, by omega⟩ ⟨s % 16384, by omega⟩)

theorem seqX_apply (b : Fin 2) (s : Fin 16384) (k : Fin 1024) : seqX m c b.val s.val k = a0 m c (ix3 b s k) := by
  unfold seqX
  exact congrArg₂ (fun x y => a0 m c (ix3 x y k)) (Fin.ext (Nat.mod_eq_of_lt b.isLt)) (Fin.ext (Nat.mod_eq_of_lt s.isLt))

theorem seqZ_apply (b : Fin 2) (s : Fin 16384) : seqZ m c b.val s.val = a1 m c (ix2 b s) := by
  unfold seqZ
  exact congrArg₂ (fun x y => a1 m c (ix2 x y)) (Fin.ext (Nat.mod_eq_of_lt b.isLt)) (Fin.ext (Nat.mod_eq_of_lt s.isLt))

theorem high_apply (W : FVec Ideal S1x1024x2048 .f32) (i k : Fin 1024) :
    extractStridedSlice S1x1024x1024 ![0, 0, 1024] W slices_S1x1024x2048_S1x1024x1024_0_0_1024 (ix3 0 i k) = W (ix3 0 i ⟨1024 + k.val, by omega⟩) := by
  pointwise

theorem low_apply (W : FVec Ideal S1x1024x2048 .f32) (i k : Fin 1024) :
    extractStridedSlice S1x1024x1024 ![0, 0, 0] W slices_S1x1024x2048_S1x1024x1024_0_0_0 (ix3 0 i k) = W (ix3 0 i ⟨k.val, by omega⟩) := by
  pointwise

theorem v19_apply (b : Fin 2) (s : Fin 16384) (j : Fin 1024) : v19 m c (ix3 b s j) = OddSpec.xbRow (pt m c) (seqX m c b.val s.val) j := by
  rw [v19_eq]
  refine (PostRef.proj_apply _ _ b s j).trans ?_
  unfold OddSpec.xbRow mv
  refine Finset.sum_congr rfl fun i _ => congrArg₂ (fun x y : EReal => x * y) ?_ ((MixRef.plain_apply _ i j).trans (high_apply _ i j))
  refine (PostRef.rms_apply _ _ b s i).trans ?_
  simp only [vec_apply]
  exact congrArg (fun x => rms x _ i) (funext fun k => (seqX_apply m c b s k).symm)

theorem v21_apply (b : Fin 2) (n : Fin 16387) (j : Fin 1024) : v21 m c (ix3 b n j) = OddSpec.pad (pt m c) (seqX m c b.val) n.val j := by
  rw [v21_eq]
  refine (pad_apply _ b n j).trans ?_
  unfold OddSpec.pad
  split_ifs with h
  · rfl
  · exact v19_apply m c b ⟨n.val - 3, by omega⟩ j

theorem v54_apply (b : Fin 2) (s : Fin 16384) (j : Fin 1024) : v54 m c (ix3 b s j) = OddSpec.conv (pt m c) (seqX m c b.val) s.val j := by
  rw [v54_eq, v43_eq, v36_eq, v29_eq]
  unfold OddSpec.conv
  refine (addf_apply _ _ _).trans (congrArg₂ (fun x y : EReal => x + y) ?_ ((over_apply _ b s j).trans (vec_apply _ j)))
  refine (addf_apply _ _ _).trans (congrArg₂ (fun x y : EReal => x + y) ?_ ((mulf_apply _ _ _).trans (congrArg₂ (fun x y : EReal => x * y)
    ((over_apply _ b s j).trans (tap3_apply _ j)) ((row3_apply _ b s j).trans (v21_apply m c b _ j)))))
  refine (addf_apply _ _ _).trans (congrArg₂ (fun x y : EReal => x + y) ?_ ((mulf_apply _ _ _).trans (congrArg₂ (fun x y : EReal => x * y)
    ((over_apply _ b s j).trans (tap2_apply _ j)) ((row2_apply _ b s j).trans (v21_apply m c b _ j)))))
  refine (addf_apply _ _ _).trans (congrArg₂ (fun x y : EReal => x + y) ?_ ((mulf_apply _ _ _).trans (congrArg₂ (fun x y : EReal => x * y)
    ((over_apply _ b s j).trans (tap1_apply _ j)) ((row1_apply _ b s j).trans (v21_apply m c b _ j)))))
  refine (addf_apply _ _ _).trans (congrArg₂ (fun x y : EReal => x + y) ?_ ((mulf_apply _ _ _).trans (congrArg₂ (fun x y : EReal => x * y)
    ((over_apply _ b s j).trans (tap0_apply _ j)) ((row0_apply _ b s j).trans (v21_apply m c b _ j)))))
  exact Ideal.ofBits_zero_f32

/-- A gate's argument, of any weights and bias. -/
theorem gate_apply (g : FVec Ideal S1x4x256x256 .f32) (w : FVec Ideal S1x1024 .f32) (b : Fin 2) (s : Fin 16384) (j : Fin 1024) :
    addf (shapeCast S2x16384x1024 (transpose S2x16384x4x256 [2, 3, 0, 1] (Host.dotGeneral (φ₁ := .f32) (φ₂ := .f32) dot_S4x256x256_S2x16384x4x256_S4x256x2x16384_1_3_2_01_0_2 none (shapeCast S4x256x256 g shapeCasts_S1x4x256x256_S4x256x256) (shapeCast S2x16384x4x256 (v54 m c) shapeCasts_S2x16384x1024_S2x16384x4x256)) transposes_S4x256x2x16384_S2x16384x4x256_2_3_0_1) shapeCasts_S2x16384x4x256_S2x16384x1024)
        (broadcastInDim S2x16384x1024 ![0, 1, 2] bcast_S1x1x1024_S2x16384x1024_0_1_2 (broadcastInDim S1x1x1024 ![2] bcast_S1024_S1x1x1024_2 (shapeCast S1024 w shapeCasts_S1x1024_S1024))) (ix3 b s j)
      = OddSpec.side (fun h d k => g (ix4 0 h d k)) (OddSpec.conv (pt m c) (seqX m c b.val) s.val) j + w (ix2 0 j) := by
  refine (addf_apply _ _ _).trans (congrArg₂ (fun x y : EReal => x + y) ?_ ((over_apply _ b s j).trans (vec_apply _ j)))
  refine (PostRef.join_apply _ b s j).trans ((dot_apply _ _ b s _ _).trans ?_)
  unfold OddSpec.side
  exact Finset.sum_congr rfl fun d _ => congrArg₂ (fun x y : EReal => x * y) (weights_apply _ _ _ _) ((PostRef.split_apply _ b s _ _).trans (v54_apply m c b s _))

theorem v83_apply (b : Fin 2) (s : Fin 16384) (j : Fin 1024) :
    v83 m c (ix3 b s j) = OddSpec.inRow (pt m c) (OddSpec.conv (pt m c) (seqX m c b.val) s.val) j := by
  rw [v83_eq, v77_eq]
  exact (sig_apply _ b s j).trans (congrArg Ideal.logistic (gate_apply m c _ _ b s j))

theorem v88_apply (j : Fin 1024) : v88 m c (ix1 j) = OddSpec.soft (-(pt m c).lam j) := by
  rw [v88_eq]
  refine (soft_apply _ j).trans (congrArg OddSpec.soft ?_)
  exact congrArg (fun x : EReal => -x) (vec_apply _ j)

theorem v91_apply (b : Fin 2) (s : Fin 16384) (j : Fin 1024) :
    v91 m c (ix3 b s j) = OddSpec.logRow (pt m c) (OddSpec.conv (pt m c) (seqX m c b.val) s.val) j := by
  rw [v91_eq, v69_eq, v63_eq]
  unfold OddSpec.logRow
  refine (mulf_apply _ _ _).trans (congrArg₂ (fun x y : EReal => x * y) ?_ ((over_apply _ b s j).trans (v88_apply m c j)))
  refine (mulf_apply _ _ _).trans (congrArg₂ (fun x y : EReal => x * y) rfl ?_)
  exact (sig_apply _ b s j).trans (congrArg Ideal.logistic (gate_apply m c _ _ b s j))

/-- The recurrence's multipliers and addends. -/
theorem v100_apply (b : Fin 2) (s : Fin 16384) (j : Fin 1024) :
    v100 m c (ix3 b s j) = OddSpec.aRow (pt m c) (seqX m c b.val) (seqZ m c b.val) j s.val := by
  rw [v100_eq, v2_eq]
  refine (where_apply _ _ _ b s j).trans ?_
  unfold OddSpec.aRow
  rw [seqZ_apply, Ideal.ofBits_zero_f32]
  exact congrArg (fun x : EReal => Scalar.select _ (0 : EReal) (Ideal.exp x)) (v91_apply m c b s j)

theorem v103_apply (b : Fin 2) (s : Fin 16384) (j : Fin 1024) :
    v103 m c (ix3 b s j) = OddSpec.bRow (pt m c) (seqX m c b.val) (seqZ m c b.val) j s.val := by
  rw [v103_eq, v101_eq, v99_eq, v2_eq]
  unfold OddSpec.bRow
  refine (mulf_apply _ _ _).trans (congrArg₂ (fun x y : EReal => x * y) ?_ ((mulf_apply _ _ _).trans
    (congrArg₂ (fun x y : EReal => x * y) (v83_apply m c b s j) (v54_apply m c b s j))))
  refine (where_apply _ _ _ b s j).trans ?_
  rw [seqZ_apply, Ideal.ofBits_one_f32]
  exact congrArg (fun x : EReal => Scalar.select _ (1 : EReal) x) ((mult_apply _ b s j).trans (congrArg OddSpec.mult (v91_apply m c b s j)))

theorem t0_apply (b : Fin 2) (s : Fin 16384) (j : Fin 1024) :
    t0 m c (ix3 s b j) = OddSpec.aRow (pt m c) (seqX m c b.val) (seqZ m c b.val) j s.val := by
  rw [t0_eq, ← v100_apply]
  pointwise

theorem t1_apply (b : Fin 2) (s : Fin 16384) (j : Fin 1024) :
    t1 m c (ix3 s b j) = OddSpec.bRow (pt m c) (seqX m c b.val) (seqZ m c b.val) j s.val := by
  rw [t1_eq, ← v103_apply]
  pointwise

theorem t3_apply (b : Fin 2) (j : Fin 1024) : t3 m c (ix2 b j) = 0 := by
  rw [t3_eq]
  pointwise

end Cert.OddRef
-- ==== Proof.OddLoop.lean ====
module

public import proofs.«01_k».proof.Proof.OddRef

/-!
  The reference's loop: after `k` trips its carried state is the recurrence's state after `k` steps, and the rows it has
  written are the states up to there. The reference's result is then the row function of OddSpec.lean.
-/

@[expose] public section

noncomputable section

namespace Cert.OddLoop

open Idealize.ShloMosaic Idealize.ShloMosaic.TcCoe Idealize.SL.Sem Cert.OddRefIdeal Cert.OddRefIdeal.Gen Cert.OddRefIdeal.Value Cert.Rows Cert.OddPlain Cert.OddEntry Cert.OddRef
open Idealize.ShloMosaic.StableHlo
open scoped BigOperators

/-! ## One row read, one row written -/

/-- Where the loop's row lies: at the counter. -/
abbrev start (n : IVec S_ 32) : Fin 3 → Int := fun k => (((![n, constantI S_ 32 0#32, constantI S_ 32 0#32] : Fin 3 → (⟨S_, .i32⟩ : BufTy).Contents (Elt Ideal))) k (Shape.Idx.first h_S_)).toInt

theorem toInt_small (k : ℕ) (h : k < 16384) : (BitVec.ofNat 32 k).toInt = k := by
  rw [BitVec.toInt_eq_toNat_of_lt (by rw [BitVec.toNat_ofNat]; omega), BitVec.toNat_ofNat]
  omega

theorem flat_apply (X : FVec Ideal S1x2x1024 .f32) (b : Fin 2) (j : Fin 1024) :
    shapeCast S2x1024 X shapeCasts_S1x2x1024_S2x1024 (ix2 b j) = X (ix3 0 b j) := by
  pointwise

/-- The window at the counter starts there. -/
theorem clamp0 (n : IVec S_ 32) (k : Fin 16384) (hn : ∀ i, n i = BitVec.ofNat 32 k.val) (ht : S1x2x1024.rank = S16384x2x1024.rank) :
    Host.clampedStart S16384x2x1024 S1x2x1024 ht (start n) 0 = k.val :=
  Host.clampedStart_of_le (s := S16384x2x1024) (t := S1x2x1024) ht (start n) 0 k.val ((congrArg BitVec.toInt (hn _)).trans (toInt_small k.val k.isLt))
    (by have := k.isLt; show k.val + 1 ≤ 16384; omega)
theorem clamp1 (n : IVec S_ 32) (ht : S1x2x1024.rank = S16384x2x1024.rank) : Host.clampedStart S16384x2x1024 S1x2x1024 ht (start n) 1 = 0 :=
  Host.clampedStart_of_le (s := S16384x2x1024) (t := S1x2x1024) ht (start n) 1 0 rfl (by show 0 + 2 ≤ 2; omega)
theorem clamp2 (n : IVec S_ 32) (ht : S1x2x1024.rank = S16384x2x1024.rank) : Host.clampedStart S16384x2x1024 S1x2x1024 ht (start n) 2 = 0 :=
  Host.clampedStart_of_le (s := S16384x2x1024) (t := S1x2x1024) ht (start n) 2 0 rfl (by show 0 + 1024 ≤ 1024; omega)

/-- The row at the counter. -/
theorem read_apply (T : FVec Ideal S16384x2x1024 .f32) (n : IVec S_ 32) (k : Fin 16384) (hn : ∀ i, n i = BitVec.ofNat 32 k.val) (b : Fin 2) (j : Fin 1024) :
    shapeCast S2x1024 (Host.dynamicSlice S1x2x1024 T (start n) sliceFits_S16384x2x1024_S1x2x1024) shapeCasts_S1x2x1024_S2x1024 (ix2 b j) = T (ix3 k b j) := by
  rw [flat_apply, Host.dynamicSlice_apply]
  refine congrArg T (funext fun a => Fin.ext ?_)
  match a with
  | ⟨0, _⟩ => exact congrArg (· + 0) (clamp0 n k hn _)
  | ⟨1, _⟩ => exact (congrArg (· + b.val) (clamp1 n _)).trans (Nat.zero_add _)
  | ⟨2, _⟩ => exact (congrArg (· + j.val) (clamp2 n _)).trans (Nat.zero_add _)

theorem lift_apply (u : FVec Ideal S2x1024 .f32) (b : Fin 2) (j : Fin 1024) :
    broadcastInDim S1x2x1024 ![1, 2] bcast_S2x1024_S1x2x1024_1_2 u (ix3 0 b j) = u (ix2 b j) := by
  pointwise

/-- The rows after the one at the counter is written. -/
theorem write_apply (T : FVec Ideal S16384x2x1024 .f32) (u : FVec Ideal S2x1024 .f32) (n : IVec S_ 32) (k : Fin 16384) (hn : ∀ i, n i = BitVec.ofNat 32 k.val)
    (s : Fin 16384) (b : Fin 2) (j : Fin 1024) :
    Host.dynamicUpdateSlice T (broadcastInDim S1x2x1024 ![1, 2] bcast_S2x1024_S1x2x1024_1_2 u) (start n) updateFits_S16384x2x1024_S1x2x1024 (ix3 s b j)
      = if s = k then u (ix2 b j) else T (ix3 s b j) := by
  have c0 := clamp0 n k hn updateFits_S16384x2x1024_S1x2x1024.1
  have c1 := clamp1 n updateFits_S16384x2x1024_S1x2x1024.1
  have c2 := clamp2 n updateFits_S16384x2x1024_S1x2x1024.1
  rw [Host.dynamicUpdateSlice_apply]
  by_cases hs : s = k
  · subst hs
    rw [if_pos rfl, dif_pos]
    · rw [← lift_apply u b j]
      refine congrArg _ (funext fun a => Fin.ext ?_)
      match a with
      | ⟨0, _⟩ => exact (congrArg (s.val - ·) c0).trans (Nat.sub_self _)
      | ⟨1, _⟩ => exact congrArg (b.val - ·) c1
      | ⟨2, _⟩ => exact congrArg (j.val - ·) c2
    · intro a
      match a with
      | ⟨0, _⟩ => exact ⟨c0.le, (Nat.lt_succ_self s.val).trans_eq (congrArg (· + 1) c0.symm)⟩
      | ⟨1, _⟩ => exact ⟨c1.le.trans (Nat.zero_le _), (show b.val < 0 + 2 by omega).trans_eq (congrArg (· + 2) c1.symm)⟩
      | ⟨2, _⟩ => exact ⟨c2.le.trans (Nat.zero_le _), (show j.val < 0 + 1024 by omega).trans_eq (congrArg (· + 1024) c2.symm)⟩
  · rw [if_neg hs, dif_neg]
    intro h
    have h1 := (c0.symm.le.trans (h 0).1)
    have h2 := (h 0).2.trans_eq (congrArg (· + 1) c0)
    have h1' : k.val ≤ s.val := h1
    have h2' : s.val < k.val + 1 := h2
    exact hs (Fin.ext (by omega))

/-! ## The loop -/

variable (m : (ℓ : Loc nD τ sig) → Buf (Elt Ideal) ℓ) (c : Dev nD)

/-- The carried arrays after `k` trips. -/
def w0 (k : ℕ) : FVec Ideal S16384x2x1024 .f32 := (STEP^[k] (entryContents preI m c)) (Proc.devRef .tc main_v108_0)
def w1 (k : ℕ) : FVec Ideal S16384x2x1024 .f32 := (STEP^[k] (entryContents preI m c)) (Proc.devRef .tc main_v108_1)
def w2 (k : ℕ) : IVec S_ 32 := (STEP^[k] (entryContents preI m c)) (Proc.devRef .tc main_v108_2)
def w3 (k : ℕ) : FVec Ideal S2x1024 .f32 := (STEP^[k] (entryContents preI m c)) (Proc.devRef .tc main_v108_3)
def w4 (k : ℕ) : FVec Ideal S16384x2x1024 .f32 := (STEP^[k] (entryContents preI m c)) (Proc.devRef .tc main_v108_4)

theorem w0_eq (k : ℕ) : w0 m c k = t0 m c := by
  induction k with
  | zero => rfl
  | succ k ih => rw [← ih]; unfold w0; rw [Function.iterate_succ_apply', STEP_main_v108_0]

theorem w1_eq (k : ℕ) : w1 m c k = t1 m c := by
  induction k with
  | zero => rfl
  | succ k ih => rw [← ih]; unfold w1; rw [Function.iterate_succ_apply', STEP_main_v108_1]

theorem w2_eq (k : ℕ) (i : S_.Idx) : w2 m c k i = BitVec.ofNat 32 k := by
  induction k with
  | zero => exact congrFun (ctr_entry m c) i
  | succ k ih =>
    have e : w2 m c (k + 1) = addi (w2 m c k) (constantI S_ 32 1#32) := by
      unfold w2; rw [Function.iterate_succ_apply', STEP_main_v108_2]; rfl
    rw [e]
    show w2 m c k i + 1#32 = _
    rw [ih, BitVec.ofNat_add]

/-- The state a trip computes. -/
def made (k : ℕ) : FVec Ideal S2x1024 .f32 :=
  addf (mulf (shapeCast S2x1024 (Host.dynamicSlice S1x2x1024 (w0 m c k) (start (w2 m c k)) sliceFits_S16384x2x1024_S1x2x1024) shapeCasts_S1x2x1024_S2x1024) (w3 m c k))
    (shapeCast S2x1024 (Host.dynamicSlice S1x2x1024 (w1 m c k) (start (w2 m c k)) sliceFits_S16384x2x1024_S1x2x1024) shapeCasts_S1x2x1024_S2x1024)

theorem w3_succ (k : ℕ) : w3 m c (k + 1) = made m c k := by
  unfold w3; rw [Function.iterate_succ_apply', STEP_main_v108_3]; rfl

theorem w4_succ (k : ℕ) : w4 m c (k + 1) = Host.dynamicUpdateSlice (w4 m c k) (broadcastInDim S1x2x1024 ![1, 2] bcast_S2x1024_S1x2x1024_1_2 (made m c k))
    (start (w2 m c k)) updateFits_S16384x2x1024_S1x2x1024 := by
  unfold w4; rw [Function.iterate_succ_apply', STEP_main_v108_4]; rfl

/-- The recurrence's states. -/
abbrev st (b : Fin 2) (j : Fin 1024) (n : ℕ) : EReal := OddSpec.state (OddRef.pt m c) (OddRef.seqX m c b.val) (OddRef.seqZ m c b.val) j n

theorem made_apply (k : Fin 16384) (b : Fin 2) (j : Fin 1024) (h : w3 m c k.val (ix2 b j) = st m c b j k.val) :
    made m c k.val (ix2 b j) = st m c b j (k.val + 1) := by
  unfold made
  refine (addf_apply _ _ _).trans (congrArg₂ (fun x y : EReal => x + y) ((mulf_apply _ _ _).trans (congrArg₂ (fun x y : EReal => x * y) ?_ h)) ?_)
  · rw [read_apply _ _ k (w2_eq m c k.val), w0_eq, t0_apply]
  · rw [read_apply _ _ k (w2_eq m c k.val), w1_eq, t1_apply]

/-- What the loop holds after `k` trips. -/
theorem held (k : ℕ) (hk : k ≤ 16384) : (∀ (b : Fin 2) (j : Fin 1024), w3 m c k (ix2 b j) = st m c b j k)
    ∧ ∀ (s : Fin 16384) (b : Fin 2) (j : Fin 1024), s.val < k → w4 m c k (ix3 s b j) = st m c b j (s.val + 1) := by
  induction k with
  | zero => exact ⟨fun b j => t3_apply m c b j, fun s b j h => absurd h (Nat.not_lt_zero _)⟩
  | succ k ih =>
    obtain ⟨i3, i4⟩ := ih (by omega)
    have hm : ∀ (b : Fin 2) (j : Fin 1024), made m c k (ix2 b j) = st m c b j (k + 1) := fun b j => made_apply m c ⟨k, by omega⟩ b j (i3 b j)
    refine ⟨fun b j => by rw [w3_succ]; exact hm b j, fun s b j hs => ?_⟩
    rw [w4_succ, write_apply _ _ _ ⟨k, by omega⟩ (w2_eq m c k)]
    split_ifs with h
    · rw [hm, h]
    · exact i4 s b j (by have : s.val ≠ k := fun e => h (Fin.ext e); omega)

/-! ## The result -/

/-- The gelu, of any contents. -/
theorem gelu_apply (g : FVec Ideal S2x16384x1024 .f32) (b : Fin 2) (s : Fin 16384) (j : Fin 1024) :
    mulf g (mulf (broadcastInDim S2x16384x1024 ![] bcast_S_S2x16384x1024 (constant S_ .f32 0x3F000000#32)) (addf (broadcastInDim S2x16384x1024 ![] bcast_S_S2x16384x1024 (constant S_ .f32 0x3F800000#32)) (Host.tanh (mulf (broadcastInDim S2x16384x1024 ![] bcast_S_S2x16384x1024 (constant S_ .f32 0x3F4C422A#32)) (addf g (mulf (broadcastInDim S2x16384x1024 ![] bcast_S_S2x16384x1024 (constant S_ .f32 0x3D372713#32)) (mulf (mulf g g) g))))))) (ix3 b s j)
      = OddSpec.gelu (g (ix3 b s j)) := by
  pointwise
  rfl

theorem back_apply (T : FVec Ideal S16384x2x1024 .f32) (b : Fin 2) (s : Fin 16384) (j : Fin 1024) :
    transpose S2x16384x1024 [1, 0, 2] T transposes_S16384x2x1024_S2x16384x1024_1_0_2 (ix3 b s j) = T (ix3 s b j) := by
  pointwise

/-- The reference's result at a row. -/
theorem out_apply (b : Fin 2) (s : Fin 16384) (l : Fin 1024) :
    (out_main_v143 (STEP^[16384] (entryContents preI m c)) : FVec Ideal S2x16384x1024 .f32) (ix3 b s l)
      = OddSpec.outRow (OddRef.pt m c) (OddRef.seqX m c b.val) (OddRef.seqZ m c b.val) s.val l := by
  unfold out_main_v143
  rw [iter_main_arg0, iter_main_arg2, iter_main_arg3, iter_main_arg11]
  unfold OddSpec.outRow
  refine (addf_apply _ _ _).trans (congrArg₂ (fun x y : EReal => x + y) (seqX_apply m c b s l).symm ((PostRef.proj_apply _ _ b s l).trans
    (Finset.sum_congr rfl fun j _ => congrArg₂ (fun x y : EReal => x * y) ?_ (MixRef.plain_apply _ j l))))
  refine (mulf_apply _ _ _).trans (congrArg₂ (fun x y : EReal => x * y) ((gelu_apply _ b s j).trans (congrArg OddSpec.gelu ?_)) ?_)
  · refine (PostRef.proj_apply _ _ b s j).trans ?_
    unfold OddSpec.gRow mv
    refine Finset.sum_congr rfl fun i _ => congrArg₂ (fun x y : EReal => x * y) ?_ ((MixRef.plain_apply _ i j).trans (low_apply _ i j))
    refine (PostRef.rms_apply _ _ b s i).trans ?_
    simp only [vec_apply]
    exact congrArg (fun x => rms x _ i) (funext fun k => (seqX_apply m c b s k).symm)
  · exact (back_apply _ b s j).trans ((held m c 16384 le_rfl).2 s b j s.isLt)

end Cert.OddLoop
-- ==== Proof.Finite.lean ====
module

public import proofs.«01_k».proof.Proof.PostRow

/-!
  Where a row's scores are finite, dividing the weighted sum of the values by the sum of the weights is weighing the
  values by the divided weights; and the scores are finite where the row, the keys, and the query's weights are.
-/

@[expose] public section

noncomputable section

namespace Cert.Rows

open Idealize.ShloMosaic
open scoped BigOperators

/-- An extended real that is a real number. -/
def IsReal (x : EReal) : Prop := ∃ r : ℝ, x = (r : EReal)

/-- What is less than infinity in magnitude is a real number. -/
theorem real_of_lt {a : Ideal .f32} (h : BitVec.ofBool (decide (FloatOps.absf (F := Ideal) a < Ideal.ofBits .f32 0x7F800000#32)) = 1#1) :
    IsReal a := by
  have ht : Ideal.ofBits .f32 0x7F800000#32 = ⊤ := by simp [Ideal.ofBits, Ideal.ieee]
  rw [ht] at h
  have h' : max a (-a) < (⊤ : EReal) := by
    by_contra hc
    have : decide (FloatOps.absf (F := Ideal) a < (⊤ : EReal)) = false := decide_eq_false hc
    rw [this] at h
    exact absurd h (by decide)
  induction a using EReal.rec with
  | bot => simp at h'
  | top => simp at h'
  | coe r => exact ⟨r, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- A nonnegative real factor distributes over a sum, whatever the terms. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The greatest of a row of real numbers is a real number. -/
theorem top_real {s : Fin 256 → EReal} (h : ∀ j, IsReal (s j)) : IsReal (top s) := by
  have hb : Ideal.ofBits .f32 0xFF800000#32 = ⊥ := by simp [Ideal.ofBits, Ideal.ieee]
  have h1 : top s < ⊤ := by
    unfold top; rw [hb, Finset.fold_max_lt]
    exact ⟨bot_lt_top, fun j _ => by obtain ⟨r, hr⟩ := h j; rw [hr]; exact EReal.coe_lt_top r⟩
  have h2 : ⊥ < top s := by
    unfold top; rw [hb, Finset.lt_fold_max]
    refine Or.inr ⟨0, Finset.mem_univ _, ?_⟩
    obtain ⟨r, hr⟩ := h 0; rw [hr]; exact EReal.bot_lt_coe r
  exact ⟨(top s).toReal, (EReal.coe_toReal h1.ne h2.ne').symm⟩

/-- The two orders of one head agree where its scores are real numbers. -/
theorem head_eq {s : Fin 256 → EReal} (h : ∀ j, IsReal (s j)) (v : Fin 256 → EReal) : headK s v = headR s v := by
  obtain ⟨t, ht⟩ := top_real h
  have he : ∀ j, ∃ r : ℝ, 0 < r ∧ ex s j = (r : EReal) := by
    intro j
    obtain ⟨r, hr⟩ := h j
    refine ⟨Real.exp (r - t), Real.exp_pos _, ?_⟩
    unfold ex
    rw [hr, ht, ← EReal.coe_sub]
    rfl
  choose p hp hpe using he
  have hs : (∑ j, ex s j) = ((∑ j, p j : ℝ) : EReal) := by
    rw [coe_sum]; exact Finset.sum_congr rfl fun j _ => hpe j
  have hL : 0 < ∑ j, p j := Finset.sum_pos (fun j _ => hp j) ⟨0, Finset.mem_univ _⟩
  have hne : ((∑ j, p j : ℝ) : EReal) ≠ 0 := by exact_mod_cast hL.ne'
  unfold headK headR Ideal.div
  rw [hs]
  simp only [if_neg hne]
  rw [← EReal.coe_inv, sum_mul_real _ _ (inv_nonneg.mpr hL.le)]
  refine Finset.sum_congr rfl fun j _ => ?_
  rw [mul_comm (ex s j) (v j), mul_assoc]

/-- The normalisation's factor of a row of real numbers is a real number. -/
theorem scale_real {x : Fin 1024 → EReal} (h : ∀ k, IsReal (x k)) : IsReal (scale x) := by
  choose r hr using h
  have hc : Ideal.ofBits .f32 0x44800000#32 = ((1024 : ℝ) : EReal) := by
    simp [Ideal.ofBits, Ideal.ieee, -EReal.coe_mul]; norm_num
  obtain ⟨e, he, hee⟩ : ∃ e : ℝ, 0 < e ∧ Ideal.ofBits .f32 0x358637BD#32 = (e : EReal) := by
    refine ⟨_, ?_, by simp [Ideal.ofBits, Ideal.ieee, -EReal.coe_mul]; rfl⟩
    positivity
  unfold scale
  have hs : (∑ k, x k * x k) = ((∑ k, r k * r k : ℝ) : EReal) := by
    rw [coe_sum]; exact Finset.sum_congr rfl fun k _ => by rw [hr, EReal.coe_mul]
  have hd : Ideal.div (∑ k, x k * x k) ((1024 : ℝ) : EReal) = (((∑ k, r k * r k) * (1024 : ℝ)⁻¹ : ℝ) : EReal) := by
    unfold Ideal.div
    rw [if_neg (by norm_cast), hs, ← EReal.coe_inv, ← EReal.coe_mul]
  rw [hc, hd, hee, ← EReal.coe_add]
  have hpos : 0 < (∑ k, r k * r k) * (1024 : ℝ)⁻¹ + e := by
    have : 0 ≤ ∑ k, r k * r k := Finset.sum_nonneg fun k _ => mul_self_nonneg _
    positivity
  refine ⟨(Real.sqrt ((∑ k, r k * r k) * (1024 : ℝ)⁻¹ + e))⁻¹, ?_⟩
  show (if _ < _ then _ else if _ = _ then _ else _) = _
  rw [if_neg (not_lt.mpr hpos.le), if_neg hpos.ne']

/-- The scores are real numbers where the row, its norm, the query weights and the keys are. -/
theorem score_real {x nx : Fin 1024 → EReal} {wq : Fin 1024 → Fin 1024 → EReal} {K : Fin 256 → Fin 1024 → EReal}
    (hx : ∀ k, IsReal (x k)) (hn : ∀ k, IsReal (nx k)) (hw : ∀ i k, IsReal (wq i k)) (hK : ∀ j k, IsReal (K j k))
    (h : Fin 4) (j : Fin 256) : IsReal (score (mv (rms x nx) wq) K h j) := by
  have hc : Ideal.ofBits .f32 0x3D800000#32 = ((1 / 16 : ℝ) : EReal) := by
    simp [Ideal.ofBits, Ideal.ieee, -EReal.coe_mul]; norm_num
  unfold score
  rw [hc]
  refine IsReal.mul (IsReal.sum fun d => IsReal.mul (IsReal.sum fun i => IsReal.mul ?_ (hw _ _)) (hK _ _)) ⟨_, rfl⟩
  exact ((hx _).mul (scale_real hx)).mul (hn _)

/-- So the layer's tail is the same in both orders. -/
theorem tail_eq {x nx : Fin 1024 → EReal} {wq : Fin 1024 → Fin 1024 → EReal} {kv : Fin 256 → Fin 2048 → EReal}
    (hx : ∀ k, IsReal (x k)) (hn : ∀ k, IsReal (nx k)) (hw : ∀ i k, IsReal (wq i k)) (hK : ∀ j (k : Fin 1024), IsReal (kv j ⟨k.val, by omega⟩))
    (wo : Fin 1024 → Fin 1024 → EReal) (nf : Fin 1024 → EReal) (gu : Fin 1024 → Fin 5632 → EReal) (wd : Fin 2816 → Fin 1024 → EReal) :
    tail headK x nx wq kv wo nf gu wd = tail headR x nx wq kv wo nf gu wd := by
  unfold tail
  refine congrArg (fun a => ffn a nf _ _ wd) (funext fun l => ?_)
  unfold cross
  refine congrArg (fun a => x l + mv a wo l) (funext fun k => ?_)
  exact head_eq (fun j => score_real hx hn hw hK _ _) _

end Cert.Rows
-- ==== Proof.OddIdent.lean ====
/-
  THE TWO WAYS OF COMPUTING THE RECURRENT MIXER'S ROW AGREE where the decay's parameter is not minus infinity: the halved
  gates' hyperbolic tangents are logistics, and the rest is arithmetic.
-/
module

public import proofs.«01_k».proof.Proof.OddSpec
public import proofs.«01_k».proof.Proof.OddBlock
public import proofs.«01_k».proof.Proof.Finite

@[expose] public section

noncomputable section

namespace Cert.OddIdent

open Idealize.ShloMosaic Cert.Rows Cert.OddScan Cert.OddPlain
open scoped BigOperators

theorem half_word : Ideal.ofBits .f32 0x3F000000#32 = ((1 / 2 : ℝ) : EReal) := by
  simp [Ideal.ofBits, Ideal.ieee, -EReal.coe_mul]; norm_num
theorem four_word : Ideal.ofBits .f32 0xC0800000#32 = ((-4 : ℝ) : EReal) := by
  simp [Ideal.ofBits, Ideal.ieee, -EReal.coe_mul]; norm_num
theorem eight_word : Ideal.ofBits .f32 0xC1000000#32 = ((-8 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem cube_word : Ideal.ofBits .f32 0x3D372713#32 = ((12003091 / 268435456 : ℝ) : EReal) := by
  simp [Ideal.ofBits, Ideal.ieee, -EReal.coe_mul]; norm_num
theorem root_word : Ideal.ofBits .f32 0x3F4C422A#32 = ((6693141 / 8388608 : ℝ) : EReal) := by
  simp [Ideal.ofBits, Ideal.ieee, -EReal.coe_mul]; norm_num
theorem linear_word : Ideal.ofBits .f32 0x3FCC422A#32 = ((6693141 / 4194304 : ℝ) : EReal) := by
  simp [Ideal.ofBits, Ideal.ieee, -EReal.coe_mul]; norm_num
theorem cubic_value : Cert.OddBlock.cubic = ((80338380498831 / 281474976710656 : ℝ) : EReal) := rfl

/-- A nonnegative real factor distributes over two terms. -/
theorem real_mul_add {c : ℝ} (hc : 0 ≤ c) (x y : EReal) : (c : EReal) * (x + y) = c * x + c * y :=
  EReal.left_distrib_of_nonneg_of_ne_top (EReal.coe_nonneg.mpr hc) (EReal.coe_ne_top c) x y

/-- A half of the hyperbolic tangent of a half, plus a half, is the logistic. -/
theorem real_logistic (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  rw [h1]
  have ha := Real.exp_pos (1 / 2 * r)
  have hb := Real.exp_pos (-(1 / 2 * r))
  generalize Real.exp (1 / 2 * r) = a at *
  generalize Real.exp (-(1 / 2 * r)) = b at *
  have : a = b⁻¹ := by field_simp; linarith
  subst this
  field_simp
  ring

theorem logistic_half (z : EReal) : half * Ideal.tanh (half * z) + half = Ideal.logistic z := by
  rw [show half = ((1 / 2 : ℝ) : EReal) from half_word]
  induction z using EReal.rec with
  | bot =>
    rw [EReal.coe_mul_bot_of_pos (by norm_num)]
    have h : Ideal.logistic ⊥ = 0 := by
      show Ideal.div 1 (1 + Ideal.exp (-⊥)) = 0
      rw [EReal.neg_bot, show Ideal.exp ⊤ = ⊤ from rfl, EReal.add_top_of_ne_bot (by decide)]
      unfold Ideal.div
      rw [if_neg (by simp), EReal.inv_top, mul_zero]
    rw [h, show Ideal.tanh ⊥ = ((-1 : ℝ) : EReal) from rfl, ← EReal.coe_mul, ← EReal.coe_add]
    norm_num
  | top =>
    rw [EReal.coe_mul_top_of_pos (by norm_num)]
    have h : Ideal.logistic ⊤ = 1 := by
      show Ideal.div 1 (1 + Ideal.exp (-⊤)) = 1
      rw [EReal.neg_top, show Ideal.exp ⊥ = 0 from rfl, add_zero]
      unfold Ideal.div
      rw [if_neg one_ne_zero, ← EReal.coe_one, ← EReal.coe_inv, ← EReal.coe_mul]
      norm_num
    rw [h, show Ideal.tanh ⊤ = ((1 : ℝ) : EReal) from rfl, ← EReal.coe_mul, ← EReal.coe_add]
    norm_num
  | coe r =>
    rw [← EReal.coe_mul]
    show ((1 / 2 : ℝ) : EReal) * ((Real.tanh (1 / 2 * r) : ℝ) : EReal) + ((1 / 2 : ℝ) : EReal) = _
    rw [← EReal.coe_mul, ← EReal.coe_add, real_logistic]
    show _ = Ideal.div 1 (1 + Ideal.exp (-(r : EReal)))
    rw [← EReal.coe_neg, show Ideal.exp ((-r : ℝ) : EReal) = ((Real.exp (-r) : ℝ) : EReal) from rfl, ← EReal.coe_one, ← EReal.coe_add]
    unfold Ideal.div
    have hp : (1 + Real.exp (-r)) ≠ 0 := by positivity
    rw [if_neg (by exact_mod_cast hp), ← EReal.coe_inv, ← EReal.coe_mul, one_mul]

/-- A hyperbolic tangent is a real number. -/
theorem tanh_real (z : EReal) : IsReal (Ideal.tanh z) := by
  induction z using EReal.rec with
  | bot => exact ⟨-1, rfl⟩
  | top => exact ⟨1, rfl⟩
  | coe r => exact ⟨_, rfl⟩

variable (p : Pt)

/-! ## The projections and the convolution -/

theorem gRow_eq (x : Fin 1024 → EReal) (j : Fin 1024) : OddRow.gRow (halved p) x j = OddSpec.gRow p x j * half := by
  unfold OddRow.gRow OddSpec.gRow mv halved
  rw [show half = ((1 / 2 : ℝ) : EReal) from half_word, sum_mul_real _ _ (by norm_num)]
  refine Finset.sum_congr rfl fun i _ => ?_
  simp only [if_pos j.isLt]
  exact (mul_assoc _ _ _).symm

theorem xbRow_eq (x : Fin 1024 → EReal) (j : Fin 1024) : OddRow.xbRow (halved p) x j = OddSpec.xbRow p x j := by
  unfold OddRow.xbRow OddSpec.xbRow mv halved
  refine Finset.sum_congr rfl fun i _ => ?_
  show rms x p.wn i * (p.W i ⟨1024 + j.val, _⟩ * (if 1024 + j.val < 1024 then half else 1)) = _
  rw [if_neg (by omega), mul_one]

theorem ent_eq (X : ℕ → Fin 1024 → EReal) (n : ℕ) (j : Fin 1024) : OddRow.ent (halved p) X (n + 5) j = OddSpec.pad p X n j := by
  unfold OddRow.ent OddSpec.pad
  rw [xbRow_eq, show n + 5 - 8 = n - 3 by omega]
  exact if_congr (by omega) rfl rfl

theorem conv_eq (X : ℕ → Fin 1024 → EReal) (s : ℕ) : OddRow.conv (halved p) X s = OddSpec.conv p X s := by
  funext j
  unfold OddRow.conv OddSpec.conv
  rw [ent_eq p X s j, show OddRow.ent (halved p) X (s + 6) j = _ from ent_eq p X (s + 1) j,
    show OddRow.ent (halved p) X (s + 7) j = _ from ent_eq p X (s + 2) j, show OddRow.ent (halved p) X (s + 8) j = _ from ent_eq p X (s + 3) j]
  show p.cb j + p.cw 3 j * _ + p.cw 0 j * _ + p.cw 1 j * _ + p.cw 2 j * _ = _
  abel

/-! ## The gates -/

theorem gate0 (c : Fin 1024 → EReal) (j : Fin 1024) : OddRow.side (halved p) c 0 (by omega) j + (halved p).bg 0 j
    = half * (OddSpec.side p.Gr c j + p.br j) := by
  rw [show half = ((1 / 2 : ℝ) : EReal) from half_word, real_mul_add (by norm_num)]
  refine congrArg₂ (· + ·) ?_ ?_
  · unfold OddRow.side OddSpec.side
    rw [mul_comm, sum_mul_real _ _ (by norm_num)]
    refine Finset.sum_congr rfl fun d _ => ?_
    have e : (halved p).G (headOf j) d ⟨0 + (placeOf j).val, by omega⟩ = half * p.Gr (headOf j) d (placeOf j) := by
      unfold halved
      simp only [Nat.zero_add, (placeOf j).isLt, dif_pos]
    rw [e, show half = ((1 / 2 : ℝ) : EReal) from half_word]
    ac_rfl
  · show half * (if (0 : Fin 2) = 0 then p.br j else p.bi j) = _
    rw [if_pos rfl, show half = ((1 / 2 : ℝ) : EReal) from half_word]

theorem gate1 (c : Fin 1024 → EReal) (j : Fin 1024) : OddRow.side (halved p) c 256 (by omega) j + (halved p).bg 1 j
    = half * (OddSpec.side p.Gi c j + p.bi j) := by
  rw [show half = ((1 / 2 : ℝ) : EReal) from half_word, real_mul_add (by norm_num)]
  refine congrArg₂ (· + ·) ?_ ?_
  · unfold OddRow.side OddSpec.side
    rw [mul_comm, sum_mul_real _ _ (by norm_num)]
    refine Finset.sum_congr rfl fun d _ => ?_
    have e : (halved p).G (headOf j) d ⟨256 + (placeOf j).val, by omega⟩ = half * p.Gi (headOf j) d (placeOf j) := by
      unfold halved
      simp only [show ¬ (256 + (placeOf j).val < 256) by omega, dif_neg, not_false_iff, Nat.add_sub_cancel_left]
    rw [e, show half = ((1 / 2 : ℝ) : EReal) from half_word]
    ac_rfl
  · show half * (if (1 : Fin 2) = 0 then p.br j else p.bi j) = _
    rw [if_neg (by decide), show half = ((1 / 2 : ℝ) : EReal) from half_word]

theorem inRow_eq (c : Fin 1024 → EReal) (j : Fin 1024) : OddRow.inRow (halved p) c j = OddSpec.inRow p c j := by
  unfold OddRow.inRow OddSpec.inRow
  rw [gate1]
  exact logistic_half _

/-- The softplus is a real number below infinity. -/
theorem soft_real {x : EReal} (h : x ≠ ⊤) : IsReal (OddSpec.soft x) := by
  unfold OddSpec.soft
  rw [sub_zero]
  induction x using EReal.rec with
  | top => exact absurd rfl h
  | bot =>
    refine IsReal.add ⟨0, max_eq_right bot_le⟩ ?_
    have ha : FloatOps.absf (F := Ideal) (φ := .f32) (⊥ : EReal) = ⊤ := by
      show max (⊥ : EReal) (-⊥) = ⊤
      rw [EReal.neg_bot]; exact max_eq_right bot_le
    rw [ha, EReal.neg_top]
    show IsReal (Ideal.log (1 + 0))
    rw [add_zero, ← EReal.coe_one]
    refine ⟨Real.log 1, ?_⟩
    show (if (1 : ℝ) ≤ 0 then _ else _) = _
    rw [if_neg (by norm_num)]
  | coe r =>
    have ha : FloatOps.absf (F := Ideal) (φ := .f32) ((r : ℝ) : EReal) = ((max r (-r) : ℝ) : EReal) := by
      show max (r : EReal) (-(r : EReal)) = _
      rw [← EReal.coe_neg]; exact EReal.coe_strictMono.monotone.map_max.symm
    rw [ha, ← EReal.coe_neg, show Ideal.exp ((-max r (-r) : ℝ) : EReal) = ((Real.exp (-max r (-r)) : ℝ) : EReal) from rfl]
    refine IsReal.add ⟨max r 0, EReal.coe_strictMono.monotone.map_max.symm⟩ ?_
    have hp := Real.exp_pos (-max r (-r))
    generalize Real.exp (-max r (-r)) = e at hp
    show IsReal (Ideal.log (1 + (e : EReal)))
    rw [← EReal.coe_one, ← EReal.coe_add]
    refine ⟨Real.log (1 + e), ?_⟩
    show (if _ then _ else _) = _
    split_ifs
    · linarith
    · rfl

theorem halfC_eq (j : Fin 1024) : OddRow.halfC (halved p) j = ((-4 : ℝ) : EReal) * OddSpec.soft (-p.lam j) := by
  unfold OddRow.halfC OddSpec.soft
  rw [four_word, zero_sub, zero_sub, sub_zero]
  rfl

/-- The two logarithms of the decay agree where the parameter is not minus infinity, and are a real number. -/
theorem logRow_eq (c : Fin 1024 → EReal) (j : Fin 1024) (h : p.lam j ≠ ⊥) :
    OddRow.logRow (halved p) c j = OddSpec.logRow p c j ∧ IsReal (OddRow.logRow (halved p) c j) := by
  have hn : -p.lam j ≠ ⊤ := fun e => h (EReal.neg_eq_top_iff.mp e)
  obtain ⟨s, hs⟩ := soft_real hn
  unfold OddRow.logRow OddSpec.logRow
  rw [gate0, halfC_eq, hs, ← logistic_half, eight_word]
  obtain ⟨t, ht⟩ := tanh_real (half * (OddSpec.side p.Gr c j + p.br j))
  rw [ht, show half = ((1 / 2 : ℝ) : EReal) from half_word]
  simp only [← EReal.coe_mul, ← EReal.coe_add]
  exact ⟨congrArg _ (by ring), _, rfl⟩

theorem mult_eq (L : ℝ) : OddRow.mult (L : EReal) = OddSpec.mult (L : EReal) := by
  unfold OddRow.mult OddSpec.mult
  refine congrArg (fun x => Ideal.sqrt (max x 0)) ?_
  rw [two_word, ← EReal.coe_mul, show Ideal.tanh (L : EReal) = ((Real.tanh L : ℝ) : EReal) from rfl,
    show Ideal.exp (L : EReal) = ((Real.exp L : ℝ) : EReal) from rfl, show Ideal.exp ((2 * L : ℝ) : EReal) = ((Real.exp (2 * L) : ℝ) : EReal) from rfl,
    ← EReal.coe_one, ← EReal.coe_zero]
  simp only [← EReal.coe_mul, ← EReal.coe_add, ← EReal.coe_sub, ← EReal.coe_neg]
  refine congrArg _ ?_
  rw [Real.tanh_eq_sinh_div_cosh, Real.sinh_eq, Real.cosh_eq, two_mul, Real.exp_add, Real.exp_neg]
  have := Real.exp_pos L
  generalize Real.exp L = a at *
  field_simp
  ring

/-! ## The gelu -/

theorem gelu_eq (G : EReal) : OddRow.gelu Cert.OddBlock.cubic Cert.OddBlock.linear (G * half) = OddSpec.gelu G := by
  unfold OddRow.gelu OddSpec.gelu Cert.OddBlock.linear
  rw [cubic_value, linear_word, root_word, cube_word, show half = ((1 / 2 : ℝ) : EReal) from half_word]
  induction G using EReal.rec with
  | bot =>
    rw [EReal.bot_mul_coe_of_pos (by norm_num), EReal.bot_mul_bot, EReal.coe_mul_top_of_pos (by norm_num),
      EReal.top_add_coe, EReal.bot_mul_top, EReal.top_mul_bot, EReal.coe_mul_bot_of_pos (by norm_num), EReal.bot_add, EReal.coe_mul_bot_of_pos (by norm_num),
      show Ideal.tanh ⊥ = ((-1 : ℝ) : EReal) from rfl, ← EReal.coe_one, ← EReal.coe_add, ← EReal.coe_mul]
    norm_num
  | top =>
    rw [EReal.top_mul_coe_of_pos (by norm_num), EReal.top_mul_top, EReal.coe_mul_top_of_pos (by norm_num),
      EReal.top_add_coe, EReal.top_mul_top, EReal.coe_mul_top_of_pos (by norm_num), EReal.top_add_top, EReal.coe_mul_top_of_pos (by norm_num),
      show Ideal.tanh ⊤ = ((1 : ℝ) : EReal) from rfl, ← EReal.coe_one, ← EReal.coe_add, ← EReal.coe_mul]
    rw [EReal.top_mul_coe_of_pos (by norm_num), EReal.top_mul_coe_of_pos (by norm_num)]
  | coe r =>
    simp only [← EReal.coe_mul, ← EReal.coe_add]
    have e : r * (1 / 2) * (80338380498831 / 281474976710656 * (r * (1 / 2) * (r * (1 / 2))) + 6693141 / 4194304)
        = 6693141 / 8388608 * (r + 12003091 / 268435456 * (r * r * r)) := by ring
    rw [e]
    obtain ⟨t, ht⟩ := tanh_real ((6693141 / 8388608 * (r + 12003091 / 268435456 * (r * r * r)) : ℝ) : EReal)
    rw [ht, ← EReal.coe_one]
    simp only [← EReal.coe_mul, ← EReal.coe_add]
    exact congrArg _ (by ring)

/-! ## The row -/

variable (hl : ∀ j, p.lam j ≠ ⊥) (X : ℕ → Fin 1024 → EReal) (Z : ℕ → BitVec 32)

include hl

theorem aRow_eq (j : Fin 1024) (s : ℕ) : OddRow.aRow (halved p) X Z j s = OddSpec.aRow p X Z j s := by
  unfold OddRow.aRow OddSpec.aRow
  rw [conv_eq, (logRow_eq p _ j (hl j)).1]

theorem bRow_eq (j : Fin 1024) (s : ℕ) : OddRow.bRow (halved p) X Z j s = OddSpec.bRow p X Z j s := by
  unfold OddRow.bRow OddSpec.bRow
  obtain ⟨L, hL⟩ := (logRow_eq p (OddSpec.conv p X s) j (hl j)).2
  rw [conv_eq, inRow_eq, ← (logRow_eq p _ j (hl j)).1, hL, mult_eq]

/-- The recurrence's multipliers are neither negative nor infinite. -/
theorem fine (j : Fin 1024) (s : ℕ) : Fine (OddRow.aRow (halved p) X Z j s) := by
  unfold OddRow.aRow
  obtain ⟨L, hL⟩ := (logRow_eq p (OddRow.conv (halved p) X s) j (hl j)).2
  rw [hL, show Ideal.exp (L : EReal) = ((Real.exp L : ℝ) : EReal) from rfl]
  unfold Scalar.select
  split_ifs
  · exact ⟨le_rfl, by simp⟩
  · exact ⟨by exact_mod_cast (Real.exp_pos L).le, EReal.coe_ne_top _⟩

theorem outRow_eq (s : ℕ) (l : Fin 1024) :
    OddRow.outRow (halved p) Cert.OddBlock.cubic Cert.OddBlock.linear X Z s l = OddSpec.outRow p X Z s l := by
  unfold OddRow.outRow OddSpec.outRow
  refine congrArg (X s l + ·) (Finset.sum_congr rfl fun j _ => ?_)
  rw [gRow_eq, gelu_eq]
  unfold OddRow.state OddSpec.state
  rw [walk_congr 0 (s + 1) (fun i _ => aRow_eq p hl X Z j i) (fun i _ => bRow_eq p hl X Z j i)]
  rfl

end Cert.OddIdent
-- ==== Proof.OddPre.lean ====
module

public import proofs.«01_k».proof.Proof.Finite
public import proofs.«01_k».proof.Proof.Gen.Pre_odd_decays

/-! What is asked of the recurrence's decay parameters says of each of them. -/

@[expose] public section

noncomputable section

namespace Cert.OddPre

open Idealize.ShloMosaic Cert.Rows Cert.Pre_odd_decays Cert.Pre_odd_decays.Gen

/-- What is greater than minus infinity is not minus infinity. -/
theorem above_bot {a : Ideal .f32} (h : BitVec.ofBool (decide (Ideal.ofBits .f32 0xFF800000#32 < a)) = 1#1) : a ≠ ⊥ := by
  have hb : Ideal.ofBits .f32 0xFF800000#32 = ⊥ := by simp [Ideal.ofBits, Ideal.ieee]
  rintro rfl
  rw [hb] at h
  simp at h

variable (x0 : FVec Ideal S2x16384x1024 .f32) (x1 : IVec S2x16384 32) (x2 : FVec Ideal S1x1024 .f32) (x3 : FVec Ideal S1x1024x2048 .f32)
  (x4 : FVec Ideal S1x4x1024 .f32) (x5 : FVec Ideal S1x1024 .f32) (x6 : FVec Ideal S1x4x256x256 .f32) (x7 : FVec Ideal S1x1024 .f32)
  (x8 : FVec Ideal S1x4x256x256 .f32) (x9 x10 : FVec Ideal S1x1024 .f32) (x11 : FVec Ideal S1x1024x1024 .f32)

theorem above (h : fn (F := Ideal) x0 x1 x2 x3 x4 x5 x6 x7 x8 x9 x10 x11 = fun _ => 1#1) (j : Fin 1024) : x10 (ix2 0 j) ≠ (⊥ : EReal) := by
  have h' := congrFun h (ix2 0 j)
  unfold fn at h'
  dsimp only at h'
  revert h'
  pointwise
  exact above_bot

end Cert.OddPre
-- ==== Proof.OddClaim.lean ====
module

public import proofs.«01_k».proof.Defs
public import proofs.«01_k».proof.Proof.OddFrames
public import proofs.«01_k».proof.Proof.OddValue
public import proofs.«01_k».proof.Proof.OddLoop
public import proofs.«01_k».proof.Proof.OddIdent
public import proofs.«01_k».proof.Proof.OddPre

/-!
  The value claim about the recurrent mixer: kernel and reference end with the same rows.
-/

@[expose] public section

noncomputable section

namespace Cert.OddClaim

open Idealize.ShloMosaic Idealize.ShloMosaic.TcCoe Idealize.SL.Sem Cert.Rows

theorem value : Cert.algebraic_OddIdeal_OddRefIdeal_pre_odd_decays (hOddIdeal := Cert.OddIdeal.Gen.facts)
    (hOddRefIdeal := Cert.OddRefIdeal.Gen.facts) (hPre_odd_decays := Cert.Pre_odd_decays.Gen.facts) := by
  intro m ρ m' ρ' hpre hagree
  have hl : ∀ c j, (Cert.OddHost.pt m c).lam j ≠ ⊥ := fun c j => Cert.OddPre.above _ _ _ _ _ _ _ _ _ _ _ _ (hpre c) j
  refine ⟨fun c => Cert.OddValue.G m c, ?_, ?_⟩
  · refine (θ_run Cert.OddIdeal.defs _ _).mono (fun r h c => ⟨(h c).1.trans ?_, (h c).2⟩) (Cert.OddIdeal.Value.run_blocks (F := Ideal) m ρ)
    exact Cert.OddValue.final m c fun b j s => Cert.OddIdent.fine _ (hl c) _ _ j s
  · refine (θ_run Cert.OddRefIdeal.defs _ _).mono (fun r h c => ⟨(h c).1.trans ?_, (h c).2⟩) (Cert.OddRefIdeal.Value.run (F := Ideal) m' ρ')
    obtain ⟨a0, a1, a2, a3, a4, a5, a6, a7, a8, a9, a10, a11⟩ := hagree c
    funext y
    obtain ⟨b, s, l, rfl⟩ : ∃ (b : Fin 2) (s : Fin 16384) (l : Fin 1024), y = ix3 b s l :=
      ⟨y 0, y 1, y 2, by funext a; match a with | ⟨0, _⟩ => rfl | ⟨1, _⟩ => rfl | ⟨2, _⟩ => rfl⟩
    refine (Cert.OddLoop.out_apply m' c b s l).trans (Eq.trans ?_ (Cert.OddIdent.outRow_eq _ (hl c) _ _ s.val l).symm)
    have ep : Cert.OddRef.pt m' c = Cert.OddHost.pt m c := by
      unfold Cert.OddRef.pt Cert.OddEntry.a2 Cert.OddEntry.a3 Cert.OddEntry.a4 Cert.OddEntry.a5 Cert.OddEntry.a6 Cert.OddEntry.a7
        Cert.OddEntry.a8 Cert.OddEntry.a9 Cert.OddEntry.a10 Cert.OddEntry.a11
      rw [a2, a3, a4, a5, a6, a7, a8, a9, a10, a11]
      rfl
    have ex : Cert.OddRef.seqX m' c b.val = Cert.OddValue.seqX m c b.val := by
      funext n k
      unfold Cert.OddRef.seqX Cert.OddEntry.a0
      rw [a0]
      rfl
    have ez : Cert.OddRef.seqZ m' c b.val = Cert.OddValue.seqZ m c b.val := by
      funext n
      unfold Cert.OddRef.seqZ Cert.OddEntry.a1
      rw [a1]
      rfl
    rw [ep, ex, ez]
    rfl

end Cert.OddClaim
-- ==== Proof.PostValue.lean ====
module

public import proofs.«01_k».proof.Proof.PostBody
public import proofs.«01_k».proof.Proof.PostRow
public import proofs.«01_k».proof.Proof.Gen.PostIdeal.Value
public import Idealize.ShloMosaic.Lib.StableHlo.Run
public import Idealize.ShloMosaic.Lib.Pipeline.ValueKit.Geometry

/-!
  The array the call leaves behind, row by row: each block of the windows is read off the arguments, the body's result
  is placed in the output array, and the 64 blocks cover it.
-/

@[expose] public section

noncomputable section

namespace Cert.PostValue

open Idealize.ShloMosaic Idealize.ShloMosaic.TcCoe Idealize.SL.Sem Cert.PostIdeal Cert.PostIdeal.Gen Cert.Rows
open Idealize.ShloMosaic.Pipeline (Dat)
open Idealize.ShloMosaic.StableHlo
open scoped BigOperators

variable (m : (ℓ : Loc nD τ sig) → Buf (Elt Ideal) ℓ) (c : Dev nD)

/-! ## The arrays when the call is entered -/

theorem V0 : V m c main_v0 = shapeCast _ (m ((c : Thread nD τ).loc main_arg0)) shapeCasts_S2x16384x1024_S32768x1024 := by
  unfold V; simp only [hostOps0]; after_results_simp; rfl

theorem V3 : V m c main_v3 = shapeCast _ (shapeCast S1024 (extractStridedSlice S1x1024 ![1, 0] (m ((c : Thread nD τ).loc main_arg2)) slices_S2x1024_S1x1024_1_0) shapeCasts_S1x1024_S1024) shapeCasts_S1024_S1x1024 := by
  unfold V; simp only [hostOps0]; after_results_simp; rfl

theorem V4 : V m c main_v4 = m ((c : Thread nD τ).loc main_arg3) := by
  unfold V; simp only [hostOps0]; after_results_simp; rfl

theorem V5 : V m c main_v5 = m ((c : Thread nD τ).loc main_arg1) := by
  unfold V; simp only [hostOps0]; after_results_simp; rfl

theorem V6 : V m c main_v6 = m ((c : Thread nD τ).loc main_arg4) := by
  unfold V; simp only [hostOps0]; after_results_simp; rfl

theorem V9 : V m c main_v9 = shapeCast _ (shapeCast S1024 (extractStridedSlice S1x1024 ![1, 0] (m ((c : Thread nD τ).loc main_arg5)) slices_S2x1024_S1x1024_1_0) shapeCasts_S1x1024_S1024) shapeCasts_S1024_S1x1024 := by
  unfold V; simp only [hostOps0]; after_results_simp; rfl

theorem V10 : V m c main_v10 = m ((c : Thread nD τ).loc main_arg6) := by
  unfold V; simp only [hostOps0]; after_results_simp; rfl

theorem V11 : V m c main_v11 = m ((c : Thread nD τ).loc main_arg7) := by
  unfold V; simp only [hostOps0]; after_results_simp; rfl

theorem V12 : V m c main_v12 = shapeCast _ (m ((c : Thread nD τ).loc main_arg8)) shapeCasts_S1024_S1x1024 := by
  unfold V; simp only [hostOps0]; after_results_simp; rfl

/-! ## Where the windows' blocks lie -/

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![1, 0, 0] := (by decide +kernel : ∀ t : Fin grid0.N, _)
theorem e3 : ∀ t : Fin cfg0.N, win0_3.index t = ![t.val / 32, 0, 0] := (by decide +kernel : ∀ t : Fin grid0.N, _)
theorem e4 : ∀ t : Fin cfg0.N, win0_4.index t = ![1, 0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![1, 0, 0] := (by decide +kernel : ∀ t : Fin grid0.N, _)
theorem e7 : ∀ t : Fin cfg0.N, win0_7.index t = ![1, 0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![t.val, 0] := (by decide +kernel : ∀ t : Fin grid0.N, _)

theorem lt64 (t : Fin cfg0.N) : t.val < 64 := t.isLt

/-- Block `t`'s row `r` of the activations. -/
theorem blk0 (t : Fin cfg0.N) (r : Fin 512) (k : Fin 1024) :
    (iblk m c 0 t : Vec Ideal S512x1024 .f32) (ix2 r k)
      = m ((c : Thread nD τ).loc main_arg0) (ix3 ⟨(512 * t.val + r.val) / 16384, by have := lt64 t; omega⟩ ⟨(512 * t.val + r.val) % 16384, by omega⟩ k) := by
  have ht := lt64 t
  have h : (iblk m c 0 t : Vec Ideal S512x1024 .f32) (ix2 r k) = V m c main_v0 (ix2 ⟨512 * t.val + r.val, by omega⟩ k) := by
    blk_simp [iblk]
    refine congrArg (V m c main_v0) ?_
    blk_ext [e0]
  rw [h, V0]
  exact flat_rows _ _ _ _

theorem blk1 (t : Fin cfg0.N) (k : Fin 1024) :
    (iblk m c 1 t : Vec Ideal S1x1024 .f32) (ix2 0 k) = m ((c : Thread nD τ).loc main_arg2) (ix2 1 k) := by
  have h : (iblk m c 1 t : Vec Ideal S1x1024 .f32) (ix2 0 k) = V m c main_v3 (ix2 0 k) := by
    blk_simp [iblk]
    refine congrArg (V m c main_v3) ?_
    blk_ext [e1]
  rw [h, V3]
  pointwise

theorem blk2 (t : Fin cfg0.N) (i k : Fin 1024) :
    (iblk m c 2 t : Vec Ideal S1x1024x1024 .bf16) (ix3 0 i k) = m ((c : Thread nD τ).loc main_arg3) (ix3 1 i k) := by
  have h : (iblk m c 2 t : Vec Ideal S1x1024x1024 .bf16) (ix3 0 i k) = V m c main_v4 (ix3 1 i k) := by
    blk_simp [iblk]
    refine congrArg (V m c main_v4) ?_
    blk_ext [e2]
  rw [h, V4]

theorem blk3 (t : Fin cfg0.N) (j : Fin 256) (k : Fin 2048) :
    (iblk m c 3 t : Vec Ideal S1x256x2048 .bf16) (ix3 0 j k)
      = m ((c : Thread nD τ).loc main_arg1) (ix3 ⟨t.val / 32, by have := lt64 t; omega⟩ j k) := by
  have h : (iblk m c 3 t : Vec Ideal S1x256x2048 .bf16) (ix3 0 j k) = V m c main_v5 (ix3 ⟨t.val / 32, by have := lt64 t; omega⟩ j k) := by
    blk_simp [iblk]
    refine congrArg (V m c main_v5) ?_
    blk_ext [e3]
  rw [h, V5]

theorem blk4 (t : Fin cfg0.N) (i k : Fin 1024) :
    (iblk m c 4 t : Vec Ideal S1x1024x1024 .bf16) (ix3 0 i k) = m ((c : Thread nD τ).loc main_arg4) (ix3 1 i k) := by
  have h : (iblk m c 4 t : Vec Ideal S1x1024x1024 .bf16) (ix3 0 i k) = V m c main_v6 (ix3 1 i k) := by
    blk_simp [iblk]
    refine congrArg (V m c main_v6) ?_
    blk_ext [e4]
  rw [h, V6]

theorem blk5 (t : Fin cfg0.N) (k : Fin 1024) :
    (iblk m c 5 t : Vec Ideal S1x1024 .f32) (ix2 0 k) = m ((c : Thread nD τ).loc main_arg5) (ix2 1 k) := by
  have h : (iblk m c 5 t : Vec Ideal S1x1024 .f32) (ix2 0 k) = V m c main_v9 (ix2 0 k) := by
    blk_simp [iblk]
    refine congrArg (V m c main_v9) ?_
    blk_ext [e5]
  rw [h, V9]
  pointwise

theorem blk6 (t : Fin cfg0.N) (i : Fin 1024) (k : Fin 5632) :
    (iblk m c 6 t : Vec Ideal S1x1024x5632 .bf16) (ix3 0 i k) = m ((c : Thread nD τ).loc main_arg6) (ix3 1 i k) := by
  have h : (iblk m c 6 t : Vec Ideal S1x1024x5632 .bf16) (ix3 0 i k) = V m c main_v10 (ix3 1 i k) := by
    blk_simp [iblk]
    refine congrArg (V m c main_v10) ?_
    blk_ext [e6]
  rw [h, V10]

theorem blk7 (t : Fin cfg0.N) (i : Fin 2816) (k : Fin 1024) :
    (iblk m c 7 t : Vec Ideal S1x2816x1024 .bf16) (ix3 0 i k) = m ((c : Thread nD τ).loc main_arg7) (ix3 1 i k) := by
  have h : (iblk m c 7 t : Vec Ideal S1x2816x1024 .bf16) (ix3 0 i k) = V m c main_v11 (ix3 1 i k) := by
    blk_simp [iblk]
    refine congrArg (V m c main_v11) ?_
    blk_ext [e7]
  rw [h, V11]

theorem blk8 (t : Fin cfg0.N) (k : Fin 1024) :
    (iblk m c 8 t : Vec Ideal S1x1024 .f32) (ix2 0 k) = m ((c : Thread nD τ).loc main_arg8) (ix1 k) := by
  have h : (iblk m c 8 t : Vec Ideal S1x1024 .f32) (ix2 0 k) = V m c main_v12 (ix2 0 k) := by
    blk_simp [iblk]
    refine congrArg (V m c main_v12) ?_
    blk_ext [e8]
  rw [h, V12]
  pointwise

/-! ## The result -/

/-- Row `s` of batch `b` of the result, from the arguments. -/
def row (b : Fin 2) (s : Fin 16384) : Fin 1024 → EReal :=
  rms (tail headK (fun k => m ((c : Thread nD τ).loc main_arg0) (ix3 b s k)) (fun k => m ((c : Thread nD τ).loc main_arg2) (ix2 1 k))
    (fun i k => m ((c : Thread nD τ).loc main_arg3) (ix3 1 i k)) (fun j k => m ((c : Thread nD τ).loc main_arg1) (ix3 b j k))
    (fun i k => m ((c : Thread nD τ).loc main_arg4) (ix3 1 i k)) (fun k => m ((c : Thread nD τ).loc main_arg5) (ix2 1 k))
    (fun i k => m ((c : Thread nD τ).loc main_arg6) (ix3 1 i k)) (fun i k => m ((c : Thread nD τ).loc main_arg7) (ix3 1 i k)))
    (fun k => m ((c : Thread nD τ).loc main_arg8) (ix1 k))

/-- The result array, from the arguments. -/
def G : (⟨2, ![32768, 1024]⟩ : Shape).Idx → EReal := fun i =>
  row m c ⟨(i 0).val / 16384, by have := (i 0).isLt; simp at this; omega⟩ ⟨(i 0).val % 16384, by omega⟩ (i 1)

/-- What point `t` leaves at row `r` of its block. -/
theorem out_blk (t : Fin cfg0.N) (r : Fin 512) (l : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix2 r l)
      = row m c ⟨(512 * t.val + r.val) / 16384, by have := lt64 t; omega⟩ ⟨(512 * t.val + r.val) % 16384, by omega⟩ l := by
  have ht := lt64 t
  have hb : t.val / 32 = (512 * t.val + r.val) / 16384 := by omega
  rw [PostBody.out_apply]
  unfold PostBody.crossRow PostBody.keys PostBody.vals row tail
  simp only [blk0, blk1, blk2, blk3, blk4, blk5, blk6, blk7, blk8, hb]

/-- The array after the call. -/
theorem final9 : (dats (F := Ideal) m 0 c).arrAt 9 cfg0.N = G m c := by
  refine (dats m 0 c).arrAt_eq_of_covers 9 _ (by decide +kernel) fun t hf y => ?_
  blk_simp
  rw [after0_9]
  obtain ⟨r, l, rfl⟩ : ∃ (r : Fin 512) (l : Fin 1024), y = ix2 r l := ⟨y 0, y 1, by funext a; match a with | ⟨0, _⟩ => rfl | ⟨1, _⟩ => rfl⟩
  rw [out_blk]
  refine congrArg (G m c) (?_ : (ix2 ⟨512 * t.val + r.val, by have := lt64 t; omega⟩ l : (⟨2, ![32768, 1024]⟩ : Shape).Idx) = _)
  blk_ext [e9]

end Cert.PostValue
-- ==== Proof.PostPre.lean ====
module

public import proofs.«01_k».proof.Proof.Finite
public import proofs.«01_k».proof.Proof.Gen.Pre_post_finite

/-! What the finiteness asked of the arguments says of each entry. -/

@[expose] public section

noncomputable section

namespace Cert.PostPre

open Idealize.ShloMosaic Cert.Rows Cert.Pre_post_finite Cert.Pre_post_finite.Gen

variable (x0 : FVec Ideal S2x16384x1024 .f32) (x1 : FVec Ideal S2x256x2048 .f32) (x2 : FVec Ideal S2x1024 .f32) (x3 : FVec Ideal S2x1024x1024 .f32)
  (x4 : FVec Ideal S2x1024x1024 .f32) (x5 : FVec Ideal S2x1024 .f32) (x6 : FVec Ideal S2x1024x5632 .f32) (x7 : FVec Ideal S2x2816x1024 .f32) (x8 : FVec Ideal S1024 .f32)

theorem real0 (h : (fn (F := Ideal) x0 x1 x2 x3 x4 x5 x6 x7 x8).1 = fun _ => 1#1) (b : Fin 2) (s : Fin 16384) (k : Fin 1024) : IsReal (x0 (ix3 b s k)) := by
  have h' := congrFun h (ix3 b s k)
  unfold fn at h'
  dsimp only at h'
  revert h'
  pointwise
  exact real_of_lt

theorem real1 (h : (fn (F := Ideal) x0 x1 x2 x3 x4 x5 x6 x7 x8).2.1 = fun _ => 1#1) (b : Fin 2) (j : Fin 256) (k : Fin 1024) :
    IsReal (x1 (ix3 b j ⟨k.val, by omega⟩)) := by
  have h' := congrFun h (ix3 b j k)
  unfold fn at h'
  dsimp only at h'
  revert h'
  pointwise
  exact real_of_lt

theorem real2 (h : (fn (F := Ideal) x0 x1 x2 x3 x4 x5 x6 x7 x8).2.2.1 = fun _ => 1#1) (k : Fin 1024) : IsReal (x2 (ix2 1 k)) := by
  have h' := congrFun h (ix1 k)
  unfold fn at h'
  dsimp only at h'
  revert h'
  pointwise
  exact real_of_lt

theorem real3 (h : (fn (F := Ideal) x0 x1 x2 x3 x4 x5 x6 x7 x8).2.2.2 = fun _ => 1#1) (i k : Fin 1024) : IsReal (x3 (ix3 1 i k)) := by
  have h' := congrFun h (ix2 i k)
  unfold fn at h'
  dsimp only at h'
  revert h'
  pointwise
  exact real_of_lt

end Cert.PostPre
-- ==== Proof.PostClaim.lean ====
module

public import proofs.«01_k».proof.Defs
public import proofs.«01_k».proof.Proof.PostValue
public import proofs.«01_k».proof.Proof.PostRef
public import proofs.«01_k».proof.Proof.PostPre
public import proofs.«01_k».proof.Proof.Finite
public import proofs.«01_k».proof.Proof.Gen.Post.Frame
public import proofs.«01_k».proof.Proof.Gen.PostIdeal.Frame

/-!
  The claims about the plain layer's tail: the frames, and that kernel and reference end with the same rows.
-/

@[expose] public section

noncomputable section

namespace Cert.PostClaim

open Idealize.ShloMosaic Idealize.ShloMosaic.TcCoe Idealize.SL.Sem Cert.Rows

theorem quiet : Cert.quiescent_Post (hPost := Cert.Post.Gen.facts) := fun m ρ _ => Cert.Post.Gen.frame m ρ

theorem quietIdeal : Cert.quiescent_PostIdeal (hPostIdeal := Cert.PostIdeal.Gen.facts) := fun m ρ _ => Cert.PostIdeal.Gen.frame m ρ

theorem quietRef : Cert.quiescent_PostRefIdeal (hPostRefIdeal := Cert.PostRefIdeal.Gen.facts) := fun m ρ _ =>
  (θ_run Cert.PostRefIdeal.defs _ _).mono (fun r h => ⟨fun c => (h c).2, sem_eq_zero_of_no_sems (by decide) r.2⟩)
    (Cert.PostRefIdeal.Value.run (F := Ideal) m ρ)

/-- From the same arguments the reference's row is the kernel's, where the scores are real numbers. -/
theorem row_eq (m : (ℓ : Loc Cert.PostIdeal.nD Cert.PostIdeal.τ Cert.PostIdeal.sig) → Buf (Elt Ideal) ℓ) (c : Dev Cert.PostIdeal.nD)
    (hpre : Cert.Pre_PostIdeal_post_finite (hPre_post_finite := Cert.Pre_post_finite.Gen.facts) m) (b : Fin 2) (s : Fin 16384) :
    Cert.PostValue.row m c b s =
      rms (tail headR (fun k => m ((c : Thread Cert.PostIdeal.nD Cert.PostIdeal.τ).loc Cert.PostIdeal.main_arg0) (ix3 b s k)) (fun k => m ((c : Thread Cert.PostIdeal.nD Cert.PostIdeal.τ).loc Cert.PostIdeal.main_arg2) (ix2 1 k))
        (fun i k => m ((c : Thread Cert.PostIdeal.nD Cert.PostIdeal.τ).loc Cert.PostIdeal.main_arg3) (ix3 1 i k)) (fun j k => m ((c : Thread Cert.PostIdeal.nD Cert.PostIdeal.τ).loc Cert.PostIdeal.main_arg1) (ix3 b j k))
        (fun i k => m ((c : Thread Cert.PostIdeal.nD Cert.PostIdeal.τ).loc Cert.PostIdeal.main_arg4) (ix3 1 i k)) (fun k => m ((c : Thread Cert.PostIdeal.nD Cert.PostIdeal.τ).loc Cert.PostIdeal.main_arg5) (ix2 1 k))
        (fun i k => m ((c : Thread Cert.PostIdeal.nD Cert.PostIdeal.τ).loc Cert.PostIdeal.main_arg6) (ix3 1 i k)) (fun i k => m ((c : Thread Cert.PostIdeal.nD Cert.PostIdeal.τ).loc Cert.PostIdeal.main_arg7) (ix3 1 i k)))
        (fun k => m ((c : Thread Cert.PostIdeal.nD Cert.PostIdeal.τ).loc Cert.PostIdeal.main_arg8) (ix1 k)) := by
  obtain ⟨h0, h1, h2, h3⟩ := hpre c
  unfold Cert.PostValue.row
  refine congrArg (fun t => rms t _) (tail_eq (fun k => ?_) (fun k => ?_) (fun i k => ?_) (fun j k => ?_) _ _ _ _)
  · exact Cert.PostPre.real0 _ _ _ _ _ _ _ _ _ h0 b s k
  · exact Cert.PostPre.real2 _ _ _ _ _ _ _ _ _ h2 k
  · exact Cert.PostPre.real3 _ _ _ _ _ _ _ _ _ h3 i k
  · exact Cert.PostPre.real1 _ _ _ _ _ _ _ _ _ h1 b j k

theorem value : Cert.algebraic_PostIdeal_PostRefIdeal_pre_post_finite (hPostIdeal := Cert.PostIdeal.Gen.facts)
    (hPostRefIdeal := Cert.PostRefIdeal.Gen.facts) (hPre_post_finite := Cert.Pre_post_finite.Gen.facts) := by
  intro m ρ m' ρ' hpre hagree
  refine ⟨fun c => Cert.PostValue.G m c, ?_, ?_⟩
  · refine (θ_run Cert.PostIdeal.defs _ _).mono (fun r h c => ⟨(h c).1.trans ?_, (h c).2⟩) (Cert.PostIdeal.Value.run_blocks (F := Ideal) m ρ)
    exact Cert.PostValue.final9 m c
  · refine (θ_run Cert.PostRefIdeal.defs _ _).mono (fun r h c => ⟨(h c).1.trans ?_, (h c).2⟩) (Cert.PostRefIdeal.Value.run (F := Ideal) m' ρ')
    obtain ⟨a0, a1, a2, a3, a4, a5, a6, a7, a8⟩ := hagree c
    funext y
    obtain ⟨n, l, rfl⟩ : ∃ (n : Fin 32768) (l : Fin 1024), y = ix2 n l := ⟨y 0, y 1, by funext a; match a with | ⟨0, _⟩ => rfl | ⟨1, _⟩ => rfl⟩
    refine (Cert.PostRef.res_apply _ n l).trans ?_
    refine Eq.trans ?_ (congrFun (row_eq m c hpre _ _).symm l)
    unfold Cert.PostRef.frow
    rw [← a0, ← a1, ← a2, ← a3, ← a4, ← a5, ← a6, ← a7, ← a8]
    rfl

end Cert.PostClaim
-- ==== Proof.MixFrames.lean ====
module

public import proofs.«01_k».proof.Defs
public import proofs.«01_k».proof.Proof.Gen.Mix.Frame
public import proofs.«01_k».proof.Proof.Gen.MixIdeal.Frame
public import proofs.«01_k».proof.Proof.Gen.MixRefIdeal.Run

/-!
  The claims about the first layer's tail: every execution of the kernel and of its reference ends, with the arguments kept.
-/

@[expose] public section

noncomputable section

namespace Cert.MixFrames

open Idealize.ShloMosaic Idealize.SL.Sem

theorem quiet : Cert.quiescent_Mix (hMix := Cert.Mix.Gen.facts) := fun m ρ _ => Cert.Mix.Gen.frame m ρ

theorem quietIdeal : Cert.quiescent_MixIdeal (hMixIdeal := Cert.MixIdeal.Gen.facts) := fun m ρ _ => Cert.MixIdeal.Gen.frame m ρ

theorem quietRef : Cert.quiescent_MixRefIdeal (hMixRefIdeal := Cert.MixRefIdeal.Gen.facts) := fun m ρ _ =>
  (θ_run Cert.MixRefIdeal.defs _ _).mono (fun r h => ⟨fun c => (h c).2, sem_eq_zero_of_no_sems (by decide) r.2⟩)
    (Cert.MixRefIdeal.Value.run (F := Ideal) m ρ)

end Cert.MixFrames
-- ==== Proof.MixValue.lean ====
module

public import proofs.«01_k».proof.Proof.MixBody
public import proofs.«01_k».proof.Proof.PostRow
public import proofs.«01_k».proof.Proof.Gen.MixIdeal.Value
public import Idealize.ShloMosaic.Lib.StableHlo.Run
public import Idealize.ShloMosaic.Lib.Pipeline.ValueKit.Geometry

/-!
  The array the first layer's call leaves behind, row by row: each block of the windows is read off the arguments, the
  body's result is placed in the output array, and the 64 blocks cover it.
-/

@[expose] public section

noncomputable section

namespace Cert.MixValue

open Idealize.ShloMosaic Idealize.ShloMosaic.TcCoe Idealize.SL.Sem Cert.MixIdeal Cert.MixIdeal.Gen Cert.Rows
open Idealize.ShloMosaic.Pipeline (Dat)
open Idealize.ShloMosaic.StableHlo
open scoped BigOperators

variable (m : (ℓ : Loc nD τ sig) → Buf (Elt Ideal) ℓ) (c : Dev nD)

/-! ## The arrays when the call is entered -/

theorem V6 : V m c main_v6 = shapeCast _ (m ((c : Thread nD τ).loc main_arg0)) shapeCasts_S2x16384x1024_S32768x1024 := by
  unfold V; simp only [hostOps0]; after_results_simp; rfl

theorem V2 : V m c main_v2 = m ((c : Thread nD τ).loc main_arg1) := by
  unfold V; simp only [hostOps0]; after_results_simp; rfl

theorem V3 : V m c main_v3 = m ((c : Thread nD τ).loc main_arg2) := by
  unfold V; simp only [hostOps0]; after_results_simp; rfl

theorem V4 : V m c main_v4 = extractStridedSlice S512x1024 ![0, 0] (shapeCast S1024x1024 (m ((c : Thread nD τ).loc main_arg3)) shapeCasts_S1x1024x1024_S1024x1024) slices_S1024x1024_S512x1024_0_0 := by
  unfold V; simp only [hostOps0]; after_results_simp; rfl

theorem V5 : V m c main_v5 = extractStridedSlice S512x1024 ![512, 0] (shapeCast S1024x1024 (m ((c : Thread nD τ).loc main_arg3)) shapeCasts_S1x1024x1024_S1024x1024) slices_S1024x1024_S512x1024_512_0 := by
  unfold V; simp only [hostOps0]; after_results_simp; rfl

theorem V9 : V m c main_v9 = shapeCast _ (shapeCast S1024 (extractStridedSlice S1x1024 ![0, 0] (m ((c : Thread nD τ).loc main_arg5)) slices_S2x1024_S1x1024_0_0) shapeCasts_S1x1024_S1024) shapeCasts_S1024_S1x1024 := by
  unfold V; simp only [hostOps0]; after_results_simp; rfl

theorem V10 : V m c main_v10 = m ((c : Thread nD τ).loc main_arg6) := by
  unfold V; simp only [hostOps0]; after_results_simp; rfl

theorem V11 : V m c main_v11 = m ((c : Thread nD τ).loc main_arg4) := by
  unfold V; simp only [hostOps0]; after_results_simp; rfl

theorem V12 : V m c main_v12 = m ((c : Thread nD τ).loc main_arg7) := by
  unfold V; simp only [hostOps0]; after_results_simp; rfl

theorem V15 : V m c main_v15 = shapeCast _ (shapeCast S1024 (extractStridedSlice S1x1024 ![0, 0] (m ((c : Thread nD τ).loc main_arg8)) slices_S2x1024_S1x1024_0_0) shapeCasts_S1x1024_S1024) shapeCasts_S1024_S1x1024 := by
  unfold V; simp only [hostOps0]; after_results_simp; rfl

theorem V16 : V m c main_v16 = m ((c : Thread nD τ).loc main_arg9) := by
  unfold V; simp only [hostOps0]; after_results_simp; rfl

theorem V17 : V m c main_v17 = m ((c : Thread nD τ).loc main_arg10) := by
  unfold V; simp only [hostOps0]; after_results_simp; rfl

/-! ## Where the windows' blocks lie -/

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![t.val / 32, 0, 0] := (by decide +kernel : ∀ t : Fin grid0.N, _)
theorem e8 : ∀ t : Fin cfg0.N, win0_8.index t = ![0, 0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0, 0] := (by decide +kernel : ∀ t : Fin grid0.N, _)
theorem e11 : ∀ t : Fin cfg0.N, win0_11.index t = ![0, 0, 0] := (by decide +kernel : ∀ t : Fin grid0.N, _)
theorem e13 : ∀ t : Fin cfg0.N, win0_13.index t = ![t.val, 0] := (by decide +kernel : ∀ t : Fin grid0.N, _)

theorem lt64 (t : Fin cfg0.N) : t.val < 64 := t.isLt

/-- Block `t`'s row `r` of the activations. -/
theorem blk0 (t : Fin cfg0.N) (r : Fin 512) (k : Fin 1024) :
    (iblk m c 0 t : Vec Ideal S512x1024 .f32) (ix2 r k)
      = m ((c : Thread nD τ).loc main_arg0) (ix3 ⟨(512 * t.val + r.val) / 16384, by have := lt64 t; omega⟩ ⟨(512 * t.val + r.val) % 16384, by omega⟩ k) := by
  have ht := lt64 t
  have h : (iblk m c 0 t : Vec Ideal S512x1024 .f32) (ix2 r k) = V m c main_v6 (ix2 ⟨512 * t.val + r.val, by omega⟩ k) := by
    blk_simp [iblk]
    refine congrArg (V m c main_v6) ?_
    blk_ext [e0]
  rw [h, V6]
  exact flat_rows _ _ _ _

/-- Block `t`'s row `r` of the pooling mixer's output. -/
theorem blk1 (t : Fin cfg0.N) (r k : Fin 512) :
    (iblk m c 1 t : Vec Ideal S512x512 .bf16) (ix2 r k)
      = m ((c : Thread nD τ).loc main_arg1) (ix2 ⟨512 * t.val + r.val, by have := lt64 t; omega⟩ k) := by
  have h : (iblk m c 1 t : Vec Ideal S512x512 .bf16) (ix2 r k) = V m c main_v2 (ix2 ⟨512 * t.val + r.val, by have := lt64 t; omega⟩ k) := by
    blk_simp [iblk]
    refine congrArg (V m c main_v2) ?_
    blk_ext [e1]
  rw [h, V2]

/-- Block `t`'s row `r` of the attention's output. -/
theorem blk2 (t : Fin cfg0.N) (r k : Fin 512) :
    (iblk m c 2 t : Vec Ideal S512x512 .bf16) (ix2 r k)
      = m ((c : Thread nD τ).loc main_arg2) (ix2 ⟨512 * t.val + r.val, by have := lt64 t; omega⟩ k) := by
  have h : (iblk m c 2 t : Vec Ideal S512x512 .bf16) (ix2 r k) = V m c main_v3 (ix2 ⟨512 * t.val + r.val, by have := lt64 t; omega⟩ k) := by
    blk_simp [iblk]
    refine congrArg (V m c main_v3) ?_
    blk_ext [e2]
  rw [h, V3]

/-- The output projection without its unit axis. -/
theorem plain_apply (W : FVec Ideal S1x1024x1024 .f32) (i k : Fin 1024) :
    shapeCast S1024x1024 W shapeCasts_S1x1024x1024_S1024x1024 (ix2 i k) = W (ix3 0 i k) := by
  refine shapeCast_apply W _ _ _ ?_
  rw [Shape.rowMajor_val_three, Shape.rowMajor_val_two]
  show (0 * 1024 + i.val) * 1024 + k.val = i.val * 1024 + k.val
  omega

/-- The pooling mixer's half of the output projection. -/
theorem blk3 (t : Fin cfg0.N) (i : Fin 512) (k : Fin 1024) :
    (iblk m c 3 t : Vec Ideal S512x1024 .bf16) (ix2 i k) = m ((c : Thread nD τ).loc main_arg3) (ix3 0 ⟨i.val, by omega⟩ k) := by
  have h : (iblk m c 3 t : Vec Ideal S512x1024 .bf16) (ix2 i k) = V m c main_v4 (ix2 i k) := by
    blk_simp [iblk]
    refine congrArg (V m c main_v4) ?_
    blk_ext [e3]
  rw [h, V4]
  refine (extractStridedSlice_apply _ _ _ _ (ix2 ⟨i.val, by omega⟩ k) fun a => ?_).trans (plain_apply _ _ _)
  match a with
  | ⟨0, _⟩ => exact (Nat.zero_add _).symm
  | ⟨1, _⟩ => exact (Nat.zero_add _).symm

/-- The attention's half of the output projection. -/
theorem blk4 (t : Fin cfg0.N) (i : Fin 512) (k : Fin 1024) :
    (iblk m c 4 t : Vec Ideal S512x1024 .bf16) (ix2 i k) = m ((c : Thread nD τ).loc main_arg3) (ix3 0 ⟨512 + i.val, by omega⟩ k) := by
  have h : (iblk m c 4 t : Vec Ideal S512x1024 .bf16) (ix2 i k) = V m c main_v5 (ix2 i k) := by
    blk_simp [iblk]
    refine congrArg (V m c main_v5) ?_
    blk_ext [e4]
  rw [h, V5]
  refine (extractStridedSlice_apply _ _ _ _ (ix2 ⟨512 + i.val, by omega⟩ k) fun a => ?_).trans (plain_apply _ _ _)
  match a with
  | ⟨0, _⟩ => rfl
  | ⟨1, _⟩ => exact (Nat.zero_add _).symm

theorem blk5 (t : Fin cfg0.N) (k : Fin 1024) :
    (iblk m c 5 t : Vec Ideal S1x1024 .f32) (ix2 0 k) = m ((c : Thread nD τ).loc main_arg5) (ix2 0 k) := by
  have h : (iblk m c 5 t : Vec Ideal S1x1024 .f32) (ix2 0 k) = V m c main_v9 (ix2 0 k) := by
    blk_simp [iblk]
    refine congrArg (V m c main_v9) ?_
    blk_ext [e5]
  rw [h, V9]
  pointwise

theorem blk6 (t : Fin cfg0.N) (i k : Fin 1024) :
    (iblk m c 6 t : Vec Ideal S1x1024x1024 .bf16) (ix3 0 i k) = m ((c : Thread nD τ).loc main_arg6) (ix3 0 i k) := by
  have h : (iblk m c 6 t : Vec Ideal S1x1024x1024 .bf16) (ix3 0 i k) = V m c main_v10 (ix3 0 i k) := by
    blk_simp [iblk]
    refine congrArg (V m c main_v10) ?_
    blk_ext [e6]
  rw [h, V10]

theorem blk7 (t : Fin cfg0.N) (j : Fin 256) (k : Fin 2048) :
    (iblk m c 7 t : Vec Ideal S1x256x2048 .bf16) (ix3 0 j k)
      = m ((c : Thread nD τ).loc main_arg4) (ix3 ⟨t.val / 32, by have := lt64 t; omega⟩ j k) := by
  have h : (iblk m c 7 t : Vec Ideal S1x256x2048 .bf16) (ix3 0 j k) = V m c main_v11 (ix3 ⟨t.val / 32, by have := lt64 t; omega⟩ j k) := by
    blk_simp [iblk]
    refine congrArg (V m c main_v11) ?_
    blk_ext [e7]
  rw [h, V11]

theorem blk8 (t : Fin cfg0.N) (i k : Fin 1024) :
    (iblk m c 8 t : Vec Ideal S1x1024x1024 .bf16) (ix3 0 i k) = m ((c : Thread nD τ).loc main_arg7) (ix3 0 i k) := by
  have h : (iblk m c 8 t : Vec Ideal S1x1024x1024 .bf16) (ix3 0 i k) = V m c main_v12 (ix3 0 i k) := by
    blk_simp [iblk]
    refine congrArg (V m c main_v12) ?_
    blk_ext [e8]
  rw [h, V12]

theorem blk9 (t : Fin cfg0.N) (k : Fin 1024) :
    (iblk m c 9 t : Vec Ideal S1x1024 .f32) (ix2 0 k) = m ((c : Thread nD τ).loc main_arg8) (ix2 0 k) := by
  have h : (iblk m c 9 t : Vec Ideal S1x1024 .f32) (ix2 0 k) = V m c main_v15 (ix2 0 k) := by
    blk_simp [iblk]
    refine congrArg (V m c main_v15) ?_
    blk_ext [e9]
  rw [h, V15]
  pointwise

theorem blk10 (t : Fin cfg0.N) (i : Fin 1024) (k : Fin 5632) :
    (iblk m c 10 t : Vec Ideal S1x1024x5632 .bf16) (ix3 0 i k) = m ((c : Thread nD τ).loc main_arg9) (ix3 0 i k) := by
  have h : (iblk m c 10 t : Vec Ideal S1x1024x5632 .bf16) (ix3 0 i k) = V m c main_v16 (ix3 0 i k) := by
    blk_simp [iblk]
    refine congrArg (V m c main_v16) ?_
    blk_ext [e10]
  rw [h, V16]

theorem blk11 (t : Fin cfg0.N) (i : Fin 2816) (k : Fin 1024) :
    (iblk m c 11 t : Vec Ideal S1x2816x1024 .bf16) (ix3 0 i k) = m ((c : Thread nD τ).loc main_arg10) (ix3 0 i k) := by
  have h : (iblk m c 11 t : Vec Ideal S1x2816x1024 .bf16) (ix3 0 i k) = V m c main_v17 (ix3 0 i k) := by
    blk_simp [iblk]
    refine congrArg (V m c main_v17) ?_
    blk_ext [e11]
  rw [h, V17]

/-! ## The result -/

/-- Row `n` of the mixed activations, of batch `b` at place `s`, from the arguments. -/
def mixed (b : Fin 2) (s : Fin 16384) (n : Fin 32768) : Fin 1024 → EReal :=
  MixBody.mix (fun k => m ((c : Thread nD τ).loc main_arg0) (ix3 b s k)) (fun k => m ((c : Thread nD τ).loc main_arg1) (ix2 n k))
    (fun k => m ((c : Thread nD τ).loc main_arg2) (ix2 n k)) (fun i k => m ((c : Thread nD τ).loc main_arg3) (ix3 0 ⟨i.val, by omega⟩ k))
    (fun i k => m ((c : Thread nD τ).loc main_arg3) (ix3 0 ⟨512 + i.val, by omega⟩ k))

/-- Row `n` of the result, with the heads computed by `H`. -/
def row (H : (Fin 256 → EReal) → (Fin 256 → EReal) → EReal) (b : Fin 2) (s : Fin 16384) (n : Fin 32768) : Fin 1024 → EReal :=
  tail H (mixed m c b s n) (fun k => m ((c : Thread nD τ).loc main_arg5) (ix2 0 k))
    (fun i k => m ((c : Thread nD τ).loc main_arg6) (ix3 0 i k)) (fun j k => m ((c : Thread nD τ).loc main_arg4) (ix3 b j k))
    (fun i k => m ((c : Thread nD τ).loc main_arg7) (ix3 0 i k)) (fun k => m ((c : Thread nD τ).loc main_arg8) (ix2 0 k))
    (fun i k => m ((c : Thread nD τ).loc main_arg9) (ix3 0 i k)) (fun i k => m ((c : Thread nD τ).loc main_arg10) (ix3 0 i k))

/-- The result array, from the arguments. -/
def G : (⟨2, ![32768, 1024]⟩ : Shape).Idx → EReal := fun i =>
  row m c headK ⟨(i 0).val / 16384, by have := (i 0).isLt; simp at this; omega⟩ ⟨(i 0).val % 16384, by omega⟩ (i 0) (i 1)

/-- What point `t` leaves at row `r` of its block. -/
theorem out_blk (t : Fin cfg0.N) (r : Fin 512) (l : Fin 1024) :
    out0_13 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (ix2 r l)
      = row m c headK ⟨(512 * t.val + r.val) / 16384, by have := lt64 t; omega⟩ ⟨(512 * t.val + r.val) % 16384, by omega⟩ ⟨512 * t.val + r.val, by have := lt64 t; omega⟩ l := by
  have ht := lt64 t
  have hb : t.val / 32 = (512 * t.val + r.val) / 16384 := by omega
  rw [MixBody.out_apply]
  unfold MixBody.mixRow PostBody.keys PostBody.vals row mixed tail
  simp only [blk0, blk1, blk2, blk3, blk4, blk5, blk6, blk7, blk8, blk9, blk10, blk11, hb]

/-- The array after the call. -/
theorem final13 : (dats (F := Ideal) m 0 c).arrAt 13 cfg0.N = G m c := by
  refine (dats m 0 c).arrAt_eq_of_covers 13 _ (by decide +kernel) fun t hf y => ?_
  blk_simp
  rw [after0_13]
  obtain ⟨r, l, rfl⟩ : ∃ (r : Fin 512) (l : Fin 1024), y = ix2 r l := ⟨y 0, y 1, by funext a; match a with | ⟨0, _⟩ => rfl | ⟨1, _⟩ => rfl⟩
  rw [out_blk]
  refine congrArg (G m c) (?_ : (ix2 ⟨512 * t.val + r.val, by have := lt64 t; omega⟩ l : (⟨2, ![32768, 1024]⟩ : Shape).Idx) = _)
  blk_ext [e13]

end Cert.MixValue
-- ==== Proof.MixPre.lean ====
module

public import proofs.«01_k».proof.Proof.Finite
public import proofs.«01_k».proof.Proof.MixBody
public import proofs.«01_k».proof.Proof.Gen.Pre_mix_finite

/-! What the finiteness asked of the first layer's arguments says of each entry, and of the row the mixers leave. -/

@[expose] public section

noncomputable section

namespace Cert.MixPre

open Idealize.ShloMosaic Cert.Rows Cert.Pre_mix_finite Cert.Pre_mix_finite.Gen

variable (x0 : FVec Ideal S2x16384x1024 .f32) (x1 x2 : FVec Ideal S32768x512 .f32) (x3 : FVec Ideal S1x1024x1024 .f32) (x4 : FVec Ideal S2x256x2048 .f32)
  (x5 : FVec Ideal S2x1024 .f32) (x6 x7 : FVec Ideal S2x1024x1024 .f32) (x8 : FVec Ideal S2x1024 .f32) (x9 : FVec Ideal S2x1024x5632 .f32)
  (x10 : FVec Ideal S2x2816x1024 .f32) (x11 : FVec Ideal S1024 .f32)

theorem real0 (h : (fn (F := Ideal) x0 x1 x2 x3 x4 x5 x6 x7 x8 x9 x10 x11).1 = fun _ => 1#1) (b : Fin 2) (s : Fin 16384) (k : Fin 1024) :
    IsReal (x0 (ix3 b s k)) := by
  have h' := congrFun h (ix3 b s k)
  unfold fn fn_part1 at h'
  dsimp only at h'
  revert h'
  pointwise
  exact real_of_lt

theorem real1 (h : (fn (F := Ideal) x0 x1 x2 x3 x4 x5 x6 x7 x8 x9 x10 x11).2.1 = fun _ => 1#1) (n : Fin 32768) (k : Fin 512) : IsReal (x1 (ix2 n k)) := by
  have h' := congrFun h (ix2 n k)
  unfold fn fn_part1 at h'
  dsimp only at h'
  revert h'
  pointwise
  exact real_of_lt

theorem real2 (h : (fn (F := Ideal) x0 x1 x2 x3 x4 x5 x6 x7 x8 x9 x10 x11).2.2.1 = fun _ => 1#1) (n : Fin 32768) (k : Fin 512) : IsReal (x2 (ix2 n k)) := by
  have h' := congrFun h (ix2 n k)
  unfold fn fn_part1 at h'
  dsimp only at h'
  revert h'
  pointwise
  exact real_of_lt

theorem real3 (h : (fn (F := Ideal) x0 x1 x2 x3 x4 x5 x6 x7 x8 x9 x10 x11).2.2.2.1 = fun _ => 1#1) (i k : Fin 1024) : IsReal (x3 (ix3 0 i k)) := by
  have h' := congrFun h (ix3 0 i k)
  unfold fn fn_part1 at h'
  dsimp only at h'
  revert h'
  pointwise
  exact real_of_lt

theorem real4 (h : (fn (F := Ideal) x0 x1 x2 x3 x4 x5 x6 x7 x8 x9 x10 x11).2.2.2.2.1 = fun _ => 1#1) (b : Fin 2) (j : Fin 256) (k : Fin 1024) :
    IsReal (x4 (ix3 b j ⟨k.val, by omega⟩)) := by
  have h' := congrFun h (ix3 b j k)
  unfold fn fn_part1 at h'
  dsimp only at h'
  revert h'
  pointwise
  exact real_of_lt

theorem real5 (h : (fn (F := Ideal) x0 x1 x2 x3 x4 x5 x6 x7 x8 x9 x10 x11).2.2.2.2.2.1 = fun _ => 1#1) (k : Fin 1024) : IsReal (x5 (ix2 0 k)) := by
  have h' := congrFun h (ix1 k)
  unfold fn fn_part1 at h'
  dsimp only at h'
  revert h'
  pointwise
  exact real_of_lt

theorem real6 (h : (fn (F := Ideal) x0 x1 x2 x3 x4 x5 x6 x7 x8 x9 x10 x11).2.2.2.2.2.2 = fun _ => 1#1) (i k : Fin 1024) : IsReal (x6 (ix3 0 i k)) := by
  have h' := congrFun h (ix2 i k)
  unfold fn fn_part1 at h'
  dsimp only at h'
  revert h'
  pointwise
  exact real_of_lt

/-- The row the mixers leave is real where its parts are. -/
theorem mix_real {x : Fin 1024 → EReal} {yp ya : Fin 512 → EReal} {wp wa : Fin 512 → Fin 1024 → EReal} (hx : ∀ k, IsReal (x k))
    (hp : ∀ i, IsReal (yp i)) (ha : ∀ i, IsReal (ya i)) (hwp : ∀ i k, IsReal (wp i k)) (hwa : ∀ i k, IsReal (wa i k)) (l : Fin 1024) :
    IsReal (MixBody.mix x yp ya wp wa l) :=
  ((hx l).add (IsReal.sum fun i => (hp i).mul (hwp i l))).add (IsReal.sum fun i => (ha i).mul (hwa i l))

end Cert.MixPre
-- ==== Proof.MixClaim.lean ====
module

public import proofs.«01_k».proof.Defs
public import proofs.«01_k».proof.Proof.MixFrames
public import proofs.«01_k».proof.Proof.MixValue
public import proofs.«01_k».proof.Proof.MixRef
public import proofs.«01_k».proof.Proof.MixPre

/-!
  The value claim about the first layer's tail: kernel and reference end with the same rows.
-/

@[expose] public section

noncomputable section

namespace Cert.MixClaim

open Idealize.ShloMosaic Idealize.ShloMosaic.TcCoe Idealize.SL.Sem Cert.Rows

/-- Under the precondition the two ways of computing the heads agree in every row. -/
theorem row_eq (m : (ℓ : Loc Cert.MixIdeal.nD Cert.MixIdeal.τ Cert.MixIdeal.sig) → Buf (Elt Ideal) ℓ) (c : Dev Cert.MixIdeal.nD)
    (hpre : Cert.Pre_MixIdeal_mix_finite (hPre_mix_finite := Cert.Pre_mix_finite.Gen.facts) m) (b : Fin 2) (s : Fin 16384) (n : Fin 32768) :
    Cert.MixValue.row m c headK b s n = Cert.MixValue.row m c headR b s n := by
  obtain ⟨h0, h1, h2, h3, h4, h5, h6⟩ := hpre c
  unfold Cert.MixValue.row
  refine tail_eq (fun k => ?_) (fun k => ?_) (fun i k => ?_) (fun j k => ?_) _ _ _ _
  · unfold Cert.MixValue.mixed
    refine Cert.MixPre.mix_real (fun k => ?_) (fun i => ?_) (fun i => ?_) (fun i k => ?_) (fun i k => ?_) k
    · exact Cert.MixPre.real0 _ _ _ _ _ _ _ _ _ _ _ _ h0 b s k
    · exact Cert.MixPre.real1 _ _ _ _ _ _ _ _ _ _ _ _ h1 n i
    · exact Cert.MixPre.real2 _ _ _ _ _ _ _ _ _ _ _ _ h2 n i
    · exact Cert.MixPre.real3 _ _ _ _ _ _ _ _ _ _ _ _ h3 _ k
    · exact Cert.MixPre.real3 _ _ _ _ _ _ _ _ _ _ _ _ h3 _ k
  · exact Cert.MixPre.real5 _ _ _ _ _ _ _ _ _ _ _ _ h5 k
  · exact Cert.MixPre.real6 _ _ _ _ _ _ _ _ _ _ _ _ h6 i k
  · exact Cert.MixPre.real4 _ _ _ _ _ _ _ _ _ _ _ _ h4 b j k

theorem value : Cert.algebraic_MixIdeal_MixRefIdeal_pre_mix_finite (hMixIdeal := Cert.MixIdeal.Gen.facts)
    (hMixRefIdeal := Cert.MixRefIdeal.Gen.facts) (hPre_mix_finite := Cert.Pre_mix_finite.Gen.facts) := by
  intro m ρ m' ρ' hpre hagree
  refine ⟨fun c => Cert.MixValue.G m c, ?_, ?_⟩
  · refine (θ_run Cert.MixIdeal.defs _ _).mono (fun r h c => ⟨(h c).1.trans ?_, (h c).2⟩) (Cert.MixIdeal.Value.run_blocks (F := Ideal) m ρ)
    exact Cert.MixValue.final13 m c
  · refine (θ_run Cert.MixRefIdeal.defs _ _).mono (fun r h c => ⟨(h c).1.trans ?_, (h c).2⟩) (Cert.MixRefIdeal.Value.run (F := Ideal) m' ρ')
    obtain ⟨a0, a1, a2, a3, a4, a5, a6, a7, a8, a9, a10, a11⟩ := hagree c
    funext y
    obtain ⟨n, l, rfl⟩ : ∃ (n : Fin 32768) (l : Fin 1024), y = ix2 n l := ⟨y 0, y 1, by funext a; match a with | ⟨0, _⟩ => rfl | ⟨1, _⟩ => rfl⟩
    refine (Cert.MixRef.res_apply _ n l).trans ?_
    refine Eq.trans ?_ (congrFun (row_eq m c hpre _ _ _).symm l)
    unfold Cert.MixRef.xrow Cert.MixValue.row Cert.MixValue.mixed
    simp only [Cert.MixRef.v4_apply]
    have hn : (⟨n.val / 16384 * 16384 + n.val % 16384, by omega⟩ : Fin 32768) = n := Fin.ext (by show n.val / 16384 * 16384 + n.val % 16384 = n.val; omega)
    rw [← a0, ← a1, ← a2, ← a3, ← a4, ← a5, ← a6, ← a7, ← a8, ← a9, ← a10]
    simp only [hn]
    rfl

end Cert.MixClaim
-- ==== Proof.KvClaim.lean ====
module

public import proofs.«01_k».proof.Defs
public import proofs.«01_k».proof.Proof.Rows
public import proofs.«01_k».proof.Proof.Gen.Kv.Frame
public import proofs.«01_k».proof.Proof.Gen.KvIdeal.Value
public import proofs.«01_k».proof.Proof.Gen.KvRefIdeal.Run
public import Idealize.ShloMosaic.Lib.StableHlo.Run
public import Idealize.ShloMosaic.Lib.Pipeline.ValueKit.Geometry

/-!
  The memory's keys and values: the call normalises one batch's memory rows at each of its two grid points and projects
  them, and the reference does so with the whole array.
-/

@[expose] public section

noncomputable section

namespace Cert.KvClaim

open Idealize.ShloMosaic Idealize.ShloMosaic.TcCoe Idealize.SL.Sem Cert.Rows
open Idealize.ShloMosaic.StableHlo
open scoped BigOperators

theorem quiet : Cert.quiescent_Kv (hKv := Cert.Kv.Gen.facts) := fun m ρ _ => Cert.Kv.Gen.frame m ρ

theorem quietIdeal : Cert.quiescent_KvIdeal (hKvIdeal := Cert.KvIdeal.Gen.facts) := fun m ρ _ => Cert.KvIdeal.Gen.frame m ρ

theorem quietRef : Cert.quiescent_KvRefIdeal (hKvRefIdeal := Cert.KvRefIdeal.Gen.facts) := fun m ρ _ =>
  (θ_run Cert.KvRefIdeal.defs _ _).mono (fun r h => ⟨fun c => (h c).2, sem_eq_zero_of_no_sems (by decide) r.2⟩)
    (Cert.KvRefIdeal.Value.run (F := Ideal) m ρ)

section

open Cert.KvIdeal Cert.KvIdeal.Gen

variable (m : (ℓ : Loc nD τ sig) → Buf (Elt Ideal) ℓ) (c : Dev nD)

/-! ## The arrays when the call is entered -/

theorem entry_mem : V m c main_arg0 = m ((c : Thread nD τ).loc main_arg0) := by
  unfold V; simp only [hostOps0]; after_results_simp

theorem entry_norm : V m c main_v2 = shapeCast _ (shapeCast S1024 (extractStridedSlice S1x1024 ![1, 0] (m ((c : Thread nD τ).loc main_arg1)) slices_S2x1024_S1x1024_1_0) shapeCasts_S1x1024_S1024) shapeCasts_S1024_S1x1024 := by
  unfold V; simp only [hostOps0]; after_results_simp; rfl

theorem entry_proj : V m c main_v3 = m ((c : Thread nD τ).loc main_arg2) := by
  unfold V; simp only [hostOps0]; after_results_simp; rfl

/-! ## The windows' blocks -/

theorem at0 : ∀ t : Fin cfg0.N, win0_0.index t = ![t.val, 0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![1, 0, 0] := (by decide +kernel : ∀ t : Fin grid0.N, _)
theorem at3 : ∀ t : Fin cfg0.N, win0_3.index t = ![t.val, 0, 0] := (by decide +kernel : ∀ t : Fin grid0.N, _)

theorem memory_block (t : Fin cfg0.N) (r : Fin 256) (k : Fin 1024) :
    (iblk m c 0 t : Vec Ideal S1x256x1024 .f32) (ix3 0 r k) = m ((c : Thread nD τ).loc main_arg0) (ix3 ⟨t.val, t.isLt⟩ r k) := by
  have h : (iblk m c 0 t : Vec Ideal S1x256x1024 .f32) (ix3 0 r k) = V m c main_arg0 (ix3 ⟨t.val, t.isLt⟩ r k) := by
    blk_simp [iblk]
    refine congrArg (V m c main_arg0) ?_
    blk_ext [at0]
  rw [h, entry_mem]

theorem norm_block (t : Fin cfg0.N) (k : Fin 1024) :
    (iblk m c 1 t : Vec Ideal S1x1024 .f32) (ix2 0 k) = m ((c : Thread nD τ).loc main_arg1) (ix2 1 k) := by
  have h : (iblk m c 1 t : Vec Ideal S1x1024 .f32) (ix2 0 k) = V m c main_v2 (ix2 0 k) := by
    blk_simp [iblk]
    refine congrArg (V m c main_v2) ?_
    blk_ext [at1]
  rw [h, entry_norm]
  pointwise

theorem proj_block (t : Fin cfg0.N) (i : Fin 1024) (k : Fin 2048) :
    (iblk m c 2 t : Vec Ideal S1x1024x2048 .bf16) (ix3 0 i k) = m ((c : Thread nD τ).loc main_arg2) (ix3 1 i k) := by
  have h : (iblk m c 2 t : Vec Ideal S1x1024x2048 .bf16) (ix3 0 i k) = V m c main_v3 (ix3 1 i k) := by
    blk_simp [iblk]
    refine congrArg (V m c main_v3) ?_
    blk_ext [at2]
  rw [h, entry_proj]

/-! ## The result -/

/-- The memory's row `j` of batch `b`, normalised and projected. -/
def row (b : Fin 2) (j : Fin 256) : Fin 2048 → EReal :=
  mv (rms (fun k => m ((c : Thread nD τ).loc main_arg0) (ix3 b j k)) (fun k => m ((c : Thread nD τ).loc main_arg1) (ix2 1 k)))
    (fun i k => m ((c : Thread nD τ).loc main_arg2) (ix3 1 i k))

/-- The result array, from the arguments. -/
def G : (⟨3, ![2, 256, 2048]⟩ : Shape).Idx → EReal := fun i => row m c (i 0) (i 1) (i 2)

/-- The body's result, row by row. -/
theorem body_apply (x : Vec Ideal S1x256x1024 .f32) (w : Vec Ideal S1x1024 .f32) (p : Vec Ideal S1x1024x2048 .bf16) (j : Fin 256) (l : Fin 2048) :
    k0_pay1 x w p (ix3 0 j l) = mv (rms (fun k => x (ix3 0 j k)) (fun k => w (ix2 0 k))) (fun i k => p (ix3 0 i k)) l := by
  pointwise [k0_pay1]
  simp only [mv, rms, scale]

/-- What grid point `t` leaves at row `j` of its block. -/
theorem point_apply (t : Fin cfg0.N) (j : Fin 256) (l : Fin 2048) :
    out0_3 (F := Ideal) (iblk m c 0 t) (iblk m c 1 t) (iblk m c 2 t) (ix3 0 j l) = row m c ⟨t.val, t.isLt⟩ j l := by
  have z2 : (![0, 0] : Fin 2 → ℕ) = fun _ => 0 := by decide
  have z3 : (![0, 0, 0] : Fin 3 → ℕ) = fun _ => 0 := by decide
  unfold out0_3
  rw [View.canon_unit_zero z3, body_apply, View.ld_unit_zero (S := S1x256x1024) z3, View.ld_unit_zero (S := S1x1024) z2, View.ld_unit_zero (S := S1x1024x2048) z3]
  simp only [memory_block, norm_block, proj_block, row]

/-- The array after the call. -/
theorem final : (dats (F := Ideal) m 0 c).arrAt 3 cfg0.N = G m c := by
  refine (dats m 0 c).arrAt_eq_of_covers 3 _ (by decide +kernel) fun t hf y => ?_
  blk_simp
  rw [after0_3]
  obtain ⟨j, l, rfl⟩ : ∃ (j : Fin 256) (l : Fin 2048), y = ix3 0 j l :=
    ⟨y 1, y 2, by funext a; match a with | ⟨0, _⟩ => exact Subsingleton.elim (α := Fin 1) _ _ | ⟨1, _⟩ => rfl | ⟨2, _⟩ => rfl⟩
  rw [point_apply]
  refine congrArg (G m c) (?_ : (ix3 ⟨t.val, t.isLt⟩ j l : (⟨3, ![2, 256, 2048]⟩ : Shape).Idx) = _)
  blk_ext [at3]

end

section

open Cert.KvRefIdeal Cert.KvRefIdeal.Gen

/-- The reference's array, row by row. -/
theorem ref_apply (X : FVec Ideal S2x256x1024 .f32) (w : FVec Ideal S1024 .f32) (W : FVec Ideal S1024x2048 .f32)
    (b : Fin 2) (j : Fin 256) (l : Fin 2048) :
    truncf .bf16 (Host.dotGeneral dot_S2x256x1024_S1024x2048_S2x256x2048_2_0_01_1_n_n none (mulf (mulf X (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf X X) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 w))) W) bitsLt_bf16_f32 (ix3 b j l)
      = mv (rms (fun k => X (ix3 b j k)) (fun k => w (ix1 k))) (fun i k => W (ix2 i k)) l := by
  pointwise
  simp only [mv, rms, scale]

end

theorem value : Cert.algebraic_KvIdeal_KvRefIdeal (hKvIdeal := Cert.KvIdeal.Gen.facts) (hKvRefIdeal := Cert.KvRefIdeal.Gen.facts) := by
  intro m ρ m' ρ' _ hagree
  refine ⟨fun c => G m c, ?_, ?_⟩
  · refine (θ_run Cert.KvIdeal.defs _ _).mono (fun r h c => ⟨(h c).1.trans ?_, (h c).2⟩) (Cert.KvIdeal.Value.run_blocks (F := Ideal) m ρ)
    exact final m c
  · refine (θ_run Cert.KvRefIdeal.defs _ _).mono (fun r h c => ⟨(h c).1.trans ?_, (h c).2⟩) (Cert.KvRefIdeal.Value.run (F := Ideal) m' ρ')
    obtain ⟨a0, a1, a2⟩ := hagree c
    funext y
    obtain ⟨b, j, l, rfl⟩ : ∃ (b : Fin 2) (j : Fin 256) (l : Fin 2048), y = ix3 b j l :=
      ⟨y 0, y 1, y 2, by funext a; match a with | ⟨0, _⟩ => rfl | ⟨1, _⟩ => rfl | ⟨2, _⟩ => rfl⟩
    refine (ref_apply _ _ _ b j l).trans ?_
    show _ = row m c b j l
    unfold row
    rw [← a0, ← a1, ← a2]
    refine congrArg₂ (fun x w => mv x w l) (congrArg (fun w => rms _ w) (funext fun k => ?_)) (funext fun i => funext fun k => ?_)
    · pointwise
    · pointwise

end Cert.KvClaim
-- ==== Proof.PoolBody.lean ====
/-
  THE POOLING MIXER'S BODY: what a block of 256 rows is turned into, as the operations of the kernel's body; and that both
  of the body's cases (a sequence's first tile, and every other tile) are four such blocks one after the other.
-/
module

public import proofs.«01_k».proof.Proof.Rows
public import proofs.«01_k».proof.Proof.Gen.PoolIdeal.Frame

@[expose] public section

noncomputable section

namespace Cert.PoolBody

open Idealize.ShloMosaic Cert.PoolIdeal Cert.PoolIdeal.Gen Cert.Rows
open scoped BigOperators

/-- One doubling of a running window: the rows, plus the rows `d` before. -/
def dbl (d : BitVec 32) (p : FVec Ideal S272x128 .f32) : FVec Ideal S272x128 .f32 := addf p (dynamicRotate 0 d none p rotates_S272x128_d0)

/-- One group's product: the window's mean less the row, times the group's matrix. -/
def partB (o : ℕ) (ho : S256x512.Slices ![0, o] S256x128) (w : BitVec 32) (s : FVec Ideal S272x128 .f32) (u : FVec Ideal S256x512 .f32) (t : IVec S256x1 32)
    (g : Vec Ideal S1x128x128 .bf16) : FVec Ideal S256x128 .f32 :=
  matmul (φ₁ := .bf16) (φ₂ := .bf16) dot_S256x128_S128x128_S256x128_1_0_0_1_n_n none
    (truncf .bf16 (subf (divf (extractStridedSlice S256x128 ![16, 0] s slices_S272x128_o16_0_S256x128)
      (broadcastTo S256x128 (sitofp .f32 (minsi (addi t (broadcast S256x1 1#32)) (broadcast S256x1 w))) broadcasts_S256x1_S256x128))
      (extractStridedSlice S256x128 ![0, o] u ho)) bitsLt_bf16_f32)
    (shapeCast (α := Ideal .bf16) S128x128 g shapeCasts_S1x128x128_S128x128) (constant S256x128 .f32 0x00000000#32)

/-- The output of a block: the four groups side by side, scaled. -/
def outB (u : FVec Ideal S256x512 .f32) (t : IVec S256x1 32) (p0 p1 p2 p3 : FVec Ideal S272x128 .f32) (g0 g1 g2 g3 : Vec Ideal S1x128x128 .bf16)
    (sc : Vec Ideal S1x512 .f32) : FVec Ideal S1x256x512 .bf16 :=
  shapeCast S1x256x512 (truncf .bf16 (mulf (concatenate S256x512 1
    [⟨S256x128, partB 0 slices_S256x512_o0_0_S256x128 2#32 (dbl 1#32 p0) u t g0⟩,
     ⟨S256x128, partB 128 slices_S256x512_o0_128_S256x128 4#32 (dbl 2#32 (dbl 1#32 p1)) u t g1⟩,
     ⟨S256x128, partB 256 slices_S256x512_o0_256_S256x128 8#32 (dbl 4#32 (dbl 2#32 (dbl 1#32 p2))) u t g2⟩,
     ⟨S256x128, partB 384 slices_S256x512_o0_384_S256x128 16#32 (dbl 8#32 (dbl 4#32 (dbl 2#32 (dbl 1#32 p3)))) u t g3⟩]
    concatenates_S256x128_S256x128_S256x128_S256x128_S256x512_d1)
    (broadcastTo S256x512 (shapeCast S1x512 sc shapeCasts_S1x512_S1x512) broadcasts_S1x512_S256x512)) bitsLt_bf16_f32) shapeCasts_S256x512_S1x256x512

/-! ## A block of a tile, over what the tile's windows read -/

theorem inX (b : ℕ) (hb : b < 4) : ∀ a, (![0, 256 * b, 0] : Fin 3 → ℕ) a + S1x256x1024.size a ≤ S1x1024x1024.size a := by
  intro a
  match a with
  | ⟨0, _⟩ => show 0 + 1 ≤ 1; omega
  | ⟨1, _⟩ => show 256 * b + 256 ≤ 1024; omega
  | ⟨2, _⟩ => show 0 + 1024 ≤ 1024; omega
theorem inO (b : ℕ) (hb : b < 4) : ∀ a, (![0, 256 * b, 0] : Fin 3 → ℕ) a + S1x256x512.size a ≤ S1x1024x512.size a := by
  intro a
  match a with
  | ⟨0, _⟩ => show 0 + 1 ≤ 1; omega
  | ⟨1, _⟩ => show 256 * b + 256 ≤ 1024; omega
  | ⟨2, _⟩ => show 0 + 512 ≤ 512; omega
theorem inE (b : ℕ) (hb : b < 4) : ∀ a, (![16 + 256 * b, 0] : Fin 2 → ℕ) a + S256x512.size a ≤ S1040x512.size a := by
  intro a
  match a with
  | ⟨0, _⟩ => show 16 + 256 * b + 256 ≤ 1040; omega
  | ⟨1, _⟩ => show 0 + 512 ≤ 512; omega
theorem inC (b g : ℕ) (hb : b < 4) (hg : g < 4) : ∀ a, (![256 * b, 128 * g] : Fin 2 → ℕ) a + S272x128.size a ≤ S1040x512.size a := by
  intro a
  match a with
  | ⟨0, _⟩ => show 256 * b + 272 ≤ 1040; omega
  | ⟨1, _⟩ => show 128 * g + 128 ≤ 512; omega
theorem inG (g : ℕ) (hg : g < 4) : ∀ a, (![g, 0, 0] : Fin 3 → ℕ) a + S1x128x128.size a ≤ S4x128x128.size a := by
  intro a
  match a with
  | ⟨0, _⟩ => show g + 1 ≤ 4; omega
  | ⟨1, _⟩ => show 0 + 128 ≤ 128; omega
  | ⟨2, _⟩ => show 0 + 128 ≤ 128; omega

section
variable (y0 : Vec Ideal S1x1024x1024 .f32) (y2 : Vec Ideal S1x1024 .f32) (y3 : Vec Ideal S1024x1024 .bf16) (y4 : Vec Ideal S4x128x128 .bf16)
  (y5 : Vec Ideal S1x512 .f32)

/-- Block `b` of the tile. -/
def xB (b : ℕ) (hb : b < 4) : Vec Ideal S1x256x1024 .f32 := View.ld y0 (Rect.unit (s := S1x1024x1024) ![0, 256 * b, 0] S1x256x1024.size (inX b hb))

/-- The part of the block's projection that is pooled. -/
def uV (b : ℕ) (hb : b < 4) : FVec Ideal S256x512 .f32 :=
  k0_pay9 (k0_pay4 (xB y0 b hb) (View.ld y2 (Rect.unit (s := S1x1024) ![0, 0] S1x1024.size inb_S1x1024_S1x1024_0_0))
    (View.ld y3 (Rect.unit (s := S1024x1024) ![0, 0] S1024x1024.size inb_S1024x1024_S1024x1024_0_0)))

/-- The places of the block's rows in the sequence, `a` being the tile's number. -/
def tV (a : BitVec 32) (b : ℕ) : IVec S256x1 32 :=
  addi (broadcast S256x1 (Scalar.addi (Scalar.muli a 1024#32) (BitVec.ofNat 32 (256 * b)))) (iota .tc S256x1 32 [0] iota_S256x1_d0_w32)

/-- A group's matrix. -/
def gV (g : ℕ) (hg : g < 4) : Vec Ideal S1x128x128 .bf16 := View.ld y4 (Rect.unit (s := S4x128x128) ![g, 0, 0] S1x128x128.size (inG g hg))

/-- The output of the block. -/
def outV (a : BitVec 32) (b : ℕ) (hb : b < 4) (P : ∀ g : ℕ, g < 4 → FVec Ideal S272x128 .f32) : FVec Ideal S1x256x512 .bf16 :=
  outB (uV y0 y2 y3 b hb) (tV a b) (P 0 (by omega)) (P 1 (by omega)) (P 2 (by omega)) (P 3 (by omega)) (gV y4 0 (by omega)) (gV y4 1 (by omega)) (gV y4 2 (by omega)) (gV y4 3 (by omega))
    (View.ld y5 (Rect.unit (s := S1x512) ![0, 0] S1x512.size inb_S1x512_S1x512_0_0))

/-- A piece of the output. -/
def outPc (a : BitVec 32) (b : ℕ) (hb : b < 4) (P : ∀ g : ℕ, g < 4 → FVec Ideal S272x128 .f32) : View.Piece (Elt Ideal) S1x1024x512 .bf16 :=
  ⟨Rect.unit (s := S1x1024x512) ![0, 256 * b, 0] S1x256x512.size (inO b hb), outV y0 y2 y3 y4 y5 a b hb P⟩

/-- The pieces the tile's output is stored in. -/
def outP (a : BitVec 32) (P0 P1 P2 P3 : ∀ g : ℕ, g < 4 → FVec Ideal S272x128 .f32) : List (View.Piece (Elt Ideal) S1x1024x512 .bf16) :=
  [outPc y0 y2 y3 y4 y5 a 3 (by omega) P3, outPc y0 y2 y3 y4 y5 a 2 (by omega) P2, outPc y0 y2 y3 y4 y5 a 1 (by omega) P1, outPc y0 y2 y3 y4 y5 a 0 (by omega) P0]

/-- A block's rows in the rows' buffer. -/
def extPc (b : ℕ) (hb : b < 4) : View.Piece (Elt Ideal) S1040x512 .f32 :=
  ⟨Rect.unit (s := S1040x512) ![16 + 256 * b, 0] S256x512.size (inE b hb), shapeCast S256x512 (uV y0 y2 y3 b hb) shapeCasts_S256x512_S256x512⟩

/-- What the tile has stored in the rows' buffer over `L`, after its first `n` blocks. -/
def ext (L : List (View.Piece (Elt Ideal) S1040x512 .f32)) : ∀ n : ℕ, n ≤ 4 → List (View.Piece (Elt Ideal) S1040x512 .f32)
  | 0, _ => L
  | n + 1, h => extPc y0 y2 y3 n h :: ext L n (Nat.le_of_succ_le h)
end

/-- The load of the 272 rows before and of block `b`, of group `g`'s columns. -/
def colsAt (b g : ℕ) (hb : b < 4) (hg : g < 4) : LoadRect S1040x512 := (Rect.unit (s := S1040x512) ![256 * b, 128 * g] S272x128.size (inC b g hb hg)).toLoadRect

/-- The zeros a sequence's first tile puts in the rows' buffer. -/
def zeroExt : List (View.Piece (Elt Ideal) S1040x512 .f32) :=
  [⟨Rect.unit (s := S1040x512) ![0, 0] S16x512.size inb_S1040x512_S16x512_0_0, k0_pay3 (F := Ideal)⟩]

/-- The rows kept for the next tile. -/
def tailAt : LoadRect S1040x512 := (Rect.unit (s := S1040x512) ![1024, 0] S16x512.size inb_S1040x512_S16x512_1024_0).toLoadRect
def keepPc (v : Vec Ideal S16x512 .f32) : View.Piece (Elt Ideal) S1040x512 .f32 :=
  ⟨Rect.unit (s := S1040x512) ![0, 0] S16x512.size inb_S1040x512_S16x512_0_0, k0_pay1 v⟩

/-! ## The two cases -/

section
variable (c : Dev nD) (i : grid0.Coords) (arg2 : Memref sig .tc .vmem S1x1024x1024 .f32) (harg2 : arg2.IsWhole) (arg3 : Memref sig .tc .vmem S1x1x1024 .i32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S16x1 .f32) (harg13 : arg13.IsWhole) (arg14 : Memref sig .tc .vmem S1x128 .f32) (harg14 : arg14.IsWhole) (arg15 : Memref sig .tc .vmem S1x1024x512 .bf16) (harg15 : arg15.IsWhole) (arg16 : Memref sig .tc .vmem S1x8x128x1024 .bf16) (harg16 : arg16.IsWhole) (arg17 : Memref sig .tc .vmem S1x8x1024x128 .bf16) (harg17 : arg17.IsWhole) (arg18 : Memref sig .tc .vmem S1x8x4x128x256 .bf16) (harg18 : arg18.IsWhole) (arg19 : Memref sig .tc .vmem S1040x512 .f32) (harg19 : arg19.IsWhole) (hc0 : ¬cond0_0 i)
    (x0 : Vec Ideal S1x1024x1024 .f32) (x1 : Vec Ideal S1x1x1024 .i32) (x2 : Vec Ideal S1x1024 .f32) (x3 : Vec Ideal S1024x1024 .bf16) (x4 : Vec Ideal S4x128x128 .bf16) (x5 : Vec Ideal S1x512 .f32) (x6 : Vec Ideal S1x256 .f32) (x7 : Vec Ideal S256x1024 .bf16) (x8 : Vec Ideal S1x128 .f32) (x9 : Vec Ideal S128x1024 .bf16) (x10 : Vec Ideal S128x1024 .bf16) (x11 : Vec Ideal S16x1 .f32) (x12 : Vec Ideal S1x128 .f32) (xs0 : Vec Ideal S1040x512 .f32)

theorem next_out : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).1
    = outP (arg2.view.read (Elt Ideal) (harg2.unread x0)) (arg4.view.read (Elt Ideal) (harg4.unread x2)) (arg5.view.read (Elt Ideal) (harg5.unread x3)) (arg6.view.read (Elt Ideal) (harg6.unread x4)) (arg7.view.read (Elt Ideal) (harg7.unread x5)) (BitVec.ofNat 32 (i 1).val)
      (fun g hg => arg19.view.readAt (Elt Ideal) (colsAt 0 g (by omega) hg) (arg19.view.writes (Elt Ideal) (harg19.unread xs0) (ext (arg2.view.read (Elt Ideal) (harg2.unread x0)) (arg4.view.read (Elt Ideal) (harg4.unread x2)) (arg5.view.read (Elt Ideal) (harg5.unread x3)) [] 1 (by omega))))
      (fun g hg => arg19.view.readCov (ext (arg2.view.read (Elt Ideal) (harg2.unread x0)) (arg4.view.read (Elt Ideal) (harg4.unread x2)) (arg5.view.read (Elt Ideal) (harg5.unread x3)) [] 2 (by omega)) (colsAt 1 g (by omega) hg))
      (fun g hg => arg19.view.readCov (ext (arg2.view.read (Elt Ideal) (harg2.unread x0)) (arg4.view.read (Elt Ideal) (harg4.unread x2)) (arg5.view.read (Elt Ideal) (harg5.unread x3)) [] 3 (by omega)) (colsAt 2 g (by omega) hg))
      (fun g hg => arg19.view.readCov (ext (arg2.view.read (Elt Ideal) (harg2.unread x0)) (arg4.view.read (Elt Ideal) (harg4.unread x2)) (arg5.view.read (Elt Ideal) (harg5.unread x3)) [] 4 (by omega)) (colsAt 3 g (by omega) hg)) := by
  sl_kernel_rfl

theorem next_ext : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).2.2.2.2.1
    = keepPc (arg19.view.readCov (ext (arg2.view.read (Elt Ideal) (harg2.unread x0)) (arg4.view.read (Elt Ideal) (harg4.unread x2)) (arg5.view.read (Elt Ideal) (harg5.unread x3)) [] 4 (by omega)) tailAt) :: ext (arg2.view.read (Elt Ideal) (harg2.unread x0)) (arg4.view.read (Elt Ideal) (harg4.unread x2)) (arg5.view.read (Elt Ideal) (harg5.unread x3)) [] 4 (by omega) := by
  sl_kernel_rfl
end

section
variable (c : Dev nD) (i : grid0.Coords) (arg2 : Memref sig .tc .vmem S1x1024x1024 .f32) (harg2 : arg2.IsWhole) (arg3 : Memref sig .tc .vmem S1x1x1024 .i32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S16x1 .f32) (harg13 : arg13.IsWhole) (arg14 : Memref sig .tc .vmem S1x128 .f32) (harg14 : arg14.IsWhole) (arg15 : Memref sig .tc .vmem S1x1024x512 .bf16) (harg15 : arg15.IsWhole) (arg16 : Memref sig .tc .vmem S1x8x128x1024 .bf16) (harg16 : arg16.IsWhole) (arg17 : Memref sig .tc .vmem S1x8x1024x128 .bf16) (harg17 : arg17.IsWhole) (arg18 : Memref sig .tc .vmem S1x8x4x128x256 .bf16) (harg18 : arg18.IsWhole) (arg19 : Memref sig .tc .vmem S1040x512 .f32) (harg19 : arg19.IsWhole) (hc0 : cond0_0 i)
    (x0 : Vec Ideal S1x1024x1024 .f32) (x1 : Vec Ideal S1x1x1024 .i32) (x2 : Vec Ideal S1x1024 .f32) (x3 : Vec Ideal S1024x1024 .bf16) (x4 : Vec Ideal S4x128x128 .bf16) (x5 : Vec Ideal S1x512 .f32) (x6 : Vec Ideal S1x256 .f32) (x7 : Vec Ideal S256x1024 .bf16) (x8 : Vec Ideal S1x128 .f32) (x9 : Vec Ideal S128x1024 .bf16) (x10 : Vec Ideal S128x1024 .bf16) (x11 : Vec Ideal S16x1 .f32) (x12 : Vec Ideal S1x128 .f32)

theorem first_out : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1
    = outP (arg2.view.read (Elt Ideal) (harg2.unread x0)) (arg4.view.read (Elt Ideal) (harg4.unread x2)) (arg5.view.read (Elt Ideal) (harg5.unread x3)) (arg6.view.read (Elt Ideal) (harg6.unread x4)) (arg7.view.read (Elt Ideal) (harg7.unread x5)) (BitVec.ofNat 32 (i 1).val)
      (fun g hg => arg19.view.readCov (ext (arg2.view.read (Elt Ideal) (harg2.unread x0)) (arg4.view.read (Elt Ideal) (harg4.unread x2)) (arg5.view.read (Elt Ideal) (harg5.unread x3)) zeroExt 1 (by omega)) (colsAt 0 g (by omega) hg))
      (fun g hg => arg19.view.readCov (ext (arg2.view.read (Elt Ideal) (harg2.unread x0)) (arg4.view.read (Elt Ideal) (harg4.unread x2)) (arg5.view.read (Elt Ideal) (harg5.unread x3)) zeroExt 2 (by omega)) (colsAt 1 g (by omega) hg))
      (fun g hg => arg19.view.readCov (ext (arg2.view.read (Elt Ideal) (harg2.unread x0)) (arg4.view.read (Elt Ideal) (harg4.unread x2)) (arg5.view.read (Elt Ideal) (harg5.unread x3)) zeroExt 3 (by omega)) (colsAt 2 g (by omega) hg))
      (fun g hg => arg19.view.readCov (ext (arg2.view.read (Elt Ideal) (harg2.unread x0)) (arg4.view.read (Elt Ideal) (harg4.unread x2)) (arg5.view.read (Elt Ideal) (harg5.unread x3)) zeroExt 4 (by omega)) (colsAt 3 g (by omega) hg)) := by
  sl_kernel_rfl

theorem first_ext : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1
    = keepPc (arg19.view.readCov (ext (arg2.view.read (Elt Ideal) (harg2.unread x0)) (arg4.view.read (Elt Ideal) (harg4.unread x2)) (arg5.view.read (Elt Ideal) (harg5.unread x3)) zeroExt 4 (by omega)) tailAt) :: ext (arg2.view.read (Elt Ideal) (harg2.unread x0)) (arg4.view.read (Elt Ideal) (harg4.unread x2)) (arg5.view.read (Elt Ideal) (harg5.unread x3)) zeroExt 4 (by omega) := by
  sl_kernel_rfl
end

end Cert.PoolBody
-- ==== Proof.PoolRow.lean ====
/-
  THE POOLING MIXER ROW BY ROW: a token's row is normalised and projected to four groups of 128 columns; a group is
  replaced by the mean of its last 2, 4, 8 or 16 rows less the row itself, multiplied by the group's matrix, and scaled.
-/
module

public import proofs.«01_k».proof.Proof.Rows

@[expose] public section

noncomputable section

namespace Cert.PoolRow

open Idealize.ShloMosaic Cert.Rows
open scoped BigOperators

/-- The weights. -/
structure Pw where
  wn : Fin 1024 → EReal
  W : Fin 1024 → Fin 512 → EReal
  G : Fin 4 → Fin 128 → Fin 128 → EReal
  sc : Fin 512 → EReal

/-- Column `e` of group `g`; the group of a column, and its place in it. -/
def pcol (g : Fin 4) (e : Fin 128) : Fin 512 := ⟨128 * g.val + e.val, by omega⟩
def groupOf (l : Fin 512) : Fin 4 := ⟨l.val / 128, by omega⟩
def seatOf (l : Fin 512) : Fin 128 := ⟨l.val % 128, by omega⟩

/-- The projected row. -/
def uRow (w : Pw) (x : Fin 1024 → EReal) : Fin 512 → EReal := mv (rms x w.wn) w.W

/-- The projected rows, after sixteen rows of zeros. -/
def pent (w : Pw) (X : ℕ → Fin 1024 → EReal) (n : ℕ) (j : Fin 512) : EReal := if n < 16 then 0 else uRow w (X (n - 16)) j

/-- The sum of the last `2 ^ k` of those rows, by doubling. -/
def win (w : Pw) (X : ℕ → Fin 1024 → EReal) (j : Fin 512) : ℕ → ℕ → EReal
  | 0, n => pent w X n j
  | k + 1, n => win w X j k n + win w X j k (n - 2 ^ k)

/-- How many rows a window of `d` holds at place `s`. -/
def rowsHeld (d : BitVec 32) (s : ℕ) : EReal := FloatOps.sitofp (F := Ideal) .f32 (IntOp.minsi (BitVec.ofNat 32 (s + 1)) d)

/-- One group at place `s`. -/
def group (w : Pw) (X : ℕ → Fin 1024 → EReal) (g : Fin 4) (s : ℕ) (d : Fin 128) : EReal :=
  ∑ e : Fin 128, (Ideal.div (win w X (pcol g e) (g.val + 1) (s + 16)) (rowsHeld (BitVec.ofNat 32 (2 ^ (g.val + 1))) s) - uRow w (X s) (pcol g e)) * w.G g e d

/-- The output row. -/
def poolRow (w : Pw) (X : ℕ → Fin 1024 → EReal) (s : ℕ) (l : Fin 512) : EReal := group w X (groupOf l) s (seatOf l) * w.sc l

/-- Four pieces side by side, read at a column. -/
theorem four_cols (f : Fin 4 → Fin 128 → EReal) (a b c d : Fin 128 → EReal) (ha : ∀ y, a y = f 0 y) (hb : ∀ y, b y = f 1 y) (hc : ∀ y, c y = f 2 y)
    (hd : ∀ y, d y = f 3 y) (x : Fin 512) :
    (if h : x.val < 128 then a ⟨x.val, h⟩ else if h : x.val - 128 < 128 then b ⟨x.val - 128, h⟩
      else if h : x.val - 128 - 128 < 128 then c ⟨x.val - 128 - 128, h⟩ else d ⟨x.val - 128 - 128 - 128, by omega⟩)
      = f (groupOf x) (seatOf x) := by
  have key : ∀ (n : Fin 4) (y : Fin 128), groupOf x = n → seatOf x = y → f n y = f (groupOf x) (seatOf x) := by
    intro n y hn hy; rw [hn, hy]
  split_ifs with h1 h2 h3
  · exact (ha _).trans (key 0 _ (Fin.ext (show x.val / 128 = 0 by omega)) (Fin.ext (show x.val % 128 = x.val by omega)))
  · exact (hb _).trans (key 1 _ (Fin.ext (show x.val / 128 = 1 by omega)) (Fin.ext (show x.val % 128 = x.val - 128 by omega)))
  · exact (hc _).trans (key 2 _ (Fin.ext (show x.val / 128 = 2 by omega)) (Fin.ext (show x.val % 128 = x.val - 128 - 128 by omega)))
  · exact (hd _).trans (key 3 _ (Fin.ext (show x.val / 128 = 3 by omega)) (Fin.ext (show x.val % 128 = x.val - 128 - 128 - 128 by omega)))

/-! ## The doubled sums are the plain ones -/

variable (w : Pw) (X : ℕ → Fin 1024 → EReal) (j : Fin 512) (s : ℕ)

theorem win_two : win w X j 1 (s + 16) = 0 + pent w X (s + 16) j + pent w X (s + 15) j := by
  simp only [win, Nat.pow_zero, Nat.add_sub_assoc, Nat.reduceSub, Nat.reduceLeDiff, zero_add]

theorem win_four : win w X j 2 (s + 16) = 0 + pent w X (s + 16) j + pent w X (s + 15) j + pent w X (s + 14) j + pent w X (s + 13) j := by
  simp only [win, Nat.pow_zero, Nat.reducePow, Nat.add_sub_assoc, Nat.reduceSub, Nat.reduceLeDiff, zero_add, add_assoc]

theorem win_eight : win w X j 3 (s + 16) = 0 + pent w X (s + 16) j + pent w X (s + 15) j + pent w X (s + 14) j + pent w X (s + 13) j
    + pent w X (s + 12) j + pent w X (s + 11) j + pent w X (s + 10) j + pent w X (s + 9) j := by
  simp only [win, Nat.pow_zero, Nat.reducePow, Nat.add_sub_assoc, Nat.reduceSub, Nat.reduceLeDiff, zero_add, add_assoc]

theorem win_sixteen : win w X j 4 (s + 16) = 0 + pent w X (s + 16) j + pent w X (s + 15) j + pent w X (s + 14) j + pent w X (s + 13) j
    + pent w X (s + 12) j + pent w X (s + 11) j + pent w X (s + 10) j + pent w X (s + 9) j + pent w X (s + 8) j + pent w X (s + 7) j
    + pent w X (s + 6) j + pent w X (s + 5) j + pent w X (s + 4) j + pent w X (s + 3) j + pent w X (s + 2) j + pent w X (s + 1) j := by
  simp only [win, Nat.pow_zero, Nat.reducePow, Nat.add_sub_assoc, Nat.reduceSub, Nat.reduceLeDiff, zero_add, add_assoc]

end Cert.PoolRow
-- ==== Proof.PoolBlock.lean ====
/-
  A BLOCK OF 256 ROWS OF THE POOLING MIXER'S BODY is the block of the sequence's rows: each operation of PoolBody.lean, read.
-/
module

public import proofs.«01_k».proof.Proof.PoolBody
public import proofs.«01_k».proof.Proof.PoolRow
public import Idealize.ShloMosaic.Lib.WritesUnit
public import Idealize.ShloMosaic.Lib.VecWindow
public import Idealize.ShloMosaic.Lib.KernelVsHost
import Idealize.ShloMosaic.Lib.IdealHost

@[expose] public section

noncomputable section

namespace Cert.PoolBlock

open Idealize.ShloMosaic Cert.PoolIdeal Cert.PoolIdeal.Gen Cert.Rows Cert.PoolBody Cert.PoolRow
open scoped BigOperators

/-- The rows moved down by `d`, and added. -/
theorem dbl_apply (d : ℕ) (hd : d < 272) (p : FVec Ideal S272x128 .f32) (n : Fin 272) (hn : d ≤ n.val) (e : Fin 128) :
    dbl (BitVec.ofNat 32 d) p (ix2 n e) = p (ix2 n e) + p (ix2 ⟨n.val - d, by omega⟩ e) := by
  refine congrArg (p (ix2 n e) + ·) ?_
  refine dynamicRotate_apply 0 _ p _ (ix2 n e) (ix2 ⟨n.val - d, by omega⟩ e) fun b => ?_
  match b with
  | ⟨0, _⟩ =>
    show n.val - d = (n.val + 272 - (BitVec.ofNat 32 d).toNat % 272) % 272
    rw [BitVec.toNat_ofNat]
    omega
  | ⟨1, _⟩ => rfl

section
variable {w : Pw} {X : ℕ → Fin 1024 → EReal} {s : ℕ}

/-- One doubling of the windows, from row `lo + 2 ^ k` on. -/
theorem dbl_win (k lo : ℕ) (hk : 2 ^ k < 272) (g : Fin 4) (p : FVec Ideal S272x128 .f32)
    (hp : ∀ (n : Fin 272) e, lo ≤ n.val → p (ix2 n e) = win w X (pcol g e) k (s + n.val)) (n : Fin 272) (e : Fin 128) (hn : lo + 2 ^ k ≤ n.val) :
    dbl (BitVec.ofNat 32 (2 ^ k)) p (ix2 n e) = win w X (pcol g e) (k + 1) (s + n.val) := by
  show _ = win w X (pcol g e) k (s + n.val) + win w X (pcol g e) k (s + n.val - 2 ^ k)
  generalize 2 ^ k = d at *
  rw [dbl_apply _ hk p n (by omega) e, hp n e (by omega), hp ⟨n.val - d, by omega⟩ e (show lo ≤ n.val - d by omega), show s + n.val - d = s + (n.val - d) by omega]

variable (g : Fin 4) (p : FVec Ideal S272x128 .f32) (hp : ∀ (n : Fin 272) e, p (ix2 n e) = pent w X (s + n.val) (pcol g e))
include hp

theorem two_win (n : Fin 272) (e : Fin 128) (hn : 1 ≤ n.val) : dbl 1#32 p (ix2 n e) = win w X (pcol g e) 1 (s + n.val) :=
  dbl_win 0 0 (by decide) g p (fun n e _ => hp n e) n e hn

theorem four_win (n : Fin 272) (e : Fin 128) (hn : 3 ≤ n.val) : dbl 2#32 (dbl 1#32 p) (ix2 n e) = win w X (pcol g e) 2 (s + n.val) :=
  dbl_win 1 1 (by decide) g _ (fun n e h => two_win g p hp n e h) n e hn

theorem eight_win (n : Fin 272) (e : Fin 128) (hn : 7 ≤ n.val) : dbl 4#32 (dbl 2#32 (dbl 1#32 p)) (ix2 n e) = win w X (pcol g e) 3 (s + n.val) :=
  dbl_win 2 3 (by decide) g _ (fun n e h => four_win g p hp n e h) n e hn

theorem sixteen_win (n : Fin 272) (e : Fin 128) (hn : 15 ≤ n.val) : dbl 8#32 (dbl 4#32 (dbl 2#32 (dbl 1#32 p))) (ix2 n e) = win w X (pcol g e) 4 (s + n.val) :=
  dbl_win 3 7 (by decide) g _ (fun n e h => eight_win g p hp n e h) n e hn
end

/-- One group's product. -/
theorem partB_apply (o : ℕ) (ho : S256x512.Slices ![0, o] S256x128) (hb : o + 128 ≤ 512) (w : BitVec 32) (s : FVec Ideal S272x128 .f32) (u : FVec Ideal S256x512 .f32) (t : IVec S256x1 32)
    (g : Vec Ideal S1x128x128 .bf16) (r : Fin 256) (d : Fin 128) :
    partB o ho w s u t g (ix2 r d) = ∑ e : Fin 128, (Ideal.div (s (ix2 ⟨16 + r.val, by omega⟩ e)) (FloatOps.sitofp (F := Ideal) .f32 (IntOp.minsi (t (ix2 r 0) + 1#32) w))
      - u (ix2 r ⟨o + e.val, by omega⟩)) * g (ix3 0 e d) := by
  pointwise [partB]
  rfl

/-- The four groups side by side, scaled. -/
theorem outB_apply (u : FVec Ideal S256x512 .f32) (t : IVec S256x1 32) (p0 p1 p2 p3 : FVec Ideal S272x128 .f32) (g0 g1 g2 g3 : Vec Ideal S1x128x128 .bf16)
    (sc : Vec Ideal S1x512 .f32) (f : Fin 4 → Fin 128 → EReal) (r : Fin 256) (l : Fin 512)
    (h0 : ∀ y, partB 0 slices_S256x512_o0_0_S256x128 2#32 (dbl 1#32 p0) u t g0 (ix2 r y) = f 0 y)
    (h1 : ∀ y, partB 128 slices_S256x512_o0_128_S256x128 4#32 (dbl 2#32 (dbl 1#32 p1)) u t g1 (ix2 r y) = f 1 y)
    (h2 : ∀ y, partB 256 slices_S256x512_o0_256_S256x128 8#32 (dbl 4#32 (dbl 2#32 (dbl 1#32 p2))) u t g2 (ix2 r y) = f 2 y)
    (h3 : ∀ y, partB 384 slices_S256x512_o0_384_S256x128 16#32 (dbl 8#32 (dbl 4#32 (dbl 2#32 (dbl 1#32 p3)))) u t g3 (ix2 r y) = f 3 y) :
    outB u t p0 p1 p2 p3 g0 g1 g2 g3 sc (ix3 0 r l) = f (groupOf l) (seatOf l) * sc (ix2 0 l) := by
  unfold outB
  generalize partB 0 slices_S256x512_o0_0_S256x128 2#32 (dbl 1#32 p0) u t g0 = a at *
  generalize partB 128 slices_S256x512_o0_128_S256x128 4#32 (dbl 2#32 (dbl 1#32 p1)) u t g1 = b at *
  generalize partB 256 slices_S256x512_o0_256_S256x128 8#32 (dbl 4#32 (dbl 2#32 (dbl 1#32 p2))) u t g2 = c at *
  generalize partB 384 slices_S256x512_o0_384_S256x128 16#32 (dbl 8#32 (dbl 4#32 (dbl 2#32 (dbl 1#32 p3)))) u t g3 = d at *
  pointwise
  exact congrArg (· * _) (four_cols f _ _ _ _ h0 h1 h2 h3 l)

section
variable (y0 : Vec Ideal S1x1024x1024 .f32) (y2 : Vec Ideal S1x1024 .f32) (y3 : Vec Ideal S1024x1024 .bf16) (y4 : Vec Ideal S4x128x128 .bf16)
  (y5 : Vec Ideal S1x512 .f32)

/-- The weights, from what the windows read. -/
def wt : Pw where
  wn k := y2 (ix2 0 k)
  W i k := y3 (ix2 i ⟨k.val, by omega⟩)
  G g d k := y4 (ix3 g d k)
  sc k := y5 (ix2 0 k)

theorem xB_apply (b : ℕ) (hb : b < 4) (r : Fin 256) (k : Fin 1024) : xB y0 b hb (ix3 0 r k) = y0 (ix3 0 ⟨256 * b + r.val, by omega⟩ k) := by
  refine congrArg y0 (funext fun a => Fin.ext ?_)
  match a with
  | ⟨0, _⟩ => rfl
  | ⟨1, _⟩ => show 256 * b + 1 * r.val = 256 * b + r.val; omega
  | ⟨2, _⟩ => show 0 + 1 * k.val = k.val; omega

theorem gV_apply (g : ℕ) (hg : g < 4) (e d : Fin 128) : gV y4 g hg (ix3 0 e d) = y4 (ix3 ⟨g, hg⟩ e d) := by
  refine congrArg y4 (funext fun a => Fin.ext ?_)
  match a with
  | ⟨0, _⟩ => rfl
  | ⟨1, _⟩ => show 0 + 1 * e.val = e.val; omega
  | ⟨2, _⟩ => show 0 + 1 * d.val = d.val; omega

/-- The projection of any 256 rows. -/
theorem proj_apply (x : Vec Ideal S1x256x1024 .f32) (r : Fin 256) (j : Fin 512) :
    k0_pay9 (k0_pay4 x (View.ld y2 (Rect.unit (s := S1x1024) ![0, 0] S1x1024.size inb_S1x1024_S1x1024_0_0))
      (View.ld y3 (Rect.unit (s := S1024x1024) ![0, 0] S1024x1024.size inb_S1024x1024_S1024x1024_0_0))) (ix2 r j)
      = uRow (wt y2 y3 y4 y5) (fun k => x (ix3 0 r k)) j := by
  pointwise [k0_pay9, k0_pay4]
  simp only [uRow, mv, rms, scale, wt]

variable {X : ℕ → Fin 1024 → EReal} {s0 : ℕ} (hx : ∀ (r : Fin 1024) k, y0 (ix3 0 r k) = X (s0 + r.val) k)
include hx

theorem uV_apply (b : ℕ) (hb : b < 4) (r : Fin 256) (j : Fin 512) :
    uV y0 y2 y3 b hb (ix2 r j) = uRow (wt y2 y3 y4 y5) (X (s0 + 256 * b + r.val)) j := by
  refine (proj_apply y2 y3 y4 y5 _ r j).trans (congrArg (uRow _ · j) (funext fun k => ?_))
  rw [xB_apply, hx]
  exact congrArg (X · k) (Nat.add_assoc _ _ _).symm

omit hx in
/-- The places of a block's rows. -/
theorem tV_apply (i b : ℕ) (r : Fin 256) : tV (BitVec.ofNat 32 i) b (ix2 r 0) = BitVec.ofNat 32 (1024 * i + 256 * b + r.val) := by
  have e : iota .tc S256x1 32 [0] iota_S256x1_d0_w32 (ix2 r 0) = BitVec.ofNat 32 r.val := iota_single_apply _ _ _ _ _ _
  show (BitVec.ofNat 32 i * 1024#32 + BitVec.ofNat 32 (256 * b)) + iota .tc S256x1 32 [0] iota_S256x1_d0_w32 (ix2 r 0) = _
  rw [e, BitVec.ofNat_add, BitVec.ofNat_add, BitVec.ofNat_mul 1024 i, BitVec.mul_comm (BitVec.ofNat 32 i)]

/-- One group of a block, of its windows' sums. -/
theorem part_seq (i : ℕ) (hi : s0 = 1024 * i) (b : ℕ) (hb : b < 4) (g : Fin 4) (o : ℕ) (ho : S256x512.Slices ![0, o] S256x128) (hog : o = 128 * g.val) (v : BitVec 32) (hv : v = BitVec.ofNat 32 (2 ^ (g.val + 1)))
    (p : FVec Ideal S272x128 .f32) (hp : ∀ (n : Fin 272) e, 15 ≤ n.val → p (ix2 n e) = win (wt y2 y3 y4 y5) X (pcol g e) (g.val + 1) (s0 + 256 * b + n.val)) (r : Fin 256) (d : Fin 128) :
    partB o ho v p (uV y0 y2 y3 b hb) (tV (BitVec.ofNat 32 i) b) (gV y4 g.val g.isLt) (ix2 r d) = group (wt y2 y3 y4 y5) X g (s0 + 256 * b + r.val) d := by
  subst hi; subst hog; subst hv
  rw [partB_apply _ _ (by omega), group]
  refine Finset.sum_congr rfl fun e _ => ?_
  rw [hp _ e (show 15 ≤ 16 + r.val by omega), uV_apply y0 y2 y3 y4 y5 hx, tV_apply, gV_apply]
  show (Ideal.div (win _ X (pcol g e) (g.val + 1) (1024 * i + 256 * b + (16 + r.val))) _ - _) * _ = _
  rw [show 1024 * i + 256 * b + (16 + r.val) = 1024 * i + 256 * b + r.val + 16 by omega, rowsHeld, BitVec.ofNat_add (1024 * i + 256 * b + r.val) 1]
  rfl

/-- The block's output. -/
theorem outV_apply (i : ℕ) (hi : s0 = 1024 * i) (b : ℕ) (hb : b < 4) (P : ∀ g : ℕ, g < 4 → FVec Ideal S272x128 .f32)
    (hP : ∀ (g : Fin 4) (n : Fin 272) e, P g.val g.isLt (ix2 n e) = pent (wt y2 y3 y4 y5) X (s0 + 256 * b + n.val) (pcol g e)) (r : Fin 256) (l : Fin 512) :
    outV y0 y2 y3 y4 y5 (BitVec.ofNat 32 i) b hb P (ix3 0 r l) = poolRow (wt y2 y3 y4 y5) X (s0 + 256 * b + r.val) l := by
  have hsc : View.ld y5 (Rect.unit (s := S1x512) ![0, 0] S1x512.size inb_S1x512_S1x512_0_0) (ix2 0 l) = y5 (ix2 0 l) := by pointwise
  refine (outB_apply _ _ _ _ _ _ _ _ _ _ _ (fun g y => group (wt y2 y3 y4 y5) X g (s0 + 256 * b + r.val) y) r l (fun y => ?_) (fun y => ?_) (fun y => ?_) (fun y => ?_)).trans ?_
  · exact part_seq y0 y2 y3 y4 y5 hx i hi b hb 0 0 _ rfl _ rfl _ (fun n e h => two_win 0 _ (hP 0) n e (by omega)) r y
  · exact part_seq y0 y2 y3 y4 y5 hx i hi b hb 1 128 _ rfl _ rfl _ (fun n e h => four_win 1 _ (hP 1) n e (by omega)) r y
  · exact part_seq y0 y2 y3 y4 y5 hx i hi b hb 2 256 _ rfl _ rfl _ (fun n e h => eight_win 2 _ (hP 2) n e (by omega)) r y
  · exact part_seq y0 y2 y3 y4 y5 hx i hi b hb 3 384 _ rfl _ rfl _ (fun n e h => sixteen_win 3 _ (hP 3) n e (by omega)) r y
  · rw [hsc]; rfl
end

end Cert.PoolBlock
-- ==== Proof.PoolTile.lean ====
/-
  A TILE OF 1024 ROWS OF THE POOLING MIXER'S BODY is the tile of the sequence's rows, and leaves its last sixteen projected
  rows behind for the next tile.
-/
module

public import proofs.«01_k».proof.Proof.PoolBlock

@[expose] public section

noncomputable section

namespace Cert.PoolTile

open Idealize.ShloMosaic Idealize.ShloMosaic.TcCoe Idealize.SL.Sem Cert.PoolIdeal Cert.PoolIdeal.Gen Cert.Rows Cert.PoolBody Cert.PoolRow Cert.PoolBlock
open scoped BigOperators

/-- Rows and columns of the rows' buffer, as loaded. -/
theorem colsAt_apply (v : View PoolIdeal.sig .tc .vmem S1040x512 .f32) (f : v.ty.Contents (Elt Ideal)) (b : ℕ) (g : Fin 4) (hb : b < 4) (n : Fin 272) (e : Fin 128) :
    v.readAt (Elt Ideal) (colsAt b g.val hb g.isLt) f (ix2 n e) = v.read (Elt Ideal) f (ix2 (⟨256 * b + n.val, by omega⟩ : Fin 1040) (pcol g e)) := by
  refine congrArg (v.read (Elt Ideal) f) (funext fun a => Fin.ext ?_)
  match a with
  | ⟨0, _⟩ => show 256 * b + 1 * n.val = 256 * b + n.val; omega
  | ⟨1, _⟩ => show 128 * g.val + 1 * e.val = 128 * g.val + e.val; omega

theorem tail_apply (v : View PoolIdeal.sig .tc .vmem S1040x512 .f32) (f : v.ty.Contents (Elt Ideal)) (q : Fin 16) (j : Fin 512) :
    v.readAt (Elt Ideal) tailAt f (ix2 q j) = v.read (Elt Ideal) f (ix2 (⟨1024 + q.val, by omega⟩ : Fin 1040) j) := by
  refine congrArg (v.read (Elt Ideal) f) (funext fun a => Fin.ext ?_)
  match a with
  | ⟨0, _⟩ => show 1024 + 1 * q.val = 1024 + q.val; omega
  | ⟨1, _⟩ => show 0 + 1 * j.val = j.val; omega

/-- The zeros of a sequence's first tile are the rows before the sequence. -/
theorem zero_read (v : View PoolIdeal.sig .tc .vmem S1040x512 .f32) (f : v.ty.Contents (Elt Ideal)) (n : Fin 1040) (hn : n.val < 16) (j : Fin 512) (w : Pw) (X : ℕ → Fin 1024 → EReal) :
    v.read (Elt Ideal) (v.writes (Elt Ideal) f zeroExt) (ix2 n j) = pent w X (0 + n.val) j := by
  refine (View.read_writes_cons_rows_of_mem v f _ _ _ (ix2 n j) (ix2 (⟨n.val, hn⟩ : Fin 16) j) rfl ?_ rfl).trans ?_
  · show n.val = 0 + n.val; omega
  · rw [pent, if_pos (by omega)]
    pointwise [k0_pay3]

section
variable (y0 : Vec Ideal S1x1024x1024 .f32) (y2 : Vec Ideal S1x1024 .f32) (y3 : Vec Ideal S1024x1024 .bf16) (y4 : Vec Ideal S4x128x128 .bf16)
  (y5 : Vec Ideal S1x512 .f32)
variable {X : ℕ → Fin 1024 → EReal} {s0 : ℕ} (hx : ∀ (r : Fin 1024) k, y0 (ix3 0 r k) = X (s0 + r.val) k)
include hx

/-- The rows' buffer after the first `b` blocks: the projected rows. -/
theorem ext_read (v : View PoolIdeal.sig .tc .vmem S1040x512 .f32) (f : v.ty.Contents (Elt Ideal)) (L : List (View.Piece (Elt Ideal) S1040x512 .f32)) :
    ∀ (b : ℕ) (hb : b ≤ 4) (n : Fin 1040) (_ : n.val < 16 + 256 * b) (j : Fin 512)
      (_ : n.val < 16 → v.read (Elt Ideal) (v.writes (Elt Ideal) f L) (ix2 n j) = pent (wt y2 y3 y4 y5) X (s0 + n.val) j),
      v.read (Elt Ideal) (v.writes (Elt Ideal) f (ext y0 y2 y3 L b hb)) (ix2 n j) = pent (wt y2 y3 y4 y5) X (s0 + n.val) j
  | 0, _, n, hn, j, h0 => h0 (by omega)
  | b + 1, hb, n, hn, j, h0 => by
    by_cases h : n.val < 16 + 256 * b
    · exact (View.read_writes_cons_rows_of_not_mem v f _ _ _ (ix2 n j) rfl rfl (Or.inl h)).trans (ext_read v f L b (by omega) n h j h0)
    · refine (View.read_writes_cons_rows_of_mem v f _ _ _ (ix2 n j) (ix2 (⟨n.val - (16 + 256 * b), by omega⟩ : Fin 256) j) rfl ?_ rfl).trans ?_
      · show n.val = 16 + 256 * b + (n.val - (16 + 256 * b)); omega
      · refine (congrFun (shapeCast_self _ _) _).trans ((uV_apply y0 y2 y3 y4 y5 hx b hb _ j).trans ?_)
        rw [pent, if_neg (by omega)]
        refine congrArg (uRow _ · j) (congrArg X ?_)
        show s0 + 256 * b + (n.val - (16 + 256 * b)) = s0 + n.val - 16
        omega

variable (i : ℕ) (hi : s0 = 1024 * i)
include hi

/-- The tile's output. -/
theorem outP_read (P0 P1 P2 P3 : ∀ g : ℕ, g < 4 → FVec Ideal S272x128 .f32)
    (h0 : ∀ (g : Fin 4) (n : Fin 272) e, P0 g.val g.isLt (ix2 n e) = pent (wt y2 y3 y4 y5) X (s0 + 256 * 0 + n.val) (pcol g e))
    (h1 : ∀ (g : Fin 4) (n : Fin 272) e, P1 g.val g.isLt (ix2 n e) = pent (wt y2 y3 y4 y5) X (s0 + 256 * 1 + n.val) (pcol g e))
    (h2 : ∀ (g : Fin 4) (n : Fin 272) e, P2 g.val g.isLt (ix2 n e) = pent (wt y2 y3 y4 y5) X (s0 + 256 * 2 + n.val) (pcol g e))
    (h3 : ∀ (g : Fin 4) (n : Fin 272) e, P3 g.val g.isLt (ix2 n e) = pent (wt y2 y3 y4 y5) X (s0 + 256 * 3 + n.val) (pcol g e))
    (v : View PoolIdeal.sig .tc .vmem S1x1024x512 .bf16) (f : v.ty.Contents (Elt Ideal)) (r : Fin 1024) (l : Fin 512) :
    v.read (Elt Ideal) (v.writes (Elt Ideal) f (outP y0 y2 y3 y4 y5 (BitVec.ofNat 32 i) P0 P1 P2 P3)) (ix3 0 r l) = poolRow (wt y2 y3 y4 y5) X (s0 + r.val) l := by
  have skip : ∀ (b : ℕ) (hb : b < 4) (P : ∀ g : ℕ, g < 4 → FVec Ideal S272x128 .f32) (L : List (View.Piece (Elt Ideal) S1x1024x512 .bf16)) (_ : r.val < 256 * b),
      v.read (Elt Ideal) (v.writes (Elt Ideal) f (outPc y0 y2 y3 y4 y5 (BitVec.ofNat 32 i) b hb P :: L)) (ix3 0 r l) = v.read (Elt Ideal) (v.writes (Elt Ideal) f L) (ix3 0 r l) :=
    fun b hb P L h => View.read_writes_cons_unit_of_not_mem v f _ _ _ (ix3 0 r l) rfl (1 : Fin 3) (Or.inl h)
  have hit : ∀ (b : ℕ) (hb : b < 4) (P : ∀ g : ℕ, g < 4 → FVec Ideal S272x128 .f32) (_ : ∀ (g : Fin 4) (n : Fin 272) e, P g.val g.isLt (ix2 n e) = pent (wt y2 y3 y4 y5) X (s0 + 256 * b + n.val) (pcol g e))
      (L : List (View.Piece (Elt Ideal) S1x1024x512 .bf16)) (_ : 256 * b ≤ r.val) (_ : r.val < 256 * b + 256),
      v.read (Elt Ideal) (v.writes (Elt Ideal) f (outPc y0 y2 y3 y4 y5 (BitVec.ofNat 32 i) b hb P :: L)) (ix3 0 r l) = poolRow (wt y2 y3 y4 y5) X (s0 + r.val) l := by
    intro b hb P hP L h h'
    refine (View.read_writes_cons_unit_of_mem v f _ _ _ (ix3 0 r l) (ix3 0 (⟨r.val - 256 * b, by omega⟩ : Fin 256) l) rfl fun a => ?_).trans ?_
    · match a with
      | ⟨0, _⟩ => rfl
      | ⟨1, _⟩ => show r.val = 256 * b + (r.val - 256 * b); omega
      | ⟨2, _⟩ => exact (Nat.zero_add _).symm
    · refine (outV_apply y0 y2 y3 y4 y5 hx i hi b hb P hP _ l).trans ?_
      show poolRow _ X (s0 + 256 * b + (r.val - 256 * b)) l = _
      rw [show s0 + 256 * b + (r.val - 256 * b) = s0 + r.val by omega]
  unfold outP
  by_cases c3 : 256 * 3 ≤ r.val
  · exact hit 3 _ P3 h3 _ c3 (by omega)
  refine (skip 3 _ _ _ (by omega)).trans ?_
  by_cases c2 : 256 * 2 ≤ r.val
  · exact hit 2 _ P2 h2 _ c2 (by omega)
  refine (skip 2 _ _ _ (by omega)).trans ?_
  by_cases c1 : 256 * 1 ≤ r.val
  · exact hit 1 _ P1 h1 _ c1 (by omega)
  refine (skip 1 _ _ _ (by omega)).trans ?_
  exact hit 0 _ P0 h0 _ (by omega) (by omega)
end

/-! ## A later tile -/

section
variable (c : Dev nD) (i : grid0.Coords) (arg2 : Memref sig .tc .vmem S1x1024x1024 .f32) (harg2 : arg2.IsWhole) (arg3 : Memref sig .tc .vmem S1x1x1024 .i32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S16x1 .f32) (harg13 : arg13.IsWhole) (arg14 : Memref sig .tc .vmem S1x128 .f32) (harg14 : arg14.IsWhole) (arg15 : Memref sig .tc .vmem S1x1024x512 .bf16) (harg15 : arg15.IsWhole) (arg16 : Memref sig .tc .vmem S1x8x128x1024 .bf16) (harg16 : arg16.IsWhole) (arg17 : Memref sig .tc .vmem S1x8x1024x128 .bf16) (harg17 : arg17.IsWhole) (arg18 : Memref sig .tc .vmem S1x8x4x128x256 .bf16) (harg18 : arg18.IsWhole) (arg19 : Memref sig .tc .vmem S1040x512 .f32) (harg19 : arg19.IsWhole) (hc0 : ¬cond0_0 i)
    (x0 : Vec Ideal S1x1024x1024 .f32) (x1 : Vec Ideal S1x1x1024 .i32) (x2 : Vec Ideal S1x1024 .f32) (x3 : Vec Ideal S1024x1024 .bf16) (x4 : Vec Ideal S4x128x128 .bf16) (x5 : Vec Ideal S1x512 .f32) (x6 : Vec Ideal S1x256 .f32) (x7 : Vec Ideal S256x1024 .bf16) (x8 : Vec Ideal S1x128 .f32) (x9 : Vec Ideal S128x1024 .bf16) (x10 : Vec Ideal S128x1024 .bf16) (x11 : Vec Ideal S16x1 .f32) (x12 : Vec Ideal S1x128 .f32) (xs0 : Vec Ideal S1040x512 .f32)
variable {X : ℕ → Fin 1024 → EReal} {s0 : ℕ} (hx : ∀ (r : Fin 1024) k, x0 (ix3 0 r k) = X (s0 + r.val) k) (hi : s0 = 1024 * (i 1).val)
  (hxs : ∀ (n : Fin 1040) j, n.val < 16 → xs0 (ix2 n j) = pent (wt x2 x3 x4 x5) X (s0 + n.val) j)
include hx hi hxs

/-- The tile's output. -/
theorem next_out_read (r : Fin 1024) (l : Fin 512) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 (ix3 0 r l) = poolRow (wt x2 x3 x4 x5) X (s0 + r.val) l := by
  unfold out0_B_13
  rw [next_out]
  simp only [Memref.IsWhole.read_unread]
  refine outP_read x0 x2 x3 x4 x5 hx (i 1).val hi _ _ _ _ (fun g n e => (colsAt_apply _ _ 0 g _ n e).trans ((ext_read x0 x2 x3 x4 x5 hx arg19.view (harg19.unread xs0) [] 1 _ _ (by show 256 * 0 + n.val < _; omega) _ fun h => (congrFun (harg19.read_unread xs0) _).trans (hxs _ _ h)).trans (congrArg (pent _ X · _) (Nat.add_assoc _ _ _).symm)))
    (fun g n e => (colsAt_apply _ _ 1 g _ n e).trans ((ext_read x0 x2 x3 x4 x5 hx arg19.view _ [] 2 _ _ (by show 256 * 1 + n.val < _; omega) _ fun h => absurd h (by show ¬ (256 * 1 + n.val < 16); omega)).trans (congrArg (pent _ X · _) (Nat.add_assoc _ _ _).symm)))
    (fun g n e => (colsAt_apply _ _ 2 g _ n e).trans ((ext_read x0 x2 x3 x4 x5 hx arg19.view _ [] 3 _ _ (by show 256 * 2 + n.val < _; omega) _ fun h => absurd h (by show ¬ (256 * 2 + n.val < 16); omega)).trans (congrArg (pent _ X · _) (Nat.add_assoc _ _ _).symm)))
    (fun g n e => (colsAt_apply _ _ 3 g _ n e).trans ((ext_read x0 x2 x3 x4 x5 hx arg19.view _ [] 4 _ _ (by show 256 * 3 + n.val < _; omega) _ fun h => absurd h (by show ¬ (256 * 3 + n.val < 16); omega)).trans (congrArg (pent _ X · _) (Nat.add_assoc _ _ _).symm))) _ _ r l

omit hi hxs in
/-- The rows the next tile reaches back to. -/
theorem next_ext_read (n : Fin 1040) (hn : n.val < 16) (j : Fin 512) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 (ix2 n j) = pent (wt x2 x3 x4 x5) X (s0 + 1024 + n.val) j := by
  unfold sout0_B_0
  rw [next_ext]
  simp only [Memref.IsWhole.read_unread]
  refine (View.read_writes_cons_rows_of_mem _ _ _ _ _ (ix2 n j) (ix2 (⟨n.val, hn⟩ : Fin 16) j) rfl ?_ rfl).trans ?_
  · show n.val = 0 + n.val; omega
  · refine (congrFun (shapeCast_self _ _) _).trans ((tail_apply arg19.view _ _ j).trans ?_)
    refine (ext_read x0 x2 x3 x4 x5 hx arg19.view _ [] 4 _ _ (by show 1024 + n.val < _; omega) j fun h => absurd h (by show ¬ (1024 + n.val < 16); omega)).trans ?_
    exact congrArg (pent _ X · j) (Nat.add_assoc _ _ _).symm
end

/-! ## A sequence's first tile -/

section
variable (c : Dev nD) (i : grid0.Coords) (arg2 : Memref sig .tc .vmem S1x1024x1024 .f32) (harg2 : arg2.IsWhole) (arg3 : Memref sig .tc .vmem S1x1x1024 .i32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1x256 .f32) (harg8 : arg8.IsWhole) (arg9 : Memref sig .tc .vmem S256x1024 .bf16) (harg9 : arg9.IsWhole) (arg10 : Memref sig .tc .vmem S1x128 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S16x1 .f32) (harg13 : arg13.IsWhole) (arg14 : Memref sig .tc .vmem S1x128 .f32) (harg14 : arg14.IsWhole) (arg15 : Memref sig .tc .vmem S1x1024x512 .bf16) (harg15 : arg15.IsWhole) (arg16 : Memref sig .tc .vmem S1x8x128x1024 .bf16) (harg16 : arg16.IsWhole) (arg17 : Memref sig .tc .vmem S1x8x1024x128 .bf16) (harg17 : arg17.IsWhole) (arg18 : Memref sig .tc .vmem S1x8x4x128x256 .bf16) (harg18 : arg18.IsWhole) (arg19 : Memref sig .tc .vmem S1040x512 .f32) (harg19 : arg19.IsWhole) (hc0 : cond0_0 i)
    (x0 : Vec Ideal S1x1024x1024 .f32) (x1 : Vec Ideal S1x1x1024 .i32) (x2 : Vec Ideal S1x1024 .f32) (x3 : Vec Ideal S1024x1024 .bf16) (x4 : Vec Ideal S4x128x128 .bf16) (x5 : Vec Ideal S1x512 .f32) (x6 : Vec Ideal S1x256 .f32) (x7 : Vec Ideal S256x1024 .bf16) (x8 : Vec Ideal S1x128 .f32) (x9 : Vec Ideal S128x1024 .bf16) (x10 : Vec Ideal S128x1024 .bf16) (x11 : Vec Ideal S16x1 .f32) (x12 : Vec Ideal S1x128 .f32)
variable {X : ℕ → Fin 1024 → EReal} (hx : ∀ (r : Fin 1024) k, x0 (ix3 0 r k) = X (0 + r.val) k) (hi : 0 = 1024 * (i 1).val)
include hx hi

/-- The tile's output. -/
theorem first_out_read (r : Fin 1024) (l : Fin 512) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 (ix3 0 r l) = poolRow (wt x2 x3 x4 x5) X (0 + r.val) l := by
  unfold out0_A_13
  rw [first_out]
  simp only [Memref.IsWhole.read_unread]
  refine outP_read x0 x2 x3 x4 x5 hx (i 1).val hi _ _ _ _ (fun g n e => (colsAt_apply _ _ 0 g _ n e).trans ((ext_read x0 x2 x3 x4 x5 hx arg19.view _ zeroExt 1 _ _ (by show 256 * 0 + n.val < _; omega) _ fun h => zero_read _ _ _ h _ _ _).trans (congrArg (pent _ X · _) (Nat.add_assoc _ _ _).symm)))
    (fun g n e => (colsAt_apply _ _ 1 g _ n e).trans ((ext_read x0 x2 x3 x4 x5 hx arg19.view _ zeroExt 2 _ _ (by show 256 * 1 + n.val < _; omega) _ fun h => absurd h (by show ¬ (256 * 1 + n.val < 16); omega)).trans (congrArg (pent _ X · _) (Nat.add_assoc _ _ _).symm)))
    (fun g n e => (colsAt_apply _ _ 2 g _ n e).trans ((ext_read x0 x2 x3 x4 x5 hx arg19.view _ zeroExt 3 _ _ (by show 256 * 2 + n.val < _; omega) _ fun h => absurd h (by show ¬ (256 * 2 + n.val < 16); omega)).trans (congrArg (pent _ X · _) (Nat.add_assoc _ _ _).symm)))
    (fun g n e => (colsAt_apply _ _ 3 g _ n e).trans ((ext_read x0 x2 x3 x4 x5 hx arg19.view _ zeroExt 4 _ _ (by show 256 * 3 + n.val < _; omega) _ fun h => absurd h (by show ¬ (256 * 3 + n.val < 16); omega)).trans (congrArg (pent _ X · _) (Nat.add_assoc _ _ _).symm))) _ _ r l

omit hi in
/-- The rows the next tile reaches back to. -/
theorem first_ext_read (n : Fin 1040) (hn : n.val < 16) (j : Fin 512) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 (ix2 n j) = pent (wt x2 x3 x4 x5) X (0 + 1024 + n.val) j := by
  unfold sout0_A_0
  rw [first_ext]
  simp only [Memref.IsWhole.read_unread]
  refine (View.read_writes_cons_rows_of_mem _ _ _ _ _ (ix2 n j) (ix2 (⟨n.val, hn⟩ : Fin 16) j) rfl ?_ rfl).trans ?_
  · show n.val = 0 + n.val; omega
  · refine (congrFun (shapeCast_self _ _) _).trans ((tail_apply arg19.view _ _ j).trans ?_)
    refine (ext_read x0 x2 x3 x4 x5 hx arg19.view _ zeroExt 4 _ _ (by show 1024 + n.val < _; omega) j fun h => absurd h (by show ¬ (1024 + n.val < 16); omega)).trans ?_
    exact congrArg (pent _ X · j) (Nat.add_assoc _ _ _).symm
end

end Cert.PoolTile
-- ==== Proof.PoolHost.lean ====
/-
  WHAT THE POOLING MIXER'S CALL IS HANDED: each window's block, read off the arguments. The host pads the projection with
  columns this result does not read.
-/
module

public import proofs.«01_k».proof.Proof.PoolTile
public import proofs.«01_k».proof.Proof.Gen.PoolIdeal.Value
public import Idealize.ShloMosaic.Lib.StableHlo.Run
public import Idealize.ShloMosaic.Lib.Pipeline.ValueKit.Geometry

@[expose] public section

noncomputable section

namespace Cert.PoolHost

open Idealize.ShloMosaic Idealize.ShloMosaic.TcCoe Idealize.SL.Sem Cert.PoolIdeal Cert.PoolIdeal.Gen Cert.Rows Cert.PoolRow Cert.PoolBlock
open Idealize.ShloMosaic.StableHlo
open scoped BigOperators

variable (m : (ℓ : Loc nD τ sig) → Buf (Elt Ideal) ℓ) (c : Dev nD)

/-- The weights, from the arguments. -/
def pw : Pw where
  wn k := m ((c : Thread nD τ).loc main_arg2) (ix2 0 k)
  W i k := m ((c : Thread nD τ).loc main_arg3) (ix3 0 i ⟨k.val, by omega⟩)
  G g d k := m ((c : Thread nD τ).loc main_arg4) (ix4 0 g d k)
  sc k := m ((c : Thread nD τ).loc main_arg5) (ix2 0 k)

/-! ## The arrays when the call is entered -/

theorem V45 : V m c main_v45 = shapeCast S1x1024 (shapeCast S1024 (m ((c : Thread nD τ).loc main_arg2)) shapeCasts_S1x1024_S1024) shapeCasts_S1024_S1x1024 := by
  unfold V; simp only [hostOps0, hostOps0_1, hostOps0_2, hostOps0_3, hostOps0_4, hostOps0_5, hostOps0_6, List.flatten_cons, List.flatten_nil, List.append_nil, List.cons_append, List.nil_append]; after_results_simp; rfl

theorem V24 : V m c main_v24 = truncf (F := Ideal) FTy.bf16
    (concatenate S1024x1024 1 [⟨S1024x896, extractStridedSlice S1024x896 ![0, 0] (shapeCast S1024x928 (m ((c : Thread nD τ).loc main_arg3)) shapeCasts_S1x1024x928_S1024x928) slices_S1024x928_S1024x896_0_0⟩,
      ⟨S1024x64, broadcastInDim S1024x64 ![] bcast_S_S1024x64 (constant (F := Ideal) S_ FTy.f32 0x00000000#32)⟩,
      ⟨S1024x32, extractStridedSlice S1024x32 ![0, 896] (shapeCast S1024x928 (m ((c : Thread nD τ).loc main_arg3)) shapeCasts_S1x1024x928_S1024x928) slices_S1024x928_S1024x32_0_896⟩,
      ⟨S1024x32, broadcastInDim S1024x32 ![] bcast_S_S1024x32 (constant (F := Ideal) S_ FTy.f32 0x00000000#32)⟩] concatenates_S1024x896_S1024x64_S1024x32_S1024x32_S1024x1024_d1) bitsLt_bf16_f32 := by
  unfold V; simp only [hostOps0, hostOps0_1, hostOps0_2, hostOps0_3, hostOps0_4, hostOps0_5, hostOps0_6, List.flatten_cons, List.flatten_nil, List.append_nil, List.cons_append, List.nil_append]; after_results_simp; rfl

theorem V47 : V m c main_v47 = truncf (F := Ideal) FTy.bf16 (shapeCast S4x128x128 (m ((c : Thread nD τ).loc main_arg4)) shapeCasts_S1x4x128x128_S4x128x128) bitsLt_bf16_f32 := by
  unfold V; simp only [hostOps0, hostOps0_1, hostOps0_2, hostOps0_3, hostOps0_4, hostOps0_5, hostOps0_6, List.flatten_cons, List.flatten_nil, List.append_nil, List.cons_append, List.nil_append]; after_results_simp; rfl

theorem V49 : V m c main_v49 = shapeCast S1x512 (shapeCast S512 (m ((c : Thread nD τ).loc main_arg5)) shapeCasts_S1x512_S512) shapeCasts_S512_S1x512 := by
  unfold V; simp only [hostOps0, hostOps0_1, hostOps0_2, hostOps0_3, hostOps0_4, hostOps0_5, hostOps0_6, List.flatten_cons, List.flatten_nil, List.append_nil, List.cons_append, List.nil_append]; after_results_simp; rfl

/-! ## Where the windows' blocks lie -/

theorem e0 : ∀ t : Fin cfg0.N, win0_0.index t = ![t.val / 16, t.val % 16, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0] := (by decide +kernel : ∀ t : Fin grid0.N, _)
theorem e13 : ∀ t : Fin cfg0.N, win0_13.index t = ![t.val / 16, t.val % 16, 0] := (by decide +kernel : ∀ t : Fin grid0.N, _)
theorem tile : ∀ t : Fin cfg0.N, (grid0.coords t 1).val = t.val % 16 := (by decide +kernel : ∀ t : Fin grid0.N, _)

theorem lt32 (t : Fin cfg0.N) : t.val < 32 := t.isLt

theorem blk0 (t : Fin cfg0.N) (r : Fin 1024) (k : Fin 1024) :
    (iblk m c 0 t : Vec Ideal S1x1024x1024 .f32) (ix3 0 r k)
      = m ((c : Thread nD τ).loc main_arg0) (ix3 ⟨t.val / 16, by have := lt32 t; omega⟩ ⟨1024 * (t.val % 16) + r.val, by omega⟩ k) := by
  have h : (iblk m c 0 t : Vec Ideal S1x1024x1024 .f32) (ix3 0 r k) = V m c main_arg0 (ix3 ⟨t.val / 16, by have := lt32 t; omega⟩ ⟨1024 * (t.val % 16) + r.val, by omega⟩ k) := by
    blk_simp [iblk]
    refine congrArg (V m c main_arg0) ?_
    blk_ext [e0]
  rw [h, V_main_arg0]

theorem blk2 (t : Fin cfg0.N) (k : Fin 1024) : (iblk m c 2 t : Vec Ideal S1x1024 .f32) (ix2 0 k) = (pw m c).wn k := by
  have h : (iblk m c 2 t : Vec Ideal S1x1024 .f32) (ix2 0 k) = V m c main_v45 (ix2 0 k) := by
    blk_simp [iblk]
    refine congrArg (V m c main_v45) ?_
    blk_ext [e2]
  rw [h, V45, pw]
  pointwise

theorem wide_apply (W : FVec Ideal S1x1024x928 .f32) (i : Fin 1024) (k : Fin 928) :
    shapeCast S1024x928 W shapeCasts_S1x1024x928_S1024x928 (ix2 i k) = W (ix3 0 i k) := by
  refine shapeCast_apply W _ _ _ ?_
  rw [Shape.rowMajor_val_three, Shape.rowMajor_val_two]
  show (0 * 1024 + i.val) * 928 + k.val = i.val * 928 + k.val
  omega

theorem mats_apply (W : FVec Ideal S1x4x128x128 .f32) (g : Fin 4) (d k : Fin 128) :
    shapeCast S4x128x128 W shapeCasts_S1x4x128x128_S4x128x128 (ix3 g d k) = W (ix4 0 g d k) := by
  refine shapeCast_apply W _ _ _ ?_
  rw [Shape.rowMajor_val_three, Shape.rowMajor_val_four]
  show ((0 * 4 + g.val) * 128 + d.val) * 128 + k.val = (g.val * 128 + d.val) * 128 + k.val
  omega

/-- The padded projection's first columns are the projection's. -/
theorem padded_apply (W : FVec Ideal S1024x928 .f32) (i : Fin 1024) (k : Fin 512) :
    truncf (F := Ideal) FTy.bf16
    (concatenate S1024x1024 1 [⟨S1024x896, extractStridedSlice S1024x896 ![0, 0] W slices_S1024x928_S1024x896_0_0⟩,
      ⟨S1024x64, broadcastInDim S1024x64 ![] bcast_S_S1024x64 (constant (F := Ideal) S_ FTy.f32 0x00000000#32)⟩,
      ⟨S1024x32, extractStridedSlice S1024x32 ![0, 896] W slices_S1024x928_S1024x32_0_896⟩,
      ⟨S1024x32, broadcastInDim S1024x32 ![] bcast_S_S1024x32 (constant (F := Ideal) S_ FTy.f32 0x00000000#32)⟩] concatenates_S1024x896_S1024x64_S1024x32_S1024x32_S1024x1024_d1) bitsLt_bf16_f32 (ix2 i ⟨k.val, by omega⟩)
      = W (ix2 i ⟨k.val, by omega⟩) := by
  pointwise
  rw [dif_pos (show k.val < 896 by omega)]

theorem blk3 (t : Fin cfg0.N) (i : Fin 1024) (k : Fin 512) : (iblk m c 3 t : Vec Ideal S1024x1024 .bf16) (ix2 i ⟨k.val, by omega⟩) = (pw m c).W i k := by
  have h : (iblk m c 3 t : Vec Ideal S1024x1024 .bf16) (ix2 i ⟨k.val, by omega⟩) = V m c main_v24 (ix2 i ⟨k.val, by omega⟩) := by
    blk_simp [iblk]
    refine congrArg (V m c main_v24) ?_
    blk_ext [e3]
  rw [h, V24]
  exact (padded_apply _ i k).trans (wide_apply _ i _)

theorem blk4 (t : Fin cfg0.N) (g : Fin 4) (d k : Fin 128) : (iblk m c 4 t : Vec Ideal S4x128x128 .bf16) (ix3 g d k) = (pw m c).G g d k := by
  have h : (iblk m c 4 t : Vec Ideal S4x128x128 .bf16) (ix3 g d k) = V m c main_v47 (ix3 g d k) := by
    blk_simp [iblk]
    refine congrArg (V m c main_v47) ?_
    blk_ext [e4]
  rw [h, V47]
  exact mats_apply _ g d k

theorem blk5 (t : Fin cfg0.N) (k : Fin 512) : (iblk m c 5 t : Vec Ideal S1x512 .f32) (ix2 0 k) = (pw m c).sc k := by
  have h : (iblk m c 5 t : Vec Ideal S1x512 .f32) (ix2 0 k) = V m c main_v49 (ix2 0 k) := by
    blk_simp [iblk]
    refine congrArg (V m c main_v49) ?_
    blk_ext [e5]
  rw [h, V49, pw]
  pointwise

/-! ## The weights -/

theorem wt_blk (t : Fin cfg0.N) : wt (iblk m c 2 t) (iblk m c 3 t) (iblk m c 4 t) (iblk m c 5 t) = pw m c := by
  unfold wt
  simp only [blk2, blk3, blk4, blk5]

end Cert.PoolHost
-- ==== Proof.PoolValue.lean ====
/-
  THE ARRAY THE POOLING MIXER'S CALL LEAVES BEHIND, row by row. Each of the two sequences is walked in 16 tiles; a tile takes
  the last sixteen projected rows from the tile before, and the first tile starts from zeros.
-/
module

public import proofs.«01_k».proof.Proof.PoolHost

@[expose] public section

noncomputable section

namespace Cert.PoolValue

open Idealize.ShloMosaic Idealize.ShloMosaic.TcCoe Idealize.SL.Sem Cert.PoolIdeal Cert.PoolIdeal.Gen Cert.Rows Cert.PoolRow Cert.PoolBlock Cert.PoolTile Cert.PoolHost
open Idealize.ShloMosaic.Pipeline (Dat)
open scoped BigOperators

variable (m : (ℓ : Loc nD τ sig) → Buf (Elt Ideal) ℓ) (c : Dev nD)

/-- The rows of sequence `b`. -/
def seqX (b s : ℕ) (k : Fin 1024) : EReal :=
  m ((c : Thread nD τ).loc main_arg0) (ix3 ⟨b % 2, by omega⟩ ⟨s % 16384, by omega⟩ k)

theorem x_blk (t : Fin cfg0.N) (r : Fin 1024) (k : Fin 1024) :
    (iblk m c 0 t : Vec Ideal S1x1024x1024 .f32) (ix3 0 r k) = seqX m c (t.val / 16) (1024 * (t.val % 16) + r.val) k := by
  have ht := lt32 t
  have hb : t.val / 16 % 2 = t.val / 16 := by omega
  have hs : (1024 * (t.val % 16) + r.val) % 16384 = 1024 * (t.val % 16) + r.val := by omega
  rw [blk0]
  unfold seqX
  simp only [hb, hs]

/-- What point `t` leaves for the next. -/
def Left (t : Fin cfg0.N) : Prop := ∀ (n : Fin 1040) (j : Fin 512), n.val < 16 → ((outsAt0 m c t.val t.isLt).2.2.2.2 : Vec Ideal S1040x512 .f32) (ix2 n j)
    = pent (pw m c) (seqX m c (t.val / 16)) (1024 * (t.val % 16) + 1024 + n.val) j

/-- What point `t` writes. -/
def Wrote (t : Fin cfg0.N) : Prop := ∀ (r : Fin 1024) (l : Fin 512), ((outsAt0 m c t.val t.isLt).1 : Vec Ideal S1x1024x512 .bf16) (ix3 0 r l)
  = poolRow (pw m c) (seqX m c (t.val / 16)) (1024 * (t.val % 16) + r.val) l

/-- A sequence's first point. -/
theorem first (t : Fin cfg0.N) (h0 : t.val % 16 = 0) : Left m c t ∧ Wrote m c t := by
  have hx : ∀ (r : Fin 1024) k, (iblk m c 0 t : Vec Ideal S1x1024x1024 .f32) (ix3 0 r k) = seqX m c (t.val / 16) (0 + r.val) k := fun r k =>
    (x_blk m c t r k).trans (by rw [h0])
  have hw := wt_blk m c t
  have hi : 0 = 1024 * (grid0.coords t 1).val := by rw [tile]; omega
  refine ⟨fun n j hn => ?_, fun r l => ?_⟩
  · rw [outsAt0_A m c t h0, show 1024 * (t.val % 16) + 1024 = 0 + 1024 by omega, ← hw]; dsimp only
    exact first_ext_read (hx := hx) (n := n) (hn := hn) (j := j) ..
  · rw [outsAt0_A m c t h0, show 1024 * (t.val % 16) + r.val = 0 + r.val by omega, ← hw]; dsimp only
    exact first_out_read (hx := hx) (hi := hi) (r := r) (l := l) ..

/-- A later point, of what the one before left. -/
theorem next (t : Fin cfg0.N) (h0 : ¬ t.val % 16 = 0)
    (he : ∀ (n : Fin 1040) (j : Fin 512), n.val < 16 → ((outsAt0 m c (t.val - 1) (lt_of_le_of_lt (Nat.sub_le _ _) t.isLt)).2.2.2.2 : Vec Ideal S1040x512 .f32) (ix2 n j)
      = pent (pw m c) (seqX m c (t.val / 16)) (1024 * (t.val % 16) + n.val) j) : Left m c t ∧ Wrote m c t := by
  have hx := x_blk m c t
  have hw := wt_blk m c t
  have hi : 1024 * (t.val % 16) = 1024 * (grid0.coords t 1).val := by rw [tile]
  rw [← hw] at he
  refine ⟨fun n j hn => ?_, fun r l => ?_⟩
  · rw [outsAt0_B m c t h0, ← hw]; dsimp only
    exact next_ext_read (hx := hx) (n := n) (hn := hn) (j := j) ..
  · rw [outsAt0_B m c t h0, ← hw]; dsimp only
    exact next_out_read (hx := hx) (hi := hi) (hxs := he) (r := r) (l := l) ..

/-- Every point. -/
theorem point : ∀ (n : ℕ) (h : n < cfg0.N), Left m c ⟨n, h⟩ ∧ Wrote m c ⟨n, h⟩
  | 0, h => first m c ⟨0, h⟩ rfl
  | n + 1, h => by
    by_cases h0 : (n + 1) % 16 = 0
    · exact first m c ⟨n + 1, h⟩ h0
    · have ih := (point n (by omega)).1
      have hd : n / 16 = (n + 1) / 16 := by omega
      have hm : 1024 * (n % 16) + 1024 = 1024 * ((n + 1) % 16) := by omega
      refine next m c ⟨n + 1, h⟩ h0 fun k j hk => (ih k j hk).trans ?_
      show pent _ (seqX m c (n / 16)) (1024 * (n % 16) + 1024 + k.val) j = pent _ (seqX m c ((n + 1) / 16)) (1024 * ((n + 1) % 16) + k.val) j
      rw [hd, hm]

/-- The result array. -/
def G : (⟨3, ![2, 16384, 512]⟩ : Shape).Idx → EReal := fun i => poolRow (pw m c) (seqX m c (i 0).val) (i 1).val (i 2)

/-- A row of it. -/
theorem G_row (t : Fin cfg0.N) (r : Fin 1024) (l : Fin 512) : poolRow (pw m c) (seqX m c (t.val / 16)) (1024 * (t.val % 16) + r.val) l
    = G m c (ix3 ⟨t.val / 16, by have := lt32 t; omega⟩ ⟨1024 * (t.val % 16) + r.val, by omega⟩ l) := rfl

/-- The array after the call. -/
theorem final : (dats (F := Ideal) m 0 c).arrAt 13 cfg0.N = G m c := by
  refine (dats m 0 c).arrAt_eq_of_covers 13 _ (by decide +kernel) fun t hc y => ?_
  have hp := (point m c t.val t.isLt).2
  have ht := lt32 t
  blk_simp
  rw [after0_13]
  obtain ⟨r, l, rfl⟩ : ∃ (r : Fin 1024) (l : Fin 512), y = ix3 0 r l := ⟨y 1, y 2, by
    funext a
    match a with
    | ⟨0, _⟩ => exact Fin.ext (by have h : (y 0).val < 1 := (y 0).isLt; show (y 0).val = 0; omega)
    | ⟨1, _⟩ => rfl
    | ⟨2, _⟩ => rfl⟩
  refine (hp r l).trans ((G_row m c t r l).trans (congrArg (G m c) ?_))
  blk_ext [e13]

end Cert.PoolValue
-- ==== Proof.PoolRef.lean ====
/-
  THE POOLING MIXER'S REFERENCE, read row by row: it is the row function of PoolRow.lean.
-/
module

public import proofs.«01_k».proof.Proof.PoolRow
public import proofs.«01_k».proof.Proof.Gen.PoolRefIdeal.Run
import Idealize.ShloMosaic.Lib.IdealHost

@[expose] public section

noncomputable section

namespace Cert.PoolRef

open Idealize.ShloMosaic Idealize.ShloMosaic.TcCoe Idealize.SL.Sem Cert.PoolRefIdeal Cert.PoolRefIdeal.Gen Cert.PoolRefIdeal.Value Cert.Rows Cert.PoolRow
open Idealize.ShloMosaic.StableHlo
open scoped BigOperators

/-- The projected rows. -/
def proj (X : FVec Ideal S2x16384x1024 .f32) (wn : FVec Ideal S1x1024 .f32) (W : FVec Ideal S1x1024x928 .f32) : FVec Ideal S2x16384x512 .f32 :=
  (Host.dotGeneral dot_S2x16384x1024_S1024x512_S2x16384x512_2_0_01_1_n_n none (mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 (shapeCast S1024 wn shapeCasts_S1x1024_S1024)))) (shapeCast S1024x512 (extractStridedSlice S1x1024x512 ![0, 0, 0] W slices_S1x1024x928_S1x1024x512_0_0_0) shapeCasts_S1x1024x512_S1024x512))

/-- Sixteen rows of zeros, and then the projected rows. -/
def padded (U : FVec Ideal S2x16384x512 .f32) : FVec Ideal S2x16400x512 .f32 :=
  concatenate S2x16400x512 1 [⟨S2x16x512, (broadcastInDim S2x16x512 ![] bcast_S_S2x16x512 (constant S_ .f32 0x00000000#32))⟩, ⟨S2x16384x512, U⟩] concatenates_S2x16x512_S2x16384x512_S2x16400x512_d1

/-- The rows a window holds, over the rows. -/
def counts (d : BitVec 32) : FVec Ideal S2x16384x128 .f32 :=
  broadcastInDim S2x16384x128 ![0, 1, 2] bcast_S1x16384x1_S2x16384x128_0_1_2 (broadcastInDim S1x16384x1 ![1, 2] bcast_S16384x1_S1x16384x1_1_2 (broadcastInDim S16384x1 ![0] bcast_S16384_S16384x1_0 (sitofp .f32 (minsi (addi (iotaInDim S16384 32 0) (broadcastInDim S16384 ![] bcast_S_S16384 (constantI S_ 32 1#32))) (broadcastInDim S16384 ![] bcast_S_S16384 (constantI S_ 32 d))))))

/-- The sum of a row's window of 2. -/
def sumTwo (Y : FVec Ideal S2x16400x512 .f32) : FVec Ideal S2x16384x128 .f32 :=
  (addf (addf (broadcastInDim S2x16384x128 ![] bcast_S_S2x16384x128 (constant S_ .f32 0x00000000#32)) (extractStridedSlice S2x16384x128 ![0, 16, 0] Y slices_S2x16400x512_S2x16384x128_0_16_0)) (extractStridedSlice S2x16384x128 ![0, 15, 0] Y slices_S2x16400x512_S2x16384x128_0_15_0))

/-- The sum of a row's window of 4. -/
def sumFour (Y : FVec Ideal S2x16400x512 .f32) : FVec Ideal S2x16384x128 .f32 :=
  (addf (addf (addf (addf (broadcastInDim S2x16384x128 ![] bcast_S_S2x16384x128 (constant S_ .f32 0x00000000#32)) (extractStridedSlice S2x16384x128 ![0, 16, 128] Y slices_S2x16400x512_S2x16384x128_0_16_128)) (extractStridedSlice S2x16384x128 ![0, 15, 128] Y slices_S2x16400x512_S2x16384x128_0_15_128)) (extractStridedSlice S2x16384x128 ![0, 14, 128] Y slices_S2x16400x512_S2x16384x128_0_14_128)) (extractStridedSlice S2x16384x128 ![0, 13, 128] Y slices_S2x16400x512_S2x16384x128_0_13_128))

/-- The sum of a row's window of 8. -/
def sumEight (Y : FVec Ideal S2x16400x512 .f32) : FVec Ideal S2x16384x128 .f32 :=
  (addf (addf (addf (addf (addf (addf (addf (addf (broadcastInDim S2x16384x128 ![] bcast_S_S2x16384x128 (constant S_ .f32 0x00000000#32)) (extractStridedSlice S2x16384x128 ![0, 16, 256] Y slices_S2x16400x512_S2x16384x128_0_16_256)) (extractStridedSlice S2x16384x128 ![0, 15, 256] Y slices_S2x16400x512_S2x16384x128_0_15_256)) (extractStridedSlice S2x16384x128 ![0, 14, 256] Y slices_S2x16400x512_S2x16384x128_0_14_256)) (extractStridedSlice S2x16384x128 ![0, 13, 256] Y slices_S2x16400x512_S2x16384x128_0_13_256)) (extractStridedSlice S2x16384x128 ![0, 12, 256] Y slices_S2x16400x512_S2x16384x128_0_12_256)) (extractStridedSlice S2x16384x128 ![0, 11, 256] Y slices_S2x16400x512_S2x16384x128_0_11_256)) (extractStridedSlice S2x16384x128 ![0, 10, 256] Y slices_S2x16400x512_S2x16384x128_0_10_256)) (extractStridedSlice S2x16384x128 ![0, 9, 256] Y slices_S2x16400x512_S2x16384x128_0_9_256))

/-- The sum of a row's window of 16. -/
def sumSixteen (Y : FVec Ideal S2x16400x512 .f32) : FVec Ideal S2x16384x128 .f32 :=
  (addf (addf (addf (addf (addf (addf (addf (addf (addf (addf (addf (addf (addf (addf (addf (addf (broadcastInDim S2x16384x128 ![] bcast_S_S2x16384x128 (constant S_ .f32 0x00000000#32)) (extractStridedSlice S2x16384x128 ![0, 16, 384] Y slices_S2x16400x512_S2x16384x128_0_16_384)) (extractStridedSlice S2x16384x128 ![0, 15, 384] Y slices_S2x16400x512_S2x16384x128_0_15_384)) (extractStridedSlice S2x16384x128 ![0, 14, 384] Y slices_S2x16400x512_S2x16384x128_0_14_384)) (extractStridedSlice S2x16384x128 ![0, 13, 384] Y slices_S2x16400x512_S2x16384x128_0_13_384)) (extractStridedSlice S2x16384x128 ![0, 12, 384] Y slices_S2x16400x512_S2x16384x128_0_12_384)) (extractStridedSlice S2x16384x128 ![0, 11, 384] Y slices_S2x16400x512_S2x16384x128_0_11_384)) (extractStridedSlice S2x16384x128 ![0, 10, 384] Y slices_S2x16400x512_S2x16384x128_0_10_384)) (extractStridedSlice S2x16384x128 ![0, 9, 384] Y slices_S2x16400x512_S2x16384x128_0_9_384)) (extractStridedSlice S2x16384x128 ![0, 8, 384] Y slices_S2x16400x512_S2x16384x128_0_8_384)) (extractStridedSlice S2x16384x128 ![0, 7, 384] Y slices_S2x16400x512_S2x16384x128_0_7_384)) (extractStridedSlice S2x16384x128 ![0, 6, 384] Y slices_S2x16400x512_S2x16384x128_0_6_384)) (extractStridedSlice S2x16384x128 ![0, 5, 384] Y slices_S2x16400x512_S2x16384x128_0_5_384)) (extractStridedSlice S2x16384x128 ![0, 4, 384] Y slices_S2x16400x512_S2x16384x128_0_4_384)) (extractStridedSlice S2x16384x128 ![0, 3, 384] Y slices_S2x16400x512_S2x16384x128_0_3_384)) (extractStridedSlice S2x16384x128 ![0, 2, 384] Y slices_S2x16400x512_S2x16384x128_0_2_384)) (extractStridedSlice S2x16384x128 ![0, 1, 384] Y slices_S2x16400x512_S2x16384x128_0_1_384))

/-- A group, of its windows' sums. -/
def grp (S C U : FVec Ideal S2x16384x128 .f32) (M : FVec Ideal S128x128 .f32) : FVec Ideal S2x16384x128 .f32 :=
  Host.dotGeneral (φ₁ := .f32) (φ₂ := .f32) dot_S2x16384x128_S128x128_S2x16384x128_2_0_01_1_n_n none (subf (Host.divf S C) U) M

/-- The reference's array. -/
def array (U : FVec Ideal S2x16384x512 .f32) (G : FVec Ideal S1x4x128x128 .f32) (sc : FVec Ideal S1x512 .f32) : FVec Ideal S2x16384x512 .bf16 :=
  truncf .bf16 (mulf (concatenate S2x16384x512 2 [
    ⟨S2x16384x128, grp (sumTwo (padded U)) (counts 2#32) (extractStridedSlice S2x16384x128 ![0, 0, 0] U slices_S2x16384x512_S2x16384x128_0_0_0) (shapeCast S128x128 (extractStridedSlice S1x1x128x128 ![0, 0, 0, 0] G slices_S1x4x128x128_S1x1x128x128_0_0_0_0) shapeCasts_S1x1x128x128_S128x128)⟩,
    ⟨S2x16384x128, grp (sumFour (padded U)) (counts 4#32) (extractStridedSlice S2x16384x128 ![0, 0, 128] U slices_S2x16384x512_S2x16384x128_0_0_128) (shapeCast S128x128 (extractStridedSlice S1x1x128x128 ![0, 1, 0, 0] G slices_S1x4x128x128_S1x1x128x128_0_1_0_0) shapeCasts_S1x1x128x128_S128x128)⟩,
    ⟨S2x16384x128, grp (sumEight (padded U)) (counts 8#32) (extractStridedSlice S2x16384x128 ![0, 0, 256] U slices_S2x16384x512_S2x16384x128_0_0_256) (shapeCast S128x128 (extractStridedSlice S1x1x128x128 ![0, 2, 0, 0] G slices_S1x4x128x128_S1x1x128x128_0_2_0_0) shapeCasts_S1x1x128x128_S128x128)⟩,
    ⟨S2x16384x128, grp (sumSixteen (padded U)) (counts 16#32) (extractStridedSlice S2x16384x128 ![0, 0, 384] U slices_S2x16384x512_S2x16384x128_0_0_384) (shapeCast S128x128 (extractStridedSlice S1x1x128x128 ![0, 3, 0, 0] G slices_S1x4x128x128_S1x1x128x128_0_3_0_0) shapeCasts_S1x1x128x128_S128x128)⟩] concatenates_S2x16384x128_S2x16384x128_S2x16384x128_S2x16384x128_S2x16384x512_d2)
    (broadcastInDim S2x16384x512 ![0, 1, 2] bcast_S1x1x512_S2x16384x512_0_1_2 (broadcastInDim S1x1x512 ![2] bcast_S512_S1x1x512_2 (shapeCast S512 sc shapeCasts_S1x512_S512)))) bitsLt_bf16_f32

theorem res_eq (m : (ℓ : Loc nD τ sig) → Buf (Elt Ideal) ℓ) (c : Dev nD) : res_main_v148 m c
    = array (proj (m ((c.tc : Thread nD τ).loc main_arg0)) (m ((c.tc : Thread nD τ).loc main_arg2)) (m ((c.tc : Thread nD τ).loc main_arg3)))
      (m ((c.tc : Thread nD τ).loc main_arg4)) (m ((c.tc : Thread nD τ).loc main_arg5)) := rfl

section
variable (X : FVec Ideal S2x16384x1024 .f32) (wn : FVec Ideal S1x1024 .f32) (W : FVec Ideal S1x1024x928 .f32) (G : FVec Ideal S1x4x128x128 .f32) (sc : FVec Ideal S1x512 .f32)

/-- The weights, from the arguments. -/
def pw : Pw where
  wn k := wn (ix2 0 k)
  W i k := W (ix3 0 i ⟨k.val, by omega⟩)
  G g d k := G (ix4 0 g d k)
  sc k := sc (ix2 0 k)

/-- The rows of sequence `b`. -/
def seqOf (b s : ℕ) (k : Fin 1024) : EReal := X (ix3 ⟨b % 2, by omega⟩ ⟨s % 16384, by omega⟩ k)

theorem seqOf_at (b : Fin 2) (s : Fin 16384) : seqOf X b.val s.val = fun k => X (ix3 b s k) := by
  funext k
  have hb : b.val % 2 = b.val := by omega
  have hs : s.val % 16384 = s.val := by omega
  simp only [seqOf, hb, hs]

theorem proj_apply (b : Fin 2) (s : Fin 16384) (j : Fin 512) : proj X wn W (ix3 b s j) = uRow (pw wn W G sc) (seqOf X b.val s.val) j := by
  rw [seqOf_at]
  pointwise [proj]
  simp only [uRow, mv, rms, scale, pw]

theorem padded_apply (b : Fin 2) (n : Fin 16400) (j : Fin 512) : padded (proj X wn W) (ix3 b n j) = pent (pw wn W G sc) (seqOf X b.val) n.val j := by
  have e : padded (proj X wn W) (ix3 b n j) = if h : n.val < 16 then 0 else proj X wn W (ix3 b ⟨n.val - 16, by omega⟩ j) := by
    pointwise [padded]
  rw [e, pent]
  by_cases h : n.val < 16
  · rw [dif_pos h, if_pos h]
  · rw [dif_neg h, if_neg h, proj_apply X wn W G sc]

theorem counts_apply (d : BitVec 32) (b : Fin 2) (s : Fin 16384) (e : Fin 128) : counts d (ix3 b s e) = rowsHeld d s.val := by
  pointwise [counts]
  rw [rowsHeld, BitVec.ofNat_add]
  rfl

theorem grp_apply (S C U : FVec Ideal S2x16384x128 .f32) (M : FVec Ideal S128x128 .f32) (b : Fin 2) (s : Fin 16384) (d : Fin 128) :
    grp S C U M (ix3 b s d) = ∑ e : Fin 128, (Ideal.div (S (ix3 b s e)) (C (ix3 b s e)) - U (ix3 b s e)) * M (ix2 e d) := by
  pointwise [grp]

theorem sumTwo_apply (b : Fin 2) (s : Fin 16384) (e : Fin 128) :
    sumTwo (padded (proj X wn W)) (ix3 b s e) = win (pw wn W G sc) (seqOf X b.val) (pcol 0 e) 1 (s.val + 16) := by
  rw [win_two]
  pointwise [sumTwo]
  simp only [padded_apply X wn W G sc, zero_add, Nat.add_comm _ s.val]
  rw [show pcol 0 e = ⟨e.val, by omega⟩ from Fin.ext (by simp [pcol])]

theorem groupTwo_apply (b : Fin 2) (s : Fin 16384) (d : Fin 128) :
    grp (sumTwo (padded (proj X wn W))) (counts 2#32) (extractStridedSlice S2x16384x128 ![0, 0, 0] (proj X wn W) slices_S2x16384x512_S2x16384x128_0_0_0)
      (shapeCast S128x128 (extractStridedSlice S1x1x128x128 ![0, 0, 0, 0] G slices_S1x4x128x128_S1x1x128x128_0_0_0_0) shapeCasts_S1x1x128x128_S128x128) (ix3 b s d)
      = group (pw wn W G sc) (seqOf X b.val) 0 s.val d := by
  rw [grp_apply, group]
  refine Finset.sum_congr rfl fun e _ => ?_
  rw [sumTwo_apply X wn W G sc, counts_apply]
  have h : extractStridedSlice S2x16384x128 ![0, 0, 0] (proj X wn W) slices_S2x16384x512_S2x16384x128_0_0_0 (ix3 b s e) = proj X wn W (ix3 b s (pcol 0 e)) := by
    pointwise; rw [show pcol 0 e = ⟨e.val, by omega⟩ from Fin.ext (by simp [pcol])]
  rw [h, proj_apply X wn W G sc]
  refine congrArg₂ (· * ·) rfl ?_
  pointwise
  rfl

theorem sumFour_apply (b : Fin 2) (s : Fin 16384) (e : Fin 128) :
    sumFour (padded (proj X wn W)) (ix3 b s e) = win (pw wn W G sc) (seqOf X b.val) (pcol 1 e) 2 (s.val + 16) := by
  rw [win_four]
  pointwise [sumFour]
  simp only [padded_apply X wn W G sc, zero_add, Nat.add_comm _ s.val]
  rfl

theorem groupFour_apply (b : Fin 2) (s : Fin 16384) (d : Fin 128) :
    grp (sumFour (padded (proj X wn W))) (counts 4#32) (extractStridedSlice S2x16384x128 ![0, 0, 128] (proj X wn W) slices_S2x16384x512_S2x16384x128_0_0_128)
      (shapeCast S128x128 (extractStridedSlice S1x1x128x128 ![0, 1, 0, 0] G slices_S1x4x128x128_S1x1x128x128_0_1_0_0) shapeCasts_S1x1x128x128_S128x128) (ix3 b s d)
      = group (pw wn W G sc) (seqOf X b.val) 1 s.val d := by
  rw [grp_apply, group]
  refine Finset.sum_congr rfl fun e _ => ?_
  rw [sumFour_apply X wn W G sc, counts_apply]
  have h : extractStridedSlice S2x16384x128 ![0, 0, 128] (proj X wn W) slices_S2x16384x512_S2x16384x128_0_0_128 (ix3 b s e) = proj X wn W (ix3 b s (pcol 1 e)) := by
    pointwise; rfl
  rw [h, proj_apply X wn W G sc]
  refine congrArg₂ (· * ·) rfl ?_
  pointwise
  rfl

theorem sumEight_apply (b : Fin 2) (s : Fin 16384) (e : Fin 128) :
    sumEight (padded (proj X wn W)) (ix3 b s e) = win (pw wn W G sc) (seqOf X b.val) (pcol 2 e) 3 (s.val + 16) := by
  rw [win_eight]
  pointwise [sumEight]
  simp only [padded_apply X wn W G sc, zero_add, Nat.add_comm _ s.val]
  rfl

theorem groupEight_apply (b : Fin 2) (s : Fin 16384) (d : Fin 128) :
    grp (sumEight (padded (proj X wn W))) (counts 8#32) (extractStridedSlice S2x16384x128 ![0, 0, 256] (proj X wn W) slices_S2x16384x512_S2x16384x128_0_0_256)
      (shapeCast S128x128 (extractStridedSlice S1x1x128x128 ![0, 2, 0, 0] G slices_S1x4x128x128_S1x1x128x128_0_2_0_0) shapeCasts_S1x1x128x128_S128x128) (ix3 b s d)
      = group (pw wn W G sc) (seqOf X b.val) 2 s.val d := by
  rw [grp_apply, group]
  refine Finset.sum_congr rfl fun e _ => ?_
  rw [sumEight_apply X wn W G sc, counts_apply]
  have h : extractStridedSlice S2x16384x128 ![0, 0, 256] (proj X wn W) slices_S2x16384x512_S2x16384x128_0_0_256 (ix3 b s e) = proj X wn W (ix3 b s (pcol 2 e)) := by
    pointwise; rfl
  rw [h, proj_apply X wn W G sc]
  refine congrArg₂ (· * ·) rfl ?_
  pointwise
  rfl

theorem sumSixteen_apply (b : Fin 2) (s : Fin 16384) (e : Fin 128) :
    sumSixteen (padded (proj X wn W)) (ix3 b s e) = win (pw wn W G sc) (seqOf X b.val) (pcol 3 e) 4 (s.val + 16) := by
  rw [win_sixteen]
  pointwise [sumSixteen]
  simp only [padded_apply X wn W G sc, zero_add, Nat.add_comm _ s.val]
  rfl

theorem groupSixteen_apply (b : Fin 2) (s : Fin 16384) (d : Fin 128) :
    grp (sumSixteen (padded (proj X wn W))) (counts 16#32) (extractStridedSlice S2x16384x128 ![0, 0, 384] (proj X wn W) slices_S2x16384x512_S2x16384x128_0_0_384)
      (shapeCast S128x128 (extractStridedSlice S1x1x128x128 ![0, 3, 0, 0] G slices_S1x4x128x128_S1x1x128x128_0_3_0_0) shapeCasts_S1x1x128x128_S128x128) (ix3 b s d)
      = group (pw wn W G sc) (seqOf X b.val) 3 s.val d := by
  rw [grp_apply, group]
  refine Finset.sum_congr rfl fun e _ => ?_
  rw [sumSixteen_apply X wn W G sc, counts_apply]
  have h : extractStridedSlice S2x16384x128 ![0, 0, 384] (proj X wn W) slices_S2x16384x512_S2x16384x128_0_0_384 (ix3 b s e) = proj X wn W (ix3 b s (pcol 3 e)) := by
    pointwise; rfl
  rw [h, proj_apply X wn W G sc]
  refine congrArg₂ (· * ·) rfl ?_
  pointwise
  rfl

/-- The reference's array, row by row. -/
theorem array_apply (b : Fin 2) (s : Fin 16384) (l : Fin 512) :
    array (proj X wn W) G sc (ix3 b s l) = poolRow (pw wn W G sc) (seqOf X b.val) s.val l := by
  pointwise [array]
  refine congrArg₂ (· * ·) ?_ ?_
  · exact four_cols (fun g y => group (pw wn W G sc) (seqOf X b.val) g s.val y) _ _ _ _ (fun y => groupTwo_apply X wn W G sc b s y)
      (fun y => groupFour_apply X wn W G sc b s y) (fun y => groupEight_apply X wn W G sc b s y) (fun y => groupSixteen_apply X wn W G sc b s y) l
  · rfl
end

end Cert.PoolRef
-- ==== Proof.PoolClaim.lean ====
/-
  THE POOLING MIXER'S CLAIMS: the calls leave nothing behind but their results, and the kernel's array is the reference's.
-/
module

public import proofs.«01_k».proof.Defs
public import proofs.«01_k».proof.Proof.PoolValue
public import proofs.«01_k».proof.Proof.PoolRef
public import proofs.«01_k».proof.Proof.Gen.Pool.Frame

@[expose] public section

noncomputable section

namespace Cert.PoolClaim

open Idealize.ShloMosaic Idealize.ShloMosaic.TcCoe Idealize.SL.Sem Cert.Rows

theorem quiet : Cert.quiescent_Pool (hPool := Cert.Pool.Gen.facts) := fun m ρ _ => Cert.Pool.Gen.frame m ρ

theorem quietIdeal : Cert.quiescent_PoolIdeal (hPoolIdeal := Cert.PoolIdeal.Gen.facts) := fun m ρ _ => Cert.PoolIdeal.Gen.frame m ρ

theorem quietRef : Cert.quiescent_PoolRefIdeal (hPoolRefIdeal := Cert.PoolRefIdeal.Gen.facts) := fun m ρ _ =>
  (θ_run Cert.PoolRefIdeal.defs _ _).mono (fun r h => ⟨fun c => (h c).2, sem_eq_zero_of_no_sems (by decide) r.2⟩)
    (Cert.PoolRefIdeal.Value.run (F := Ideal) m ρ)

theorem value : Cert.algebraic_PoolIdeal_PoolRefIdeal (hPoolIdeal := Cert.PoolIdeal.Gen.facts) (hPoolRefIdeal := Cert.PoolRefIdeal.Gen.facts) := by
  intro m ρ m' ρ' _ hagree
  refine ⟨fun c => PoolValue.G m c, ?_, ?_⟩
  · refine (θ_run Cert.PoolIdeal.defs _ _).mono (fun r h c => ⟨(h c).1.trans ?_, (h c).2.2.2.2⟩) (Cert.PoolIdeal.Value.run_blocks (F := Ideal) m ρ)
    exact PoolValue.final m c
  · refine (θ_run Cert.PoolRefIdeal.defs _ _).mono (fun r h c => ⟨(h c).1.trans ?_, (h c).2⟩) (Cert.PoolRefIdeal.Value.run (F := Ideal) m' ρ')
    obtain ⟨a0, a1, a2, a3, a4, a5, a6, a7, a8, a9⟩ := hagree c
    funext y
    obtain ⟨b, s, l, rfl⟩ : ∃ (b : Fin 2) (s : Fin 16384) (l : Fin 512), y = ix3 b s l :=
      ⟨y 0, y 1, y 2, by funext a; match a with | ⟨0, _⟩ => rfl | ⟨1, _⟩ => rfl | ⟨2, _⟩ => rfl⟩
    refine (congrFun (PoolRef.res_eq m' c) _).trans ?_
    rw [a0, a2, a3, a4, a5]
    exact PoolRef.array_apply _ _ _ _ _ b s l

end Cert.PoolClaim
-- ==== Proof.lean ====
module

public import proofs.«01_k».proof.Defs
public import proofs.«01_k».proof.Proof.OddClaim
public import proofs.«01_k».proof.Proof.PostClaim
public import proofs.«01_k».proof.Proof.MixClaim
public import proofs.«01_k».proof.Proof.KvClaim
public import proofs.«01_k».proof.Proof.PoolClaim
public import proofs.«01_k».proof.Proof.Gen.MixIdeal.Value
public import proofs.«01_k».proof.Proof.Gen.OddIdeal.Value
public import proofs.«01_k».proof.Proof.Gen.Pre_odd_decays
public import proofs.«01_k».proof.Proof.Gen.Pre_post_finite
public import proofs.«01_k».proof.Proof.Gen.Pre_mix_finite

/-!
  The claims of Defs.lean: the recurrent mixer, the tails of both layers, plain and mixing, the memory's keys and values, and the
  pooling mixer.
-/

@[expose] public section

namespace Cert.Proof

open Idealize.ShloMosaic Idealize.SL.Sem

theorem claim : Cert.Claim :=
  ⟨Cert.Odd.Gen.facts, Cert.OddIdeal.Gen.facts, Cert.OddRefIdeal.Gen.facts,
    Cert.Post.Gen.facts, Cert.PostIdeal.Gen.facts, Cert.PostRefIdeal.Gen.facts, Cert.Mix.Gen.facts, Cert.MixIdeal.Gen.facts,
    Cert.MixRefIdeal.Gen.facts, Cert.Kv.Gen.facts, Cert.KvIdeal.Gen.facts, Cert.KvRefIdeal.Gen.facts,
    Cert.Pool.Gen.facts, Cert.PoolIdeal.Gen.facts, Cert.PoolRefIdeal.Gen.facts,
    Cert.Pre_odd_decays.Gen.facts, Cert.Pre_post_finite.Gen.facts, Cert.Pre_mix_finite.Gen.facts,
    OddFrames.quiet, OddFrames.quietIdeal, fun m ρ _ => OddFrames.quietIdeal m ρ trivial, OddFrames.quietRef, fun m ρ _ => OddFrames.quietRef m ρ trivial,
    PostClaim.quiet, PostClaim.quietIdeal, fun m ρ _ => PostClaim.quietIdeal m ρ trivial, PostClaim.quietRef, fun m ρ _ => PostClaim.quietRef m ρ trivial,
    MixFrames.quiet, MixFrames.quietIdeal, fun m ρ _ => MixFrames.quietIdeal m ρ trivial, MixFrames.quietRef, fun m ρ _ => MixFrames.quietRef m ρ trivial,
    KvClaim.quiet, KvClaim.quietIdeal, KvClaim.quietRef,
    PoolClaim.quiet, PoolClaim.quietIdeal, PoolClaim.quietRef,
    OddFrames.kept, OddClaim.value, trivial, PostClaim.value, trivial, MixClaim.value, trivial, KvClaim.value, trivial, PoolClaim.value⟩

end Cert.Proof
